-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_post [hPre_finite_post : Cert.Pre_finite_post.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_post.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_post [hPre_finite_post : Cert.Pre_finite_post.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_post.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_post [hPre_finite_post : Cert.Pre_finite_post.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_post.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_post [hPre_finite_post : Cert.Pre_finite_post.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_post.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_post [hKernel5Ideal : Cert.Kernel5Ideal.Facts] [hPre_finite_post : Cert.Pre_finite_post.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_post m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_post [hReference5Ideal : Cert.Reference5Ideal.Facts] [hPre_finite_post : Cert.Pre_finite_post.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_post m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_post [hKernel6Ideal : Cert.Kernel6Ideal.Facts] [hPre_finite_post : Cert.Pre_finite_post.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_post m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_post [hReference6Ideal : Cert.Reference6Ideal.Facts] [hPre_finite_post : Cert.Pre_finite_post.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_post m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite_post [hKernel5Ideal : Cert.Kernel5Ideal.Facts] [hReference5Ideal : Cert.Reference5Ideal.Facts] [hPre_finite_post : Cert.Pre_finite_post.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_post m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)) (v2 : (c : Dev Cert.Kernel5Ideal.nD) → Buf (Elt Ideal) ((c.tc : Thread Cert.Kernel5Ideal.nD Cert.Kernel5Ideal.τ).loc Cert.Kernel5Ideal.main_v12_2)) (v3 : (c : Dev Cert.Kernel5Ideal.nD) → Buf (Elt Ideal) ((c.tc : Thread Cert.Kernel5Ideal.nD Cert.Kernel5Ideal.τ).loc Cert.Kernel5Ideal.main_v12_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_v12_2) = v2 c
          ∧ r.2.mem ((c.tc : Thread Cert.Kernel5Ideal.nD Cert.Kernel5Ideal.τ).loc Cert.Kernel5Ideal.main_v12_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_v30) = v2 c
          ∧ r.2.mem ((c.tc : Thread Cert.Reference5Ideal.nD Cert.Reference5Ideal.τ).loc Cert.Reference5Ideal.main_v31) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_post [hKernel6Ideal : Cert.Kernel6Ideal.Facts] [hReference6Ideal : Cert.Reference6Ideal.Facts] [hPre_finite_post : Cert.Pre_finite_post.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_post m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v21_0)) (v1 : (c : Dev Cert.Kernel6Ideal.nD) → Buf (Elt Ideal) ((c.tc : Thread Cert.Kernel6Ideal.nD Cert.Kernel6Ideal.τ).loc Cert.Kernel6Ideal.main_v21_1)) (v2 : (c : Dev Cert.Kernel6Ideal.nD) → Buf (Elt Ideal) ((c.tc : Thread Cert.Kernel6Ideal.nD Cert.Kernel6Ideal.τ).loc Cert.Kernel6Ideal.main_v21_2)) (v3 : (c : Dev Cert.Kernel6Ideal.nD) → Buf (Elt Ideal) ((c.tc : Thread Cert.Kernel6Ideal.nD Cert.Kernel6Ideal.τ).loc Cert.Kernel6Ideal.main_v21_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v21_0) = v0 c
          ∧ r.2.mem ((c.tc : Thread Cert.Kernel6Ideal.nD Cert.Kernel6Ideal.τ).loc Cert.Kernel6Ideal.main_v21_1) = v1 c
          ∧ r.2.mem ((c.tc : Thread Cert.Kernel6Ideal.nD Cert.Kernel6Ideal.τ).loc Cert.Kernel6Ideal.main_v21_2) = v2 c
          ∧ r.2.mem ((c.tc : Thread Cert.Kernel6Ideal.nD Cert.Kernel6Ideal.τ).loc Cert.Kernel6Ideal.main_v21_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_v29) = v1 c
          ∧ r.2.mem ((c.tc : Thread Cert.Reference6Ideal.nD Cert.Reference6Ideal.τ).loc Cert.Reference6Ideal.main_v30) = v2 c
          ∧ r.2.mem ((c.tc : Thread Cert.Reference6Ideal.nD Cert.Reference6Ideal.τ).loc Cert.Reference6Ideal.main_v31) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite_post : Cert.Pre_finite_post.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_post (hKernel5Ideal := hKernel5Ideal) (hPre_finite_post := hPre_finite_post)
    ∧ quiescent_Reference5Ideal (hReference5Ideal := hReference5Ideal)
    ∧ quiescent_Reference5Ideal_pre_finite_post (hReference5Ideal := hReference5Ideal) (hPre_finite_post := hPre_finite_post)
    ∧ quiescent_Kernel6 (hKernel6 := hKernel6)
    ∧ quiescent_Kernel6Ideal (hKernel6Ideal := hKernel6Ideal)
    ∧ quiescent_Kernel6Ideal_pre_finite_post (hKernel6Ideal := hKernel6Ideal) (hPre_finite_post := hPre_finite_post)
    ∧ quiescent_Reference6Ideal (hReference6Ideal := hReference6Ideal)
    ∧ quiescent_Reference6Ideal_pre_finite_post (hReference6Ideal := hReference6Ideal) (hPre_finite_post := hPre_finite_post)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_post (hKernel5Ideal := hKernel5Ideal) (hReference5Ideal := hReference5Ideal) (hPre_finite_post := hPre_finite_post)
    ∧ preserves_Kernel6_Kernel6Ideal
    ∧ algebraic_Kernel6Ideal_Reference6Ideal_pre_finite_post (hKernel6Ideal := hKernel6Ideal) (hReference6Ideal := hReference6Ideal) (hPre_finite_post := hPre_finite_post)
-- ==== Pre_finite.lean ====
abbrev S4x8192x1536 : Shape := ⟨3, ![4, 8192, 1536]⟩
abbrev S16 : Shape := ⟨1, ![16]⟩
abbrev S4x8192x1280 : Shape := ⟨3, ![4, 8192, 1280]⟩
abbrev S_ : Shape := ⟨0, ![]⟩

class Facts : Prop where
  slices_S4x8192x1536_S4x8192x1280_0_0_0 : S4x8192x1536.Slices ![0, 0, 0] S4x8192x1280
  bcast_S_S4x8192x1280 : S_.BroadcastsInDim S4x8192x1280 (![] : Fin 0 → Fin S4x8192x1280.rank)
  reducesTo_S4x8192x1280_S_d0_1_2 : S4x8192x1280.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S4x8192x1536 .f32) (main_arg1 : FVec F S16 .f32) : IVec S_ 1 :=
  let main_v0 : FVec F S4x8192x1280 .f32 := (extractStridedSlice S4x8192x1280 ![0, 0, 0] · slices_S4x8192x1536_S4x8192x1280_0_0_0) main_arg0
  let main_v1 : FVec F S4x8192x1280 .f32 := Host.absf main_v0
  let main_cst : FVec F S_ .f32 := constant S_ .f32 0x7F800000#32
  let main_v2 : FVec F S4x8192x1280 .f32 := broadcastInDim S4x8192x1280 ![] bcast_S_S4x8192x1280 main_cst
  let main_v3 : IVec S4x8192x1280 1 := cmpf .olt main_v1 main_v2
  let main_c : IVec S_ 1 := constantI S_ 1 1#1
  let main_v4 : IVec S_ 1 := (fun x v => Host.reduce IntOp.andi x v reducesTo_S4x8192x1280_S_d0_1_2 h_S_) main_v3 main_c
  let main_v5 : FVec F S16 .f32 := Host.absf main_arg1
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v4 main_v8
  main_v9
-- ==== Pre_finite_post.lean ====
abbrev S4x8192x1024 : Shape := ⟨3, ![4, 8192, 1024]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S4x8192x1024 .f32) (main_arg1 : FVec F S4x8192x1024 .f32) (main_arg2 : FVec F S1024x1024 .f32) (main_arg3 : FVec F S1024 .f32) (main_arg4 : FVec F S1024x16 .f32) : IVec S_ 1 :=
  let main_v0 : FVec F S1024 .f32 := Host.absf main_arg3
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x16 .f32 := Host.absf main_arg4
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  main_v8
-- ==== Kernel.lean ====
abbrev S4x8192x1536 : Shape := ⟨3, ![4, 8192, 1536]⟩
abbrev S16 : Shape := ⟨1, ![16]⟩
abbrev S_ : Shape := ⟨0, ![]⟩
abbrev S32768x1536 : Shape := ⟨2, ![32768, 1536]⟩
abbrev S32768x1024 : Shape := ⟨2, ![32768, 1024]⟩
abbrev S32768x16x64 : Shape := ⟨3, ![32768, 16, 64]⟩
abbrev S16x1 : Shape := ⟨2, ![16, 1]⟩
abbrev S32768x512 : Shape := ⟨2, ![32768, 512]⟩
abbrev S32768x12x128 : Shape := ⟨3, ![32768, 12, 128]⟩
abbrev S32768x10x128 : Shape := ⟨3, ![32768, 10, 128]⟩
abbrev S10x32768x128 : Shape := ⟨3, ![10, 32768, 128]⟩
abbrev S32768x2x128 : Shape := ⟨3, ![32768, 2, 128]⟩
abbrev S2x128x32768 : Shape := ⟨3, ![2, 128, 32768]⟩
abbrev S2x1x8x1 : Shape := ⟨4, ![2, 1, 8, 1]⟩
abbrev S2x8x8x128 : Shape := ⟨4, ![2, 8, 8, 128]⟩
abbrev S2x8x1024 : Shape := ⟨3, ![2, 8, 1024]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S3x384 : Shape := ⟨2, ![3, 384]⟩
abbrev S1x128x384 : Shape := ⟨3, ![1, 128, 384]⟩
abbrev S3x1x384 : Shape := ⟨3, ![3, 1, 384]⟩
abbrev S3x128x384 : Shape := ⟨3, ![3, 128, 384]⟩
abbrev S16x1x1 : Shape := ⟨3, ![16, 1, 1]⟩
abbrev S16x128x384 : Shape := ⟨3, ![16, 128, 384]⟩
abbrev S3x1x128x384 : Shape := ⟨4, ![3, 1, 128, 384]⟩
abbrev S1x16x128x384 : Shape := ⟨4, ![1, 16, 128, 384]⟩
abbrev S3x16x128x384 : Shape := ⟨4, ![3, 16, 128, 384]⟩
abbrev S3x2x8x128x384 : Shape := ⟨5, ![3, 2, 8, 128, 384]⟩
abbrev S2x3x384x8x128 : Shape := ⟨5, ![2, 3, 384, 8, 128]⟩
abbrev S2x3x384x1024 : Shape := ⟨4, ![2, 3, 384, 1024]⟩
abbrev S8x32768x128 : Shape := ⟨3, ![8, 32768, 128]⟩
abbrev S4x2048x128 : Shape := ⟨3, ![4, 2048, 128]⟩
abbrev S1x128x128 : Shape := ⟨3, ![1, 128, 128]⟩
abbrev S1x2048x128 : Shape := ⟨3, ![1, 2048, 128]⟩
abbrev S1x128x2048 : Shape := ⟨3, ![1, 128, 2048]⟩
abbrev S1x3x384x1024 : Shape := ⟨4, ![1, 3, 384, 1024]⟩
abbrev S1x8x1024 : Shape := ⟨3, ![1, 8, 1024]⟩
abbrev S128x128 : Shape := ⟨2, ![128, 128]⟩
abbrev S2048x128 : Shape := ⟨2, ![2048, 128]⟩
abbrev S2304x128 : Shape := ⟨2, ![2304, 128]⟩
abbrev S128x2048 : Shape := ⟨2, ![128, 2048]⟩
abbrev S128x2304 : Shape := ⟨2, ![128, 2304]⟩
abbrev S8x2304 : Shape := ⟨2, ![8, 2304]⟩
abbrev S136x2304 : Shape := ⟨2, ![136, 2304]⟩
abbrev S384x128 : Shape := ⟨2, ![384, 128]⟩
abbrev S1024x128 : Shape := ⟨2, ![1024, 128]⟩
abbrev S384x1024 : Shape := ⟨2, ![384, 1024]⟩
abbrev S136x384 : Shape := ⟨2, ![136, 384]⟩
abbrev S1x1x384x1024 : Shape := ⟨4, ![1, 1, 384, 1024]⟩
abbrev S1024 : Shape := ⟨1, ![1024]⟩
abbrev S1x1024 : Shape := ⟨2, ![1, 1024]⟩
abbrev S1x1x1024 : Shape := ⟨3, ![1, 1, 1024]⟩
abbrev S136x1024 : Shape := ⟨2, ![136, 1024]⟩
abbrev S128x1024 : Shape := ⟨2, ![128, 1024]⟩
abbrev S64x128 : Shape := ⟨2, ![64, 128]⟩

abbrev nBuf : Space → Nat
  | .hbm => 103
  | .vmem => 20
  | .smem => 0
  | _ => 0

abbrev bufTy : (tb : Table) → Fin (tcTables nBuf tb) → BufTy
  | .hbm, ⟨0, _⟩ => ⟨S4x8192x1536, .f32⟩
  | .hbm, ⟨1, _⟩ => ⟨S16, .f32⟩
  | .hbm, ⟨2, _⟩ => ⟨S16, .i32⟩
  | .hbm, ⟨3, _⟩ => ⟨S16, .i1⟩
  | .hbm, ⟨4, _⟩ => ⟨S16, .i1⟩
  | .hbm, ⟨5, _⟩ => ⟨S16, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32768x1536, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x16x64, .f32⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S16, .i32⟩
  | .hbm, ⟨21, _⟩ => ⟨S16x1, .i32⟩
  | .hbm, ⟨22, _⟩ => ⟨S32768x16x64, .f32⟩
  | .hbm, ⟨23, _⟩ => ⟨S32768x1024, .f32⟩
  | .hbm, ⟨24, _⟩ => ⟨S32768x512, .f32⟩
  | .hbm, ⟨25, _⟩ => ⟨S32768x1536, .f32⟩
  | .hbm, ⟨26, _⟩ => ⟨S32768x1536, .bf16⟩
  | .hbm, ⟨27, _⟩ => ⟨S32768x12x128, .bf16⟩
  | .hbm, ⟨28, _⟩ => ⟨S32768x10x128, .bf16⟩
  | .hbm, ⟨29, _⟩ => ⟨S10x32768x128, .bf16⟩
  | .hbm, ⟨30, _⟩ => ⟨S32768x2x128, .bf16⟩
  | .hbm, ⟨31, _⟩ => ⟨S2x128x32768, .bf16⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .i32⟩
  | .hbm, ⟨39, _⟩ => ⟨S16, .i32⟩
  | .hbm, ⟨40, _⟩ => ⟨S16, .i32⟩
  | .hbm, ⟨41, _⟩ => ⟨S16, .i32⟩
  | .hbm, ⟨42, _⟩ => ⟨S16x1, .i32⟩
  | .hbm, ⟨43, _⟩ => ⟨S16, .f32⟩
  | .hbm, ⟨44, _⟩ => ⟨S2x1x8x1, .f32⟩
  | .hbm, ⟨45, _⟩ => ⟨S2x8x8x128, .f32⟩
  | .hbm, ⟨46, _⟩ => ⟨S2x8x1024, .f32⟩
  | .hbm, ⟨47, _⟩ => ⟨S384, .i32⟩
  | .hbm, ⟨48, _⟩ => ⟨S_, .i32⟩
  | .hbm, ⟨49, _⟩ => ⟨S384, .i32⟩
  | .hbm, ⟨50, _⟩ => ⟨S384, .i32⟩
  | .hbm, ⟨51, _⟩ => ⟨S1x384, .i32⟩
  | .hbm, ⟨52, _⟩ => ⟨S128, .i32⟩
  | .hbm, ⟨53, _⟩ => ⟨S128x1, .i32⟩
  | .hbm, ⟨54, _⟩ => ⟨S128x384, .i32⟩
  | .hbm, ⟨55, _⟩ => ⟨S128x384, .i32⟩
  | .hbm, ⟨56, _⟩ => ⟨S128x384, .i32⟩
  | .hbm, ⟨57, _⟩ => ⟨S128x384, .i32⟩
  | .hbm, ⟨58, _⟩ => ⟨S_, .i32⟩
  | .hbm, ⟨59, _⟩ => ⟨S128x384, .i32⟩
  | .hbm, ⟨60, _⟩ => ⟨S128x384, .i1⟩
  | .hbm, ⟨61, _⟩ => ⟨S_, .i1⟩
  | .hbm, ⟨62, _⟩ => ⟨S384, .i1⟩
  | .hbm, ⟨63, _⟩ => ⟨S_, .i32⟩
  | .hbm, ⟨64, _⟩ => ⟨S384, .i32⟩
  | .hbm, ⟨65, _⟩ => ⟨S384, .i1⟩
  | .hbm, ⟨66, _⟩ => ⟨S_, .i32⟩
  | .hbm, ⟨67, _⟩ => ⟨S384, .i32⟩
  | .hbm, ⟨68, _⟩ => ⟨S384, .i1⟩
  | .hbm, ⟨69, _⟩ => ⟨S1x384, .i1⟩
  | .hbm, ⟨70, _⟩ => ⟨S1x384, .i1⟩
  | .hbm, ⟨71, _⟩ => ⟨S1x384, .i1⟩
  | .hbm, ⟨72, _⟩ => ⟨S3x384, .i1⟩
  | .hbm, ⟨73, _⟩ => ⟨S1x128x384, .i1⟩
  | .hbm, ⟨74, _⟩ => ⟨S3x1x384, .i1⟩
  | .hbm, ⟨75, _⟩ => ⟨S3x128x384, .i1⟩
  | .hbm, ⟨76, _⟩ => ⟨S3x128x384, .i1⟩
  | .hbm, ⟨77, _⟩ => ⟨S3x128x384, .i1⟩
  | .hbm, ⟨78, _⟩ => ⟨S16x1x1, .f32⟩
  | .hbm, ⟨79, _⟩ => ⟨S16x1x1, .f32⟩
  | .hbm, ⟨80, _⟩ => ⟨S128x384, .i32⟩
  | .hbm, ⟨81, _⟩ => ⟨S128x384, .f32⟩
  | .hbm, ⟨82, _⟩ => ⟨S1x128x384, .f32⟩
  | .hbm, ⟨83, _⟩ => ⟨S16x128x384, .f32⟩
  | .hbm, ⟨84, _⟩ => ⟨S16x128x384, .f32⟩
  | .hbm, ⟨85, _⟩ => ⟨S16x128x384, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S16x128x384, .f32⟩
  | .hbm, ⟨91, _⟩ => ⟨S16x128x384, .f32⟩
  | .hbm, ⟨92, _⟩ => ⟨S3x1x128x384, .i1⟩
  | .hbm, ⟨93, _⟩ => ⟨S1x16x128x384, .f32⟩
  | .hbm, ⟨94, _⟩ => ⟨S_, .f32⟩
  | .hbm, ⟨95, _⟩ => ⟨S3x16x128x384, .i1⟩
  | .hbm, ⟨96, _⟩ => ⟨S3x16x128x384, .f32⟩
  | .hbm, ⟨97, _⟩ => ⟨S3x16x128x384, .f32⟩
  | .hbm, ⟨98, _⟩ => ⟨S3x16x128x384, .f32⟩
  | .hbm, ⟨99, _⟩ => ⟨S3x2x8x128x384, .f32⟩
  | .hbm, ⟨100, _⟩ => ⟨S2x3x384x8x128, .f32⟩
  | .hbm, ⟨101, _⟩ => ⟨S2x3x384x1024, .f32⟩
  | .hbm, ⟨102, _⟩ => ⟨S8x32768x128, .bf16⟩
  | .local _ .vmem, ⟨0, _⟩ => ⟨S4x2048x128, .bf16⟩
  | .local _ .vmem, ⟨1, _⟩ => ⟨S4x2048x128, .bf16⟩
  | .local _ .vmem, ⟨2, _⟩ => ⟨S1x128x128, .bf16⟩
  | .local _ .vmem, ⟨3, _⟩ => ⟨S1x128x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x128, .bf16⟩
  | .local _ .vmem, ⟨13, _⟩ => ⟨S1x128x128, .bf16⟩
  | .local _ .vmem, ⟨14, _⟩ => ⟨S1x3x384x1024, .f32⟩
  | .local _ .vmem, ⟨15, _⟩ => ⟨S1x3x384x1024, .f32⟩
  | .local _ .vmem, ⟨16, _⟩ => ⟨S1x8x1024, .f32⟩
  | .local _ .vmem, ⟨17, _⟩ => ⟨S1x8x1024, .f32⟩
  | .local _ .vmem, ⟨18, _⟩ => ⟨S4x2048x128, .bf16⟩
  | .local _ .vmem, ⟨19, _⟩ => ⟨S4x2048x128, .bf16⟩
  | _, _ => ⟨S4x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_cst : Ref sig .tc := ⟨.hbm, 5, rfl⟩
abbrev main_cst_2 : Ref sig .tc := ⟨.hbm, 6, rfl⟩
abbrev main_v0 : Ref sig .tc := ⟨.hbm, 7, rfl⟩
abbrev main_cst_3 : Ref sig .tc := ⟨.hbm, 8, rfl⟩
abbrev main_v1 : Ref sig .tc := ⟨.hbm, 9, rfl⟩
abbrev main_cst_4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_10 : Ref sig .tc := ⟨.hbm, 58, rfl⟩
abbrev main_v44 : Ref sig .tc := ⟨.hbm, 59, rfl⟩
abbrev main_v45 : Ref sig .tc := ⟨.hbm, 60, rfl⟩
abbrev main_c_11 : Ref sig .tc := ⟨.hbm, 61, rfl⟩
abbrev main_v46 : Ref sig .tc := ⟨.hbm, 62, rfl⟩
abbrev main_c_12 : Ref sig .tc := ⟨.hbm, 63, rfl⟩
abbrev main_v47 : Ref sig .tc := ⟨.hbm, 64, rfl⟩
abbrev main_v48 : Ref sig .tc := ⟨.hbm, 65, rfl⟩
abbrev main_c_13 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_cst_15 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_16 : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 4, 4], ![false, false, false]⟩

def k0_off1 (i : grid0.Coords) (c0_i32 : BitVec 32) (c1_i32 : BitVec 32) : Fin 4 → Nat :=
  let c0_33 : Index := 0#32
  let arg2 : BitVec 32 := BitVec.ofNat 32 (i 2).val
  let v43 : BitVec 1 := Scalar.cmpi .eq arg2 c0_i32
  let c0_i32_32 : BitVec 32 := 0#32
  let v44 : BitVec 32 := Scalar.select v43 c1_i32 c0_i32_32
  let v46 : Index := Scalar.indexCast v44
  let c0_34 : Index := 0#32
  let c0_35 : Index := 0#32
  ![0, v46.toNat, 0, 0]
def k0_off1_at (r : Fin 2) : BitVec 32 × BitVec 32 :=
  if r.val < 1 then
    (0#32, 1#32)
  else
    (3#32, 2#32)
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c64_i32 : BitVec 32 := 64#32
  let v1 : BitVec 32 := Scalar.muli arg1 c64_i32
  let c16_i32 : BitVec 32 := 16#32
  let v2 : BitVec 32 := Scalar.muli c16_i32 arg2
  let c1_i32 : BitVec 32 := 1#32
  let v3 : BitVec 32 := Scalar.subi v2 c1_i32
  let c0_i32 : BitVec 32 := 0#32
  let v4 : BitVec 32 := Scalar.maxsi v3 c0_i32
  let v5 : BitVec 32 := Scalar.addi v1 v4
  let c0_i32_0 : BitVec 32 := 0#32
  let c0_i32_1 : BitVec 32 := 0#32
  ![v0.toNat, v5.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c4_i32 : BitVec 32 := 4#32
  let v1 : BitVec 32 := Scalar.muli arg1 c4_i32
  let v2 : BitVec 32 := Scalar.addi v1 arg2
  let c0_i32 : BitVec 32 := 0#32
  let c0_i32_0 : BitVec 32 := 0#32
  ![v0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c64_i32 : BitVec 32 := 64#32
  let v1 : BitVec 32 := Scalar.muli arg1 c64_i32
  let c16_i32 : BitVec 32 := 16#32
  let v2 : BitVec 32 := Scalar.muli c16_i32 arg2
  let c16_i32_0 : BitVec 32 := 16#32
  let v3 : BitVec 32 := Scalar.addi v2 c16_i32_0
  let c63_i32 : BitVec 32 := 63#32
  let v4 : BitVec 32 := Scalar.minsi v3 c63_i32
  let v5 : BitVec 32 := Scalar.addi v1 v4
  let c0_i32 : BitVec 32 := 0#32
  let c0_i32_1 : BitVec 32 := 0#32
  ![v0.toNat, v5.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c16_i32 : BitVec 32 := 16#32
  let v1 : BitVec 32 := Scalar.muli c16_i32 arg2
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![arg0.toNat, c0_i32_0.toNat, v4.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, c0_i32.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c16_i32 : BitVec 32 := 16#32
  let v1 : BitVec 32 := Scalar.muli c16_i32 arg2
  let c16_i32_0 : BitVec 32 := 16#32
  let v2 : BitVec 32 := Scalar.addi v1 c16_i32_0
  let c63_i32 : BitVec 32 := 63#32
  let v3 : BitVec 32 := Scalar.minsi v2 c63_i32
  let v4 : BitVec 32 := Scalar.addi v0 v3
  let c0_i32 : BitVec 32 := 0#32
  let c0_i32_1 : BitVec 32 := 0#32
  ![arg0.toNat, c0_i32.toNat, v4.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S4x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x3x384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S4x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S4x8192x1536 : Shape := ⟨3, ![4, 8192, 1536]⟩
abbrev S16 : Shape := ⟨1, ![16]⟩
abbrev S4x8192x1024 : Shape := ⟨3, ![4, 8192, 1024]⟩
abbrev S4x64x128x4x4x64 : Shape := ⟨6, ![4, 64, 128, 4, 4, 64]⟩
abbrev S_ : Shape := ⟨0, ![]⟩
abbrev S4x8192x256 : Shape := ⟨3, ![4, 8192, 256]⟩
abbrev S4x8192x4x64 : Shape := ⟨4, ![4, 8192, 4, 64]⟩
abbrev S4x8448x4x64 : Shape := ⟨4, ![4, 8448, 4, 64]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S4x4 : Shape := ⟨2, ![4, 4]⟩
abbrev S4x4x1x1 : Shape := ⟨4, ![4, 4, 1, 1]⟩
abbrev S1x1x128x384 : Shape := ⟨4, ![1, 1, 128, 384]⟩
abbrev S4x4x128x384 : Shape := ⟨4, ![4, 4, 128, 384]⟩
abbrev S64 : Shape := ⟨1, ![64]⟩
abbrev S64x1 : Shape := ⟨2, ![64, 1]⟩
abbrev S64x384 : Shape := ⟨2, ![64, 384]⟩
abbrev S1x128x384 : Shape := ⟨3, ![1, 128, 384]⟩
abbrev S64x1x384 : Shape := ⟨3, ![64, 1, 384]⟩
abbrev S64x128x384 : Shape := ⟨3, ![64, 128, 384]⟩
abbrev S4x66x128x4x64 : Shape := ⟨5, ![4, 66, 128, 4, 64]⟩
abbrev S4x64x128x4x64 : Shape := ⟨5, ![4, 64, 128, 4, 64]⟩
abbrev S4x64x384x4x64 : Shape := ⟨5, ![4, 64, 384, 4, 64]⟩
abbrev S4x64x4x384x128x4 : Shape := ⟨6, ![4, 64, 4, 384, 128, 4]⟩
abbrev S4x64x4x4x128x384 : Shape := ⟨6, ![4, 64, 4, 4, 128, 384]⟩
abbrev S1x1x4x4x128x384 : Shape := ⟨6, ![1, 1, 4, 4, 128, 384]⟩
abbrev S64x1x1x128x384 : Shape := ⟨5, ![64, 1, 1, 128, 384]⟩
abbrev S1x1x4x4x1x1 : Shape := ⟨6, ![1, 1, 4, 4, 1, 1]⟩
abbrev S4x64x4x4x128x1 : Shape := ⟨6, ![4, 64, 4, 4, 128, 1]⟩
abbrev S4x64x4x4x128x385 : Shape := ⟨6, ![4, 64, 4, 4, 128, 385]⟩
abbrev S4x64x4x4x128 : Shape := ⟨5, ![4, 64, 4, 4, 128]⟩
abbrev S4x64x4x64x4x128 : Shape := ⟨6, ![4, 64, 4, 64, 4, 128]⟩
abbrev S4x8192x2x2x4x64 : Shape := ⟨6, ![4, 8192, 2, 2, 4, 64]⟩
abbrev S2x4x4x8192x2x64 : Shape := ⟨6, ![2, 4, 4, 8192, 2, 64]⟩
abbrev S8x32768x128 : Shape := ⟨3, ![8, 32768, 128]⟩

abbrev nBuf : Space → Nat
  | .hbm => 107
  | .vmem => 0
  | .smem => 0
  | _ => 0

abbrev bufTy : (tb : Table) → Fin (tcTables nBuf tb) → BufTy
  | .hbm, ⟨0, _⟩ => ⟨S4x8192x1536, .f32⟩
  | .hbm, ⟨1, _⟩ => ⟨S16, .f32⟩
  | .hbm, ⟨2, _⟩ => ⟨S16, .f32⟩
  | .hbm, ⟨3, _⟩ => ⟨S4x8192x1024, .f32⟩
  | .hbm, ⟨4, _⟩ => ⟨S4x64x128x4x4x64, .f32⟩
  | .hbm, ⟨5, _⟩ => ⟨S_, .f32⟩
  | .hbm, ⟨6, _⟩ => ⟨S4x64x128x4x4x64, .f32⟩
  | .hbm, ⟨7, _⟩ => ⟨S4x64x128x4x4x64, .f32⟩
  | .hbm, ⟨8, _⟩ => ⟨S4x8192x256, .f32⟩
  | .hbm, ⟨9, _⟩ => ⟨S4x8192x4x64, .f32⟩
  | .hbm, ⟨10, _⟩ => ⟨S4x8192x256, .f32⟩
  | .hbm, ⟨11, _⟩ => ⟨S4x8192x4x64, .f32⟩
  | .hbm, ⟨12, _⟩ => ⟨S_, .i32⟩
  | .hbm, ⟨13, _⟩ => ⟨S_, .f32⟩
  | .hbm, ⟨14, _⟩ => ⟨S4x8448x4x64, .f32⟩
  | .hbm, ⟨15, _⟩ => ⟨S_, .i32⟩
  | .hbm, ⟨16, _⟩ => ⟨S_, .f32⟩
  | .hbm, ⟨17, _⟩ => ⟨S4x8448x4x64, .f32⟩
  | .hbm, ⟨18, _⟩ => ⟨S384, .i32⟩
  | .hbm, ⟨19, _⟩ => ⟨S_, .i32⟩
  | .hbm, ⟨20, _⟩ => ⟨S384, .i32⟩
  | .hbm, ⟨21, _⟩ => ⟨S384, .i32⟩
  | .hbm, ⟨22, _⟩ => ⟨S1x384, .i32⟩
  | .hbm, ⟨23, _⟩ => ⟨S128, .i32⟩
  | .hbm, ⟨24, _⟩ => ⟨S128x1, .i32⟩
  | .hbm, ⟨25, _⟩ => ⟨S128x384, .i32⟩
  | .hbm, ⟨26, _⟩ => ⟨S128x384, .i32⟩
  | .hbm, ⟨27, _⟩ => ⟨S128x384, .i32⟩
  | .hbm, ⟨28, _⟩ => ⟨S128x384, .i32⟩
  | .hbm, ⟨29, _⟩ => ⟨S_, .i32⟩
  | .hbm, ⟨30, _⟩ => ⟨S128x384, .i32⟩
  | .hbm, ⟨31, _⟩ => ⟨S128x384, .i1⟩
  | .hbm, ⟨32, _⟩ => ⟨S4x4, .f32⟩
  | .hbm, ⟨33, _⟩ => ⟨S4x4x1x1, .f32⟩
  | .hbm, ⟨34, _⟩ => ⟨S4x4x1x1, .f32⟩
  | .hbm, ⟨35, _⟩ => ⟨S128x384, .i32⟩
  | .hbm, ⟨36, _⟩ => ⟨S128x384, .f32⟩
  | .hbm, ⟨37, _⟩ => ⟨S1x1x128x384, .f32⟩
  | .hbm, ⟨38, _⟩ => ⟨S4x4x128x384, .f32⟩
  | .hbm, ⟨39, _⟩ => ⟨S4x4x128x384, .f32⟩
  | .hbm, ⟨40, _⟩ => ⟨S4x4x128x384, .f32⟩
  | .hbm, ⟨41, _⟩ => ⟨S64, .i32⟩
  | .hbm, ⟨42, _⟩ => ⟨S64x1, .i32⟩
  | .hbm, ⟨43, _⟩ => ⟨S_, .i32⟩
  | .hbm, ⟨44, _⟩ => ⟨S64x1, .i32⟩
  | .hbm, ⟨45, _⟩ => ⟨S64x1, .i32⟩
  | .hbm, ⟨46, _⟩ => ⟨S1x384, .i32⟩
  | .hbm, ⟨47, _⟩ => ⟨S64x384, .i32⟩
  | .hbm, ⟨48, _⟩ => ⟨S64x384, .i32⟩
  | .hbm, ⟨49, _⟩ => ⟨S64x384, .i32⟩
  | .hbm, ⟨50, _⟩ => ⟨S1x128x384, .i1⟩
  | .hbm, ⟨51, _⟩ => ⟨S_, .i32⟩
  | .hbm, ⟨52, _⟩ => ⟨S64x384, .i32⟩
  | .hbm, ⟨53, _⟩ => ⟨S64x384, .i1⟩
  | .hbm, ⟨54, _⟩ => ⟨S_, .i32⟩
  | .hbm, ⟨55, _⟩ => ⟨S64x384, .i32⟩
  | .hbm, ⟨56, _⟩ => ⟨S64x384, .i1⟩
  | .hbm, ⟨57, _⟩ => ⟨S64x384, .i1⟩
  | .hbm, ⟨58, _⟩ => ⟨S64x1x384, .i1⟩
  | .hbm, ⟨59, _⟩ => ⟨S64x128x384, .i1⟩
  | .hbm, ⟨60, _⟩ => ⟨S64x128x384, .i1⟩
  | .hbm, ⟨61, _⟩ => ⟨S64x128x384, .i1⟩
  | .hbm, ⟨62, _⟩ => ⟨S4x66x128x4x64, .f32⟩
  | .hbm, ⟨63, _⟩ => ⟨S4x64x128x4x64, .f32⟩
  | .hbm, ⟨64, _⟩ => ⟨S4x64x128x4x64, .f32⟩
  | .hbm, ⟨65, _⟩ => ⟨S4x64x128x4x64, .f32⟩
  | .hbm, ⟨66, _⟩ => ⟨S4x64x384x4x64, .f32⟩
  | .hbm, ⟨67, _⟩ => ⟨S4x66x128x4x64, .f32⟩
  | .hbm, ⟨68, _⟩ => ⟨S4x64x128x4x64, .f32⟩
  | .hbm, ⟨69, _⟩ => ⟨S4x64x128x4x64, .f32⟩
  | .hbm, ⟨70, _⟩ => ⟨S4x64x128x4x64, .f32⟩
  | .hbm, ⟨71, _⟩ => ⟨S4x64x384x4x64, .f32⟩
  | .hbm, ⟨72, _⟩ => ⟨S4x64x4x384x128x4, .f32⟩
  | .hbm, ⟨73, _⟩ => ⟨S4x64x4x4x128x384, .f32⟩
  | .hbm, ⟨74, _⟩ => ⟨S1x1x4x4x128x384, .f32⟩
  | .hbm, ⟨75, _⟩ => ⟨S4x64x4x4x128x384, .f32⟩
  | .hbm, ⟨76, _⟩ => ⟨S4x64x4x4x128x384, .f32⟩
  | .hbm, ⟨77, _⟩ => ⟨S64x1x1x128x384, .i1⟩
  | .hbm, ⟨78, _⟩ => ⟨S_, .f32⟩
  | .hbm, ⟨79, _⟩ => ⟨S_, .f32⟩
  | .hbm, ⟨80, _⟩ => ⟨S4x64x4x4x128x384, .i1⟩
  | .hbm, ⟨81, _⟩ => ⟨S4x64x4x4x128x384, .f32⟩
  | .hbm, ⟨82, _⟩ => ⟨S4x64x4x4x128x384, .f32⟩
  | .hbm, ⟨83, _⟩ => ⟨S1x1x4x4x1x1, .f32⟩
  | .hbm, ⟨84, _⟩ => ⟨S4x64x4x4x128x1, .f32⟩
  | .hbm, ⟨85, _⟩ => ⟨S4x64x4x4x128x385, .f32⟩
  | .hbm, ⟨86, _⟩ => ⟨S_, .f32⟩
  | .hbm, ⟨87, _⟩ => ⟨S4x64x4x4x128, .f32⟩
  | .hbm, ⟨88, _⟩ => ⟨S_, .f32⟩
  | .hbm, ⟨89, _⟩ => ⟨S4x64x4x4x128, .f32⟩
  | .hbm, ⟨90, _⟩ => ⟨S4x64x4x4x128, .f32⟩
  | .hbm, ⟨91, _⟩ => ⟨S4x64x4x4x128x1, .f32⟩
  | .hbm, ⟨92, _⟩ => ⟨S4x64x4x4x128x385, .f32⟩
  | .hbm, ⟨93, _⟩ => ⟨S4x64x4x4x128x385, .f32⟩
  | .hbm, ⟨94, _⟩ => ⟨S4x64x4x4x128x385, .f32⟩
  | .hbm, ⟨95, _⟩ => ⟨S_, .f32⟩
  | .hbm, ⟨96, _⟩ => ⟨S4x64x4x4x128, .f32⟩
  | .hbm, ⟨97, _⟩ => ⟨S4x64x4x4x128x1, .f32⟩
  | .hbm, ⟨98, _⟩ => ⟨S4x64x4x4x128x385, .f32⟩
  | .hbm, ⟨99, _⟩ => ⟨S4x64x4x4x128x385, .f32⟩
  | .hbm, ⟨100, _⟩ => ⟨S4x64x4x4x128x384, .f32⟩
  | .hbm, ⟨101, _⟩ => ⟨S4x64x4x64x4x128, .f32⟩
  | .hbm, ⟨102, _⟩ => ⟨S4x64x128x4x4x64, .f32⟩
  | .hbm, ⟨103, _⟩ => ⟨S4x8192x2x2x4x64, .f32⟩
  | .hbm, ⟨104, _⟩ => ⟨S2x4x4x8192x2x64, .f32⟩
  | .hbm, ⟨105, _⟩ => ⟨S8x32768x128, .f32⟩
  | .hbm, ⟨106, _⟩ => ⟨S8x32768x128, .bf16⟩
  | _, _ => ⟨S4x8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_c_1 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_5 : Ref sig .tc := ⟨.hbm, 51, rfl⟩
abbrev main_v40 : Ref sig .tc := ⟨.hbm, 52, rfl⟩
abbrev main_v41 : Ref sig .tc := ⟨.hbm, 53, rfl⟩
abbrev main_c_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_7 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_8 : Ref sig .tc := ⟨.hbm, 86, rfl⟩
abbrev main_v69 : Ref sig .tc := ⟨.hbm, 87, rfl⟩
abbrev main_cst_9 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_10 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩

abbrev nD : Nat := 1
abbrev τ : Topo := Topo.v7x

variable {F : FTy → Type} [FloatOps F]
-- ==== Kernel2.lean ====
abbrev S16x4096x1024 : Shape := ⟨3, ![16, 4096, 1024]⟩
abbrev S4x16x1024x2048 : Shape := ⟨4, ![4, 16, 1024, 2048]⟩
abbrev S4x16x2048x1024 : Shape := ⟨4, ![4, 16, 2048, 1024]⟩
abbrev S_ : Shape := ⟨0, ![]⟩
abbrev S16x4152x1024 : Shape := ⟨3, ![16, 4152, 1024]⟩
abbrev S16x33216x128 : Shape := ⟨3, ![16, 33216, 128]⟩
abbrev S16x8x4096x128 : Shape := ⟨4, ![16, 8, 4096, 128]⟩
abbrev S1x4096x128 : Shape := ⟨3, ![1, 4096, 128]⟩
abbrev S1x8x512x128 : Shape := ⟨4, ![1, 8, 512, 128]⟩
abbrev S2x1024x2048 : Shape := ⟨3, ![2, 1024, 2048]⟩
abbrev S2x2048x1024 : Shape := ⟨3, ![2, 2048, 1024]⟩
abbrev S2x128x2048 : Shape := ⟨3, ![2, 128, 2048]⟩
abbrev S2x256x1024 : Shape := ⟨3, ![2, 256, 1024]⟩
abbrev S3x2 : Shape := ⟨2, ![3, 2]⟩
abbrev S1x1 : Shape := ⟨2, ![1, 1]⟩
abbrev S1x128x2048 : Shape := ⟨3, ![1, 128, 2048]⟩
abbrev S128x2048 : Shape := ⟨2, ![128, 2048]⟩
abbrev S1x1x128x2048 : Shape := ⟨4, ![1, 1, 128, 2048]⟩
abbrev S1x256x1024 : Shape := ⟨3, ![1, 256, 1024]⟩
abbrev S256x1024 : Shape := ⟨2, ![256, 1024]⟩
abbrev S1x1x256x1024 : Shape := ⟨4, ![1, 1, 256, 1024]⟩
abbrev S1x512x128 : Shape := ⟨3, ![1, 512, 128]⟩
abbrev S512x128 : Shape := ⟨2, ![512, 128]⟩
abbrev S512x1024 : Shape := ⟨2, ![512, 1024]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩
abbrev S1x1x512x128 : Shape := ⟨4, ![1, 1, 512, 128]⟩

abbrev nBuf : Space → Nat
  | .hbm => 9
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S_, .i32⟩
  | .hbm, ⟨5, _⟩ => ⟨S_, .f32⟩
  | .hbm, ⟨6, _⟩ => ⟨S16x4152x1024, .f32⟩
  | .hbm, ⟨7, _⟩ => ⟨S16x33216x128, .f32⟩
  | .hbm, ⟨8, _⟩ => ⟨S16x8x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S1x8x512x128, .f32⟩
  | .local _ .vmem, ⟨3, _⟩ => ⟨S1x8x512x128, .f32⟩
  | .local _ .vmem, ⟨4, _⟩ => ⟨S2x1024x2048, .bf16⟩
  | .local _ .vmem, ⟨5, _⟩ => ⟨S2x1024x2048, .bf16⟩
  | .local _ .vmem, ⟨6, _⟩ => ⟨S2x2048x1024, .bf16⟩
  | .local _ .vmem, ⟨7, _⟩ => ⟨S2x128x2048, .f32⟩
  | .local _ .vmem, ⟨8, _⟩ => ⟨S2x128x2048, .f32⟩
  | .local _ .vmem, ⟨9, _⟩ => ⟨S2x256x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c1_i32_7 : BitVec 32 := 1#32
  let v16 : BitVec 32 := Scalar.addi arg1 c1_i32_7
  let c8_i32 : BitVec 32 := 8#32
  let v17 : BitVec 1 := Scalar.cmpi .slt v16 c8_i32
  let v18 : BitVec 32 := Scalar.extui v17
  let c0_i32_8 : BitVec 32 := 0#32
  let v19 : BitVec 1 := Scalar.cmpi .ne v18 c0_i32_8
  v19

def k0_off1 (i : grid0.Coords) : Fin 2 → Nat :=
  let c0_i32_172 : BitVec 32 := 0#32
  let arg0 : BitVec 32 := BitVec.ofNat 32 (i 0).val
  let c1_i32 : BitVec 32 := 1#32
  let v5 : BitVec 32 := Scalar.addi arg0 c1_i32
  let c16_i32 : BitVec 32 := 16#32
  let c0_i32_2 : BitVec 32 := 0#32
  let v6 : BitVec 1 := Scalar.cmpi .eq c16_i32 c0_i32_2
  let c1_i32_3 : BitVec 32 := 1#32
  let v7 : BitVec 32 := Scalar.select v6 c1_i32_3 c16_i32
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c8_i32_161 : BitVec 32 := 8#32
  let v266 : BitVec 32 := Scalar.muli v15 c8_i32_161
  let arg1 : BitVec 32 := BitVec.ofNat 32 (i 1).val
  let c1_i32_160 : BitVec 32 := 1#32
  let v265 : BitVec 32 := Scalar.addi arg1 c1_i32_160
  let v267 : BitVec 32 := Scalar.addi v266 v265
  let c2_i32_162 : BitVec 32 := 2#32
  let c0_i32_163 : BitVec 32 := 0#32
  let v268 : BitVec 1 := Scalar.cmpi .eq c2_i32_162 c0_i32_163
  let c1_i32_164 : BitVec 32 := 1#32
  let v269 : BitVec 32 := Scalar.select v268 c1_i32_164 c2_i32_162
  let v270 : BitVec 32 := Scalar.remsi v267 v269
  let c0_i32_166 : BitVec 32 := 0#32
  let v272 : BitVec 1 := Scalar.cmpi .slt v270 c0_i32_166
  let c0_i32_167 : BitVec 32 := 0#32
  let v273 : BitVec 1 := Scalar.cmpi .slt v269 c0_i32_167
  let v274 : BitVec 1 := Scalar.xori v272 v273
  let c0_i32_165 : BitVec 32 := 0#32
  let v271 : BitVec 1 := Scalar.cmpi .ne v270 c0_i32_165
  let v275 : BitVec 1 := Scalar.andi v274 v271
  let v276 : BitVec 32 := Scalar.addi v270 v269
  let v277 : BitVec 32 := Scalar.select v275 v276 v270
  ![0, v277.toNat]
def k0_off2 (i : grid0.Coords) : Fin 3 → Nat :=
  let arg0 : BitVec 32 := BitVec.ofNat 32 (i 0).val
  let c1_i32 : BitVec 32 := 1#32
  let v5 : BitVec 32 := Scalar.addi arg0 c1_i32
  let c16_i32 : BitVec 32 := 16#32
  let c0_i32_2 : BitVec 32 := 0#32
  let v6 : BitVec 1 := Scalar.cmpi .eq c16_i32 c0_i32_2
  let c1_i32_3 : BitVec 32 := 1#32
  let v7 : BitVec 32 := Scalar.select v6 c1_i32_3 c16_i32
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c8_i32_161 : BitVec 32 := 8#32
  let v266 : BitVec 32 := Scalar.muli v15 c8_i32_161
  let arg1 : BitVec 32 := BitVec.ofNat 32 (i 1).val
  let c1_i32_160 : BitVec 32 := 1#32
  let v265 : BitVec 32 := Scalar.addi arg1 c1_i32_160
  let v267 : BitVec 32 := Scalar.addi v266 v265
  let c2_i32_162 : BitVec 32 := 2#32
  let c0_i32_163 : BitVec 32 := 0#32
  let v268 : BitVec 1 := Scalar.cmpi .eq c2_i32_162 c0_i32_163
  let c1_i32_164 : BitVec 32 := 1#32
  let v269 : BitVec 32 := Scalar.select v268 c1_i32_164 c2_i32_162
  let v270 : BitVec 32 := Scalar.remsi v267 v269
  let c0_i32_166 : BitVec 32 := 0#32
  let v272 : BitVec 1 := Scalar.cmpi .slt v270 c0_i32_166
  let c0_i32_167 : BitVec 32 := 0#32
  let v273 : BitVec 1 := Scalar.cmpi .slt v269 c0_i32_167
  let v274 : BitVec 1 := Scalar.xori v272 v273
  let c0_i32_165 : BitVec 32 := 0#32
  let v271 : BitVec 1 := Scalar.cmpi .ne v270 c0_i32_165
  let v275 : BitVec 1 := Scalar.andi v274 v271
  let v276 : BitVec 32 := Scalar.addi v270 v269
  let v277 : BitVec 32 := Scalar.select v275 v276 v270
  let c0_i32_173 : BitVec 32 := 0#32
  let c0_i32_174 : BitVec 32 := 0#32
  ![v277.toNat, 0, 0]
def k0_off3 (i : grid0.Coords) : Fin 4 → Nat :=
  let c0_i32_171 : BitVec 32 := 0#32
  let arg0 : BitVec 32 := BitVec.ofNat 32 (i 0).val
  let c1_i32 : BitVec 32 := 1#32
  let v5 : BitVec 32 := Scalar.addi arg0 c1_i32
  let c16_i32 : BitVec 32 := 16#32
  let c0_i32_2 : BitVec 32 := 0#32
  let v6 : BitVec 1 := Scalar.cmpi .eq c16_i32 c0_i32_2
  let c1_i32_3 : BitVec 32 := 1#32
  let v7 : BitVec 32 := Scalar.select v6 c1_i32_3 c16_i32
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let arg1 : BitVec 32 := BitVec.ofNat 32 (i 1).val
  let c1_i32_160 : BitVec 32 := 1#32
  let v265 : BitVec 32 := Scalar.addi arg1 c1_i32_160
  let c128_i32_168 : BitVec 32 := 128#32
  let v278 : BitVec 32 := Scalar.muli v265 c128_i32_168
  let c0_i32_175 : BitVec 32 := 0#32
  ![0, v15.toNat, v278.toNat, 0]
def k0_off4 (i : grid0.Coords) : Fin 2 → Nat :=
  let c1_i32_177 : BitVec 32 := 1#32
  let arg0 : BitVec 32 := BitVec.ofNat 32 (i 0).val
  let c1_i32 : BitVec 32 := 1#32
  let v5 : BitVec 32 := Scalar.addi arg0 c1_i32
  let c16_i32 : BitVec 32 := 16#32
  let c0_i32_2 : BitVec 32 := 0#32
  let v6 : BitVec 1 := Scalar.cmpi .eq c16_i32 c0_i32_2
  let c1_i32_3 : BitVec 32 := 1#32
  let v7 : BitVec 32 := Scalar.select v6 c1_i32_3 c16_i32
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c8_i32_161 : BitVec 32 := 8#32
  let v266 : BitVec 32 := Scalar.muli v15 c8_i32_161
  let arg1 : BitVec 32 := BitVec.ofNat 32 (i 1).val
  let c1_i32_160 : BitVec 32 := 1#32
  let v265 : BitVec 32 := Scalar.addi arg1 c1_i32_160
  let v267 : BitVec 32 := Scalar.addi v266 v265
  let c2_i32_162 : BitVec 32 := 2#32
  let c0_i32_163 : BitVec 32 := 0#32
  let v268 : BitVec 1 := Scalar.cmpi .eq c2_i32_162 c0_i32_163
  let c1_i32_164 : BitVec 32 := 1#32
  let v269 : BitVec 32 := Scalar.select v268 c1_i32_164 c2_i32_162
  let v270 : BitVec 32 := Scalar.remsi v267 v269
  let c0_i32_166 : BitVec 32 := 0#32
  let v272 : BitVec 1 := Scalar.cmpi .slt v270 c0_i32_166
  let c0_i32_167 : BitVec 32 := 0#32
  let v273 : BitVec 1 := Scalar.cmpi .slt v269 c0_i32_167
  let v274 : BitVec 1 := Scalar.xori v272 v273
  let c0_i32_165 : BitVec 32 := 0#32
  let v271 : BitVec 1 := Scalar.cmpi .ne v270 c0_i32_165
  let v275 : BitVec 1 := Scalar.andi v274 v271
  let v276 : BitVec 32 := Scalar.addi v270 v269
  let v277 : BitVec 32 := Scalar.select v275 v276 v270
  ![1, v277.toNat]
def k0_off5 (i : grid0.Coords) : Fin 2 → Nat :=
  let c2_i32_182 : BitVec 32 := 2#32
  let arg0 : BitVec 32 := BitVec.ofNat 32 (i 0).val
  let c1_i32 : BitVec 32 := 1#32
  let v5 : BitVec 32 := Scalar.addi arg0 c1_i32
  let c16_i32 : BitVec 32 := 16#32
  let c0_i32_2 : BitVec 32 := 0#32
  let v6 : BitVec 1 := Scalar.cmpi .eq c16_i32 c0_i32_2
  let c1_i32_3 : BitVec 32 := 1#32
  let v7 : BitVec 32 := Scalar.select v6 c1_i32_3 c16_i32
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c8_i32_161 : BitVec 32 := 8#32
  let v266 : BitVec 32 := Scalar.muli v15 c8_i32_161
  let arg1 : BitVec 32 := BitVec.ofNat 32 (i 1).val
  let c1_i32_160 : BitVec 32 := 1#32
  let v265 : BitVec 32 := Scalar.addi arg1 c1_i32_160
  let v267 : BitVec 32 := Scalar.addi v266 v265
  let c2_i32_162 : BitVec 32 := 2#32
  let c0_i32_163 : BitVec 32 := 0#32
  let v268 : BitVec 1 := Scalar.cmpi .eq c2_i32_162 c0_i32_163
  let c1_i32_164 : BitVec 32 := 1#32
  let v269 : BitVec 32 := Scalar.select v268 c1_i32_164 c2_i32_162
  let v270 : BitVec 32 := Scalar.remsi v267 v269
  let c0_i32_166 : BitVec 32 := 0#32
  let v272 : BitVec 1 := Scalar.cmpi .slt v270 c0_i32_166
  let c0_i32_167 : BitVec 32 := 0#32
  let v273 : BitVec 1 := Scalar.cmpi .slt v269 c0_i32_167
  let v274 : BitVec 1 := Scalar.xori v272 v273
  let c0_i32_165 : BitVec 32 := 0#32
  let v271 : BitVec 1 := Scalar.cmpi .ne v270 c0_i32_165
  let v275 : BitVec 1 := Scalar.andi v274 v271
  let v276 : BitVec 32 := Scalar.addi v270 v269
  let v277 : BitVec 32 := Scalar.select v275 v276 v270
  ![2, v277.toNat]
def k0_off6 (i : grid0.Coords) : Fin 3 → Nat :=
  let arg0 : BitVec 32 := BitVec.ofNat 32 (i 0).val
  let c1_i32 : BitVec 32 := 1#32
  let v5 : BitVec 32 := Scalar.addi arg0 c1_i32
  let c16_i32 : BitVec 32 := 16#32
  let c0_i32_2 : BitVec 32 := 0#32
  let v6 : BitVec 1 := Scalar.cmpi .eq c16_i32 c0_i32_2
  let c1_i32_3 : BitVec 32 := 1#32
  let v7 : BitVec 32 := Scalar.select v6 c1_i32_3 c16_i32
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c8_i32_161 : BitVec 32 := 8#32
  let v266 : BitVec 32 := Scalar.muli v15 c8_i32_161
  let arg1 : BitVec 32 := BitVec.ofNat 32 (i 1).val
  let c1_i32_160 : BitVec 32 := 1#32
  let v265 : BitVec 32 := Scalar.addi arg1 c1_i32_160
  let v267 : BitVec 32 := Scalar.addi v266 v265
  let c2_i32_162 : BitVec 32 := 2#32
  let c0_i32_163 : BitVec 32 := 0#32
  let v268 : BitVec 1 := Scalar.cmpi .eq c2_i32_162 c0_i32_163
  let c1_i32_164 : BitVec 32 := 1#32
  let v269 : BitVec 32 := Scalar.select v268 c1_i32_164 c2_i32_162
  let v270 : BitVec 32 := Scalar.remsi v267 v269
  let c0_i32_166 : BitVec 32 := 0#32
  let v272 : BitVec 1 := Scalar.cmpi .slt v270 c0_i32_166
  let c0_i32_167 : BitVec 32 := 0#32
  let v273 : BitVec 1 := Scalar.cmpi .slt v269 c0_i32_167
  let v274 : BitVec 1 := Scalar.xori v272 v273
  let c0_i32_165 : BitVec 32 := 0#32
  let v271 : BitVec 1 := Scalar.cmpi .ne v270 c0_i32_165
  let v275 : BitVec 1 := Scalar.andi v274 v271
  let v276 : BitVec 32 := Scalar.addi v270 v269
  let v277 : BitVec 32 := Scalar.select v275 v276 v270
  let c0_i32_183 : BitVec 32 := 0#32
  let c0_i32_184 : BitVec 32 := 0#32
  ![v277.toNat, 0, 0]
def k0_off7 (i : grid0.Coords) : Fin 4 → Nat :=
  let c0_i32_181 : BitVec 32 := 0#32
  let arg0 : BitVec 32 := BitVec.ofNat 32 (i 0).val
  let c1_i32 : BitVec 32 := 1#32
  let v5 : BitVec 32 := Scalar.addi arg0 c1_i32
  let c16_i32 : BitVec 32 := 16#32
  let c0_i32_2 : BitVec 32 := 0#32
  let v6 : BitVec 1 := Scalar.cmpi .eq c16_i32 c0_i32_2
  let c1_i32_3 : BitVec 32 := 1#32
  let v7 : BitVec 32 := Scalar.select v6 c1_i32_3 c16_i32
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let arg1 : BitVec 32 := BitVec.ofNat 32 (i 1).val
  let c1_i32_160 : BitVec 32 := 1#32
  let v265 : BitVec 32 := Scalar.addi arg1 c1_i32_160
  let c256_i32_170 : BitVec 32 := 256#32
  let v280 : BitVec 32 := Scalar.muli v265 c256_i32_170
  let c0_i32_185 : BitVec 32 := 0#32
  ![0, v15.toNat, v280.toNat, 0]
def k0_cond3 (i : grid0.Coords) : BitVec 1 :=
  let arg1 : BitVec 32 := BitVec.ofNat 32 (i 1).val
  let c1_i32_9 : BitVec 32 := 1#32
  let v20 : BitVec 32 := Scalar.addi arg1 c1_i32_9
  let c8_i32_10 : BitVec 32 := 8#32
  let v21 : BitVec 1 := Scalar.cmpi .eq v20 c8_i32_10
  let arg0 : BitVec 32 := BitVec.ofNat 32 (i 0).val
  let c1_i32_11 : BitVec 32 := 1#32
  let v22 : BitVec 32 := Scalar.addi arg0 c1_i32_11
  let c16_i32_12 : BitVec 32 := 16#32
  let v23 : BitVec 1 := Scalar.cmpi .slt v22 c16_i32_12
  let v24 : BitVec 1 := Scalar.andi v21 v23
  let v25 : BitVec 32 := Scalar.extui v24
  let c0_i32_13 : BitVec 32 := 0#32
  let v26 : BitVec 1 := Scalar.cmpi .ne v25 c0_i32_13
  v26

def k0_off8 (i : grid0.Coords) : Fin 2 → Nat :=
  let c0_i32_176 : BitVec 32 := 0#32
  let arg0 : BitVec 32 := BitVec.ofNat 32 (i 0).val
  let c2_i32_160 : BitVec 32 := 2#32
  let v265 : BitVec 32 := Scalar.addi arg0 c2_i32_160
  let c16_i32_161 : BitVec 32 := 16#32
  let c0_i32_162 : BitVec 32 := 0#32
  let v266 : BitVec 1 := Scalar.cmpi .eq c16_i32_161 c0_i32_162
  let c1_i32_163 : BitVec 32 := 1#32
  let v267 : BitVec 32 := Scalar.select v266 c1_i32_163 c16_i32_161
  let v268 : BitVec 32 := Scalar.remsi v265 v267
  let c0_i32_165 : BitVec 32 := 0#32
  let v270 : BitVec 1 := Scalar.cmpi .slt v268 c0_i32_165
  let c0_i32_166 : BitVec 32 := 0#32
  let v271 : BitVec 1 := Scalar.cmpi .slt v267 c0_i32_166
  let v272 : BitVec 1 := Scalar.xori v270 v271
  let c0_i32_164 : BitVec 32 := 0#32
  let v269 : BitVec 1 := Scalar.cmpi .ne v268 c0_i32_164
  let v273 : BitVec 1 := Scalar.andi v272 v269
  let v274 : BitVec 32 := Scalar.addi v268 v267
  let v275 : BitVec 32 := Scalar.select v273 v274 v268
  let c8_i32_167 : BitVec 32 := 8#32
  let v276 : BitVec 32 := Scalar.muli v275 c8_i32_167
  let c0_i32_168 : BitVec 32 := 0#32
  let v277 : BitVec 32 := Scalar.addi v276 c0_i32_168
  let c2_i32_169 : BitVec 32 := 2#32
  let c0_i32_170 : BitVec 32 := 0#32
  let v278 : BitVec 1 := Scalar.cmpi .eq c2_i32_169 c0_i32_170
  let c1_i32_171 : BitVec 32 := 1#32
  let v279 : BitVec 32 := Scalar.select v278 c1_i32_171 c2_i32_169
  let v280 : BitVec 32 := Scalar.remsi v277 v279
  let c0_i32_173 : BitVec 32 := 0#32
  let v282 : BitVec 1 := Scalar.cmpi .slt v280 c0_i32_173
  let c0_i32_174 : BitVec 32 := 0#32
  let v283 : BitVec 1 := Scalar.cmpi .slt v279 c0_i32_174
  let v284 : BitVec 1 := Scalar.xori v282 v283
  let c0_i32_172 : BitVec 32 := 0#32
  let v281 : BitVec 1 := Scalar.cmpi .ne v280 c0_i32_172
  let v285 : BitVec 1 := Scalar.andi v284 v281
  let v286 : BitVec 32 := Scalar.addi v280 v279
  let v287 : BitVec 32 := Scalar.select v285 v286 v280
  ![0, v287.toNat]
def k0_off9 (i : grid0.Coords) : Fin 3 → Nat :=
  let arg0 : BitVec 32 := BitVec.ofNat 32 (i 0).val
  let c2_i32_160 : BitVec 32 := 2#32
  let v265 : BitVec 32 := Scalar.addi arg0 c2_i32_160
  let c16_i32_161 : BitVec 32 := 16#32
  let c0_i32_162 : BitVec 32 := 0#32
  let v266 : BitVec 1 := Scalar.cmpi .eq c16_i32_161 c0_i32_162
  let c1_i32_163 : BitVec 32 := 1#32
  let v267 : BitVec 32 := Scalar.select v266 c1_i32_163 c16_i32_161
  let v268 : BitVec 32 := Scalar.remsi v265 v267
  let c0_i32_165 : BitVec 32 := 0#32
  let v270 : BitVec 1 := Scalar.cmpi .slt v268 c0_i32_165
  let c0_i32_166 : BitVec 32 := 0#32
  let v271 : BitVec 1 := Scalar.cmpi .slt v267 c0_i32_166
  let v272 : BitVec 1 := Scalar.xori v270 v271
  let c0_i32_164 : BitVec 32 := 0#32
  let v269 : BitVec 1 := Scalar.cmpi .ne v268 c0_i32_164
  let v273 : BitVec 1 := Scalar.andi v272 v269
  let v274 : BitVec 32 := Scalar.addi v268 v267
  let v275 : BitVec 32 := Scalar.select v273 v274 v268
  let c8_i32_167 : BitVec 32 := 8#32
  let v276 : BitVec 32 := Scalar.muli v275 c8_i32_167
  let c0_i32_168 : BitVec 32 := 0#32
  let v277 : BitVec 32 := Scalar.addi v276 c0_i32_168
  let c2_i32_169 : BitVec 32 := 2#32
  let c0_i32_170 : BitVec 32 := 0#32
  let v278 : BitVec 1 := Scalar.cmpi .eq c2_i32_169 c0_i32_170
  let c1_i32_171 : BitVec 32 := 1#32
  let v279 : BitVec 32 := Scalar.select v278 c1_i32_171 c2_i32_169
  let v280 : BitVec 32 := Scalar.remsi v277 v279
  let c0_i32_173 : BitVec 32 := 0#32
  let v282 : BitVec 1 := Scalar.cmpi .slt v280 c0_i32_173
  let c0_i32_174 : BitVec 32 := 0#32
  let v283 : BitVec 1 := Scalar.cmpi .slt v279 c0_i32_174
  let v284 : BitVec 1 := Scalar.xori v282 v283
  let c0_i32_172 : BitVec 32 := 0#32
  let v281 : BitVec 1 := Scalar.cmpi .ne v280 c0_i32_172
  let v285 : BitVec 1 := Scalar.andi v284 v281
  let v286 : BitVec 32 := Scalar.addi v280 v279
  let v287 : BitVec 32 := Scalar.select v285 v286 v280
  let c0_i32_177 : BitVec 32 := 0#32
  let c0_i32_178 : BitVec 32 := 0#32
  ![v287.toNat, 0, 0]
def k0_off10 (i : grid0.Coords) : Fin 4 → Nat :=
  let c0_i32_175 : BitVec 32 := 0#32
  let arg0 : BitVec 32 := BitVec.ofNat 32 (i 0).val
  let c2_i32_160 : BitVec 32 := 2#32
  let v265 : BitVec 32 := Scalar.addi arg0 c2_i32_160
  let c16_i32_161 : BitVec 32 := 16#32
  let c0_i32_162 : BitVec 32 := 0#32
  let v266 : BitVec 1 := Scalar.cmpi .eq c16_i32_161 c0_i32_162
  let c1_i32_163 : BitVec 32 := 1#32
  let v267 : BitVec 32 := Scalar.select v266 c1_i32_163 c16_i32_161
  let v268 : BitVec 32 := Scalar.remsi v265 v267
  let c0_i32_165 : BitVec 32 := 0#32
  let v270 : BitVec 1 := Scalar.cmpi .slt v268 c0_i32_165
  let c0_i32_166 : BitVec 32 := 0#32
  let v271 : BitVec 1 := Scalar.cmpi .slt v267 c0_i32_166
  let v272 : BitVec 1 := Scalar.xori v270 v271
  let c0_i32_164 : BitVec 32 := 0#32
  let v269 : BitVec 1 := Scalar.cmpi .ne v268 c0_i32_164
  let v273 : BitVec 1 := Scalar.andi v272 v269
  let v274 : BitVec 32 := Scalar.addi v268 v267
  let v275 : BitVec 32 := Scalar.select v273 v274 v268
  let c0_i32_179 : BitVec 32 := 0#32
  let c0_i32_180 : BitVec 32 := 0#32
  ![0, v275.toNat, 0, 0]
def k0_off11 (i : grid0.Coords) : Fin 2 → Nat :=
  let c1_i32_182 : BitVec 32 := 1#32
  let arg0 : BitVec 32 := BitVec.ofNat 32 (i 0).val
  let c2_i32_160 : BitVec 32 := 2#32
  let v265 : BitVec 32 := Scalar.addi arg0 c2_i32_160
  let c16_i32_161 : BitVec 32 := 16#32
  let c0_i32_162 : BitVec 32 := 0#32
  let v266 : BitVec 1 := Scalar.cmpi .eq c16_i32_161 c0_i32_162
  let c1_i32_163 : BitVec 32 := 1#32
  let v267 : BitVec 32 := Scalar.select v266 c1_i32_163 c16_i32_161
  let v268 : BitVec 32 := Scalar.remsi v265 v267
  let c0_i32_165 : BitVec 32 := 0#32
  let v270 : BitVec 1 := Scalar.cmpi .slt v268 c0_i32_165
  let c0_i32_166 : BitVec 32 := 0#32
  let v271 : BitVec 1 := Scalar.cmpi .slt v267 c0_i32_166
  let v272 : BitVec 1 := Scalar.xori v270 v271
  let c0_i32_164 : BitVec 32 := 0#32
  let v269 : BitVec 1 := Scalar.cmpi .ne v268 c0_i32_164
  let v273 : BitVec 1 := Scalar.andi v272 v269
  let v274 : BitVec 32 := Scalar.addi v268 v267
  let v275 : BitVec 32 := Scalar.select v273 v274 v268
  let c8_i32_167 : BitVec 32 := 8#32
  let v276 : BitVec 32 := Scalar.muli v275 c8_i32_167
  let c0_i32_168 : BitVec 32 := 0#32
  let v277 : BitVec 32 := Scalar.addi v276 c0_i32_168
  let c2_i32_169 : BitVec 32 := 2#32
  let c0_i32_170 : BitVec 32 := 0#32
  let v278 : BitVec 1 := Scalar.cmpi .eq c2_i32_169 c0_i32_170
  let c1_i32_171 : BitVec 32 := 1#32
  let v279 : BitVec 32 := Scalar.select v278 c1_i32_171 c2_i32_169
  let v280 : BitVec 32 := Scalar.remsi v277 v279
  let c0_i32_173 : BitVec 32 := 0#32
  let v282 : BitVec 1 := Scalar.cmpi .slt v280 c0_i32_173
  let c0_i32_174 : BitVec 32 := 0#32
  let v283 : BitVec 1 := Scalar.cmpi .slt v279 c0_i32_174
  let v284 : BitVec 1 := Scalar.xori v282 v283
  let c0_i32_172 : BitVec 32 := 0#32
  let v281 : BitVec 1 := Scalar.cmpi .ne v280 c0_i32_172
  let v285 : BitVec 1 := Scalar.andi v284 v281
  let v286 : BitVec 32 := Scalar.addi v280 v279
  let v287 : BitVec 32 := Scalar.select v285 v286 v280
  ![1, v287.toNat]
def k0_off12 (i : grid0.Coords) : Fin 2 → Nat :=
  let c2_i32_188 : BitVec 32 := 2#32
  let arg0 : BitVec 32 := BitVec.ofNat 32 (i 0).val
  let c2_i32_160 : BitVec 32 := 2#32
  let v265 : BitVec 32 := Scalar.addi arg0 c2_i32_160
  let c16_i32_161 : BitVec 32 := 16#32
  let c0_i32_162 : BitVec 32 := 0#32
  let v266 : BitVec 1 := Scalar.cmpi .eq c16_i32_161 c0_i32_162
  let c1_i32_163 : BitVec 32 := 1#32
  let v267 : BitVec 32 := Scalar.select v266 c1_i32_163 c16_i32_161
  let v268 : BitVec 32 := Scalar.remsi v265 v267
  let c0_i32_165 : BitVec 32 := 0#32
  let v270 : BitVec 1 := Scalar.cmpi .slt v268 c0_i32_165
  let c0_i32_166 : BitVec 32 := 0#32
  let v271 : BitVec 1 := Scalar.cmpi .slt v267 c0_i32_166
  let v272 : BitVec 1 := Scalar.xori v270 v271
  let c0_i32_164 : BitVec 32 := 0#32
  let v269 : BitVec 1 := Scalar.cmpi .ne v268 c0_i32_164
  let v273 : BitVec 1 := Scalar.andi v272 v269
  let v274 : BitVec 32 := Scalar.addi v268 v267
  let v275 : BitVec 32 := Scalar.select v273 v274 v268
  let c8_i32_167 : BitVec 32 := 8#32
  let v276 : BitVec 32 := Scalar.muli v275 c8_i32_167
  let c0_i32_168 : BitVec 32 := 0#32
  let v277 : BitVec 32 := Scalar.addi v276 c0_i32_168
  let c2_i32_169 : BitVec 32 := 2#32
  let c0_i32_170 : BitVec 32 := 0#32
  let v278 : BitVec 1 := Scalar.cmpi .eq c2_i32_169 c0_i32_170
  let c1_i32_171 : BitVec 32 := 1#32
  let v279 : BitVec 32 := Scalar.select v278 c1_i32_171 c2_i32_169
  let v280 : BitVec 32 := Scalar.remsi v277 v279
  let c0_i32_173 : BitVec 32 := 0#32
  let v282 : BitVec 1 := Scalar.cmpi .slt v280 c0_i32_173
  let c0_i32_174 : BitVec 32 := 0#32
  let v283 : BitVec 1 := Scalar.cmpi .slt v279 c0_i32_174
  let v284 : BitVec 1 := Scalar.xori v282 v283
  let c0_i32_172 : BitVec 32 := 0#32
  let v281 : BitVec 1 := Scalar.cmpi .ne v280 c0_i32_172
  let v285 : BitVec 1 := Scalar.andi v284 v281
  let v286 : BitVec 32 := Scalar.addi v280 v279
  let v287 : BitVec 32 := Scalar.select v285 v286 v280
  ![2, v287.toNat]
def k0_off13 (i : grid0.Coords) : Fin 3 → Nat :=
  let arg0 : BitVec 32 := BitVec.ofNat 32 (i 0).val
  let c2_i32_160 : BitVec 32 := 2#32
  let v265 : BitVec 32 := Scalar.addi arg0 c2_i32_160
  let c16_i32_161 : BitVec 32 := 16#32
  let c0_i32_162 : BitVec 32 := 0#32
  let v266 : BitVec 1 := Scalar.cmpi .eq c16_i32_161 c0_i32_162
  let c1_i32_163 : BitVec 32 := 1#32
  let v267 : BitVec 32 := Scalar.select v266 c1_i32_163 c16_i32_161
  let v268 : BitVec 32 := Scalar.remsi v265 v267
  let c0_i32_165 : BitVec 32 := 0#32
  let v270 : BitVec 1 := Scalar.cmpi .slt v268 c0_i32_165
  let c0_i32_166 : BitVec 32 := 0#32
  let v271 : BitVec 1 := Scalar.cmpi .slt v267 c0_i32_166
  let v272 : BitVec 1 := Scalar.xori v270 v271
  let c0_i32_164 : BitVec 32 := 0#32
  let v269 : BitVec 1 := Scalar.cmpi .ne v268 c0_i32_164
  let v273 : BitVec 1 := Scalar.andi v272 v269
  let v274 : BitVec 32 := Scalar.addi v268 v267
  let v275 : BitVec 32 := Scalar.select v273 v274 v268
  let c8_i32_167 : BitVec 32 := 8#32
  let v276 : BitVec 32 := Scalar.muli v275 c8_i32_167
  let c0_i32_168 : BitVec 32 := 0#32
  let v277 : BitVec 32 := Scalar.addi v276 c0_i32_168
  let c2_i32_169 : BitVec 32 := 2#32
  let c0_i32_170 : BitVec 32 := 0#32
  let v278 : BitVec 1 := Scalar.cmpi .eq c2_i32_169 c0_i32_170
  let c1_i32_171 : BitVec 32 := 1#32
  let v279 : BitVec 32 := Scalar.select v278 c1_i32_171 c2_i32_169
  let v280 : BitVec 32 := Scalar.remsi v277 v279
  let c0_i32_173 : BitVec 32 := 0#32
  let v282 : BitVec 1 := Scalar.cmpi .slt v280 c0_i32_173
  let c0_i32_174 : BitVec 32 := 0#32
  let v283 : BitVec 1 := Scalar.cmpi .slt v279 c0_i32_174
  let v284 : BitVec 1 := Scalar.xori v282 v283
  let c0_i32_172 : BitVec 32 := 0#32
  let v281 : BitVec 1 := Scalar.cmpi .ne v280 c0_i32_172
  let v285 : BitVec 1 := Scalar.andi v284 v281
  let v286 : BitVec 32 := Scalar.addi v280 v279
  let v287 : BitVec 32 := Scalar.select v285 v286 v280
  let c0_i32_189 : BitVec 32 := 0#32
  let c0_i32_190 : BitVec 32 := 0#32
  ![v287.toNat, 0, 0]
def k0_off14 (i : grid0.Coords) : Fin 4 → Nat :=
  let c0_i32_187 : BitVec 32 := 0#32
  let arg0 : BitVec 32 := BitVec.ofNat 32 (i 0).val
  let c2_i32_160 : BitVec 32 := 2#32
  let v265 : BitVec 32 := Scalar.addi arg0 c2_i32_160
  let c16_i32_161 : BitVec 32 := 16#32
  let c0_i32_162 : BitVec 32 := 0#32
  let v266 : BitVec 1 := Scalar.cmpi .eq c16_i32_161 c0_i32_162
  let c1_i32_163 : BitVec 32 := 1#32
  let v267 : BitVec 32 := Scalar.select v266 c1_i32_163 c16_i32_161
  let v268 : BitVec 32 := Scalar.remsi v265 v267
  let c0_i32_165 : BitVec 32 := 0#32
  let v270 : BitVec 1 := Scalar.cmpi .slt v268 c0_i32_165
  let c0_i32_166 : BitVec 32 := 0#32
  let v271 : BitVec 1 := Scalar.cmpi .slt v267 c0_i32_166
  let v272 : BitVec 1 := Scalar.xori v270 v271
  let c0_i32_164 : BitVec 32 := 0#32
  let v269 : BitVec 1 := Scalar.cmpi .ne v268 c0_i32_164
  let v273 : BitVec 1 := Scalar.andi v272 v269
  let v274 : BitVec 32 := Scalar.addi v268 v267
  let v275 : BitVec 32 := Scalar.select v273 v274 v268
  let c0_i32_191 : BitVec 32 := 0#32
  let c0_i32_192 : BitVec 32 := 0#32
  ![0, v275.toNat, 0, 0]
def k0_off15 (i : grid0.Coords) : Fin 2 → Nat :=
  let c0_i32_22 : BitVec 32 := 0#32
  let arg0 : BitVec 32 := BitVec.ofNat 32 (i 0).val
  let c1_i32 : BitVec 32 := 1#32
  let v5 : BitVec 32 := Scalar.addi arg0 c1_i32
  let c16_i32 : BitVec 32 := 16#32
  let c0_i32_2 : BitVec 32 := 0#32
  let v6 : BitVec 1 := Scalar.cmpi .eq c16_i32 c0_i32_2
  let c1_i32_3 : BitVec 32 := 1#32
  let v7 : BitVec 32 := Scalar.select v6 c1_i32_3 c16_i32
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c8_i32_14 : BitVec 32 := 8#32
  let v27 : BitVec 32 := Scalar.muli v15 c8_i32_14
  let arg1 : BitVec 32 := BitVec.ofNat 32 (i 1).val
  let v28 : BitVec 32 := Scalar.addi v27 arg1
  let c2_i32 : BitVec 32 := 2#32
  let c0_i32_15 : BitVec 32 := 0#32
  let v29 : BitVec 1 := Scalar.cmpi .eq c2_i32 c0_i32_15
  let c1_i32_16 : BitVec 32 := 1#32
  let v30 : BitVec 32 := Scalar.select v29 c1_i32_16 c2_i32
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  ![0, v38.toNat]
def k0_off16 (i : grid0.Coords) : Fin 3 → Nat :=
  let arg0 : BitVec 32 := BitVec.ofNat 32 (i 0).val
  let c1_i32 : BitVec 32 := 1#32
  let v5 : BitVec 32 := Scalar.addi arg0 c1_i32
  let c16_i32 : BitVec 32 := 16#32
  let c0_i32_2 : BitVec 32 := 0#32
  let v6 : BitVec 1 := Scalar.cmpi .eq c16_i32 c0_i32_2
  let c1_i32_3 : BitVec 32 := 1#32
  let v7 : BitVec 32 := Scalar.select v6 c1_i32_3 c16_i32
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c8_i32_14 : BitVec 32 := 8#32
  let v27 : BitVec 32 := Scalar.muli v15 c8_i32_14
  let arg1 : BitVec 32 := BitVec.ofNat 32 (i 1).val
  let v28 : BitVec 32 := Scalar.addi v27 arg1
  let c2_i32 : BitVec 32 := 2#32
  let c0_i32_15 : BitVec 32 := 0#32
  let v29 : BitVec 1 := Scalar.cmpi .eq c2_i32 c0_i32_15
  let c1_i32_16 : BitVec 32 := 1#32
  let v30 : BitVec 32 := Scalar.select v29 c1_i32_16 c2_i32
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c0_i32_23 : BitVec 32 := 0#32
  let c0_i32_24 : BitVec 32 := 0#32
  ![v38.toNat, 0, 0]
def k0_off17 (i : grid0.Coords) : Fin 4 → Nat :=
  let c0_i32_21 : BitVec 32 := 0#32
  let arg0 : BitVec 32 := BitVec.ofNat 32 (i 0).val
  let c1_i32 : BitVec 32 := 1#32
  let v5 : BitVec 32 := Scalar.addi arg0 c1_i32
  let c16_i32 : BitVec 32 := 16#32
  let c0_i32_2 : BitVec 32 := 0#32
  let v6 : BitVec 1 := Scalar.cmpi .eq c16_i32 c0_i32_2
  let c1_i32_3 : BitVec 32 := 1#32
  let v7 : BitVec 32 := Scalar.select v6 c1_i32_3 c16_i32
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let arg1 : BitVec 32 := BitVec.ofNat 32 (i 1).val
  let c128_i32 : BitVec 32 := 128#32
  let v39 : BitVec 32 := Scalar.muli arg1 c128_i32
  let c0_i32_25 : BitVec 32 := 0#32
  ![0, v15.toNat, v39.toNat, 0]
def k0_off18 (i : grid0.Coords) : Fin 2 → Nat :=
  let c1_i32_27 : BitVec 32 := 1#32
  let arg0 : BitVec 32 := BitVec.ofNat 32 (i 0).val
  let c1_i32 : BitVec 32 := 1#32
  let v5 : BitVec 32 := Scalar.addi arg0 c1_i32
  let c16_i32 : BitVec 32 := 16#32
  let c0_i32_2 : BitVec 32 := 0#32
  let v6 : BitVec 1 := Scalar.cmpi .eq c16_i32 c0_i32_2
  let c1_i32_3 : BitVec 32 := 1#32
  let v7 : BitVec 32 := Scalar.select v6 c1_i32_3 c16_i32
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c8_i32_14 : BitVec 32 := 8#32
  let v27 : BitVec 32 := Scalar.muli v15 c8_i32_14
  let arg1 : BitVec 32 := BitVec.ofNat 32 (i 1).val
  let v28 : BitVec 32 := Scalar.addi v27 arg1
  let c2_i32 : BitVec 32 := 2#32
  let c0_i32_15 : BitVec 32 := 0#32
  let v29 : BitVec 1 := Scalar.cmpi .eq c2_i32 c0_i32_15
  let c1_i32_16 : BitVec 32 := 1#32
  let v30 : BitVec 32 := Scalar.select v29 c1_i32_16 c2_i32
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  ![1, v38.toNat]
def k0_off19 (i : grid0.Coords) : Fin 2 → Nat :=
  let c2_i32_32 : BitVec 32 := 2#32
  let arg0 : BitVec 32 := BitVec.ofNat 32 (i 0).val
  let c1_i32 : BitVec 32 := 1#32
  let v5 : BitVec 32 := Scalar.addi arg0 c1_i32
  let c16_i32 : BitVec 32 := 16#32
  let c0_i32_2 : BitVec 32 := 0#32
  let v6 : BitVec 1 := Scalar.cmpi .eq c16_i32 c0_i32_2
  let c1_i32_3 : BitVec 32 := 1#32
  let v7 : BitVec 32 := Scalar.select v6 c1_i32_3 c16_i32
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c8_i32_14 : BitVec 32 := 8#32
  let v27 : BitVec 32 := Scalar.muli v15 c8_i32_14
  let arg1 : BitVec 32 := BitVec.ofNat 32 (i 1).val
  let v28 : BitVec 32 := Scalar.addi v27 arg1
  let c2_i32 : BitVec 32 := 2#32
  let c0_i32_15 : BitVec 32 := 0#32
  let v29 : BitVec 1 := Scalar.cmpi .eq c2_i32 c0_i32_15
  let c1_i32_16 : BitVec 32 := 1#32
  let v30 : BitVec 32 := Scalar.select v29 c1_i32_16 c2_i32
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  ![2, v38.toNat]
def k0_off20 (i : grid0.Coords) : Fin 3 → Nat :=
  let arg0 : BitVec 32 := BitVec.ofNat 32 (i 0).val
  let c1_i32 : BitVec 32 := 1#32
  let v5 : BitVec 32 := Scalar.addi arg0 c1_i32
  let c16_i32 : BitVec 32 := 16#32
  let c0_i32_2 : BitVec 32 := 0#32
  let v6 : BitVec 1 := Scalar.cmpi .eq c16_i32 c0_i32_2
  let c1_i32_3 : BitVec 32 := 1#32
  let v7 : BitVec 32 := Scalar.select v6 c1_i32_3 c16_i32
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c8_i32_14 : BitVec 32 := 8#32
  let v27 : BitVec 32 := Scalar.muli v15 c8_i32_14
  let arg1 : BitVec 32 := BitVec.ofNat 32 (i 1).val
  let v28 : BitVec 32 := Scalar.addi v27 arg1
  let c2_i32 : BitVec 32 := 2#32
  let c0_i32_15 : BitVec 32 := 0#32
  let v29 : BitVec 1 := Scalar.cmpi .eq c2_i32 c0_i32_15
  let c1_i32_16 : BitVec 32 := 1#32
  let v30 : BitVec 32 := Scalar.select v29 c1_i32_16 c2_i32
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c0_i32_33 : BitVec 32 := 0#32
  let c0_i32_34 : BitVec 32 := 0#32
  ![v38.toNat, 0, 0]
def k0_off21 (i : grid0.Coords) : Fin 4 → Nat :=
  let c0_i32_31 : BitVec 32 := 0#32
  let arg0 : BitVec 32 := BitVec.ofNat 32 (i 0).val
  let c1_i32 : BitVec 32 := 1#32
  let v5 : BitVec 32 := Scalar.addi arg0 c1_i32
  let c16_i32 : BitVec 32 := 16#32
  let c0_i32_2 : BitVec 32 := 0#32
  let v6 : BitVec 1 := Scalar.cmpi .eq c16_i32 c0_i32_2
  let c1_i32_3 : BitVec 32 := 1#32
  let v7 : BitVec 32 := Scalar.select v6 c1_i32_3 c16_i32
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let arg1 : BitVec 32 := BitVec.ofNat 32 (i 1).val
  let c256_i32 : BitVec 32 := 256#32
  let v41 : BitVec 32 := Scalar.muli arg1 c256_i32
  let c0_i32_35 : BitVec 32 := 0#32
  ![0, v15.toNat, v41.toNat, 0]
def k0_off22 (i : grid0.Coords) : Fin 3 → Nat :=
  let arg0 : BitVec 32 := BitVec.ofNat 32 (i 0).val
  let c1_i32 : BitVec 32 := 1#32
  let v5 : BitVec 32 := Scalar.addi arg0 c1_i32
  let c16_i32 : BitVec 32 := 16#32
  let c0_i32_2 : BitVec 32 := 0#32
  let v6 : BitVec 1 := Scalar.cmpi .eq c16_i32 c0_i32_2
  let c1_i32_3 : BitVec 32 := 1#32
  let v7 : BitVec 32 := Scalar.select v6 c1_i32_3 c16_i32
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c8_i32_36 : BitVec 32 := 8#32
  let v60 : BitVec 32 := Scalar.muli v15 c8_i32_36
  let arg1 : BitVec 32 := BitVec.ofNat 32 (i 1).val
  let v61 : BitVec 32 := Scalar.addi v60 arg1
  let c2_i32_37 : BitVec 32 := 2#32
  let c0_i32_38 : BitVec 32 := 0#32
  let v62 : BitVec 1 := Scalar.cmpi .eq c2_i32_37 c0_i32_38
  let c1_i32_39 : BitVec 32 := 1#32
  let v63 : BitVec 32 := Scalar.select v62 c1_i32_39 c2_i32_37
  let v64 : BitVec 32 := Scalar.remsi v61 v63
  let c0_i32_41 : BitVec 32 := 0#32
  let v66 : BitVec 1 := Scalar.cmpi .slt v64 c0_i32_41
  let c0_i32_42 : BitVec 32 := 0#32
  let v67 : BitVec 1 := Scalar.cmpi .slt v63 c0_i32_42
  let v68 : BitVec 1 := Scalar.xori v66 v67
  let c0_i32_40 : BitVec 32 := 0#32
  let v65 : BitVec 1 := Scalar.cmpi .ne v64 c0_i32_40
  let v69 : BitVec 1 := Scalar.andi v68 v65
  let v70 : BitVec 32 := Scalar.addi v64 v63
  let v71 : BitVec 32 := Scalar.select v69 v70 v64
  let v82 : Index := Scalar.indexCast v71
  let c0 : Index := 0#32
  let c0_49 : Index := 0#32
  ![v82.toNat, 0, 0]
def k0_off23 (i : grid0.Coords) : Fin 3 → Nat :=
  let arg0 : BitVec 32 := BitVec.ofNat 32 (i 0).val
  let c1_i32 : BitVec 32 := 1#32
  let v5 : BitVec 32 := Scalar.addi arg0 c1_i32
  let c16_i32 : BitVec 32 := 16#32
  let c0_i32_2 : BitVec 32 := 0#32
  let v6 : BitVec 1 := Scalar.cmpi .eq c16_i32 c0_i32_2
  let c1_i32_3 : BitVec 32 := 1#32
  let v7 : BitVec 32 := Scalar.select v6 c1_i32_3 c16_i32
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c2_i32_43 : BitVec 32 := 2#32
  let c0_i32_44 : BitVec 32 := 0#32
  let v72 : BitVec 1 := Scalar.cmpi .eq c2_i32_43 c0_i32_44
  let c1_i32_45 : BitVec 32 := 1#32
  let v73 : BitVec 32 := Scalar.select v72 c1_i32_45 c2_i32_43
  let v74 : BitVec 32 := Scalar.remsi v15 v73
  let c0_i32_47 : BitVec 32 := 0#32
  let v76 : BitVec 1 := Scalar.cmpi .slt v74 c0_i32_47
  let c0_i32_48 : BitVec 32 := 0#32
  let v77 : BitVec 1 := Scalar.cmpi .slt v73 c0_i32_48
  let v78 : BitVec 1 := Scalar.xori v76 v77
  let c0_i32_46 : BitVec 32 := 0#32
  let v75 : BitVec 1 := Scalar.cmpi .ne v74 c0_i32_46
  let v79 : BitVec 1 := Scalar.andi v78 v75
  let v80 : BitVec 32 := Scalar.addi v74 v73
  let v81 : BitVec 32 := Scalar.select v79 v80 v74
  let v87 : Index := Scalar.indexCast v81
  let arg1 : BitVec 32 := BitVec.ofNat 32 (i 1).val
  let c128_i32_50 : BitVec 32 := 128#32
  let v86 : BitVec 32 := Scalar.muli arg1 c128_i32_50
  let v88 : Index := Scalar.indexCast v86
  let c0_51 : Index := 0#32
  ![v87.toNat, v88.toNat, 0]
def k0_off24 (i : grid0.Coords) : Fin 3 → Nat :=
  let arg0 : BitVec 32 := BitVec.ofNat 32 (i 0).val
  let c1_i32 : BitVec 32 := 1#32
  let v5 : BitVec 32 := Scalar.addi arg0 c1_i32
  let c16_i32 : BitVec 32 := 16#32
  let c0_i32_2 : BitVec 32 := 0#32
  let v6 : BitVec 1 := Scalar.cmpi .eq c16_i32 c0_i32_2
  let c1_i32_3 : BitVec 32 := 1#32
  let v7 : BitVec 32 := Scalar.select v6 c1_i32_3 c16_i32
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c8_i32_36 : BitVec 32 := 8#32
  let v60 : BitVec 32 := Scalar.muli v15 c8_i32_36
  let arg1 : BitVec 32 := BitVec.ofNat 32 (i 1).val
  let v61 : BitVec 32 := Scalar.addi v60 arg1
  let c2_i32_37 : BitVec 32 := 2#32
  let c0_i32_38 : BitVec 32 := 0#32
  let v62 : BitVec 1 := Scalar.cmpi .eq c2_i32_37 c0_i32_38
  let c1_i32_39 : BitVec 32 := 1#32
  let v63 : BitVec 32 := Scalar.select v62 c1_i32_39 c2_i32_37
  let v64 : BitVec 32 := Scalar.remsi v61 v63
  let c0_i32_41 : BitVec 32 := 0#32
  let v66 : BitVec 1 := Scalar.cmpi .slt v64 c0_i32_41
  let c0_i32_42 : BitVec 32 := 0#32
  let v67 : BitVec 1 := Scalar.cmpi .slt v63 c0_i32_42
  let v68 : BitVec 1 := Scalar.xori v66 v67
  let c0_i32_40 : BitVec 32 := 0#32
  let v65 : BitVec 1 := Scalar.cmpi .ne v64 c0_i32_40
  let v69 : BitVec 1 := Scalar.andi v68 v65
  let v70 : BitVec 32 := Scalar.addi v64 v63
  let v71 : BitVec 32 := Scalar.select v69 v70 v64
  let v102 : Index := Scalar.indexCast v71
  let c0_56 : Index := 0#32
  let c0_57 : Index := 0#32
  ![v102.toNat, 0, 0]
def k0_off25 (i : grid0.Coords) : Fin 3 → Nat :=
  let arg0 : BitVec 32 := BitVec.ofNat 32 (i 0).val
  let c1_i32 : BitVec 32 := 1#32
  let v5 : BitVec 32 := Scalar.addi arg0 c1_i32
  let c16_i32 : BitVec 32 := 16#32
  let c0_i32_2 : BitVec 32 := 0#32
  let v6 : BitVec 1 := Scalar.cmpi .eq c16_i32 c0_i32_2
  let c1_i32_3 : BitVec 32 := 1#32
  let v7 : BitVec 32 := Scalar.select v6 c1_i32_3 c16_i32
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c2_i32_43 : BitVec 32 := 2#32
  let c0_i32_44 : BitVec 32 := 0#32
  let v72 : BitVec 1 := Scalar.cmpi .eq c2_i32_43 c0_i32_44
  let c1_i32_45 : BitVec 32 := 1#32
  let v73 : BitVec 32 := Scalar.select v72 c1_i32_45 c2_i32_43
  let v74 : BitVec 32 := Scalar.remsi v15 v73
  let c0_i32_47 : BitVec 32 := 0#32
  let v76 : BitVec 1 := Scalar.cmpi .slt v74 c0_i32_47
  let c0_i32_48 : BitVec 32 := 0#32
  let v77 : BitVec 1 := Scalar.cmpi .slt v73 c0_i32_48
  let v78 : BitVec 1 := Scalar.xori v76 v77
  let c0_i32_46 : BitVec 32 := 0#32
  let v75 : BitVec 1 := Scalar.cmpi .ne v74 c0_i32_46
  let v79 : BitVec 1 := Scalar.andi v78 v75
  let v80 : BitVec 32 := Scalar.addi v74 v73
  let v81 : BitVec 32 := Scalar.select v79 v80 v74
  let v107 : Index := Scalar.indexCast v81
  let arg1 : BitVec 32 := BitVec.ofNat 32 (i 1).val
  let c256_i32_58 : BitVec 32 := 256#32
  let v106 : BitVec 32 := Scalar.muli arg1 c256_i32_58
  let v108 : Index := Scalar.indexCast v106
  let c0_59 : Index := 0#32
  ![v107.toNat, v108.toNat, 0]
def k0_off26 (i : grid0.Coords) : Fin 3 → Nat :=
  let arg0 : BitVec 32 := BitVec.ofNat 32 (i 0).val
  let c2_i32_60 : BitVec 32 := 2#32
  let c0_i32_61 : BitVec 32 := 0#32
  let v112 : BitVec 1 := Scalar.cmpi .eq c2_i32_60 c0_i32_61
  let c1_i32_62 : BitVec 32 := 1#32
  let v113 : BitVec 32 := Scalar.select v112 c1_i32_62 c2_i32_60
  let v114 : BitVec 32 := Scalar.remsi arg0 v113
  let c0_i32_64 : BitVec 32 := 0#32
  let v116 : BitVec 1 := Scalar.cmpi .slt v114 c0_i32_64
  let c0_i32_65 : BitVec 32 := 0#32
  let v117 : BitVec 1 := Scalar.cmpi .slt v113 c0_i32_65
  let v118 : BitVec 1 := Scalar.xori v116 v117
  let c0_i32_63 : BitVec 32 := 0#32
  let v115 : BitVec 1 := Scalar.cmpi .ne v114 c0_i32_63
  let v119 : BitVec 1 := Scalar.andi v118 v115
  let v120 : BitVec 32 := Scalar.addi v114 v113
  let v121 : BitVec 32 := Scalar.select v119 v120 v114
  let v141 : Index := Scalar.indexCast v121
  let c0_83 : Index := 0#32
  let c0_84 : Index := 0#32
  ![v141.toNat, 0, 0]
def k0_off27 (i : grid0.Coords) : Fin 3 → Nat :=
  let arg0 : BitVec 32 := BitVec.ofNat 32 (i 0).val
  let c2_i32_60 : BitVec 32 := 2#32
  let c0_i32_61 : BitVec 32 := 0#32
  let v112 : BitVec 1 := Scalar.cmpi .eq c2_i32_60 c0_i32_61
  let c1_i32_62 : BitVec 32 := 1#32
  let v113 : BitVec 32 := Scalar.select v112 c1_i32_62 c2_i32_60
  let v114 : BitVec 32 := Scalar.remsi arg0 v113
  let c0_i32_64 : BitVec 32 := 0#32
  let v116 : BitVec 1 := Scalar.cmpi .slt v114 c0_i32_64
  let c0_i32_65 : BitVec 32 := 0#32
  let v117 : BitVec 1 := Scalar.cmpi .slt v113 c0_i32_65
  let v118 : BitVec 1 := Scalar.xori v116 v117
  let c0_i32_63 : BitVec 32 := 0#32
  let v115 : BitVec 1 := Scalar.cmpi .ne v114 c0_i32_63
  let v119 : BitVec 1 := Scalar.andi v118 v115
  let v120 : BitVec 32 := Scalar.addi v114 v113
  let v121 : BitVec 32 := Scalar.select v119 v120 v114
  let v159 : Index := Scalar.indexCast v121
  let c0_92 : Index := 0#32
  let c0_93 : Index := 0#32
  ![v159.toNat, 0, 0]
def k0_off28 (i : grid0.Coords) : Fin 3 → Nat :=
  let arg0 : BitVec 32 := BitVec.ofNat 32 (i 0).val
  let c2_i32_60 : BitVec 32 := 2#32
  let c0_i32_61 : BitVec 32 := 0#32
  let v112 : BitVec 1 := Scalar.cmpi .eq c2_i32_60 c0_i32_61
  let c1_i32_62 : BitVec 32 := 1#32
  let v113 : BitVec 32 := Scalar.select v112 c1_i32_62 c2_i32_60
  let v114 : BitVec 32 := Scalar.remsi arg0 v113
  let c0_i32_64 : BitVec 32 := 0#32
  let v116 : BitVec 1 := Scalar.cmpi .slt v114 c0_i32_64
  let c0_i32_65 : BitVec 32 := 0#32
  let v117 : BitVec 1 := Scalar.cmpi .slt v113 c0_i32_65
  let v118 : BitVec 1 := Scalar.xori v116 v117
  let c0_i32_63 : BitVec 32 := 0#32
  let v115 : BitVec 1 := Scalar.cmpi .ne v114 c0_i32_63
  let v119 : BitVec 1 := Scalar.andi v118 v115
  let v120 : BitVec 32 := Scalar.addi v114 v113
  let v121 : BitVec 32 := Scalar.select v119 v120 v114
  let v164 : Index := Scalar.indexCast v121
  let c0_95 : Index := 0#32
  let c512 : Index := 512#32
  ![v164.toNat, 0, 512]
def k0_off29 (i : grid0.Coords) : Fin 3 → Nat :=
  let arg0 : BitVec 32 := BitVec.ofNat 32 (i 0).val
  let c2_i32_60 : BitVec 32 := 2#32
  let c0_i32_61 : BitVec 32 := 0#32
  let v112 : BitVec 1 := Scalar.cmpi .eq c2_i32_60 c0_i32_61
  let c1_i32_62 : BitVec 32 := 1#32
  let v113 : BitVec 32 := Scalar.select v112 c1_i32_62 c2_i32_60
  let v114 : BitVec 32 := Scalar.remsi arg0 v113
  let c0_i32_64 : BitVec 32 := 0#32
  let v116 : BitVec 1 := Scalar.cmpi .slt v114 c0_i32_64
  let c0_i32_65 : BitVec 32 := 0#32
  let v117 : BitVec 1 := Scalar.cmpi .slt v113 c0_i32_65
  let v118 : BitVec 1 := Scalar.xori v116 v117
  let c0_i32_63 : BitVec 32 := 0#32
  let v115 : BitVec 1 := Scalar.cmpi .ne v114 c0_i32_63
  let v119 : BitVec 1 := Scalar.andi v118 v115
  let v120 : BitVec 32 := Scalar.addi v114 v113
  let v121 : BitVec 32 := Scalar.select v119 v120 v114
  let v182 : Index := Scalar.indexCast v121
  let c512_103 : Index := 512#32
  let c0_104 : Index := 0#32
  ![v182.toNat, 512, 0]
def k0_off30 (i : grid0.Coords) : Fin 3 → Nat :=
  let arg0 : BitVec 32 := BitVec.ofNat 32 (i 0).val
  let c2_i32_60 : BitVec 32 := 2#32
  let c0_i32_61 : BitVec 32 := 0#32
  let v112 : BitVec 1 := Scalar.cmpi .eq c2_i32_60 c0_i32_61
  let c1_i32_62 : BitVec 32 := 1#32
  let v113 : BitVec 32 := Scalar.select v112 c1_i32_62 c2_i32_60
  let v114 : BitVec 32 := Scalar.remsi arg0 v113
  let c0_i32_64 : BitVec 32 := 0#32
  let v116 : BitVec 1 := Scalar.cmpi .slt v114 c0_i32_64
  let c0_i32_65 : BitVec 32 := 0#32
  let v117 : BitVec 1 := Scalar.cmpi .slt v113 c0_i32_65
  let v118 : BitVec 1 := Scalar.xori v116 v117
  let c0_i32_63 : BitVec 32 := 0#32
  let v115 : BitVec 1 := Scalar.cmpi .ne v114 c0_i32_63
  let v119 : BitVec 1 := Scalar.andi v118 v115
  let v120 : BitVec 32 := Scalar.addi v114 v113
  let v121 : BitVec 32 := Scalar.select v119 v120 v114
  let v187 : Index := Scalar.indexCast v121
  let c0_106 : Index := 0#32
  let c1024 : Index := 1024#32
  ![v187.toNat, 0, 1024]
def k0_off31 (i : grid0.Coords) : Fin 3 → Nat :=
  let arg0 : BitVec 32 := BitVec.ofNat 32 (i 0).val
  let c2_i32_60 : BitVec 32 := 2#32
  let c0_i32_61 : BitVec 32 := 0#32
  let v112 : BitVec 1 := Scalar.cmpi .eq c2_i32_60 c0_i32_61
  let c1_i32_62 : BitVec 32 := 1#32
  let v113 : BitVec 32 := Scalar.select v112 c1_i32_62 c2_i32_60
  let v114 : BitVec 32 := Scalar.remsi arg0 v113
  let c0_i32_64 : BitVec 32 := 0#32
  let v116 : BitVec 1 := Scalar.cmpi .slt v114 c0_i32_64
  let c0_i32_65 : BitVec 32 := 0#32
  let v117 : BitVec 1 := Scalar.cmpi .slt v113 c0_i32_65
  let v118 : BitVec 1 := Scalar.xori v116 v117
  let c0_i32_63 : BitVec 32 := 0#32
  let v115 : BitVec 1 := Scalar.cmpi .ne v114 c0_i32_63
  let v119 : BitVec 1 := Scalar.andi v118 v115
  let v120 : BitVec 32 := Scalar.addi v114 v113
  let v121 : BitVec 32 := Scalar.select v119 v120 v114
  let v205 : Index := Scalar.indexCast v121
  let c1024_114 : Index := 1024#32
  let c0_115 : Index := 0#32
  ![v205.toNat, 1024, 0]
def k0_off32 (i : grid0.Coords) : Fin 3 → Nat :=
  let arg0 : BitVec 32 := BitVec.ofNat 32 (i 0).val
  let c2_i32_60 : BitVec 32 := 2#32
  let c0_i32_61 : BitVec 32 := 0#32
  let v112 : BitVec 1 := Scalar.cmpi .eq c2_i32_60 c0_i32_61
  let c1_i32_62 : BitVec 32 := 1#32
  let v113 : BitVec 32 := Scalar.select v112 c1_i32_62 c2_i32_60
  let v114 : BitVec 32 := Scalar.remsi arg0 v113
  let c0_i32_64 : BitVec 32 := 0#32
  let v116 : BitVec 1 := Scalar.cmpi .slt v114 c0_i32_64
  let c0_i32_65 : BitVec 32 := 0#32
  let v117 : BitVec 1 := Scalar.cmpi .slt v113 c0_i32_65
  let v118 : BitVec 1 := Scalar.xori v116 v117
  let c0_i32_63 : BitVec 32 := 0#32
  let v115 : BitVec 1 := Scalar.cmpi .ne v114 c0_i32_63
  let v119 : BitVec 1 := Scalar.andi v118 v115
  let v120 : BitVec 32 := Scalar.addi v114 v113
  let v121 : BitVec 32 := Scalar.select v119 v120 v114
  let v210 : Index := Scalar.indexCast v121
  let c0_117 : Index := 0#32
  let c1536 : Index := 1536#32
  ![v210.toNat, 0, 1536]
def k0_off33 (i : grid0.Coords) : Fin 3 → Nat :=
  let arg0 : BitVec 32 := BitVec.ofNat 32 (i 0).val
  let c2_i32_60 : BitVec 32 := 2#32
  let c0_i32_61 : BitVec 32 := 0#32
  let v112 : BitVec 1 := Scalar.cmpi .eq c2_i32_60 c0_i32_61
  let c1_i32_62 : BitVec 32 := 1#32
  let v113 : BitVec 32 := Scalar.select v112 c1_i32_62 c2_i32_60
  let v114 : BitVec 32 := Scalar.remsi arg0 v113
  let c0_i32_64 : BitVec 32 := 0#32
  let v116 : BitVec 1 := Scalar.cmpi .slt v114 c0_i32_64
  let c0_i32_65 : BitVec 32 := 0#32
  let v117 : BitVec 1 := Scalar.cmpi .slt v113 c0_i32_65
  let v118 : BitVec 1 := Scalar.xori v116 v117
  let c0_i32_63 : BitVec 32 := 0#32
  let v115 : BitVec 1 := Scalar.cmpi .ne v114 c0_i32_63
  let v119 : BitVec 1 := Scalar.andi v118 v115
  let v120 : BitVec 32 := Scalar.addi v114 v113
  let v121 : BitVec 32 := Scalar.select v119 v120 v114
  let v228 : Index := Scalar.indexCast v121
  let c1536_125 : Index := 1536#32
  let c0_126 : Index := 0#32
  ![v228.toNat, 1536, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference2Ideal.lean ====
abbrev S16x4096x1024 : Shape := ⟨3, ![16, 4096, 1024]⟩
abbrev S4x16x1024x2048 : Shape := ⟨4, ![4, 16, 1024, 2048]⟩
abbrev S4x16x2048x1024 : Shape := ⟨4, ![4, 16, 2048, 1024]⟩
abbrev S1x16x1024x2048 : Shape := ⟨4, ![1, 16, 1024, 2048]⟩
abbrev S16x1024x2048 : Shape := ⟨3, ![16, 1024, 2048]⟩
abbrev S1x16x2048x1024 : Shape := ⟨4, ![1, 16, 2048, 1024]⟩
abbrev S16x2048x1024 : Shape := ⟨3, ![16, 2048, 1024]⟩
abbrev S16x4096x2048 : Shape := ⟨3, ![16, 4096, 2048]⟩
abbrev S_ : Shape := ⟨0, ![]⟩
abbrev S16x4096x8x128 : Shape := ⟨4, ![16, 4096, 8, 128]⟩
abbrev S16x8x4096x128 : Shape := ⟨4, ![16, 8, 4096, 128]⟩

abbrev nBuf : Space → Nat
  | .hbm => 25
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S1x16x1024x2048, .f32⟩
  | .hbm, ⟨5, _⟩ => ⟨S16x1024x2048, .f32⟩
  | .hbm, ⟨6, _⟩ => ⟨S1x16x1024x2048, .f32⟩
  | .hbm, ⟨7, _⟩ => ⟨S16x1024x2048, .f32⟩
  | .hbm, ⟨8, _⟩ => ⟨S1x16x2048x1024, .f32⟩
  | .hbm, ⟨9, _⟩ => ⟨S16x2048x1024, .f32⟩
  | .hbm, ⟨10, _⟩ => ⟨S16x4096x2048, .f32⟩
  | .hbm, ⟨11, _⟩ => ⟨S16x4096x2048, .f32⟩
  | .hbm, ⟨12, _⟩ => ⟨S16x4096x2048, .f32⟩
  | .hbm, ⟨13, _⟩ => ⟨S_, .f32⟩
  | .hbm, ⟨14, _⟩ => ⟨S16x4096x2048, .f32⟩
  | .hbm, ⟨15, _⟩ => ⟨S16x4096x2048, .f32⟩
  | .hbm, ⟨16, _⟩ => ⟨S_, .f32⟩
  | .hbm, ⟨17, _⟩ => ⟨S16x4096x2048, .f32⟩
  | .hbm, ⟨18, _⟩ => ⟨S16x4096x2048, .f32⟩
  | .hbm, ⟨19, _⟩ => ⟨S16x4096x2048, .f32⟩
  | .hbm, ⟨20, _⟩ => ⟨S16x4096x2048, .f32⟩
  | .hbm, ⟨21, _⟩ => ⟨S16x4096x2048, .f32⟩
  | .hbm, ⟨22, _⟩ => ⟨S16x4096x1024, .f32⟩
  | .hbm, ⟨23, _⟩ => ⟨S16x4096x8x128, .f32⟩
  | .hbm, ⟨24, _⟩ => ⟨S16x8x4096x128, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024 : Shape := ⟨1, ![1024]⟩
abbrev S1024x3072 : Shape := ⟨2, ![1024, 3072]⟩
abbrev S_ : Shape := ⟨0, ![]⟩
abbrev S1024x1024 : Shape := ⟨2, ![1024, 1024]⟩
abbrev S1024x2048 : Shape := ⟨2, ![1024, 2048]⟩
abbrev S32768x1024 : Shape := ⟨2, ![32768, 1024]⟩
abbrev S1x1024 : Shape := ⟨2, ![1, 1024]⟩
abbrev S16x32768x128 : Shape := ⟨3, ![16, 32768, 128]⟩
abbrev S8x128x32768 : Shape := ⟨3, ![8, 128, 32768]⟩
abbrev S16x1024x128 : Shape := ⟨3, ![16, 1024, 128]⟩
abbrev S8x128x1024 : Shape := ⟨3, ![8, 128, 1024]⟩
abbrev S1024x1 : Shape := ⟨2, ![1024, 1]⟩
abbrev S1024x128 : Shape := ⟨2, ![1024, 128]⟩
abbrev S1x1024x128 : Shape := ⟨3, ![1, 1024, 128]⟩
abbrev S128x1024 : Shape := ⟨2, ![128, 1024]⟩
abbrev S1x128x1024 : Shape := ⟨3, ![1, 128, 1024]⟩

abbrev nBuf : Space → Nat
  | .hbm => 19
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x2048, .f32⟩
  | .hbm, ⟨13, _⟩ => ⟨S1024x3072, .f32⟩
  | .hbm, ⟨14, _⟩ => ⟨S1024x3072, .bf16⟩
  | .hbm, ⟨15, _⟩ => ⟨S32768x1024, .f32⟩
  | .hbm, ⟨16, _⟩ => ⟨S1x1024, .f32⟩
  | .hbm, ⟨17, _⟩ => ⟨S16x32768x128, .bf16⟩
  | .hbm, ⟨18, _⟩ => ⟨S8x128x32768, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S16x1024x128, .bf16⟩
  | .local _ .vmem, ⟨5, _⟩ => ⟨S16x1024x128, .bf16⟩
  | .local _ .vmem, ⟨6, _⟩ => ⟨S8x128x1024, .bf16⟩
  | .local _ .vmem, ⟨7, _⟩ => ⟨S8x128x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4x8192x1024 : Shape := ⟨3, ![4, 8192, 1024]⟩
abbrev S1024 : Shape := ⟨1, ![1024]⟩
abbrev S1024x3072 : Shape := ⟨2, ![1024, 3072]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩
abbrev S4x8192x2048 : Shape := ⟨3, ![4, 8192, 2048]⟩
abbrev S32768x16x128 : Shape := ⟨3, ![32768, 16, 128]⟩
abbrev S16x32768x128 : Shape := ⟨3, ![16, 32768, 128]⟩
abbrev S32768x8x128 : Shape := ⟨3, ![32768, 8, 128]⟩
abbrev S8x128x32768 : Shape := ⟨3, ![8, 128, 32768]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x3072, .f32⟩
  | .hbm, ⟨20, _⟩ => ⟨S4x8192x1024, .f32⟩
  | .hbm, ⟨21, _⟩ => ⟨S_, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S_, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x2048, .f32⟩
  | .hbm, ⟨30, _⟩ => ⟨S32768x16x128, .f32⟩
  | .hbm, ⟨31, _⟩ => ⟨S16x32768x128, .f32⟩
  | .hbm, ⟨32, _⟩ => ⟨S16x32768x128, .bf16⟩
  | .hbm, ⟨33, _⟩ => ⟨S4x8192x1024, .f32⟩
  | .hbm, ⟨34, _⟩ => ⟨S32768x8x128, .f32⟩
  | .hbm, ⟨35, _⟩ => ⟨S8x128x32768, .f32⟩
  | .hbm, ⟨36, _⟩ => ⟨S8x128x32768, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024 : Shape := ⟨1, ![1024]⟩
abbrev S1024x1536 : Shape := ⟨2, ![1024, 1536]⟩
abbrev S16 : Shape := ⟨1, ![16]⟩
abbrev S_ : Shape := ⟨0, ![]⟩
abbrev S1024x1024 : Shape := ⟨2, ![1024, 1024]⟩
abbrev S1024x16x64 : Shape := ⟨3, ![1024, 16, 64]⟩
abbrev S16x1 : Shape := ⟨2, ![16, 1]⟩
abbrev S1024x512 : Shape := ⟨2, ![1024, 512]⟩
abbrev S32768x1024 : Shape := ⟨2, ![32768, 1024]⟩
abbrev S1x1024 : Shape := ⟨2, ![1, 1024]⟩
abbrev S10x32768x128 : Shape := ⟨3, ![10, 32768, 128]⟩
abbrev S2x128x32768 : Shape := ⟨3, ![2, 128, 32768]⟩
abbrev S10x1024x128 : Shape := ⟨3, ![10, 1024, 128]⟩
abbrev S2x128x1024 : Shape := ⟨3, ![2, 128, 1024]⟩
abbrev S1024x1 : Shape := ⟨2, ![1024, 1]⟩
abbrev S1024x128 : Shape := ⟨2, ![1024, 128]⟩
abbrev S1x1024x128 : Shape := ⟨3, ![1, 1024, 128]⟩
abbrev S128x1024 : Shape := ⟨2, ![128, 1024]⟩
abbrev S1x128x1024 : Shape := ⟨3, ![1, 128, 1024]⟩

abbrev nBuf : Space → Nat
  | .hbm => 29
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x1536, .f32⟩
  | .hbm, ⟨3, _⟩ => ⟨S16, .i32⟩
  | .hbm, ⟨4, _⟩ => ⟨S16, .i1⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x16x64, .f32⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S16, .i32⟩
  | .hbm, ⟨19, _⟩ => ⟨S16x1, .i32⟩
  | .hbm, ⟨20, _⟩ => ⟨S1024x16x64, .f32⟩
  | .hbm, ⟨21, _⟩ => ⟨S1024x1024, .f32⟩
  | .hbm, ⟨22, _⟩ => ⟨S1024x512, .f32⟩
  | .hbm, ⟨23, _⟩ => ⟨S1024x1536, .f32⟩
  | .hbm, ⟨24, _⟩ => ⟨S1024x1536, .bf16⟩
  | .hbm, ⟨25, _⟩ => ⟨S32768x1024, .f32⟩
  | .hbm, ⟨26, _⟩ => ⟨S1x1024, .f32⟩
  | .hbm, ⟨27, _⟩ => ⟨S10x32768x128, .bf16⟩
  | .hbm, ⟨28, _⟩ => ⟨S2x128x32768, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S10x1024x128, .bf16⟩
  | .local _ .vmem, ⟨5, _⟩ => ⟨S10x1024x128, .bf16⟩
  | .local _ .vmem, ⟨6, _⟩ => ⟨S2x128x1024, .bf16⟩
  | .local _ .vmem, ⟨7, _⟩ => ⟨S2x128x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_cst_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S4x8192x1024 : Shape := ⟨3, ![4, 8192, 1024]⟩
abbrev S1024 : Shape := ⟨1, ![1024]⟩
abbrev S1024x1536 : Shape := ⟨2, ![1024, 1536]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x1536 : Shape := ⟨3, ![4, 8192, 1536]⟩
abbrev S32768x2x2x4x64 : Shape := ⟨5, ![32768, 2, 2, 4, 64]⟩
abbrev S32768x2x4x2x64 : Shape := ⟨5, ![32768, 2, 4, 2, 64]⟩
abbrev S4x8192x256 : Shape := ⟨3, ![4, 8192, 256]⟩
abbrev S4x8192x1280 : Shape := ⟨3, ![4, 8192, 1280]⟩
abbrev S32768x10x128 : Shape := ⟨3, ![32768, 10, 128]⟩
abbrev S10x32768x128 : Shape := ⟨3, ![10, 32768, 128]⟩
abbrev S32768x2x128 : Shape := ⟨3, ![32768, 2, 128]⟩
abbrev S2x128x32768 : Shape := ⟨3, ![2, 128, 32768]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x1536, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x1536, .f32⟩
  | .hbm, ⟨20, _⟩ => ⟨S4x8192x1024, .f32⟩
  | .hbm, ⟨21, _⟩ => ⟨S_, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S_, .f32⟩
  | .hbm, ⟨26, _⟩ => ⟨S4x8192x1024, .f32⟩
  | .hbm, ⟨27, _⟩ => ⟨S4x8192x1024, .f32⟩
  | .hbm, ⟨28, _⟩ => ⟨S32768x2x2x4x64, .f32⟩
  | .hbm, ⟨29, _⟩ => ⟨S32768x2x4x2x64, .f32⟩
  | .hbm, ⟨30, _⟩ => ⟨S4x8192x1024, .f32⟩
  | .hbm, ⟨31, _⟩ => ⟨S4x8192x256, .f32⟩
  | .hbm, ⟨32, _⟩ => ⟨S4x8192x1280, .f32⟩
  | .hbm, ⟨33, _⟩ => ⟨S32768x10x128, .f32⟩
  | .hbm, ⟨34, _⟩ => ⟨S10x32768x128, .f32⟩
  | .hbm, ⟨35, _⟩ => ⟨S10x32768x128, .bf16⟩
  | .hbm, ⟨36, _⟩ => ⟨S4x8192x256, .f32⟩
  | .hbm, ⟨37, _⟩ => ⟨S32768x2x128, .f32⟩
  | .hbm, ⟨38, _⟩ => ⟨S2x128x32768, .f32⟩
  | .hbm, ⟨39, _⟩ => ⟨S2x128x32768, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel5.lean ====
abbrev S4x8192x1024 : Shape := ⟨3, ![4, 8192, 1024]⟩
abbrev S1024x1024 : Shape := ⟨2, ![1024, 1024]⟩
abbrev S1024 : Shape := ⟨1, ![1024]⟩
abbrev S1024x16 : Shape := ⟨2, ![1024, 16]⟩
abbrev S32768x8x128 : Shape := ⟨3, ![32768, 8, 128]⟩
abbrev S8x32768x128 : Shape := ⟨3, ![8, 32768, 128]⟩
abbrev S16x1024 : Shape := ⟨2, ![16, 1024]⟩
abbrev S32x1024 : Shape := ⟨2, ![32, 1024]⟩
abbrev S32768x1024 : Shape := ⟨2, ![32768, 1024]⟩
abbrev S1x1024 : Shape := ⟨2, ![1, 1024]⟩
abbrev S32768x128 : Shape := ⟨2, ![32768, 128]⟩
abbrev S16x32768 : Shape := ⟨2, ![16, 32768]⟩
abbrev S8x1024x128 : Shape := ⟨3, ![8, 1024, 128]⟩
abbrev S1024x128 : Shape := ⟨2, ![1024, 128]⟩
abbrev S1x1024x128 : Shape := ⟨3, ![1, 1024, 128]⟩
abbrev S1024x1 : Shape := ⟨2, ![1024, 1]⟩
abbrev S112x1024 : Shape := ⟨2, ![112, 1024]⟩
abbrev S128x1024 : Shape := ⟨2, ![128, 1024]⟩

abbrev nBuf : Space → Nat
  | .hbm => 21
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024x16, .f32⟩
  | .hbm, ⟨5, _⟩ => ⟨S32768x8x128, .f32⟩
  | .hbm, ⟨6, _⟩ => ⟨S8x32768x128, .f32⟩
  | .hbm, ⟨7, _⟩ => ⟨S8x32768x128, .bf16⟩
  | .hbm, ⟨8, _⟩ => ⟨S16x1024, .f32⟩
  | .hbm, ⟨9, _⟩ => ⟨S16x1024, .bf16⟩
  | .hbm, ⟨10, _⟩ => ⟨S16x1024, .f32⟩
  | .hbm, ⟨11, _⟩ => ⟨S16x1024, .f32⟩
  | .hbm, ⟨12, _⟩ => ⟨S16x1024, .bf16⟩
  | .hbm, ⟨13, _⟩ => ⟨S32x1024, .bf16⟩
  | .hbm, ⟨14, _⟩ => ⟨S32768x1024, .f32⟩
  | .hbm, ⟨15, _⟩ => ⟨S1024x1024, .bf16⟩
  | .hbm, ⟨16, _⟩ => ⟨S1x1024, .f32⟩
  | .hbm, ⟨17, _⟩ => ⟨S32768x1024, .f32⟩
  | .hbm, ⟨18, _⟩ => ⟨S32768x1024, .bf16⟩
  | .hbm, ⟨19, _⟩ => ⟨S32768x128, .f32⟩
  | .hbm, ⟨20, _⟩ => ⟨S16x32768, .f32⟩
  | .local _ .vmem, ⟨0, _⟩ => ⟨S8x1024x128, .bf16⟩
  | .local _ .vmem, ⟨1, _⟩ => ⟨S8x1024x128, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1024, .f32⟩
  | .local _ .vmem, ⟨6, _⟩ => ⟨S16x1024, .bf16⟩
  | .local _ .vmem, ⟨7, _⟩ => ⟨S32x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x128, .f32⟩
  | .local _ .vmem, ⟨13, _⟩ => ⟨S1024x128, .f32⟩
  | .local _ .vmem, ⟨14, _⟩ => ⟨S16x1024, .f32⟩
  | .local _ .vmem, ⟨15, _⟩ => ⟨S16x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S4x8192x1024 : Shape := ⟨3, ![4, 8192, 1024]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩
abbrev S32768x16 : Shape := ⟨2, ![32768, 16]⟩
abbrev S32768 : Shape := ⟨1, ![32768]⟩
abbrev S32768x1 : Shape := ⟨2, ![32768, 1]⟩
abbrev S32768x128 : Shape := ⟨2, ![32768, 128]⟩
abbrev S16x32768 : Shape := ⟨2, ![16, 32768]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024x16, .f32⟩
  | .hbm, ⟨5, _⟩ => ⟨S4x8192x1024, .f32⟩
  | .hbm, ⟨6, _⟩ => ⟨S4x8192x1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S32768x1024, .f32⟩
  | .hbm, ⟨24, _⟩ => ⟨S32768x16, .f32⟩
  | .hbm, ⟨25, _⟩ => ⟨S_, .f32⟩
  | .hbm, ⟨26, _⟩ => ⟨S32768, .f32⟩
  | .hbm, ⟨27, _⟩ => ⟨S_, .f32⟩
  | .hbm, ⟨28, _⟩ => ⟨S32768, .f32⟩
  | .hbm, ⟨29, _⟩ => ⟨S32768, .f32⟩
  | .hbm, ⟨30, _⟩ => ⟨S32768x1, .f32⟩
  | .hbm, ⟨31, _⟩ => ⟨S32768x16, .f32⟩
  | .hbm, ⟨32, _⟩ => ⟨S32768x16, .f32⟩
  | .hbm, ⟨33, _⟩ => ⟨S32768x16, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S32768x16, .f32⟩
  | .hbm, ⟨38, _⟩ => ⟨S32768x16, .f32⟩
  | .hbm, ⟨39, _⟩ => ⟨S32768x1024, .f32⟩
  | .hbm, ⟨40, _⟩ => ⟨S32768x1024, .bf16⟩
  | .hbm, ⟨41, _⟩ => ⟨S_, .i32⟩
  | .hbm, ⟨42, _⟩ => ⟨S_, .f32⟩
  | .hbm, ⟨43, _⟩ => ⟨S32768x128, .f32⟩
  | .hbm, ⟨44, _⟩ => ⟨S16x32768, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_call0_v0 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel6.lean ====
abbrev S4x8192x1024 : Shape := ⟨3, ![4, 8192, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S32768x2x2x4x64 : Shape := ⟨5, ![32768, 2, 2, 4, 64]⟩
abbrev S32768x2x4x2x64 : Shape := ⟨5, ![32768, 2, 4, 2, 64]⟩
abbrev S32768x8x128 : Shape := ⟨3, ![32768, 8, 128]⟩
abbrev S8x32768x128 : Shape := ⟨3, ![8, 32768, 128]⟩
abbrev S16x64x1024 : Shape := ⟨3, ![16, 64, 1024]⟩
abbrev S_ : Shape := ⟨0, ![]⟩
abbrev S16x1 : Shape := ⟨2, ![16, 1]⟩
abbrev S16x1024 : Shape := ⟨2, ![16, 1024]⟩
abbrev S32x1024 : Shape := ⟨2, ![32, 1024]⟩
abbrev S32768x1024 : Shape := ⟨2, ![32768, 1024]⟩
abbrev S1x1024 : Shape := ⟨2, ![1, 1024]⟩
abbrev S32768x128 : Shape := ⟨2, ![32768, 128]⟩
abbrev S16x32768 : Shape := ⟨2, ![16, 32768]⟩
abbrev S8x1024x128 : Shape := ⟨3, ![8, 1024, 128]⟩
abbrev S1024x128 : Shape := ⟨2, ![1024, 128]⟩
abbrev S1x1024x128 : Shape := ⟨3, ![1, 1024, 128]⟩
abbrev S1024x1 : Shape := ⟨2, ![1024, 1]⟩
abbrev S112x1024 : Shape := ⟨2, ![112, 1024]⟩
abbrev S128x1024 : Shape := ⟨2, ![128, 1024]⟩

abbrev nBuf : Space → Nat
  | .hbm => 33
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024x16, .f32⟩
  | .hbm, ⟨5, _⟩ => ⟨S16, .i32⟩
  | .hbm, ⟨6, _⟩ => ⟨S16, .i1⟩
  | .hbm, ⟨7, _⟩ => ⟨S32768x2x2x4x64, .f32⟩
  | .hbm, ⟨8, _⟩ => ⟨S32768x2x4x2x64, .f32⟩
  | .hbm, ⟨9, _⟩ => ⟨S32768x8x128, .f32⟩
  | .hbm, ⟨10, _⟩ => ⟨S8x32768x128, .f32⟩
  | .hbm, ⟨11, _⟩ => ⟨S8x32768x128, .bf16⟩
  | .hbm, ⟨12, _⟩ => ⟨S16x64x1024, .f32⟩
  | .hbm, ⟨13, _⟩ => ⟨S_, .i32⟩
  | .hbm, ⟨14, _⟩ => ⟨S16, .i32⟩
  | .hbm, ⟨15, _⟩ => ⟨S16, .i32⟩
  | .hbm, ⟨16, _⟩ => ⟨S16, .i32⟩
  | .hbm, ⟨17, _⟩ => ⟨S16x1, .i32⟩
  | .hbm, ⟨18, _⟩ => ⟨S16x64x1024, .f32⟩
  | .hbm, ⟨19, _⟩ => ⟨S1024x1024, .f32⟩
  | .hbm, ⟨20, _⟩ => ⟨S1024x1024, .bf16⟩
  | .hbm, ⟨21, _⟩ => ⟨S16x1024, .f32⟩
  | .hbm, ⟨22, _⟩ => ⟨S16x1024, .bf16⟩
  | .hbm, ⟨23, _⟩ => ⟨S16x1024, .f32⟩
  | .hbm, ⟨24, _⟩ => ⟨S16x1024, .f32⟩
  | .hbm, ⟨25, _⟩ => ⟨S16x1024, .bf16⟩
  | .hbm, ⟨26, _⟩ => ⟨S32x1024, .bf16⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S32768x1024, .bf16⟩
  | .hbm, ⟨31, _⟩ => ⟨S32768x128, .f32⟩
  | .hbm, ⟨32, _⟩ => ⟨S16x32768, .f32⟩
  | .local _ .vmem, ⟨0, _⟩ => ⟨S8x1024x128, .bf16⟩
  | .local _ .vmem, ⟨1, _⟩ => ⟨S8x1024x128, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1024, .f32⟩
  | .local _ .vmem, ⟨6, _⟩ => ⟨S16x1024, .bf16⟩
  | .local _ .vmem, ⟨7, _⟩ => ⟨S32x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x128, .f32⟩
  | .local _ .vmem, ⟨13, _⟩ => ⟨S1024x128, .f32⟩
  | .local _ .vmem, ⟨14, _⟩ => ⟨S16x1024, .f32⟩
  | .local _ .vmem, ⟨15, _⟩ => ⟨S16x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S4x8192x1024 : Shape := ⟨3, ![4, 8192, 1024]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩
abbrev S32768x16 : Shape := ⟨2, ![32768, 16]⟩
abbrev S32768 : Shape := ⟨1, ![32768]⟩
abbrev S32768x1 : Shape := ⟨2, ![32768, 1]⟩
abbrev S32768x128 : Shape := ⟨2, ![32768, 128]⟩
abbrev S16x32768 : Shape := ⟨2, ![16, 32768]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024x16, .f32⟩
  | .hbm, ⟨5, _⟩ => ⟨S4x8192x1024, .f32⟩
  | .hbm, ⟨6, _⟩ => ⟨S4x8192x1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S32768x1024, .f32⟩
  | .hbm, ⟨24, _⟩ => ⟨S32768x16, .f32⟩
  | .hbm, ⟨25, _⟩ => ⟨S_, .f32⟩
  | .hbm, ⟨26, _⟩ => ⟨S32768, .f32⟩
  | .hbm, ⟨27, _⟩ => ⟨S_, .f32⟩
  | .hbm, ⟨28, _⟩ => ⟨S32768, .f32⟩
  | .hbm, ⟨29, _⟩ => ⟨S32768, .f32⟩
  | .hbm, ⟨30, _⟩ => ⟨S32768x1, .f32⟩
  | .hbm, ⟨31, _⟩ => ⟨S32768x16, .f32⟩
  | .hbm, ⟨32, _⟩ => ⟨S32768x16, .f32⟩
  | .hbm, ⟨33, _⟩ => ⟨S32768x16, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S32768x16, .f32⟩
  | .hbm, ⟨38, _⟩ => ⟨S32768x16, .f32⟩
  | .hbm, ⟨39, _⟩ => ⟨S32768x1024, .f32⟩
  | .hbm, ⟨40, _⟩ => ⟨S32768x1024, .bf16⟩
  | .hbm, ⟨41, _⟩ => ⟨S_, .i32⟩
  | .hbm, ⟨42, _⟩ => ⟨S_, .f32⟩
  | .hbm, ⟨43, _⟩ => ⟨S32768x128, .f32⟩
  | .hbm, ⟨44, _⟩ => ⟨S16x32768, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_call0_v0 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Proof.SW.Host.lean ====
/- The arrays the kernel is launched on, read at an index: scaled queries and keys by plane, values by lane, the bias
   table, and the sinks. -/
module

public import proofs.«01_k».proof.Proof.Gen.KernelIdeal.Value
public import Idealize.ShloMosaic.Lib.Pointwise
public import Idealize.ShloMosaic.Lib.Pipeline.ValueKit
public import Idealize.ShloMosaic.Lib.Claim
public import Idealize.ShloMosaic.Lib.StableHlo.ReadAt
public import Idealize.ShloMosaic.Lib.Routing.OpsSet

@[expose] public section

set_option maxRecDepth 16384

noncomputable section

namespace Cert.SW.Ker

open Cert.KernelIdeal Cert.KernelIdeal.Gen Idealize.ShloMosaic Idealize.ShloMosaic.TcCoe

/-! ## Heads are taken in a fixed order -/

/-- The query head that stands at place `r` of the reordered heads. -/
def head (r : Nat) : Nat := r / 8 * 8 + r % 2 * 4 + r % 8 / 2

theorem head_lt {r : Nat} (h : r < 16) : head r < 16 := by unfold head; omega

/-- The order as the program holds it: one word per place. -/
abbrev order : IVec S16x1 32 :=
  broadcastInDim S16x1 ![0] bcast_S16_S16x1_0
    (select (constantI S16 1 0#1)
      (addi (fun i => lit0 (S16.rowMajor i)) (broadcastInDim S16 ![] bcast_S_S16 (constantI S_ 32 16#32)))
      fun i => lit0 (S16.rowMajor i))

theorem order_apply (r : Fin 16) : order (ix2 r (0 : Fin 1)) = BitVec.ofNat 32 (head r.val) := by
  fin_cases r <;> rfl

/-- Taking sixteen scalars in that order. -/
theorem take_apply (x : Vec Ideal S16 .f32) (r : Fin 16) :
    Host.gather gather_S16_S16x1_S16_n_0_n_n_0_1_1 x order (ix1 r) = x (ix1 ⟨head r.val, head_lt r.isLt⟩) :=
  Routing.gather_take1 _ rfl rfl rfl rfl x order r ⟨head r.val, head_lt r.isLt⟩ (order_apply r) (by decide)

/-- Taking sixteen groups of 64 columns in that order. -/
theorem takeGroups_apply (x : Vec Ideal S32768x16x64 .f32) (t : Fin 32768) (r : Fin 16) (d : Fin 64) :
    Host.gather gather_S32768x16x64_S16x1_S32768x16x64_02_1_n_n_1_1_32768164 x order (ix3 t r d)
      = x (ix3 t ⟨head r.val, head_lt r.isLt⟩ d) := by
  unfold Host.gather
  refine congrArg x (funext fun a => Fin.ext ?_)
  match a with
  | ⟨0, _⟩ =>
    show 0 + 0 + t.val = t.val
    omega
  | ⟨1, _⟩ =>
    have e : ∀ y : S16x1.Idx, (y 0).val = r.val → (order y).toInt.toNat = head r.val := fun y hy => by
      have : y = ix2 r (0 : Fin 1) := funext fun b => Fin.ext (match b with
        | ⟨0, _⟩ => hy
        | ⟨1, _⟩ => by have : (y 1).val < 1 := (y 1).isLt; show (y 1).val = 0; omega)
      rw [this, order_apply, StableHlo.Predicate.toInt_ofNat_small _ (by have := head_lt r.isLt; omega)]
      omega
    show min (order _).toInt.toNat (16 - 1) + 0 + 0 = head r.val
    rw [e _ rfl]
    have := head_lt r.isLt
    omega
  | ⟨2, _⟩ =>
    show 0 + 0 + d.val = d.val
    omega

/-! ## The launched arrays -/

variable (m : (ℓ : Loc nD τ sig) → Buf (Elt Ideal) ℓ) (c : Dev nD)

/-- The projected queries, keys and values. -/
abbrev proj : Vec Ideal S4x8192x1536 .f32 := m (c, Proc.tc.devRef main_arg0)

/-- The sink logits. -/
abbrev sinkArg : Vec Ideal S16 .f32 := m (c, Proc.tc.devRef main_arg1)

/-- `1 / log 2`, as the program computes it. -/
def perLog2 : EReal := Ideal.div 1 (Ideal.log (Ideal.ofBits FTy.f32 1073741824#32))

theorem values_apply (g : Fin 2) (l : Fin 128) (t : Fin 32768) :
    V m c main_v21 (ix3 g l t)
      = proj m c (ix3 ⟨t.val / 8192, by omega⟩ ⟨t.val % 8192, by omega⟩ ⟨1280 + (g.val * 128 + l.val), by omega⟩) := by
  unfold V hostOps0 hostOps0_1 hostOps0_2
  simp only [List.flatten_cons, List.flatten_nil, List.cons_append, List.nil_append, List.append_nil]
  after_reads_at
  after_reads_at
  rw [dif_neg (by omega)]
  exact congrArg (fun k => proj m c (ix3 ⟨t.val / 8192, by omega⟩ ⟨t.val % 8192, by omega⟩ k)) (Fin.ext (by simp only; omega))

theorem sinks_apply (g : Fin 2) (r : Fin 8) (l : Fin 1024) :
    V m c main_v33 (ix3 g r l)
      = sinkArg m c (ix1 ⟨head (g.val * 8 + l.val / 128), head_lt (by omega)⟩) * perLog2 := by
  unfold V hostOps0 hostOps0_1 hostOps0_2
  simp only [List.flatten_cons, List.flatten_nil, List.cons_append, List.nil_append, List.append_nil]
  after_reads_at
  refine (take_apply _ _).trans ?_
  pointwise
  rfl

/-- A query plane: two heads side by side, scaled. -/
theorem queries_apply (p : Fin 10) (t : Fin 32768) (l : Fin 128) (hp : p.val < 8) :
    V m c main_v19 (ix3 p t l)
      = proj m c (ix3 ⟨t.val / 8192, by omega⟩ ⟨t.val % 8192, by omega⟩
          ⟨head (p.val * 2 + l.val / 64) * 64 + l.val % 64, by have := head_lt (r := p.val * 2 + l.val / 64) (by omega); omega⟩)
        * (Ideal.ofBits FTy.f32 1040187392#32 * perLog2) := by
  unfold V hostOps0 hostOps0_1 hostOps0_2
  simp only [List.flatten_cons, List.flatten_nil, List.cons_append, List.nil_append, List.append_nil]
  after_reads_at
  after_reads_at
  rw [dif_pos (by omega)]
  refine (takeGroups_apply _ _ _ _).trans ?_
  unfold perLog2
  refine congrArg (fun k => proj m c (ix3 ⟨t.val / 8192, by omega⟩ ⟨t.val % 8192, by omega⟩ k) * _) (Fin.ext ?_)
  show head ((p.val * 128 + l.val) / 64) * 64 + (p.val * 128 + l.val) % 64 = _
  rw [show (p.val * 128 + l.val) / 64 = p.val * 2 + l.val / 64 by omega, show (p.val * 128 + l.val) % 64 = l.val % 64 by omega]

/-- A key plane. -/
theorem keys_apply (p : Fin 10) (t : Fin 32768) (l : Fin 128) (hp : 8 ≤ p.val) :
    V m c main_v19 (ix3 p t l)
      = proj m c (ix3 ⟨t.val / 8192, by omega⟩ ⟨t.val % 8192, by omega⟩ ⟨p.val * 128 + l.val, by omega⟩) := by
  unfold V hostOps0 hostOps0_1 hostOps0_2
  simp only [List.flatten_cons, List.flatten_nil, List.cons_append, List.nil_append, List.append_nil]
  after_reads_at
  after_reads_at
  rw [dif_neg (by omega)]
  exact congrArg (fun k => proj m c (ix3 ⟨t.val / 8192, by omega⟩ ⟨t.val % 8192, by omega⟩ k)) (Fin.ext (by simp only; omega))

/-- The distance between key `j` of a window and the row `q` that attends, as the program computes it. -/
def distWord (j q : Nat) : BitVec 32 := IntOp.absi (IntOp.subi (IntOp.subi (BitVec.ofNat 32 j) 128#32) (BitVec.ofNat 32 q))

/-- Which keys a row attends to: those within the window, and, at a sequence's first or last block, inside the sequence. -/
def okWord (k j q : Nat) : BitVec 1 :=
  IntOp.andi (IntOp.cmpi CmpIPredicate.sle (distWord j q) 128#32)
    (if _h : k < 1 then 1#1
      else if _h : k - 1 < 1 then IntOp.cmpi CmpIPredicate.sge (IntOp.subi (BitVec.ofNat 32 j) 128#32) 0#32
      else IntOp.cmpi CmpIPredicate.slt (IntOp.subi (BitVec.ofNat 32 j) 128#32) 128#32)

theorem bias_apply (g : Fin 2) (k : Fin 3) (j : Fin 384) (l : Fin 1024) :
    V m c main_v77 (ix4 g k j l)
      = Scalar.select (okWord k.val j.val (l.val % 128))
          (-Ideal.ofBits FTy.f32 (lit1 (S16.rowMajor (ix1 ⟨g.val * 8 + l.val / 128, by omega⟩)))
            * FloatOps.sitofp FTy.f32 (distWord j.val (l.val % 128)) * perLog2)
          (Ideal.ofBits FTy.f32 4286578688#32) := by
  unfold V hostOps0 hostOps0_1 hostOps0_2
  simp only [List.flatten_cons, List.flatten_nil, List.cons_append, List.nil_append, List.append_nil]
  after_reads_at
  after_reads_at
  rfl

end Cert.SW.Ker

end
-- ==== Proof.SW.Ref.lean ====
/- The reference's result, stage by stage: each stage is the part of `@main` that computes one array of the textbook
   attention (keys, values, mask, slopes, logits, softmax, output), named as a function of the arguments, and read at an
   index. -/
module

public import proofs.«01_k».proof.Proof.Gen.ReferenceIdeal.Run
public import Idealize.ShloMosaic.Lib.Pointwise

@[expose] public section

set_option maxRecDepth 16384

noncomputable section

namespace Cert.SW.Ref

open Cert.ReferenceIdeal Cert.ReferenceIdeal.Gen Idealize.ShloMosaic Idealize.ShloMosaic.TcCoe

/-- The slopes' table. -/
def slopes : FVec Ideal S16 .f32 := fun i => FloatOps.ofBits .f32 (lit0 (S16.rowMajor i))

/-- The scaled queries by batch, block, row, key head, group, lane. -/
def qs (x : FVec Ideal S4x8192x1536 .f32) : FVec Ideal S4x64x128x4x4x64 .f32 :=
  mulf (shapeCast _ (extractStridedSlice S4x8192x1024 ![0, 0, 0] x slices_S4x8192x1536_S4x8192x1024_0_0_0) shapeCasts_S4x8192x1024_S4x64x128x4x4x64)
    (broadcastInDim S4x64x128x4x4x64 ![] bcast_S_S4x64x128x4x4x64 (constant S_ .f32 0x3E000000#32))

/-- An array of keys or values with a block of zeros before and after, cut into blocks of 128 rows. -/
def padded (k : FVec Ideal S4x8192x256 .f32) : FVec Ideal S4x66x128x4x64 .f32 :=
  shapeCast _ (pad S4x8448x4x64 ![0, 128, 0, 0] ![0, 128, 0, 0] ![0, 0, 0, 0] (shapeCast _ k shapeCasts_S4x8192x256_S4x8192x4x64)
    (sitofp .f32 (constantI S_ 32 0#32)) pads_S4x8192x4x64_S4x8448x4x64_000_1281280_000_000 h_S_) shapeCasts_S4x8448x4x64_S4x66x128x4x64

/-- Each block's three neighbouring blocks side by side. -/
def window (p : FVec Ideal S4x66x128x4x64 .f32) : FVec Ideal S4x64x384x4x64 .f32 :=
  concatenate S4x64x384x4x64 2 [⟨S4x64x128x4x64, extractStridedSlice S4x64x128x4x64 ![0, 0, 0, 0, 0] p slices_S4x66x128x4x64_S4x64x128x4x64_0_0_0_0_0⟩,
    ⟨S4x64x128x4x64, extractStridedSlice S4x64x128x4x64 ![0, 1, 0, 0, 0] p slices_S4x66x128x4x64_S4x64x128x4x64_0_1_0_0_0⟩,
    ⟨S4x64x128x4x64, extractStridedSlice S4x64x128x4x64 ![0, 2, 0, 0, 0] p slices_S4x66x128x4x64_S4x64x128x4x64_0_2_0_0_0⟩]
    concatenates_S4x64x128x4x64_S4x64x128x4x64_S4x64x128x4x64_S4x64x384x4x64_d2

def keys (x : FVec Ideal S4x8192x1536 .f32) : FVec Ideal S4x64x384x4x64 .f32 :=
  window (padded (extractStridedSlice S4x8192x256 ![0, 0, 1024] x slices_S4x8192x1536_S4x8192x256_0_0_1024))

def vals (x : FVec Ideal S4x8192x1536 .f32) : FVec Ideal S4x64x384x4x64 .f32 :=
  window (padded (extractStridedSlice S4x8192x256 ![0, 0, 1280] x slices_S4x8192x1536_S4x8192x256_0_0_1280))

/-- A key's position relative to its query block, minus 128. -/
def kpos : IVec S384 32 := subi (iotaInDim S384 32 0) (broadcastInDim S384 ![] bcast_S_S384 (constantI S_ 32 128#32))

/-- The distance of key and query. -/
def dist : IVec S128x384 32 :=
  absi (subi (broadcastInDim S128x384 ![0, 1] bcast_S1x384_S128x384_0_1 (broadcastInDim S1x384 ![1] bcast_S384_S1x384_1 kpos))
    (broadcastInDim S128x384 ![0, 1] bcast_S128x1_S128x384_0_1 (broadcastInDim S128x1 ![0] bcast_S128_S128x1_0 (iotaInDim S128 32 0))))

def winOk : IVec S128x384 1 := cmpi .sle dist (broadcastInDim S128x384 ![] bcast_S_S128x384 (constantI S_ 32 128#32))

/-- A key's position in the sequence. -/
def pos : IVec S64x384 32 :=
  addi (broadcastInDim S64x384 ![0, 1] bcast_S64x1_S64x384_0_1 (muli (broadcastInDim S64x1 ![0] bcast_S64_S64x1_0 (iotaInDim S64 32 0))
      (broadcastInDim S64x1 ![] bcast_S_S64x1 (constantI S_ 32 128#32))))
    (broadcastInDim S64x384 ![0, 1] bcast_S1x384_S64x384_0_1 (broadcastInDim S1x384 ![1] bcast_S384_S1x384_1 kpos))

def posOk : IVec S64x384 1 :=
  andi (cmpi .sge pos (broadcastInDim S64x384 ![] bcast_S_S64x384 (constantI S_ 32 0#32)))
    (cmpi .slt pos (broadcastInDim S64x384 ![] bcast_S_S64x384 (constantI S_ 32 8192#32)))

/-- Which keys a query attends to. -/
def ok : IVec S64x128x384 1 :=
  andi (broadcastInDim S64x128x384 ![0, 1, 2] bcast_S1x128x384_S64x128x384_0_1_2 (broadcastInDim S1x128x384 ![1, 2] bcast_S128x384_S1x128x384_1_2 winOk))
    (broadcastInDim S64x128x384 ![0, 1, 2] bcast_S64x1x384_S64x128x384_0_1_2 (broadcastInDim S64x1x384 ![0, 2] bcast_S64x384_S64x1x384_0_2 posOk))

/-- The linear bias by head. -/
def alibi : FVec Ideal S4x4x128x384 .f32 :=
  mulf (broadcastInDim S4x4x128x384 ![0, 1, 2, 3] bcast_S4x4x1x1_S4x4x128x384_0_1_2_3
      (Host.negf (broadcastInDim S4x4x1x1 ![0, 1] bcast_S4x4_S4x4x1x1_0_1 (shapeCast _ slopes shapeCasts_S16_S4x4))))
    (broadcastInDim S4x4x128x384 ![0, 1, 2, 3] bcast_S1x1x128x384_S4x4x128x384_0_1_2_3
      (broadcastInDim S1x1x128x384 ![2, 3] bcast_S128x384_S1x1x128x384_2_3 (sitofp .f32 dist)))

/-- The masked logits. -/
def logits (x : FVec Ideal S4x8192x1536 .f32) : FVec Ideal S4x64x4x4x128x384 .f32 :=
  select (broadcastInDim S4x64x4x4x128x384 ![1, 2, 3, 4, 5] bcast_S64x1x1x128x384_S4x64x4x4x128x384_1_2_3_4_5
      (broadcastInDim S64x1x1x128x384 ![0, 3, 4] bcast_S64x128x384_S64x1x1x128x384_0_3_4 ok))
    (addf (transpose S4x64x4x4x128x384 [0, 1, 2, 5, 4, 3] (Host.dotGeneral dot_S4x64x384x4x64_S4x64x128x4x4x64_S4x64x4x384x128x4_4_5_2_24_013_013 none (keys x) (qs x)) transposes_S4x64x4x384x128x4_S4x64x4x4x128x384_0_1_2_5_4_3)
      (broadcastInDim S4x64x4x4x128x384 ![0, 1, 2, 3, 4, 5] bcast_S1x1x4x4x128x384_S4x64x4x4x128x384_0_1_2_3_4_5
        (broadcastInDim S1x1x4x4x128x384 ![2, 3, 4, 5] bcast_S4x4x128x384_S1x1x4x4x128x384_2_3_4_5 alibi)))
    (broadcastInDim S4x64x4x4x128x384 ![] bcast_S_S4x64x4x4x128x384 (constant S_ .f32 0xFF800000#32))

/-- The logits with the sink's after them. -/
def all (x : FVec Ideal S4x8192x1536 .f32) (s : FVec Ideal S16 .f32) : FVec Ideal S4x64x4x4x128x385 .f32 :=
  concatenate S4x64x4x4x128x385 5 [⟨S4x64x4x4x128x384, logits x⟩,
    ⟨S4x64x4x4x128x1, broadcastInDim S4x64x4x4x128x1 ![0, 1, 2, 3, 4, 5] bcast_S1x1x4x4x1x1_S4x64x4x4x128x1_0_1_2_3_4_5 (shapeCast _ s shapeCasts_S16_S1x1x4x4x1x1)⟩]
    concatenates_S4x64x4x4x128x384_S4x64x4x4x128x1_S4x64x4x4x128x385_d5

/-- The largest logit of each row. -/
def top (L : FVec Ideal S4x64x4x4x128x385 .f32) : FVec Ideal S4x64x4x4x128 .f32 :=
  maximumf (broadcastInDim S4x64x4x4x128 ![] bcast_S_S4x64x4x4x128 (constant S_ .f32 0xFF800000#32))
    (Host.reduce FloatOps.maximumf L (constant S_ .f32 0xFF800000#32) reducesTo_S4x64x4x4x128x385_S4x64x4x4x128_d5 h_S_)

def expd (L : FVec Ideal S4x64x4x4x128x385 .f32) : FVec Ideal S4x64x4x4x128x385 .f32 :=
  Host.exp (subf L (broadcastInDim S4x64x4x4x128x385 ![0, 1, 2, 3, 4, 5] bcast_S4x64x4x4x128x1_S4x64x4x4x128x385_0_1_2_3_4_5
    (broadcastInDim S4x64x4x4x128x1 ![0, 1, 2, 3, 4] bcast_S4x64x4x4x128_S4x64x4x4x128x1_0_1_2_3_4 (top L))))

/-- The rows' softmax, the sink's share left out. -/
def probs (e : FVec Ideal S4x64x4x4x128x385 .f32) : FVec Ideal S4x64x4x4x128x384 .f32 :=
  extractStridedSlice S4x64x4x4x128x384 ![0, 0, 0, 0, 0, 0] (Host.divf e
    (broadcastInDim S4x64x4x4x128x385 ![0, 1, 2, 3, 4, 5] bcast_S4x64x4x4x128x1_S4x64x4x4x128x385_0_1_2_3_4_5
      (broadcastInDim S4x64x4x4x128x1 ![0, 1, 2, 3, 4] bcast_S4x64x4x4x128_S4x64x4x4x128x1_0_1_2_3_4
        (Host.reduceAdd e (constant S_ .f32 0x00000000#32) reducesTo_S4x64x4x4x128x385_S4x64x4x4x128_d5 h_S_))))
    slices_S4x64x4x4x128x385_S4x64x4x4x128x384_0_0_0_0_0_0

/-- The result's layout: head pairs side by side in planes of 128 lanes. -/
def planes (o : FVec Ideal S4x64x4x64x4x128 .f32) : FVec Ideal S8x32768x128 .bf16 :=
  truncf .bf16 (shapeCast _ (transpose S2x4x4x8192x2x64 [2, 4, 0, 1, 3, 5] (shapeCast _ (transpose S4x64x128x4x4x64 [0, 1, 5, 2, 4, 3] o
    transposes_S4x64x4x64x4x128_S4x64x128x4x4x64_0_1_5_2_4_3) shapeCasts_S4x64x128x4x4x64_S4x8192x2x2x4x64) transposes_S4x8192x2x2x4x64_S2x4x4x8192x2x64_2_4_0_1_3_5)
    shapeCasts_S2x4x4x8192x2x64_S8x32768x128) bitsLt_bf16_f32

def result (x : FVec Ideal S4x8192x1536 .f32) (s : FVec Ideal S16 .f32) : FVec Ideal S8x32768x128 .bf16 :=
  planes (Host.dotGeneral dot_S4x64x384x4x64_S4x64x4x4x128x384_S4x64x4x64x4x128_2_5_4_34_013_012 none (vals x) (probs (expd (all x s))))

theorem result_eq (m : (ℓ : Loc nD τ sig) → Buf (Elt Ideal) ℓ) (c : Dev nD) :
    Value.res_out0 m c = result (m ((c.tc : Thread nD τ).loc main_arg0)) (m ((c.tc : Thread nD τ).loc main_arg1)) := by
  unfold Value.res_out0 Value.res_main_v86; rfl

/-! ## At an index -/

/-- The mask's word is minus infinity. -/
theorem negInf : Ideal.ofBits .f32 0xFF800000#32 = ⊥ := by simp [Ideal.ofBits, Ideal.ieee]

/-- The row of the 385 logits that a reduced index stands for. -/
theorem row_iff (b : Fin 4) (n : Fin 64) (h g : Fin 4) (q : Fin 128) (i : S4x64x4x4x128x385.Idx) :
    reducesTo_S4x64x4x4x128x385_S4x64x4x4x128_d5.drop i = ix5 b n h g q ↔ ∃ k : Fin 385, ix6 b n h g q k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

theorem rowSum_apply (e : FVec Ideal S4x64x4x4x128x385 .f32) (b : Fin 4) (n : Fin 64) (h g : Fin 4) (q : Fin 128) (z : EReal) :
    Ideal.hostReduceAdd reducesTo_S4x64x4x4x128x385_S4x64x4x4x128_d5 e z (ix5 b n h g q) = z + ∑ k : Fin 385, e (ix6 b n h g q k) :=
  congrArg (z + ·) (Finset.sum_filter_eq_sum_of_fiber _ (fun k : Fin 385 => ix6 b n h g q k)
    (fun _ _ e => congrFun e 5) (row_iff b n h g q) e)

theorem rowMax_apply (L : FVec Ideal S4x64x4x4x128x385 .f32) (b : Fin 4) (n : Fin 64) (h g : Fin 4) (q : Fin 128) :
    Host.reduce FloatOps.maximumf L (constant S_ .f32 0xFF800000#32) reducesTo_S4x64x4x4x128x385_S4x64x4x4x128_d5 h_S_ (ix5 b n h g q)
      = Finset.univ.fold max (⊥ : EReal) (fun k : Fin 385 => L (ix6 b n h g q k)) := by
  rw [Host.reduce_eq_fold]
  have hb : (constant (F := Ideal) S_ .f32 0xFF800000#32) (Shape.Idx.first h_S_) = (⊥ : EReal) := negInf
  rw [hb]
  exact Finset.fold_filter_eq_fold_of_fiber _ _ (fun k : Fin 385 => ix6 b n h g q k)
    (fun _ _ e => congrFun e 5) (row_iff b n h g q) _ L

theorem top_apply (L : FVec Ideal S4x64x4x4x128x385 .f32) (b : Fin 4) (n : Fin 64) (h g : Fin 4) (q : Fin 128) :
    top L (ix5 b n h g q) = max (⊥ : EReal) (Finset.univ.fold max (⊥ : EReal) (fun k : Fin 385 => L (ix6 b n h g q k))) := by
  unfold top
  rw [maximumf_apply, rowMax_apply]
  have hb : broadcastInDim S4x64x4x4x128 ![] bcast_S_S4x64x4x4x128 (constant (F := Ideal) S_ .f32 0xFF800000#32) (ix5 b n h g q) = (⊥ : EReal) := negInf
  rw [hb]; rfl

theorem planes_apply (o : FVec Ideal S4x64x4x64x4x128 .f32) (p : Fin 8) (t : Fin 32768) (l : Fin 128) :
    planes o (ix3 p t l) = o (ix6 ⟨(t:ℕ)/8192, by omega⟩ ⟨(t:ℕ)%8192/128, by omega⟩ ⟨(p:ℕ)/4*2 + (l:ℕ)/64, by omega⟩ ⟨(l:ℕ)%64, by omega⟩ ⟨(p:ℕ)%4, by omega⟩ ⟨(t:ℕ)%8192%128, by omega⟩) := by
  pointwise [planes]

theorem probs_apply (e : FVec Ideal S4x64x4x4x128x385 .f32) (b : Fin 4) (n : Fin 64) (h g : Fin 4) (q : Fin 128) (j : Fin 384) :
    probs e (ix6 b n h g q j) = Ideal.div (e (ix6 b n h g q ⟨(j:ℕ), by omega⟩)) (0 + ∑ k : Fin 385, e (ix6 b n h g q k)) := by
  rw [← rowSum_apply]
  pointwise [probs]

theorem expd_apply (L : FVec Ideal S4x64x4x4x128x385 .f32) (b : Fin 4) (n : Fin 64) (h g : Fin 4) (q : Fin 128) (j : Fin 385) :
    expd L (ix6 b n h g q j) = Ideal.exp (L (ix6 b n h g q j) - top L (ix5 b n h g q)) := by
  pointwise [expd]

theorem all_apply (x : FVec Ideal S4x8192x1536 .f32) (s : FVec Ideal S16 .f32) (b : Fin 4) (n : Fin 64) (h g : Fin 4) (q : Fin 128) (j : Fin 385) :
    all x s (ix6 b n h g q j) = if hj : (j:ℕ) < 384 then logits x (ix6 b n h g q ⟨j, hj⟩) else s (ix1 ⟨(h:ℕ)*4+g, by omega⟩) := by
  pointwise [all]

theorem logits_apply (x : FVec Ideal S4x8192x1536 .f32) (b : Fin 4) (n : Fin 64) (h g : Fin 4) (q : Fin 128) (j : Fin 384) :
    logits x (ix6 b n h g q j) = Scalar.select (ok (ix3 n q j))
      ((∑ d, keys x (ix5 b n j h d) * qs x (ix6 b n q h g d)) + alibi (ix4 h g q j)) (Ideal.ofBits .f32 0xFF800000#32) := by
  pointwise [logits]

theorem alibi_apply (h g : Fin 4) (q : Fin 128) (j : Fin 384) :
    alibi (ix4 h g q j) = -Ideal.ofBits .f32 (lit0 (S16.rowMajor (ix1 ⟨(h:ℕ)*4+g, by omega⟩))) * FloatOps.sitofp .f32 (IntOp.absi (IntOp.subi (IntOp.subi (BitVec.ofNat 32 j) 128#32) (BitVec.ofNat 32 q))) := by
  pointwise [alibi, slopes, dist, kpos]

theorem ok_apply (n : Fin 64) (q : Fin 128) (j : Fin 384) :
    ok (ix3 n q j) = IntOp.andi (IntOp.cmpi .sle (IntOp.absi (IntOp.subi (IntOp.subi (BitVec.ofNat 32 j) 128#32) (BitVec.ofNat 32 q))) 128#32)
      (IntOp.andi (IntOp.cmpi .sge (IntOp.addi (IntOp.muli (BitVec.ofNat 32 n) 128#32) (IntOp.subi (BitVec.ofNat 32 j) 128#32)) 0#32)
        (IntOp.cmpi .slt (IntOp.addi (IntOp.muli (BitVec.ofNat 32 n) 128#32) (IntOp.subi (BitVec.ofNat 32 j) 128#32)) 8192#32)) := by
  pointwise [ok, winOk, posOk, pos, dist, kpos]

theorem window_apply (p : FVec Ideal S4x66x128x4x64 .f32) (b : Fin 4) (n : Fin 64) (j : Fin 384) (h : Fin 4) (d : Fin 64) :
    window p (ix5 b n j h d) = p (ix5 b ⟨(n:ℕ) + (j:ℕ)/128, by omega⟩ ⟨(j:ℕ)%128, by omega⟩ h d) := by
  have key : ∀ (a : Fin 66) (k : Fin 128) (a' : Fin 66) (k' : Fin 128), (a:ℕ) = a' → (k:ℕ) = k' → p (ix5 b a k h d) = p (ix5 b a' k' h d) := by
    intro a k a' k' h1 h2; rw [Fin.ext h1, Fin.ext h2]
  have hj := j.isLt
  pointwise [window]
  split
  · exact key _ _ _ _ (by simp only []; omega) (by simp only []; omega)
  · split
    · exact key _ _ _ _ (by simp only []; omega) (by simp only []; omega)
    · exact key _ _ _ _ (by simp only []; omega) (by simp only []; omega)

theorem padded_apply (k : FVec Ideal S4x8192x256 .f32) (b : Fin 4) (n : Fin 66) (j : Fin 128) (h : Fin 4) (d : Fin 64) :
    padded k (ix5 b n j h d) = if hj : 128 ≤ (n:ℕ)*128+j ∧ (n:ℕ)*128+j-128 < 8192 then k (ix3 b ⟨(n:ℕ)*128+j-128, hj.2⟩ ⟨(h:ℕ)*64+d, by omega⟩) else FloatOps.sitofp .f32 0#32 := by
  pointwise [padded]

/-- A key of the window, inside the sequence. -/
theorem keys_apply (x : FVec Ideal S4x8192x1536 .f32) (b : Fin 4) (n : Fin 64) (j : Fin 384) (h : Fin 4) (d : Fin 64)
    (hj : 128 ≤ (n:ℕ)*128+j ∧ (n:ℕ)*128+j-128 < 8192) :
    keys x (ix5 b n j h d) = x (ix3 b ⟨(n:ℕ)*128+j-128, hj.2⟩ ⟨1024+((h:ℕ)*64+d), by omega⟩) := by
  unfold keys
  have e : ((n:ℕ) + (j:ℕ)/128)*128 + (j:ℕ)%128 = (n:ℕ)*128+j := by omega
  rw [window_apply, padded_apply, dif_pos (by dsimp only; rw [e]; exact hj)]
  simp only [e]
  pointwise

/-- A value of the window, inside the sequence. -/
theorem vals_apply (x : FVec Ideal S4x8192x1536 .f32) (b : Fin 4) (n : Fin 64) (j : Fin 384) (h : Fin 4) (d : Fin 64)
    (hj : 128 ≤ (n:ℕ)*128+j ∧ (n:ℕ)*128+j-128 < 8192) :
    vals x (ix5 b n j h d) = x (ix3 b ⟨(n:ℕ)*128+j-128, hj.2⟩ ⟨1280+((h:ℕ)*64+d), by omega⟩) := by
  unfold vals
  have e : ((n:ℕ) + (j:ℕ)/128)*128 + (j:ℕ)%128 = (n:ℕ)*128+j := by omega
  rw [window_apply, padded_apply, dif_pos (by dsimp only; rw [e]; exact hj)]
  simp only [e]
  pointwise

theorem qs_apply (x : FVec Ideal S4x8192x1536 .f32) (b : Fin 4) (n : Fin 64) (q : Fin 128) (h g : Fin 4) (d : Fin 64) :
    qs x (ix6 b n q h g d) = x (ix3 b ⟨(n:ℕ)*128+q, by omega⟩ ⟨(h:ℕ)*256+(g:ℕ)*64+d, by omega⟩) * Ideal.ofBits .f32 0x3E000000#32 := by
  pointwise [qs]

theorem result_apply (x : FVec Ideal S4x8192x1536 .f32) (s : FVec Ideal S16 .f32) (b : Fin 4) (n : Fin 64) (h g : Fin 4) (q : Fin 128) (d : Fin 64) :
    Host.dotGeneral dot_S4x64x384x4x64_S4x64x4x4x128x384_S4x64x4x64x4x128_2_5_4_34_013_012 none (vals x) (probs (expd (all x s))) (ix6 b n h d g q)
      = ∑ j, vals x (ix5 b n j h d) * probs (expd (all x s)) (ix6 b n h g q j) := by
  pointwise

end Cert.SW.Ref

end
-- ==== Proof.SW.Words.lean ====
/- The two programs' mask words say the same of a key and a query, and their constants are real numbers. -/
module

public import proofs.«01_k».proof.Proof.SW.Host
public import proofs.«01_k».proof.Proof.SW.Ref

@[expose] public section

set_option maxRecDepth 65536

noncomputable section

namespace Cert.SW

open Idealize.ShloMosaic Idealize.ShloMosaic.TcCoe

/-- Whether row `q` of block `n` attends to the key `j` of its window: inside the sequence, and at most 128 away. -/
def attends (n q : ℕ) (j : Fin 384) : Prop :=
  (128 ≤ n * 128 + (j : ℕ) ∧ n * 128 + (j : ℕ) - 128 < 8192) ∧ q ≤ (j : ℕ) ∧ (j : ℕ) ≤ q + 256

instance (n q : ℕ) : DecidablePred (attends n q) := fun _ => by unfold attends; infer_instance

theorem inside_first : ∀ j : Fin 384, (IntOp.cmpi .sge (IntOp.subi (BitVec.ofNat 32 j) 128#32) 0#32 = 1#1 ↔ 128 ≤ j.val) := by decide +kernel
theorem inside_last : ∀ j : Fin 384, (IntOp.cmpi .slt (IntOp.subi (BitVec.ofNat 32 j) 128#32) 128#32 = 1#1 ↔ j.val < 256) := by decide +kernel
theorem near : ∀ (j : Fin 384) (q : Fin 128), (IntOp.cmpi .sle (Ker.distWord j q) 128#32 = 1#1 ↔ q.val ≤ j.val ∧ j.val ≤ q.val + 256) := by decide +kernel
theorem inside : ∀ (n : Fin 64) (j : Fin 384),
    (IntOp.andi (IntOp.cmpi .sge (IntOp.addi (IntOp.muli (BitVec.ofNat 32 n) 128#32) (IntOp.subi (BitVec.ofNat 32 j) 128#32)) 0#32)
        (IntOp.cmpi .slt (IntOp.addi (IntOp.muli (BitVec.ofNat 32 n) 128#32) (IntOp.subi (BitVec.ofNat 32 j) 128#32)) 8192#32) = 1#1
      ↔ 128 ≤ n.val * 128 + j.val ∧ n.val * 128 + j.val - 128 < 8192) := by decide +kernel

theorem and_word : ∀ a b : BitVec 1, (IntOp.andi a b = 1#1 ↔ a = 1#1 ∧ b = 1#1) := by decide

theorem select_word (w : BitVec 1) (p : Prop) [Decidable p] (h : w = 1#1 ↔ p) (x y : EReal) : Scalar.select w x y = if p then x else y := by
  have hs : Scalar.select w x y = if w = 1#1 then x else y := by
    unfold Scalar.select; split <;> simp_all
  rw [hs]
  exact if_congr h rfl rfl

/-- The reference's mask. -/
theorem ok_iff (n : Fin 64) (q : Fin 128) (j : Fin 384) : Ref.ok (ix3 n q j) = 1#1 ↔ attends n q j := by
  rw [Ref.ok_apply, and_word, inside]
  exact (and_congr_left' (near j q)).trans and_comm

/-- The kernel's mask, by the case of its bias table. -/
theorem okWord_iff (n : Fin 64) (k : ℕ) (hk : k = if n.val = 0 then 1 else if n.val = 63 then 2 else 0) (q : Fin 128) (j : Fin 384) :
    Ker.okWord k j q = 1#1 ↔ attends n q j := by
  have hj := j.isLt
  have hn := n.isLt
  unfold Ker.okWord attends
  rw [and_word, near]
  split at hk
  · rw [hk, dif_neg (by decide), dif_pos (by decide), inside_first]; omega
  · split at hk
    · rw [hk, dif_neg (by decide), dif_neg (by decide), inside_last]; omega
    · rw [hk, dif_pos (by decide)]
      constructor
      · intro h; omega
      · intro h; exact ⟨h.2, rfl⟩

/-- The two tables of slopes are one, up to the order of the heads. -/
theorem slope_word : ∀ r : Fin 16, KernelIdeal.lit1 (KernelIdeal.S16.rowMajor (ix1 r)) = ReferenceIdeal.lit0 (ReferenceIdeal.S16.rowMajor (ix1 ⟨Ker.head r, Ker.head_lt r.isLt⟩)) := by
  decide +kernel

/-- A word whose exponent is not all ones is a real number. -/
theorem real_word (b : BitVec 32) (h : (b.extractLsb' 23 8).toNat ≠ 255) : ∃ z : ℝ, Ideal.ofBits .f32 b = z := by
  show ∃ z : ℝ, Ideal.ieee 8 23 b = z
  unfold Ideal.ieee
  dsimp only
  rw [if_neg (show ¬(b.extractLsb' 23 8).toNat = 2 ^ 8 - 1 from h)]
  split <;> exact ⟨_, rfl⟩

theorem slope_real (r : Fin 16) : ∃ z : ℝ, Ideal.ofBits .f32 (ReferenceIdeal.lit0 (ReferenceIdeal.S16.rowMajor (ix1 r))) = z :=
  real_word _ ((by decide +kernel : ∀ r : Fin 16, ((ReferenceIdeal.lit0 (ReferenceIdeal.S16.rowMajor (ix1 r))).extractLsb' 23 8).toNat ≠ 255) r)

/-- A positive word with a normal exponent. -/
theorem normal_word (b : BitVec 32) (E T : ℕ) (hs : b.extractLsb' 31 1 = 0#1) (hE : (b.extractLsb' 23 8).toNat = E) (hT : (b.extractLsb' 0 23).toNat = T)
    (h0 : E ≠ 0) (h1 : E ≠ 255) : Ideal.ofBits .f32 b = (((2 ^ 23 + T : ℕ) * (2 : ℝ) ^ ((E : ℤ) - 127 - 23) : ℝ) : EReal) := by
  show Ideal.ieee 8 23 b = _
  unfold Ideal.ieee
  dsimp only
  rw [hE, hT, if_neg (show ¬E = 2 ^ 8 - 1 from h1), if_neg h0, show b.extractLsb' (8 + 23) 1 = 0#1 from hs]
  refine congrArg _ ?_
  norm_num

theorem eighth : Ideal.ofBits .f32 0x3E000000#32 = ((1/8 : ℝ) : EReal) := by
  rw [normal_word _ 124 0 (by decide) (by decide) (by decide) (by decide) (by decide)]
  refine congrArg _ ?_
  norm_num

theorem two : Ideal.ofBits FTy.f32 1073741824#32 = ((2 : ℝ) : EReal) := by
  rw [normal_word _ 128 0 (by decide) (by decide) (by decide) (by decide) (by decide)]
  refine congrArg _ ?_
  norm_num

theorem perLog2_eq : Ker.perLog2 = ((1 / Real.log 2 : ℝ) : EReal) := by
  unfold Ker.perLog2
  rw [two, Ideal.log_coe, if_neg (by norm_num), Ideal.div_coe (Real.log_pos one_lt_two).ne', one_mul]

theorem sitofp_real (w : BitVec 32) : FloatOps.sitofp (F := Ideal) FTy.f32 w = ((w.toInt : ℝ) : EReal) := rfl

end Cert.SW

end
-- ==== Proof.SW.Softmax.lean ====
/- The attention of one query: the softmax with a sink, as the exponential of the logits below their maximum over the
   sum, is what the powers of two of the logits in units of log 2, divided once at the end, give. -/
module

public import Idealize.ShloMosaic.PureOps.Ideal
public import Idealize.ShloMosaic.PureOps.Ideal.Laws

@[expose] public section

noncomputable section

namespace Cert.SW

open Idealize.ShloMosaic

variable (ok : Fin 384 → Prop) [DecidablePred ok] (s : Fin 384 → ℝ) (σ : ℝ)

/-- The masked logits, the sink's after them. -/
def logit (k : Fin 385) : EReal :=
  if h : (k:ℕ) < 384 then (if ok ⟨k, h⟩ then (s ⟨k, h⟩ : EReal) else ⊥) else (σ : EReal)

/-- Their maximum. -/
def peakLogit : EReal := max ⊥ (Finset.univ.fold max ⊥ (logit ok s σ))

/-- The masked scores in units of `log 2`. -/
def score (a : ℝ) (j : Fin 384) : EReal := if ok j then ((s j * a : ℝ) : EReal) else ⊥

/-- Their maximum, the sink's among them. -/
def peakScore (a : ℝ) : EReal := max (Finset.univ.fold max ⊥ (score ok s a)) ((σ * a : ℝ) : EReal)

/-- A query's weight for key `j`, before it is divided. -/
def weight (μ : ℝ) (j : Fin 384) : ℝ := if ok j then Real.exp (s j - μ) else 0

theorem le_peakLogit (k : Fin 385) : logit ok s σ k ≤ peakLogit ok s σ := by
  unfold peakLogit
  refine le_max_of_le_right ?_
  rw [Finset.le_fold_max]
  exact .inr ⟨k, Finset.mem_univ _, le_rfl⟩

theorem logit_sink : logit ok s σ (Fin.last 384) = (σ : EReal) := by simp [logit]

theorem logit_key (j : Fin 384) : logit ok s σ j.castSucc = if ok j then (s j : EReal) else ⊥ := by simp [logit]

theorem logit_lt_top (k : Fin 385) : logit ok s σ k < ⊤ := by
  unfold logit
  split
  · split
    · exact EReal.coe_lt_top _
    · exact bot_lt_top
  · exact EReal.coe_lt_top _

/-- The maximum is a real number, and some logit. -/
theorem exists_peakLogit : ∃ μ : ℝ, peakLogit ok s σ = μ ∧ σ ≤ μ ∧ (∀ j, ok j → s j ≤ μ) ∧ (μ = σ ∨ ∃ j, ok j ∧ μ = s j) := by
  have hlow : (σ : EReal) ≤ peakLogit ok s σ := logit_sink ok s σ ▸ le_peakLogit ok s σ (Fin.last 384)
  have hatt : ∃ k, peakLogit ok s σ ≤ logit ok s σ k := by
    have h : peakLogit ok s σ ≤ Finset.univ.fold max ⊥ (logit ok s σ) := max_le bot_le le_rfl
    rw [Finset.le_fold_max] at h
    rcases h with h | ⟨k, -, h⟩
    · exact ⟨0, h.trans bot_le⟩
    · exact ⟨k, h⟩
  obtain ⟨k, hk⟩ := hatt
  have heq : peakLogit ok s σ = logit ok s σ k := le_antisymm hk (le_peakLogit ok s σ k)
  have htop : peakLogit ok s σ ≠ ⊤ := heq ▸ (logit_lt_top ok s σ k).ne
  have hbot : peakLogit ok s σ ≠ ⊥ := fun h => by rw [h] at hlow; exact absurd hlow (by simp)
  lift peakLogit ok s σ to ℝ using ⟨htop, hbot⟩ with μ hμ
  refine ⟨μ, rfl, EReal.coe_le_coe_iff.mp hlow, fun j hj => ?_, ?_⟩
  · have := le_peakLogit ok s σ j.castSucc
    rw [logit_key, if_pos hj, ← hμ] at this
    exact EReal.coe_le_coe_iff.mp this
  · rcases Fin.eq_castSucc_or_eq_last k with ⟨j, rfl⟩ | rfl
    · rw [logit_key] at heq
      by_cases hj : ok j
      · rw [if_pos hj] at heq; exact .inr ⟨j, hj, EReal.coe_eq_coe_iff.mp heq⟩
      · rw [if_neg hj] at heq; exact absurd heq (by simp)
    · rw [logit_sink] at heq; exact .inl (EReal.coe_eq_coe_iff.mp heq)

/-- In units of `log 2` the maximum is the same multiple. -/
theorem peakScore_eq {a μ : ℝ} (ha : 0 < a) (h1 : σ ≤ μ) (h2 : ∀ j, ok j → s j ≤ μ) (h3 : μ = σ ∨ ∃ j, ok j ∧ μ = s j) :
    peakScore ok s σ a = ((μ * a : ℝ) : EReal) := by
  unfold peakScore
  apply le_antisymm
  · refine max_le ?_ (EReal.coe_le_coe_iff.mpr (mul_le_mul_of_nonneg_right h1 ha.le))
    rw [Finset.fold_max_le]
    refine ⟨bot_le, fun j _ => ?_⟩
    unfold score
    split
    · next hj => exact EReal.coe_le_coe_iff.mpr (mul_le_mul_of_nonneg_right (h2 j hj) ha.le)
    · exact bot_le
  · rcases h3 with rfl | ⟨j, hj, rfl⟩
    · exact le_max_right _ _
    · refine le_max_of_le_left ?_
      rw [Finset.le_fold_max]
      exact .inr ⟨j, Finset.mem_univ _, by rw [score, if_pos hj]⟩

theorem exp2_scaled {a : ℝ} (hlog : a * Real.log 2 = 1) (x μ : ℝ) :
    Ideal.exp2 (((x * a : ℝ) : EReal) - ((μ * a : ℝ) : EReal)) = (Real.exp (x - μ) : EReal) := by
  rw [← EReal.coe_sub, Ideal.exp2_coe]
  congr 1
  show (2:ℝ) ^ (x * a - μ * a) = _
  rw [Real.rpow_def_of_pos (by norm_num)]
  congr 1
  linear_combination (x - μ) * hlog

theorem exp_logit (μ : ℝ) (j : Fin 384) : Ideal.exp (logit ok s σ j.castSucc - (μ : EReal)) = (weight ok s μ j : EReal) := by
  rw [logit_key, weight]
  split
  · rw [← EReal.coe_sub, Ideal.exp_coe]
  · rw [EReal.bot_sub, Ideal.exp_bot, EReal.coe_zero]

theorem exp2_score {a : ℝ} (hlog : a * Real.log 2 = 1) (μ : ℝ) (j : Fin 384) :
    Ideal.exp2 (score ok s a j - ((μ * a : ℝ) : EReal)) = (weight ok s μ j : EReal) := by
  rw [score, weight]
  split
  · exact exp2_scaled hlog _ _
  · rw [EReal.bot_sub, Ideal.exp2_bot, EReal.coe_zero]

theorem sum_mul_real {ι : Type*} (t : Finset ι) (f : ι → EReal) {r : ℝ} (hr : 0 ≤ r) :
    (∑ i ∈ t, f i) * (r : EReal) = ∑ i ∈ t, f i * (r : EReal) := by
  classical
  induction t using Finset.induction_on with
  | empty => simp
  | insert i t hi ih =>
    rw [Finset.sum_insert hi, Finset.sum_insert hi, EReal.right_distrib_of_nonneg_of_ne_top (by exact_mod_cast hr) (EReal.coe_ne_top _), ih]

theorem sum_coe {ι : Type*} (t : Finset ι) (f : ι → ℝ) : ∑ i ∈ t, (f i : EReal) = ((∑ i ∈ t, f i : ℝ) : EReal) := by
  classical
  induction t using Finset.induction_on with
  | empty => simp
  | insert i t hi ih => rw [Finset.sum_insert hi, Finset.sum_insert hi, ih, EReal.coe_add]

/-- The two forms of one query's attention agree; the values matter only where the mask lets a key through. -/
theorem attention_eq {a : ℝ} (ha : 0 < a) (hlog : a * Real.log 2 = 1) (v w : Fin 384 → EReal) (hvw : ∀ j, ok j → v j = w j) :
    Ideal.div (∑ j, v j * Ideal.exp2 (score ok s a j - peakScore ok s σ a))
        ((∑ j : Fin 384, 1 * Ideal.exp2 (score ok s a j - peakScore ok s σ a)) + Ideal.exp2 (((σ * a : ℝ) : EReal) - peakScore ok s σ a))
      = ∑ j : Fin 384, w j * Ideal.div (Ideal.exp (logit ok s σ j.castSucc - peakLogit ok s σ))
          (0 + ∑ k, Ideal.exp (logit ok s σ k - peakLogit ok s σ)) := by
  obtain ⟨μ, hμ, h1, h2, h3⟩ := exists_peakLogit ok s σ
  rw [peakScore_eq ok s σ ha h1 h2 h3, hμ, exp2_scaled hlog, zero_add, Fin.sum_univ_castSucc (n := 384), logit_sink, ← EReal.coe_sub, Ideal.exp_coe]
  simp only [exp2_score ok s hlog, exp_logit, one_mul, sum_coe]
  rw [← EReal.coe_add]
  have hw : ∀ j, 0 ≤ weight ok s μ j := fun j => by
    unfold weight; split
    · exact (Real.exp_pos _).le
    · exact le_rfl
  have hD : 0 < (∑ j, weight ok s μ j) + Real.exp (σ - μ) := add_pos_of_nonneg_of_pos (Finset.sum_nonneg fun j _ => hw j) (Real.exp_pos _)
  simp only [Ideal.div_coe hD.ne']
  rw [sum_mul_real _ _ (by positivity)]
  refine Finset.sum_congr rfl fun j _ => ?_
  by_cases hj : ok j
  · rw [hvw j hj, mul_assoc]
  · have h0 : weight ok s μ j = 0 := if_neg hj
    rw [h0, EReal.coe_zero, mul_zero, zero_mul, mul_zero]

end Cert.SW

end
-- ==== Proof.QA.Norm.lean ====
/- A row of the trunk normed by its root mean square and scaled by the norm's weights, as a formula. -/
module

public import proofs.«01_k».proof.Proof.SW.Words
public import proofs.«01_k».proof.Proof.SW.Softmax

@[expose] public section

noncomputable section

namespace Cert.Norm

open Idealize.ShloMosaic

/-- One lane of a normed row of 1024. -/
def normed (x g : Fin 1024 → EReal) (k : Fin 1024) : EReal :=
  x k * Ideal.rsqrt (Ideal.div (∑ j, x j * x j) (Ideal.ofBits .f32 0x44800000#32) + Ideal.ofBits .f32 0x358637BD#32) * g k

/-- A normed row against a column of weights. -/
def projected (x g w : Fin 1024 → EReal) : EReal := ∑ k, normed x g k * w k

/-- Weights times the factor give the projection times an eighth, over `log 2`. -/
theorem projected_scaled (x g w : Fin 1024 → EReal) :
    projected x g (fun k => w k * (Ideal.ofBits .f32 0x3E000000#32 * SW.Ker.perLog2))
      = Ideal.div (projected x g w * Ideal.ofBits .f32 0x3E000000#32) (Ideal.log (Ideal.ofBits .f32 0x40000000#32)) := by
  have hl := Real.log_pos one_lt_two
  rw [SW.two, Ideal.log_coe, if_neg (by norm_num), Ideal.div_coe hl.ne', SW.eighth, SW.perLog2_eq, mul_assoc]
  simp only [← EReal.coe_mul]
  unfold projected
  rw [SW.sum_mul_real _ _ (by positivity)]
  exact Finset.sum_congr rfl fun k _ => (mul_assoc _ _ _).symm

end Cert.Norm

end
-- ==== Proof.QA.Body.lean ====
/- What a grid step of the projection computes, and the arrays it is launched on, at an index. -/
module

public import proofs.«01_k».proof.Proof.QA.Norm
public import proofs.«01_k».proof.Proof.Gen.Kernel3Ideal.Value
public import Idealize.ShloMosaic.Lib.Pointwise
public import Idealize.ShloMosaic.Lib.StableHlo.ReadAt

@[expose] public section

set_option maxRecDepth 16384

noncomputable section

namespace Cert.QA

open Cert.Kernel3Ideal Cert.Kernel3Ideal.Gen Idealize.ShloMosaic Idealize.ShloMosaic.TcCoe Cert.Norm

/-- A step's product: normed rows against the weights. -/
theorem product_apply (x : Vec Ideal S1024x1024 .f32) (g : Vec Ideal S1x1024 .f32) (w : Vec Ideal S1024x3072 .bf16) (r : Fin 1024) (f : Fin 3072) :
    k0_pay3 x g w (ix2 r f) = projected (fun j => x (ix2 r j)) (fun j => g (ix2 0 j)) (fun k => w (ix2 k f)) := by
  unfold projected normed
  pointwise [k0_pay3]

variable (m : (ℓ : Loc nD τ sig) → Buf (Elt Ideal) ℓ) (c : Dev nD)

/-- The arguments. -/
abbrev xArg : FVec Ideal S4x8192x1024 .f32 := m (c, Proc.tc.devRef main_arg0)
abbrev gArg : FVec Ideal S1024 .f32 := m (c, Proc.tc.devRef main_arg1)
abbrev wArg : FVec Ideal S1024x3072 .f32 := m (c, Proc.tc.devRef main_arg2)

theorem rows_apply (t : Fin 32768) (k : Fin 1024) :
    V m c main_v9 (ix2 t k) = xArg m c (ix3 ⟨t.val / 8192, by omega⟩ ⟨t.val % 8192, by omega⟩ k) := by
  unfold V hostOps0
  after_reads_at

theorem gain_apply (k : Fin 1024) : V m c main_v10 (ix2 (0 : Fin 1) k) = gArg m c (ix1 k) := by
  unfold V hostOps0
  after_reads_at

theorem weights_query (k : Fin 1024) (f : Fin 3072) (hf : f.val < 1024) :
    V m c main_v8 (ix2 k f) = wArg m c (ix2 k f) * (Ideal.ofBits .f32 0x3E000000#32 * SW.Ker.perLog2) := by
  unfold V hostOps0
  after_reads_at
  after_reads_at
  rw [dif_pos hf]
  rfl

theorem weights_other (k : Fin 1024) (f : Fin 3072) (hf : 1024 ≤ f.val) : V m c main_v8 (ix2 k f) = wArg m c (ix2 k f) := by
  unfold V hostOps0
  after_reads_at
  after_reads_at
  rw [dif_neg (by omega)]
  exact congrArg (fun k' => wArg m c (ix2 k k')) (Fin.ext (by simp only; omega))

end Cert.QA

end
-- ==== Proof.QA.Ref.lean ====
/- The projection's reference, read at an index. -/
module

public import proofs.«01_k».proof.Proof.QA.Norm
public import proofs.«01_k».proof.Proof.Gen.Reference3Ideal.Run
public import Idealize.ShloMosaic.Lib.Pointwise

@[expose] public section

set_option maxRecDepth 16384

noncomputable section

namespace Cert.QA.Ref

open Cert.Reference3Ideal Cert.Reference3Ideal.Gen Idealize.ShloMosaic Idealize.ShloMosaic.TcCoe Cert.Norm

variable (x : FVec Ideal S4x8192x1024 .f32) (g : FVec Ideal S1024 .f32) (w : FVec Ideal S1024x3072 .f32)

/-- The mean of the squares of each row, and the norm's small constant. -/
def mean : FVec Ideal S4x8192x1 .f32 :=
  addf (Host.divf (broadcastInDim S4x8192x1 ![0, 1] bcast_S4x8192_S4x8192x1_0_1
      (Host.reduceAdd (mulf x x) (constant S_ .f32 0x00000000#32) reducesTo_S4x8192x1024_S4x8192_d2 h_S_))
    (broadcastInDim S4x8192x1 ![] bcast_S_S4x8192x1 (constant S_ .f32 0x44800000#32)))
    (broadcastInDim S4x8192x1 ![] bcast_S_S4x8192x1 (constant S_ .f32 0x358637BD#32))

/-- The normed rows. -/
def rows : FVec Ideal S4x8192x1024 .f32 :=
  mulf (mulf x (broadcastInDim S4x8192x1024 ![0, 1, 2] bcast_S4x8192x1_S4x8192x1024_0_1_2 (Host.rsqrt (mean x))))
    (broadcastInDim S4x8192x1024 ![0, 1, 2] bcast_S1x1x1024_S4x8192x1024_0_1_2 (broadcastInDim S1x1x1024 ![2] bcast_S1024_S1x1x1024_2 g))

/-- The projected array. -/
def proj (h : FVec Ideal S4x8192x1024 .f32) : FVec Ideal S4x8192x3072 .f32 :=
  Host.dotGeneral dot_S4x8192x1024_S1024x3072_S4x8192x3072_2_0_01_1_n_n none h w

/-- The queries, scaled. -/
def queries (r : FVec Ideal S4x8192x3072 .f32) : FVec Ideal S4x8192x1024 .f32 :=
  Host.divf (mulf (extractStridedSlice S4x8192x1024 ![0, 0, 0] r slices_S4x8192x3072_S4x8192x1024_0_0_0)
      (broadcastInDim S4x8192x1024 ![] bcast_S_S4x8192x1024 (constant S_ .f32 0x3E000000#32)))
    (broadcastInDim S4x8192x1024 ![] bcast_S_S4x8192x1024 (Host.log (constant S_ .f32 0x40000000#32)))

/-- Queries and keys in planes of 128 lanes. -/
def planes (r : FVec Ideal S4x8192x3072 .f32) : FVec Ideal S16x32768x128 .bf16 :=
  truncf .bf16 (transpose S16x32768x128 [1, 0, 2] (shapeCast _ (concatenate S4x8192x2048 2 [⟨S4x8192x1024, queries r⟩,
    ⟨S4x8192x1024, extractStridedSlice S4x8192x1024 ![0, 0, 1024] r slices_S4x8192x3072_S4x8192x1024_0_0_1024⟩]
    concatenates_S4x8192x1024_S4x8192x1024_S4x8192x2048_d2) shapeCasts_S4x8192x2048_S32768x16x128) transposes_S32768x16x128_S16x32768x128_1_0_2) bitsLt_bf16_f32

/-- Values in planes of 128 lanes, a row by lane. -/
def lanes (r : FVec Ideal S4x8192x3072 .f32) : FVec Ideal S8x128x32768 .bf16 :=
  truncf .bf16 (transpose S8x128x32768 [1, 2, 0] (shapeCast _ (extractStridedSlice S4x8192x1024 ![0, 0, 2048] r slices_S4x8192x3072_S4x8192x1024_0_0_2048)
    shapeCasts_S4x8192x1024_S32768x8x128) transposes_S32768x8x128_S8x128x32768_1_2_0) bitsLt_bf16_f32

/-- The results. -/
def resultQK : FVec Ideal S16x32768x128 .bf16 := planes (proj w (rows x g))
def resultV : FVec Ideal S8x128x32768 .bf16 := lanes (proj w (rows x g))

theorem mean_apply (b : Fin 4) (s : Fin 8192) : mean x (ix3 b s 0)
    = Ideal.div (∑ j : Fin 1024, x (ix3 b s j) * x (ix3 b s j)) (Ideal.ofBits .f32 0x44800000#32) + Ideal.ofBits .f32 0x358637BD#32 := by
  pointwise [mean]

theorem rows_apply (b : Fin 4) (s : Fin 8192) (k : Fin 1024) : rows x g (ix3 b s k)
    = normed (fun j => x (ix3 b s j)) (fun j => g (ix1 j)) k := by
  unfold normed
  rw [← mean_apply]
  pointwise [rows]

theorem proj_apply (h : FVec Ideal S4x8192x1024 .f32) (b : Fin 4) (s : Fin 8192) (f : Fin 3072) :
    proj w h (ix3 b s f) = ∑ k : Fin 1024, h (ix3 b s k) * w (ix2 k f) := by
  pointwise [proj]

theorem projected_apply (b : Fin 4) (s : Fin 8192) (f : Fin 3072) : proj w (rows x g) (ix3 b s f)
    = projected (fun j => x (ix3 b s j)) (fun j => g (ix1 j)) (fun k => w (ix2 k f)) := by
  rw [proj_apply]
  simp only [rows_apply]
  rfl

theorem planes_query (r : FVec Ideal S4x8192x3072 .f32) (p : Fin 16) (t : Fin 32768) (l : Fin 128) (hp : p.val < 8) :
    planes r (ix3 p t l) = Ideal.div (r (ix3 ⟨t.val / 8192, by omega⟩ ⟨t.val % 8192, by omega⟩ ⟨p.val * 128 + l.val, by omega⟩)
      * Ideal.ofBits .f32 0x3E000000#32) (Ideal.log (Ideal.ofBits .f32 0x40000000#32)) := by
  pointwise [planes, queries]
  rw [dif_pos (by omega)]

theorem planes_key (r : FVec Ideal S4x8192x3072 .f32) (p : Fin 16) (t : Fin 32768) (l : Fin 128) (hp : 8 ≤ p.val) :
    planes r (ix3 p t l) = r (ix3 ⟨t.val / 8192, by omega⟩ ⟨t.val % 8192, by omega⟩ ⟨p.val * 128 + l.val, by omega⟩) := by
  pointwise [planes, queries]
  rw [dif_neg (by omega)]
  exact congrArg (fun k => r (ix3 ⟨t.val / 8192, by omega⟩ ⟨t.val % 8192, by omega⟩ k)) (Fin.ext (by simp only; omega))

theorem lanes_apply (r : FVec Ideal S4x8192x3072 .f32) (p : Fin 8) (l : Fin 128) (t : Fin 32768) :
    lanes r (ix3 p l t) = r (ix3 ⟨t.val / 8192, by omega⟩ ⟨t.val % 8192, by omega⟩ ⟨p.val * 128 + l.val + 2048, by omega⟩) := by
  pointwise [lanes]
  exact congrArg (fun k => r (ix3 ⟨t.val / 8192, by omega⟩ ⟨t.val % 8192, by omega⟩ k)) (Fin.ext (by simp only; omega))

end Cert.QA.Ref

end
-- ==== Proof.QA.Value.lean ====
/- What the projection's call leaves: the reference's two results. -/
module

public import proofs.«01_k».proof.Proof.QA.Body
public import proofs.«01_k».proof.Proof.QA.Ref
public import Idealize.ShloMosaic.Lib.Pipeline.ValueKit
public import Idealize.ShloMosaic.Lib.Claim

@[expose] public section

set_option maxRecDepth 65536

noncomputable section

namespace Cert.QA

open Cert.Kernel3Ideal Cert.Kernel3Ideal.Gen Idealize.ShloMosaic Idealize.ShloMosaic.TcCoe Cert.Norm

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, t.val, 0] := (by decide +kernel : ∀ t : Fin grid0.N, _)
theorem index4 : ∀ t : Fin cfg0.N, win0_4.index t = ![0, 0, t.val] := (by decide +kernel : ∀ t : Fin grid0.N, _)
theorem point_lt (t : Fin cfg0.N) : t.val < 32 := lt_of_lt_of_eq t.isLt (by decide)

variable (m : (ℓ : Loc nD τ sig) → Buf (Elt Ideal) ℓ) (c : Dev nD) (t : Fin cfg0.N)

theorem block0 (r k : Fin 1024) (R : Fin 32768) (hR : R.val = t.val * 1024 + r) : iblk m c 0 t (ix2 r k) = V m c main_v9 (ix2 R k) := by
  blk_simp [iblk]
  refine congrArg _ ?_
  blk_ext [index0]
  all_goals omega

theorem block1 (k : Fin 1024) : iblk m c 1 t (ix2 (0 : Fin 1) k) = V m c main_v10 (ix2 (0 : Fin 1) k) := by
  blk_simp [iblk]
  refine congrArg _ ?_
  blk_ext [index1]
  all_goals omega

theorem block2 (k : Fin 1024) (f : Fin 3072) : iblk m c 2 t (ix2 k f) = V m c main_v8 (ix2 k f) := by
  blk_simp [iblk]
  refine congrArg _ ?_
  blk_ext [index2]
  all_goals omega

/-- A step's product at an index: the normed row of the input against the prepared weights. -/
theorem step_product (r : Fin 1024) (f : Fin 3072) (b : Fin 4) (s : Fin 8192) (hb : b.val = (t.val * 1024 + r) / 8192)
    (hs : s.val = (t.val * 1024 + r) % 8192) :
    k0_pay3 (iblk m c 0 t) (iblk m c 1 t) (iblk m c 2 t) (ix2 r f)
      = projected (fun j => xArg m c (ix3 b s j)) (fun j => gArg m c (ix1 j)) (fun k => V m c main_v8 (ix2 k f)) := by
  have ht := point_lt t
  refine (product_apply _ _ _ r f).trans ?_
  have e : ∀ j, iblk m c 0 t (ix2 r j) = xArg m c (ix3 b s j) := fun j => by
    rw [block0 m c t r j ⟨t.val * 1024 + r.val, by omega⟩ rfl, rows_apply]
    exact congrArg₂ (fun b s => xArg m c (ix3 b s j)) (Fin.ext hb.symm) (Fin.ext hs.symm)
  have eg : ∀ j, iblk m c 1 t (ix2 (0 : Fin 1) j) = gArg m c (ix1 j) := fun j => (block1 m c t j).trans (gain_apply m c j)
  simp only [e, eg, block2]

/-- A load of a whole buffer. -/
theorem load0 (x : Vec Ideal S1024x1024 .f32) : View.ld x r0_0 = x := View.ld_unit_zero (by decide) _ x
theorem load1 (x : Vec Ideal S1x1024 .f32) : View.ld x r0_1 = x := View.ld_unit_zero (by decide) _ x
theorem load2 (x : Vec Ideal S1024x3072 .bf16) : View.ld x r0_2 = x := View.ld_unit_zero (by decide) _ x

/-- The block that a step leaves of queries and keys: 128 columns of the product a plane. -/
theorem out3_apply (x0 : Vec Ideal S1024x1024 .f32) (x1 : Vec Ideal S1x1024 .f32) (x2 : Vec Ideal S1024x3072 .bf16) (p : Fin 16) (r : Fin 1024) (l : Fin 128) :
    out0_3 x0 x1 x2 (ix3 p r l) = k0_pay3 x0 x1 x2 (ix2 r ⟨p.val * 128 + l.val, by omega⟩) := by
  refine (Value.canon3_eq (View.ld x0 r0_0) (View.ld x1 r0_1) (View.ld x2 r0_2) (ix3 p r l)).trans ?_
  rw [load0, load1, load2]
  show k0_pay3 x0 x1 x2 _ = _
  refine congrArg _ (funext fun a => ?_)
  match a with
  | ⟨0, _⟩ => rfl
  | ⟨1, _⟩ => rfl

/-- The block that a step leaves of values: 128 columns of the product a plane, transposed. -/
theorem out4_apply (x0 : Vec Ideal S1024x1024 .f32) (x1 : Vec Ideal S1x1024 .f32) (x2 : Vec Ideal S1024x3072 .bf16) (p : Fin 8) (l : Fin 128) (r : Fin 1024) :
    out0_4 x0 x1 x2 (ix3 p l r) = k0_pay3 x0 x1 x2 (ix2 r ⟨p.val * 128 + l.val + 2048, by omega⟩) := by
  refine (Value.canon4_eq (View.ld x0 r0_0) (View.ld x1 r0_1) (View.ld x2 r0_2) (ix3 p l r)).trans ?_
  rw [load0, load1, load2]
  show k0_pay3 x0 x1 x2 _ = _
  refine congrArg _ (funext fun a => ?_)
  match a with
  | ⟨0, _⟩ => rfl
  | ⟨1, _⟩ => rfl

theorem qk_eq : (dats m 0 c).arrAt 3 cfg0.N = Ref.resultQK (xArg m c) (gArg m c) (wArg m c) := by
  refine (dats m 0 c).arrAt_eq_of_covers 3 _ (by decide +kernel) fun t hf y => ?_
  obtain ⟨p, r, l, rfl⟩ : ∃ (p : Fin 16) (r : Fin 1024) (l : Fin 128), y = ix3 p r l := ⟨y 0, y 1, y 2, by funext a; fin_cases a <;> rfl⟩
  have ht := point_lt t
  have he : ((cfg0.win 3).blk t).view.emb (ix3 p r l) = ix3 p (⟨t.val * 1024 + r.val, by omega⟩ : Fin 32768) l := by
    blk_ext [index3]
    all_goals omega
  blk_simp
  rw [after0_3, he]
  unfold Ref.resultQK
  refine (out3_apply _ _ _ p r l).trans ?_
  refine (step_product m c t r ⟨p.val * 128 + l.val, by omega⟩ ⟨(t.val * 1024 + r.val) / 8192, by omega⟩ ⟨(t.val * 1024 + r.val) % 8192, by omega⟩ rfl rfl).trans ?_
  by_cases hp : p.val < 8
  · rw [Ref.planes_query _ _ _ _ hp, Ref.projected_apply, ← projected_scaled]
    simp only [weights_query m c _ ⟨p.val * 128 + l.val, by omega⟩ (show p.val * 128 + l.val < 1024 by omega)]
  · rw [Ref.planes_key _ _ _ _ (by omega), Ref.projected_apply]
    simp only [weights_other m c _ ⟨p.val * 128 + l.val, by omega⟩ (show 1024 ≤ p.val * 128 + l.val by omega)]

theorem v_eq : (dats m 0 c).arrAt 4 cfg0.N = Ref.resultV (xArg m c) (gArg m c) (wArg m c) := by
  refine (dats m 0 c).arrAt_eq_of_covers 4 _ (by decide +kernel) fun t hf y => ?_
  obtain ⟨p, l, r, rfl⟩ : ∃ (p : Fin 8) (l : Fin 128) (r : Fin 1024), y = ix3 p l r := ⟨y 0, y 1, y 2, by funext a; fin_cases a <;> rfl⟩
  have ht := point_lt t
  have he : ((cfg0.win 4).blk t).view.emb (ix3 p l r) = ix3 p l (⟨t.val * 1024 + r.val, by omega⟩ : Fin 32768) := by
    blk_ext [index4]
    all_goals omega
  blk_simp
  rw [after0_4, he]
  unfold Ref.resultV
  refine (out4_apply _ _ _ p l r).trans ?_
  refine (step_product m c t r ⟨p.val * 128 + l.val + 2048, by omega⟩ ⟨(t.val * 1024 + r.val) / 8192, by omega⟩ ⟨(t.val * 1024 + r.val) % 8192, by omega⟩ rfl rfl).trans ?_
  rw [Ref.lanes_apply, Ref.projected_apply]
  simp only [weights_other m c _ ⟨p.val * 128 + l.val + 2048, by omega⟩ (show 1024 ≤ p.val * 128 + l.val + 2048 by omega)]

end Cert.QA

end
-- ==== Proof.QB.Body.lean ====
/- What a grid step of the projection computes, and the arrays it is launched on, at an index. -/
module

public import proofs.«01_k».proof.Proof.QA.Norm
public import proofs.«01_k».proof.Proof.SW.Host
public import proofs.«01_k».proof.Proof.Gen.Kernel4Ideal.Value
public import Idealize.ShloMosaic.Lib.Pointwise
public import Idealize.ShloMosaic.Lib.StableHlo.ReadAt

@[expose] public section

set_option maxRecDepth 16384

noncomputable section

namespace Cert.QB

open Cert.Kernel4Ideal Cert.Kernel4Ideal.Gen Idealize.ShloMosaic Idealize.ShloMosaic.TcCoe Cert.Norm

/-- A step's product: normed rows against the weights. -/
theorem product_apply (x : Vec Ideal S1024x1024 .f32) (g : Vec Ideal S1x1024 .f32) (w : Vec Ideal S1024x1536 .bf16) (r : Fin 1024) (f : Fin 1536) :
    k0_pay3 x g w (ix2 r f) = projected (fun j => x (ix2 r j)) (fun j => g (ix2 0 j)) (fun k => w (ix2 k f)) := by
  unfold projected normed
  pointwise [k0_pay3]

variable (m : (ℓ : Loc nD τ sig) → Buf (Elt Ideal) ℓ) (c : Dev nD)

/-- The arguments. -/
abbrev xArg : FVec Ideal S4x8192x1024 .f32 := m (c, Proc.tc.devRef main_arg0)
abbrev gArg : FVec Ideal S1024 .f32 := m (c, Proc.tc.devRef main_arg1)
abbrev wArg : FVec Ideal S1024x1536 .f32 := m (c, Proc.tc.devRef main_arg2)

theorem rows_apply (t : Fin 32768) (k : Fin 1024) :
    V m c main_v16 (ix2 t k) = xArg m c (ix3 ⟨t.val / 8192, by omega⟩ ⟨t.val % 8192, by omega⟩ k) := by
  unfold V hostOps0
  after_reads_at

theorem gain_apply (k : Fin 1024) : V m c main_v17 (ix2 (0 : Fin 1) k) = gArg m c (ix1 k) := by
  unfold V hostOps0
  after_reads_at

/-- The order of the heads as the program holds it: one word per place. -/
abbrev order : IVec S16x1 32 :=
  broadcastInDim S16x1 ![0] bcast_S16_S16x1_0
    (select (constantI S16 1 0#1)
      (addi (fun i => lit0 (S16.rowMajor i)) (broadcastInDim S16 ![] bcast_S_S16 (constantI S_ 32 16#32)))
      fun i => lit0 (S16.rowMajor i))

theorem order_apply (r : Fin 16) : order (ix2 r (0 : Fin 1)) = BitVec.ofNat 32 (SW.Ker.head r.val) := by
  fin_cases r <;> rfl

/-- Taking sixteen groups of 64 columns in that order. -/
theorem takeGroups_apply (x : Vec Ideal S1024x16x64 .f32) (t : Fin 1024) (r : Fin 16) (d : Fin 64) :
    Host.gather gather_S1024x16x64_S16x1_S1024x16x64_02_1_n_n_1_1_1024164 x order (ix3 t r d)
      = x (ix3 t ⟨SW.Ker.head r.val, SW.Ker.head_lt r.isLt⟩ d) := by
  unfold Host.gather
  refine congrArg x (funext fun a => Fin.ext ?_)
  match a with
  | ⟨0, _⟩ =>
    show 0 + 0 + t.val = t.val
    omega
  | ⟨1, _⟩ =>
    have e : ∀ y : S16x1.Idx, (y 0).val = r.val → (order y).toInt.toNat = SW.Ker.head r.val := fun y hy => by
      have : y = ix2 r (0 : Fin 1) := funext fun b => Fin.ext (match b with
        | ⟨0, _⟩ => hy
        | ⟨1, _⟩ => by have : (y 1).val < 1 := (y 1).isLt; show (y 1).val = 0; omega)
      rw [this, order_apply, StableHlo.Predicate.toInt_ofNat_small _ (by have := SW.Ker.head_lt r.isLt; omega)]
      omega
    show min (order _).toInt.toNat (16 - 1) + 0 + 0 = SW.Ker.head r.val
    rw [e _ rfl]
    have := SW.Ker.head_lt r.isLt
    omega
  | ⟨2, _⟩ =>
    show 0 + 0 + d.val = d.val
    omega

/-- The column of the weights that stands at a query's place `f`. -/
def column (f : Nat) : Nat := SW.Ker.head (f / 64) * 64 + f % 64

theorem column_lt {f : Nat} (h : f < 1024) : column f < 1024 := by
  have := SW.Ker.head_lt (r := f / 64) (by omega)
  unfold column
  omega

theorem weights_query (k : Fin 1024) (f : Fin 1536) (hf : f.val < 1024) :
    V m c main_v15 (ix2 k f) = wArg m c (ix2 k ⟨column f.val, by have := column_lt hf; omega⟩) * (Ideal.ofBits .f32 0x3E000000#32 * SW.Ker.perLog2) := by
  unfold V hostOps0
  after_reads_at
  after_reads_at
  rw [dif_pos hf]
  exact takeGroups_apply _ k ⟨f.val / 64, by omega⟩ ⟨f.val % 64, by omega⟩

theorem weights_other (k : Fin 1024) (f : Fin 1536) (hf : 1024 ≤ f.val) : V m c main_v15 (ix2 k f) = wArg m c (ix2 k f) := by
  unfold V hostOps0
  after_reads_at
  after_reads_at
  rw [dif_neg (by omega)]
  exact congrArg (fun k' => wArg m c (ix2 k k')) (Fin.ext (by simp only; omega))

end Cert.QB

end
-- ==== Proof.QB.Ref.lean ====
/- The projection's reference, read at an index. -/
module

public import proofs.«01_k».proof.Proof.QA.Norm
public import proofs.«01_k».proof.Proof.SW.Host
public import proofs.«01_k».proof.Proof.Gen.Reference4Ideal.Run
public import Idealize.ShloMosaic.Lib.Pointwise

@[expose] public section

set_option maxRecDepth 16384

noncomputable section

namespace Cert.QB.Ref

open Cert.Reference4Ideal Cert.Reference4Ideal.Gen Idealize.ShloMosaic Idealize.ShloMosaic.TcCoe Cert.Norm

variable (x : FVec Ideal S4x8192x1024 .f32) (g : FVec Ideal S1024 .f32) (w : FVec Ideal S1024x1536 .f32)

/-- The mean of the squares of each row, and the norm's small constant. -/
def mean : FVec Ideal S4x8192x1 .f32 :=
  addf (Host.divf (broadcastInDim S4x8192x1 ![0, 1] bcast_S4x8192_S4x8192x1_0_1
      (Host.reduceAdd (mulf x x) (constant S_ .f32 0x00000000#32) reducesTo_S4x8192x1024_S4x8192_d2 h_S_))
    (broadcastInDim S4x8192x1 ![] bcast_S_S4x8192x1 (constant S_ .f32 0x44800000#32)))
    (broadcastInDim S4x8192x1 ![] bcast_S_S4x8192x1 (constant S_ .f32 0x358637BD#32))

/-- The normed rows. -/
def rows : FVec Ideal S4x8192x1024 .f32 :=
  mulf (mulf x (broadcastInDim S4x8192x1024 ![0, 1, 2] bcast_S4x8192x1_S4x8192x1024_0_1_2 (Host.rsqrt (mean x))))
    (broadcastInDim S4x8192x1024 ![0, 1, 2] bcast_S1x1x1024_S4x8192x1024_0_1_2 (broadcastInDim S1x1x1024 ![2] bcast_S1024_S1x1x1024_2 g))

/-- The projected array. -/
def proj (h : FVec Ideal S4x8192x1024 .f32) : FVec Ideal S4x8192x1536 .f32 :=
  Host.dotGeneral dot_S4x8192x1024_S1024x1536_S4x8192x1536_2_0_01_1_n_n none h w

/-- The queries, scaled, -/
def queries (r : FVec Ideal S4x8192x1536 .f32) : FVec Ideal S4x8192x1024 .f32 :=
  Host.divf (mulf (extractStridedSlice S4x8192x1024 ![0, 0, 0] r slices_S4x8192x1536_S4x8192x1024_0_0_0)
      (broadcastInDim S4x8192x1024 ![] bcast_S_S4x8192x1024 (constant S_ .f32 0x3E000000#32)))
    (broadcastInDim S4x8192x1024 ![] bcast_S_S4x8192x1024 (Host.log (constant S_ .f32 0x40000000#32)))

/-- and with the heads of two groups taken in turn. -/
def turned (q : FVec Ideal S4x8192x1024 .f32) : FVec Ideal S4x8192x1024 .f32 :=
  shapeCast _ (transpose S32768x2x4x2x64 [0, 1, 3, 2, 4] (shapeCast _ q shapeCasts_S4x8192x1024_S32768x2x2x4x64)
    transposes_S32768x2x2x4x64_S32768x2x4x2x64_0_1_3_2_4) shapeCasts_S32768x2x4x2x64_S4x8192x1024

/-- Queries and keys in planes of 128 lanes. -/
def planes (r : FVec Ideal S4x8192x1536 .f32) : FVec Ideal S10x32768x128 .bf16 :=
  truncf .bf16 (transpose S10x32768x128 [1, 0, 2] (shapeCast _ (concatenate S4x8192x1280 2 [⟨S4x8192x1024, turned (queries r)⟩,
    ⟨S4x8192x256, extractStridedSlice S4x8192x256 ![0, 0, 1024] r slices_S4x8192x1536_S4x8192x256_0_0_1024⟩]
    concatenates_S4x8192x1024_S4x8192x256_S4x8192x1280_d2) shapeCasts_S4x8192x1280_S32768x10x128) transposes_S32768x10x128_S10x32768x128_1_0_2) bitsLt_bf16_f32

/-- Values in planes of 128 lanes, a row by lane. -/
def lanes (r : FVec Ideal S4x8192x1536 .f32) : FVec Ideal S2x128x32768 .bf16 :=
  truncf .bf16 (transpose S2x128x32768 [1, 2, 0] (shapeCast _ (extractStridedSlice S4x8192x256 ![0, 0, 1280] r slices_S4x8192x1536_S4x8192x256_0_0_1280)
    shapeCasts_S4x8192x256_S32768x2x128) transposes_S32768x2x128_S2x128x32768_1_2_0) bitsLt_bf16_f32

/-- The results. -/
def resultQK : FVec Ideal S10x32768x128 .bf16 := planes (proj w (rows x g))
def resultV : FVec Ideal S2x128x32768 .bf16 := lanes (proj w (rows x g))

theorem mean_apply (b : Fin 4) (s : Fin 8192) : mean x (ix3 b s 0)
    = Ideal.div (∑ j : Fin 1024, x (ix3 b s j) * x (ix3 b s j)) (Ideal.ofBits .f32 0x44800000#32) + Ideal.ofBits .f32 0x358637BD#32 := by
  pointwise [mean]

theorem rows_apply (b : Fin 4) (s : Fin 8192) (k : Fin 1024) : rows x g (ix3 b s k)
    = normed (fun j => x (ix3 b s j)) (fun j => g (ix1 j)) k := by
  unfold normed
  rw [← mean_apply]
  pointwise [rows]

theorem proj_apply (h : FVec Ideal S4x8192x1024 .f32) (b : Fin 4) (s : Fin 8192) (f : Fin 1536) :
    proj w h (ix3 b s f) = ∑ k : Fin 1024, h (ix3 b s k) * w (ix2 k f) := by
  pointwise [proj]

theorem projected_apply (b : Fin 4) (s : Fin 8192) (f : Fin 1536) : proj w (rows x g) (ix3 b s f)
    = projected (fun j => x (ix3 b s j)) (fun j => g (ix1 j)) (fun k => w (ix2 k f)) := by
  rw [proj_apply]
  simp only [rows_apply]
  rfl

theorem queries_apply (r : FVec Ideal S4x8192x1536 .f32) (b : Fin 4) (s : Fin 8192) (f : Fin 1024) :
    queries r (ix3 b s f) = Ideal.div (r (ix3 b s ⟨f.val, by omega⟩) * Ideal.ofBits .f32 0x3E000000#32)
      (Ideal.log (Ideal.ofBits .f32 0x40000000#32)) := by
  pointwise [queries]

theorem turned_apply (q : FVec Ideal S4x8192x1024 .f32) (b : Fin 4) (s : Fin 8192) (f : Fin 1024) :
    turned q (ix3 b s f) = q (ix3 b s ⟨SW.Ker.head (f.val / 64) * 64 + f.val % 64, by
      have := SW.Ker.head_lt (r := f.val / 64) (by omega)
      omega⟩) := by
  pointwise [turned]
  exact congrArg (fun k => q (ix3 b s k)) (Fin.ext (by simp only [SW.Ker.head]; omega))

theorem planes_query (r : FVec Ideal S4x8192x1536 .f32) (p : Fin 10) (t : Fin 32768) (l : Fin 128) (hp : p.val < 8) :
    planes r (ix3 p t l) = turned (queries r) (ix3 ⟨t.val / 8192, by omega⟩ ⟨t.val % 8192, by omega⟩ ⟨p.val * 128 + l.val, by omega⟩) := by
  pointwise [planes]
  rw [dif_pos (by omega)]

theorem planes_key (r : FVec Ideal S4x8192x1536 .f32) (p : Fin 10) (t : Fin 32768) (l : Fin 128) (hp : 8 ≤ p.val) :
    planes r (ix3 p t l) = r (ix3 ⟨t.val / 8192, by omega⟩ ⟨t.val % 8192, by omega⟩ ⟨p.val * 128 + l.val, by omega⟩) := by
  pointwise [planes]
  rw [dif_neg (by omega)]
  exact congrArg (fun k => r (ix3 ⟨t.val / 8192, by omega⟩ ⟨t.val % 8192, by omega⟩ k)) (Fin.ext (by simp only; omega))

theorem lanes_apply (r : FVec Ideal S4x8192x1536 .f32) (p : Fin 2) (l : Fin 128) (t : Fin 32768) :
    lanes r (ix3 p l t) = r (ix3 ⟨t.val / 8192, by omega⟩ ⟨t.val % 8192, by omega⟩ ⟨p.val * 128 + l.val + 1280, by omega⟩) := by
  pointwise [lanes]
  exact congrArg (fun k => r (ix3 ⟨t.val / 8192, by omega⟩ ⟨t.val % 8192, by omega⟩ k)) (Fin.ext (by simp only; omega))

end Cert.QB.Ref

end
-- ==== Proof.QB.Value.lean ====
/- What the projection's call leaves: the reference's two results. -/
module

public import proofs.«01_k».proof.Proof.QB.Body
public import proofs.«01_k».proof.Proof.QB.Ref
public import Idealize.ShloMosaic.Lib.Pipeline.ValueKit
public import Idealize.ShloMosaic.Lib.Claim

@[expose] public section

set_option maxRecDepth 65536

noncomputable section

namespace Cert.QB

open Cert.Kernel4Ideal Cert.Kernel4Ideal.Gen Idealize.ShloMosaic Idealize.ShloMosaic.TcCoe Cert.Norm

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, t.val, 0] := (by decide +kernel : ∀ t : Fin grid0.N, _)
theorem index4 : ∀ t : Fin cfg0.N, win0_4.index t = ![0, 0, t.val] := (by decide +kernel : ∀ t : Fin grid0.N, _)
theorem point_lt (t : Fin cfg0.N) : t.val < 32 := lt_of_lt_of_eq t.isLt (by decide)

variable (m : (ℓ : Loc nD τ sig) → Buf (Elt Ideal) ℓ) (c : Dev nD) (t : Fin cfg0.N)

theorem block0 (r k : Fin 1024) (R : Fin 32768) (hR : R.val = t.val * 1024 + r) : iblk m c 0 t (ix2 r k) = V m c main_v16 (ix2 R k) := by
  blk_simp [iblk]
  refine congrArg _ ?_
  blk_ext [index0]
  all_goals omega

theorem block1 (k : Fin 1024) : iblk m c 1 t (ix2 (0 : Fin 1) k) = V m c main_v17 (ix2 (0 : Fin 1) k) := by
  blk_simp [iblk]
  refine congrArg _ ?_
  blk_ext [index1]
  all_goals omega

theorem block2 (k : Fin 1024) (f : Fin 1536) : iblk m c 2 t (ix2 k f) = V m c main_v15 (ix2 k f) := by
  blk_simp [iblk]
  refine congrArg _ ?_
  blk_ext [index2]
  all_goals omega

/-- A step's product at an index: the normed row of the input against the prepared weights. -/
theorem step_product (r : Fin 1024) (f : Fin 1536) (b : Fin 4) (s : Fin 8192) (hb : b.val = (t.val * 1024 + r) / 8192)
    (hs : s.val = (t.val * 1024 + r) % 8192) :
    k0_pay3 (iblk m c 0 t) (iblk m c 1 t) (iblk m c 2 t) (ix2 r f)
      = projected (fun j => xArg m c (ix3 b s j)) (fun j => gArg m c (ix1 j)) (fun k => V m c main_v15 (ix2 k f)) := by
  have ht := point_lt t
  refine (product_apply _ _ _ r f).trans ?_
  have e : ∀ j, iblk m c 0 t (ix2 r j) = xArg m c (ix3 b s j) := fun j => by
    rw [block0 m c t r j ⟨t.val * 1024 + r.val, by omega⟩ rfl, rows_apply]
    exact congrArg₂ (fun b s => xArg m c (ix3 b s j)) (Fin.ext hb.symm) (Fin.ext hs.symm)
  have eg : ∀ j, iblk m c 1 t (ix2 (0 : Fin 1) j) = gArg m c (ix1 j) := fun j => (block1 m c t j).trans (gain_apply m c j)
  simp only [e, eg, block2]

/-- A load of a whole buffer. -/
theorem load0 (x : Vec Ideal S1024x1024 .f32) : View.ld x r0_0 = x := View.ld_unit_zero (by decide) _ x
theorem load1 (x : Vec Ideal S1x1024 .f32) : View.ld x r0_1 = x := View.ld_unit_zero (by decide) _ x
theorem load2 (x : Vec Ideal S1024x1536 .bf16) : View.ld x r0_2 = x := View.ld_unit_zero (by decide) _ x

/-- The block that a step leaves of queries and keys: 128 columns of the product a plane. -/
theorem out3_apply (x0 : Vec Ideal S1024x1024 .f32) (x1 : Vec Ideal S1x1024 .f32) (x2 : Vec Ideal S1024x1536 .bf16) (p : Fin 10) (r : Fin 1024) (l : Fin 128) :
    out0_3 x0 x1 x2 (ix3 p r l) = k0_pay3 x0 x1 x2 (ix2 r ⟨p.val * 128 + l.val, by omega⟩) := by
  refine (Value.canon3_eq (View.ld x0 r0_0) (View.ld x1 r0_1) (View.ld x2 r0_2) (ix3 p r l)).trans ?_
  rw [load0, load1, load2]
  show k0_pay3 x0 x1 x2 _ = _
  refine congrArg _ (funext fun a => ?_)
  match a with
  | ⟨0, _⟩ => rfl
  | ⟨1, _⟩ => rfl

/-- The block that a step leaves of values: 128 columns of the product a plane, transposed. -/
theorem out4_apply (x0 : Vec Ideal S1024x1024 .f32) (x1 : Vec Ideal S1x1024 .f32) (x2 : Vec Ideal S1024x1536 .bf16) (p : Fin 2) (l : Fin 128) (r : Fin 1024) :
    out0_4 x0 x1 x2 (ix3 p l r) = k0_pay3 x0 x1 x2 (ix2 r ⟨p.val * 128 + l.val + 1280, by omega⟩) := by
  refine (Value.canon4_eq (View.ld x0 r0_0) (View.ld x1 r0_1) (View.ld x2 r0_2) (ix3 p l r)).trans ?_
  rw [load0, load1, load2]
  show k0_pay3 x0 x1 x2 _ = _
  refine congrArg _ (funext fun a => ?_)
  match a with
  | ⟨0, _⟩ => rfl
  | ⟨1, _⟩ => rfl

theorem qk_eq : (dats m 0 c).arrAt 3 cfg0.N = Ref.resultQK (xArg m c) (gArg m c) (wArg m c) := by
  refine (dats m 0 c).arrAt_eq_of_covers 3 _ (by decide +kernel) fun t hf y => ?_
  obtain ⟨p, r, l, rfl⟩ : ∃ (p : Fin 10) (r : Fin 1024) (l : Fin 128), y = ix3 p r l := ⟨y 0, y 1, y 2, by funext a; fin_cases a <;> rfl⟩
  have ht := point_lt t
  have he : ((cfg0.win 3).blk t).view.emb (ix3 p r l) = ix3 p (⟨t.val * 1024 + r.val, by omega⟩ : Fin 32768) l := by
    blk_ext [index3]
    all_goals omega
  blk_simp
  rw [after0_3, he]
  unfold Ref.resultQK
  refine (out3_apply _ _ _ p r l).trans ?_
  refine (step_product m c t r ⟨p.val * 128 + l.val, by omega⟩ ⟨(t.val * 1024 + r.val) / 8192, by omega⟩ ⟨(t.val * 1024 + r.val) % 8192, by omega⟩ rfl rfl).trans ?_
  by_cases hp : p.val < 8
  · rw [Ref.planes_query _ _ _ _ hp, Ref.turned_apply, Ref.queries_apply, Ref.projected_apply, ← projected_scaled]
    simp only [weights_query m c _ ⟨p.val * 128 + l.val, by omega⟩ (show p.val * 128 + l.val < 1024 by omega), column]
  · rw [Ref.planes_key _ _ _ _ (by omega), Ref.projected_apply]
    simp only [weights_other m c _ ⟨p.val * 128 + l.val, by omega⟩ (show 1024 ≤ p.val * 128 + l.val by omega)]

theorem v_eq : (dats m 0 c).arrAt 4 cfg0.N = Ref.resultV (xArg m c) (gArg m c) (wArg m c) := by
  refine (dats m 0 c).arrAt_eq_of_covers 4 _ (by decide +kernel) fun t hf y => ?_
  obtain ⟨p, l, r, rfl⟩ : ∃ (p : Fin 2) (l : Fin 128) (r : Fin 1024), y = ix3 p l r := ⟨y 0, y 1, y 2, by funext a; fin_cases a <;> rfl⟩
  have ht := point_lt t
  have he : ((cfg0.win 4).blk t).view.emb (ix3 p l r) = ix3 p l (⟨t.val * 1024 + r.val, by omega⟩ : Fin 32768) := by
    blk_ext [index4]
    all_goals omega
  blk_simp
  rw [after0_4, he]
  unfold Ref.resultV
  refine (out4_apply _ _ _ p l r).trans ?_
  refine (step_product m c t r ⟨p.val * 128 + l.val + 1280, by omega⟩ ⟨(t.val * 1024 + r.val) / 8192, by omega⟩ ⟨(t.val * 1024 + r.val) % 8192, by omega⟩ rfl rfl).trans ?_
  rw [Ref.lanes_apply, Ref.projected_apply]
  simp only [weights_other m c _ ⟨p.val * 128 + l.val + 1280, by omega⟩ (show 1024 ≤ p.val * 128 + l.val + 1280 by omega)]

end Cert.QB

end
-- ==== Proof.PO.Real.lean ====
/- A norm with real weights is real whatever the row, and a real number less itself is zero. -/
module

public import proofs.«01_k».proof.Proof.QA.Norm

@[expose] public section

noncomputable section

namespace Cert.PO

open Idealize.ShloMosaic Cert.Norm

/-- Neither infinite. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub_self {x : EReal} (hx : IsReal x) : x - x = 0 := by
  obtain ⟨a, rfl⟩ := hx
  rw [← EReal.coe_sub, _root_.sub_self, EReal.coe_zero]

theorem thousand : Ideal.ofBits .f32 0x44800000#32 = ((1024 : ℝ) : EReal) := by
  rw [SW.normal_word _ 137 0 (by decide) (by decide) (by decide) (by decide) (by decide)]
  refine congrArg _ ?_
  norm_num

theorem small : ∃ z : ℝ, 0 < z ∧ Ideal.ofBits .f32 0x358637BD#32 = z := by
  refine ⟨_, ?_, SW.normal_word _ 107 407485 (by decide) (by decide) (by decide) (by decide) (by decide)⟩
  positivity

theorem square_nonneg (x : EReal) : 0 ≤ x * x := by
  induction x with
  | bot => rw [EReal.bot_mul_bot]; exact le_top
  | top => rw [EReal.top_mul_top]; exact le_top
  | coe a => rw [← EReal.coe_mul]; exact EReal.coe_nonneg.mpr (mul_self_nonneg a)

theorem square_top {x : EReal} (h : ¬ IsReal x) : x * x = ⊤ := by
  induction x with
  | bot => exact EReal.bot_mul_bot
  | top => exact EReal.top_mul_top
  | coe a => exact absurd ⟨a, rfl⟩ h

/-- A norm with real weights is real: a row with an infinite number in it is normed to zeros. -/
theorem normed_real {x g : Fin 1024 → EReal} (hg : ∀ j, IsReal (g j)) (k : Fin 1024) : IsReal (normed x g k) := by
  unfold normed
  obtain ⟨z, hz, hs⟩ := small
  by_cases hx : ∀ j, IsReal (x j)
  · refine ((hx k).mul ?_).mul (hg k)
    choose a ha using hx
    have hq : ∑ j, x j * x j = ((∑ j, a j * a j : ℝ) : EReal) := by
      rw [← SW.sum_coe]
      exact Finset.sum_congr rfl fun j _ => by rw [ha j, EReal.coe_mul]
    have hn : 0 ≤ ∑ j, a j * a j := Finset.sum_nonneg fun j _ => mul_self_nonneg _
    rw [hq, hs, thousand, Ideal.div_coe (by norm_num), ← EReal.coe_mul, ← EReal.coe_add, Ideal.rsqrt_coe]
    have hp : 0 < (∑ j, a j * a j) * (1 / 1024) + z := by positivity
    rw [if_neg hp.not_gt, if_neg hp.ne']
    exact ⟨_, rfl⟩
  · obtain ⟨j, hj⟩ := not_forall.mp hx
    have hq : ∑ j, x j * x j = ⊤ := top_le_iff.mp ((square_top hj).symm.le.trans
      (Finset.single_le_sum (f := fun j => x j * x j) (fun i _ => square_nonneg (x i)) (Finset.mem_univ j)))
    rw [hq, hs, thousand, Ideal.div_coe (by norm_num), EReal.top_mul_coe_of_pos (by norm_num), EReal.top_add_coe]
    have hr : Ideal.rsqrt ⊤ = 0 := rfl
    rw [hr, mul_zero, zero_mul]
    exact ⟨0, EReal.coe_zero.symm⟩

/-- A row of the layer's input with a row of the mixer's output, projected, added. -/
def mixed (x o : Fin 1024 → EReal) (w : Fin 1024 → Fin 1024 → EReal) (e : Fin 1024) : EReal := x e + ∑ k, o k * w k e

/-- One of sixteen logits' softmax. -/
def share (z : Fin 16 → EReal) (e : Fin 16) : EReal :=
  Ideal.div (Ideal.exp (z e - Finset.univ.fold max ⊥ z)) (∑ e', Ideal.exp (z e' - Finset.univ.fold max ⊥ z))

end Cert.PO

end
-- ==== Proof.PO.Body.lean ====
/- What a grid step of the output projection and router computes, at an index. -/
module

public import proofs.«01_k».proof.Proof.PO.Real
public import proofs.«01_k».proof.Proof.Gen.Kernel5Ideal.Value
public import Idealize.ShloMosaic.Lib.Pointwise
public import Idealize.ShloMosaic.Lib.StableHlo.ReadAt
public import Idealize.ShloMosaic.Lib.Pipeline.ValueKit

@[expose] public section

set_option maxRecDepth 16384

noncomputable section

namespace Cert.PO

open Cert.Kernel5Ideal Cert.Kernel5Ideal.Gen Idealize.ShloMosaic Idealize.ShloMosaic.TcCoe Cert.Norm

/-- A lane of a row whose 1024 lanes lie in eight planes. -/
def lane (o : Vec Ideal S8x1024x128 .bf16) (r k : Fin 1024) : EReal := o (ix3 ⟨k.val / 128, by omega⟩ r ⟨k.val % 128, by omega⟩)

/-- A step's sum. -/
theorem sum_apply (o : Vec Ideal S8x1024x128 .bf16) (x : Vec Ideal S1024x1024 .f32) (w : Vec Ideal S1024x1024 .bf16) (r e : Fin 1024) :
    k0_pay1 (View.ld o r0_0) (View.ld o r0_1) (View.ld o r0_2) (View.ld o r0_3) (View.ld o r0_4) (View.ld o r0_5) (View.ld o r0_6) (View.ld o r0_7) x w (ix2 r e)
      = mixed (fun j => x (ix2 r j)) (lane o r) (fun k j => w (ix2 k j)) e := by
  unfold mixed
  pointwise [k0_pay1]
  refine congrArg _ (Finset.sum_congr rfl fun k _ => congrArg (· * w (ix2 k e)) ?_)
  unfold lane
  split_ifs <;> exact congrArg₂ (fun a b => o (ix3 a r b)) (Fin.ext (by first | omega | (simp; omega))) (Fin.ext (by simp only; omega))

/-- Its normed rows. -/
theorem norm_apply (y : Vec Ideal S1024x1024 .f32) (g : Vec Ideal S1x1024 .f32) (r k : Fin 1024) :
    k0_pay2 y g (ix2 r k) = normed (fun j => y (ix2 r j)) (fun j => g (ix2 0 j)) k := by
  unfold normed
  pointwise [k0_pay2]

theorem cast_apply (y : Vec Ideal S1024x1024 .f32) (g : Vec Ideal S1x1024 .f32) : k0_pay3 y g = k0_pay2 y g := rfl

/-- Its logits: the weights' two parts against the rows, and the first against what the cast leaves of them. -/
def logit (y : Vec Ideal S1024x1024 .f32) (g : Vec Ideal S1x1024 .f32) (hl : Vec Ideal S32x1024 .bf16) (hi : Vec Ideal S16x1024 .bf16) (r : Fin 1024) (e : Fin 16) : EReal :=
  (∑ k, hl (ix2 ⟨e.val, by omega⟩ k) * k0_pay2 y g (ix2 r k))
    + ((∑ k, hl (ix2 ⟨16 + e.val, by omega⟩ k) * k0_pay2 y g (ix2 r k)) + ∑ k, hi (ix2 e k) * (k0_pay2 y g (ix2 r k) - k0_pay2 y g (ix2 r k)))

/-- Its softmax. -/
theorem share_apply (y : Vec Ideal S1024x1024 .f32) (g : Vec Ideal S1x1024 .f32) (hl : Vec Ideal S32x1024 .bf16) (hi : Vec Ideal S16x1024 .bf16) (e : Fin 16) (r : Fin 1024) :
    k0_pay4 y g hl hi (ix2 e r) = share (logit y g hl hi r) e := by
  unfold share logit
  pointwise [k0_pay4, cast_apply]
  have h : Ideal.ofBits FTy.f32 4286578688#32 = ⊥ := by simp [Ideal.ofBits, Ideal.ieee]
  rw [h]

theorem padded_apply (y : Vec Ideal S1024x1024 .f32) (g : Vec Ideal S1x1024 .f32) (hl : Vec Ideal S32x1024 .bf16) (hi : Vec Ideal S16x1024 .bf16) (r : Fin 1024) (l : Fin 128) :
    k0_pay5 y g hl hi (ix2 r l) = if h : l.val < 16 then k0_pay4 y g hl hi (ix2 ⟨l.val, h⟩ r) else 0 := by
  pointwise [k0_pay5]

variable (m : (ℓ : Loc nD τ sig) → Buf (Elt Ideal) ℓ) (c : Dev nD)

/-- The arguments. -/
abbrev oArg : FVec Ideal S4x8192x1024 .f32 := m (c, Proc.tc.devRef main_arg0)
abbrev xArg : FVec Ideal S4x8192x1024 .f32 := m (c, Proc.tc.devRef main_arg1)
abbrev wArg : FVec Ideal S1024x1024 .f32 := m (c, Proc.tc.devRef main_arg2)
abbrev gArg : FVec Ideal S1024 .f32 := m (c, Proc.tc.devRef main_arg3)
abbrev rArg : FVec Ideal S1024x16 .f32 := m (c, Proc.tc.devRef main_arg4)

theorem planes_apply (p : Fin 8) (t : Fin 32768) (l : Fin 128) :
    V m c main_v2 (ix3 p t l) = oArg m c (ix3 ⟨t.val / 8192, by omega⟩ ⟨t.val % 8192, by omega⟩ ⟨p.val * 128 + l.val, by omega⟩) := by
  unfold V hostOps0
  after_reads_at

theorem input_apply (t : Fin 32768) (k : Fin 1024) :
    V m c main_v9 (ix2 t k) = xArg m c (ix3 ⟨t.val / 8192, by omega⟩ ⟨t.val % 8192, by omega⟩ k) := by
  unfold V hostOps0
  after_reads_at

theorem out_apply (k e : Fin 1024) : V m c main_v10 (ix2 k e) = wArg m c (ix2 k e) := by
  unfold V hostOps0
  after_reads_at

theorem gain_apply (k : Fin 1024) : V m c main_v11 (ix2 (0 : Fin 1) k) = gArg m c (ix1 k) := by
  unfold V hostOps0
  after_reads_at

theorem high_apply (e : Fin 16) (k : Fin 1024) : V m c main_v4 (ix2 e k) = rArg m c (ix2 k e) := by
  unfold V hostOps0
  after_reads_at

theorem both_high (e : Fin 32) (k : Fin 1024) (he : e.val < 16) : V m c main_v8 (ix2 e k) = rArg m c (ix2 k ⟨e.val, he⟩) := by
  unfold V hostOps0
  after_reads_at
  rw [dif_pos he]

theorem both_low (e : Fin 32) (k : Fin 1024) (he : 16 ≤ e.val) :
    V m c main_v8 (ix2 e k) = rArg m c (ix2 k ⟨e.val - 16, by omega⟩) - rArg m c (ix2 k ⟨e.val - 16, by omega⟩) := by
  unfold V hostOps0
  after_reads_at
  rw [dif_neg (by omega)]

end Cert.PO

end
-- ==== Proof.PO.Ref.lean ====
/- The output projection's and router's reference, read at an index. -/
module

public import proofs.«01_k».proof.Proof.PO.Real
public import proofs.«01_k».proof.Proof.Gen.Reference5Ideal.Run
public import Idealize.ShloMosaic.Lib.Pointwise

@[expose] public section

set_option maxRecDepth 16384

noncomputable section

namespace Cert.PO.Ref

open Cert.Reference5Ideal Cert.Reference5Ideal.Gen Idealize.ShloMosaic Idealize.ShloMosaic.TcCoe Cert.Norm

variable (o x : FVec Ideal S4x8192x1024 .f32) (w : FVec Ideal S1024x1024 .f32) (g : FVec Ideal S1024 .f32) (r : FVec Ideal S1024x16 .f32)

/-- The layer's input and the mixer's projected output. -/
def added : FVec Ideal S4x8192x1024 .f32 :=
  addf x (Host.dotGeneral dot_S4x8192x1024_S1024x1024_S4x8192x1024_2_0_01_1_n_n none o w)

/-- The mean of the squares of each row, and the norm's small constant. -/
def mean (y : FVec Ideal S4x8192x1024 .f32) : FVec Ideal S4x8192x1 .f32 :=
  addf (Host.divf (broadcastInDim S4x8192x1 ![0, 1] bcast_S4x8192_S4x8192x1_0_1
      (Host.reduceAdd (mulf y y) (constant S_ .f32 0x00000000#32) reducesTo_S4x8192x1024_S4x8192_d2 h_S_))
    (broadcastInDim S4x8192x1 ![] bcast_S_S4x8192x1 (constant S_ .f32 0x44800000#32)))
    (broadcastInDim S4x8192x1 ![] bcast_S_S4x8192x1 (constant S_ .f32 0x358637BD#32))

/-- The normed rows, one after the other. -/
def rows (y : FVec Ideal S4x8192x1024 .f32) : FVec Ideal S32768x1024 .f32 :=
  shapeCast _ (mulf (mulf y (broadcastInDim S4x8192x1024 ![0, 1, 2] bcast_S4x8192x1_S4x8192x1024_0_1_2 (Host.rsqrt (mean y))))
    (broadcastInDim S4x8192x1024 ![0, 1, 2] bcast_S1x1x1024_S4x8192x1024_0_1_2 (broadcastInDim S1x1x1024 ![2] bcast_S1024_S1x1x1024_2 g)))
    shapeCasts_S4x8192x1024_S32768x1024

/-- The router's logits, -/
def logits (h : FVec Ideal S32768x1024 .f32) : FVec Ideal S32768x16 .f32 :=
  Host.dotGeneral dot_S32768x1024_S1024x16_S32768x16_1_0_0_1_n_n none h r

/-- their exponentials below their maximum, -/
def powers (z : FVec Ideal S32768x16 .f32) : FVec Ideal S32768x16 .f32 :=
  Host.exp (subf z (broadcastInDim S32768x16 ![0, 1] bcast_S32768x1_S32768x16_0_1 (broadcastInDim S32768x1 ![0] bcast_S32768_S32768x1_0
    (maximumf (broadcastInDim S32768 ![] bcast_S_S32768 (constant S_ .f32 0xFF800000#32))
      (Host.reduce FloatOps.maximumf z (constant S_ .f32 0xFF800000#32) reducesTo_S32768x16_S32768_d1 h_S_)))))

/-- and their softmax. -/
def shares (u : FVec Ideal S32768x16 .f32) : FVec Ideal S32768x16 .f32 :=
  Host.divf u (broadcastInDim S32768x16 ![0, 1] bcast_S32768x1_S32768x16_0_1 (broadcastInDim S32768x1 ![0] bcast_S32768_S32768x1_0
    (Host.reduceAdd u (constant S_ .f32 0x00000000#32) reducesTo_S32768x16_S32768_d1 h_S_)))

/-- The results. -/
def result0 : FVec Ideal S32768x1024 .f32 := shapeCast _ (added o x w) shapeCasts_S4x8192x1024_S32768x1024
def result1 : FVec Ideal S32768x1024 .bf16 := truncf .bf16 (rows g (added o x w)) bitsLt_bf16_f32
def affinity : FVec Ideal S32768x16 .f32 := shares (powers (logits r (rows g (added o x w))))
def result2 : FVec Ideal S32768x128 .f32 :=
  pad S32768x128 ![0, 0] ![0, 112] ![0, 0] (affinity o x w g r) (sitofp .f32 (constantI S_ 32 0#32)) pads_S32768x16_S32768x128_000_01120 h_S_
def result3 : FVec Ideal S16x32768 .f32 := transpose S16x32768 [1, 0] (affinity o x w g r) transposes_S32768x16_S16x32768_1_0

/-- One row of the sum, of the normed rows, and of the router's logits. -/
def sumRow (t : Fin 32768) (e : Fin 1024) : EReal :=
  mixed (fun k => x (ix3 ⟨t.val / 8192, by omega⟩ ⟨t.val % 8192, by omega⟩ k)) (fun k => o (ix3 ⟨t.val / 8192, by omega⟩ ⟨t.val % 8192, by omega⟩ k))
    (fun k e => w (ix2 k e)) e
def normRow (t : Fin 32768) (k : Fin 1024) : EReal := normed (sumRow o x w t) (fun j => g (ix1 j)) k
def logitRow (t : Fin 32768) (e : Fin 16) : EReal := ∑ k, normRow o x w g t k * r (ix2 k e)

theorem added_apply (b : Fin 4) (s : Fin 8192) (e : Fin 1024) : added o x w (ix3 b s e)
    = mixed (fun k => x (ix3 b s k)) (fun k => o (ix3 b s k)) (fun k e => w (ix2 k e)) e := by
  unfold mixed
  pointwise [added]

theorem result0_apply (t : Fin 32768) (e : Fin 1024) : result0 o x w (ix2 t e) = sumRow o x w t e := by
  unfold sumRow
  rw [← added_apply]
  pointwise [result0]

theorem mean_apply (y : FVec Ideal S4x8192x1024 .f32) (b : Fin 4) (s : Fin 8192) : mean y (ix3 b s 0)
    = Ideal.div (∑ j : Fin 1024, y (ix3 b s j) * y (ix3 b s j)) (Ideal.ofBits .f32 0x44800000#32) + Ideal.ofBits .f32 0x358637BD#32 := by
  pointwise [mean]

theorem rows_apply (y : FVec Ideal S4x8192x1024 .f32) (t : Fin 32768) (k : Fin 1024) : rows g y (ix2 t k)
    = normed (fun j => y (ix3 ⟨t.val / 8192, by omega⟩ ⟨t.val % 8192, by omega⟩ j)) (fun j => g (ix1 j)) k := by
  unfold normed
  rw [← mean_apply]
  pointwise [rows]

theorem normRow_eq (t : Fin 32768) (k : Fin 1024) : rows g (added o x w) (ix2 t k) = normRow o x w g t k := by
  rw [rows_apply]
  simp only [added_apply]
  rfl

theorem result1_apply (t : Fin 32768) (k : Fin 1024) : result1 o x w g (ix2 t k) = normRow o x w g t k := normRow_eq o x w g t k

theorem logits_apply (h : FVec Ideal S32768x1024 .f32) (t : Fin 32768) (e : Fin 16) :
    logits r h (ix2 t e) = ∑ k : Fin 1024, h (ix2 t k) * r (ix2 k e) := by
  pointwise [logits]

theorem powers_apply (z : FVec Ideal S32768x16 .f32) (t : Fin 32768) (e : Fin 16) :
    powers z (ix2 t e) = Ideal.exp (z (ix2 t e) - Finset.univ.fold max ⊥ fun e' : Fin 16 => z (ix2 t e')) := by
  pointwise [powers]
  have h : Ideal.ofBits FTy.f32 4286578688#32 = ⊥ := by simp [Ideal.ofBits, Ideal.ieee]
  rw [h, max_eq_right bot_le]

theorem shares_apply (u : FVec Ideal S32768x16 .f32) (t : Fin 32768) (e : Fin 16) :
    shares u (ix2 t e) = Ideal.div (u (ix2 t e)) (∑ e' : Fin 16, u (ix2 t e')) := by
  pointwise [shares]

theorem affinity_apply (t : Fin 32768) (e : Fin 16) : affinity o x w g r (ix2 t e) = share (logitRow o x w g r t) e := by
  unfold affinity share
  rw [shares_apply]
  simp only [powers_apply, logits_apply, normRow_eq]
  rfl

theorem result2_apply (t : Fin 32768) (l : Fin 128) :
    result2 o x w g r (ix2 t l) = if h : l.val < 16 then share (logitRow o x w g r t) ⟨l.val, h⟩ else 0 := by
  pointwise [result2]
  have h : FloatOps.sitofp (F := Ideal) FTy.f32 0#32 = (0 : EReal) := by
    rw [SW.sitofp_real, BitVec.toInt_zero, Int.cast_zero, EReal.coe_zero]
  simp only [affinity_apply, h]

theorem result3_apply (e : Fin 16) (t : Fin 32768) : result3 o x w g r (ix2 e t) = share (logitRow o x w g r t) e := by
  rw [← affinity_apply]
  pointwise [result3]

end Cert.PO.Ref

end
-- ==== Proof.PO.Value.lean ====
/- What the call of the output projection and router leaves: the reference's four results. -/
module

public import proofs.«01_k».proof.Proof.PO.Body
public import proofs.«01_k».proof.Proof.PO.Ref
public import Idealize.ShloMosaic.Lib.Pipeline.ValueKit
public import Idealize.ShloMosaic.Lib.Claim

@[expose] public section

set_option maxRecDepth 65536

noncomputable section

namespace Cert.PO

open Cert.Kernel5Ideal Cert.Kernel5Ideal.Gen Idealize.ShloMosaic Idealize.ShloMosaic.TcCoe Cert.Norm

theorem index0 : ∀ t : Fin cfg0.N, win0_0.index t = ![0, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![0, t.val] := (by decide +kernel : ∀ t : Fin grid0.N, _)
theorem point_lt (t : Fin cfg0.N) : t.val < 32 := lt_of_lt_of_eq t.isLt (by decide)

variable (m : (ℓ : Loc nD τ sig) → Buf (Elt Ideal) ℓ) (c : Dev nD) (t : Fin cfg0.N)

theorem block0 (p : Fin 8) (r : Fin 1024) (l : Fin 128) (R : Fin 32768) (hR : R.val = t.val * 1024 + r) :
    iblk m c 0 t (ix3 p r l) = V m c main_v2 (ix3 p R l) := by
  blk_simp [iblk]
  refine congrArg _ ?_
  blk_ext [index0]
  all_goals omega

theorem block1 (r k : Fin 1024) (R : Fin 32768) (hR : R.val = t.val * 1024 + r) : iblk m c 1 t (ix2 r k) = V m c main_v9 (ix2 R k) := by
  blk_simp [iblk]
  refine congrArg _ ?_
  blk_ext [index1]
  all_goals omega

theorem block2 (k e : Fin 1024) : iblk m c 2 t (ix2 k e) = V m c main_v10 (ix2 k e) := by
  blk_simp [iblk]
  refine congrArg _ ?_
  blk_ext [index2]
  all_goals omega

theorem block3 (k : Fin 1024) : iblk m c 3 t (ix2 (0 : Fin 1) k) = V m c main_v11 (ix2 (0 : Fin 1) k) := by
  blk_simp [iblk]
  refine congrArg _ ?_
  blk_ext [index3]
  all_goals omega

theorem block4 (e : Fin 16) (k : Fin 1024) : iblk m c 4 t (ix2 e k) = V m c main_v4 (ix2 e k) := by
  blk_simp [iblk]
  refine congrArg _ ?_
  blk_ext [index4]
  all_goals omega

theorem block5 (e : Fin 32) (k : Fin 1024) : iblk m c 5 t (ix2 e k) = V m c main_v8 (ix2 e k) := by
  blk_simp [iblk]
  refine congrArg _ ?_
  blk_ext [index5]
  all_goals omega

/-- A load of a whole buffer. -/
theorem load8 {e : EltTy} (x : Vec Ideal S1024x1024 e) : View.ld x r0_8 = x := View.ld_unit_zero (by decide) _ x
theorem load9 (x : Vec Ideal S1x1024 .f32) : View.ld x r0_9 = x := View.ld_unit_zero (by decide) _ x
theorem load10 (x : Vec Ideal S32x1024 .bf16) : View.ld x r0_10 = x := View.ld_unit_zero (by decide) _ x
theorem load11 (x : Vec Ideal S16x1024 .bf16) : View.ld x r0_11 = x := View.ld_unit_zero (by decide) _ x

/-- The sum as a step has it. -/
abbrev stepSum : FVec Ideal S1024x1024 .f32 := k0_pay6 (iblk m c 0 t) (iblk m c 1 t) (iblk m c 2 t) (iblk m c 3 t) (iblk m c 4 t) (iblk m c 5 t)

variable (r : Fin 1024) (R : Fin 32768) (hR : R.val = t.val * 1024 + r)

include hR

theorem step_lane (k : Fin 1024) : lane (iblk m c 0 t) r k = oArg m c (ix3 ⟨R.val / 8192, by omega⟩ ⟨R.val % 8192, by omega⟩ k) := by
  unfold lane
  rw [block0 m c t _ r _ R hR, planes_apply]
  exact congrArg (fun k => oArg m c (ix3 ⟨R.val / 8192, by omega⟩ ⟨R.val % 8192, by omega⟩ k)) (Fin.ext (by simp only; omega))

theorem step_sum (e : Fin 1024) : stepSum m c t (ix2 r e) = Ref.sumRow (oArg m c) (xArg m c) (wArg m c) R e := by
  unfold stepSum k0_pay6
  rw [load8, load8]
  refine (sum_apply _ _ _ r e).trans ?_
  have eo : lane (iblk m c 0 t) r = fun k => oArg m c (ix3 ⟨R.val / 8192, by omega⟩ ⟨R.val % 8192, by omega⟩ k) := funext (step_lane m c t r R hR)
  have ex : ∀ k, iblk m c 1 t (ix2 r k) = xArg m c (ix3 ⟨R.val / 8192, by omega⟩ ⟨R.val % 8192, by omega⟩ k) := fun k => by
    rw [block1 m c t r k R hR, input_apply]
  have ew : ∀ k j, iblk m c 2 t (ix2 k j) = wArg m c (ix2 k j) := fun k j => (block2 m c t k j).trans (out_apply m c k j)
  simp only [eo, ex, ew]
  rfl

theorem step_norm (k : Fin 1024) :
    k0_pay2 (stepSum m c t) (iblk m c 3 t) (ix2 r k) = Ref.normRow (oArg m c) (xArg m c) (wArg m c) (gArg m c) R k := by
  rw [norm_apply]
  have eg : ∀ j, iblk m c 3 t (ix2 (0 : Fin 1) j) = gArg m c (ix1 j) := fun j => (block3 m c t j).trans (gain_apply m c j)
  have es : ∀ j, stepSum m c t (ix2 r j) = Ref.sumRow (oArg m c) (xArg m c) (wArg m c) R j := step_sum m c t r R hR
  simp only [eg, es]
  rfl

variable (hg : ∀ i, IsReal (gArg m c i)) (hr : ∀ i, IsReal (rArg m c i))

include hg hr

theorem step_logit (e : Fin 16) : logit (stepSum m c t) (iblk m c 3 t) (iblk m c 5 t) (iblk m c 4 t) r e
    = Ref.logitRow (oArg m c) (xArg m c) (wArg m c) (gArg m c) (rArg m c) R e := by
  have hn : ∀ k, IsReal (Ref.normRow (oArg m c) (xArg m c) (wArg m c) (gArg m c) R k) := fun k => normed_real (fun _ => hg _) k
  have e1 : ∀ k, iblk m c 5 t (ix2 (⟨e.val, by omega⟩ : Fin 32) k) = rArg m c (ix2 k e) := fun k => by
    rw [block5, both_high m c _ k e.isLt]
  have e2 : ∀ k, iblk m c 5 t (ix2 (⟨16 + e.val, by omega⟩ : Fin 32) k) = (0 : EReal) := fun k => by
    rw [block5, both_low m c _ k (by simp only; omega)]
    exact (hr _).sub_self
  have ek : ∀ k, k0_pay2 (stepSum m c t) (iblk m c 3 t) (ix2 r k) = Ref.normRow (oArg m c) (xArg m c) (wArg m c) (gArg m c) R k := step_norm m c t r R hR
  unfold logit Ref.logitRow
  simp only [e1, e2, ek, (hn _).sub_self, zero_mul, mul_zero, Finset.sum_const_zero, add_zero]
  exact Finset.sum_congr rfl fun k _ => mul_comm _ _

theorem step_share (e : Fin 16) : k0_pay4 (stepSum m c t) (iblk m c 3 t) (iblk m c 5 t) (iblk m c 4 t) (ix2 e r)
    = share (Ref.logitRow (oArg m c) (xArg m c) (wArg m c) (gArg m c) (rArg m c) R) e := by
  rw [share_apply]
  exact congrArg (share · e) (funext fun e => step_logit m c t r R hR hg hr e)

omit hR hg hr in
theorem sum_eq : (dats m 0 c).arrAt 6 cfg0.N = Ref.result0 (oArg m c) (xArg m c) (wArg m c) := by
  refine (dats m 0 c).arrAt_eq_of_covers 6 _ (by decide +kernel) fun t hf y => ?_
  obtain ⟨r, e, rfl⟩ : ∃ (r e : Fin 1024), y = ix2 r e := ⟨y 0, y 1, by funext a; fin_cases a <;> rfl⟩
  have ht := point_lt t
  have he : ((cfg0.win 6).blk t).view.emb (ix2 r e) = ix2 (⟨t.val * 1024 + r.val, by omega⟩ : Fin 32768) e := by
    blk_ext [index6]
    all_goals omega
  blk_simp
  rw [after0_6, he, Ref.result0_apply]
  unfold out0_6
  rw [View.canon_cons_unit_zero (by decide) _ _ []]
  exact step_sum m c t r ⟨t.val * 1024 + r.val, by omega⟩ rfl e

omit hR hg hr in
theorem norm_eq : (dats m 0 c).arrAt 7 cfg0.N = Ref.result1 (oArg m c) (xArg m c) (wArg m c) (gArg m c) := by
  refine (dats m 0 c).arrAt_eq_of_covers 7 _ (by decide +kernel) fun t hf y => ?_
  obtain ⟨r, e, rfl⟩ : ∃ (r e : Fin 1024), y = ix2 r e := ⟨y 0, y 1, by funext a; fin_cases a <;> rfl⟩
  have ht := point_lt t
  have he : ((cfg0.win 7).blk t).view.emb (ix2 r e) = ix2 (⟨t.val * 1024 + r.val, by omega⟩ : Fin 32768) e := by
    blk_ext [index7]
    all_goals omega
  blk_simp
  rw [after0_7, he, Ref.result1_apply]
  unfold out0_7
  rw [View.canon_cons_unit_zero (by decide) _ _ [], load9, cast_apply]
  exact step_norm m c t r ⟨t.val * 1024 + r.val, by omega⟩ rfl e

omit hR in
theorem padded_eq : (dats m 0 c).arrAt 8 cfg0.N = Ref.result2 (oArg m c) (xArg m c) (wArg m c) (gArg m c) (rArg m c) := by
  refine (dats m 0 c).arrAt_eq_of_covers 8 _ (by decide +kernel) fun t hf y => ?_
  obtain ⟨r, l, rfl⟩ : ∃ (r : Fin 1024) (l : Fin 128), y = ix2 r l := ⟨y 0, y 1, by funext a; fin_cases a <;> rfl⟩
  have ht := point_lt t
  have he : ((cfg0.win 8).blk t).view.emb (ix2 r l) = ix2 (⟨t.val * 1024 + r.val, by omega⟩ : Fin 32768) l := by
    blk_ext [index8]
    all_goals omega
  blk_simp
  rw [after0_8, he, Ref.result2_apply]
  unfold out0_8
  rw [View.canon_cons_unit_zero (by decide) _ _ [], load9, load10, load11]
  refine (padded_apply _ _ _ _ r l).trans ?_
  by_cases hl : l.val < 16
  · rw [dif_pos hl, dif_pos hl]
    exact step_share m c t r ⟨t.val * 1024 + r.val, by omega⟩ rfl hg hr _
  · rw [dif_neg hl, dif_neg hl]

omit hR in
theorem share_eq : (dats m 0 c).arrAt 9 cfg0.N = Ref.result3 (oArg m c) (xArg m c) (wArg m c) (gArg m c) (rArg m c) := by
  refine (dats m 0 c).arrAt_eq_of_covers 9 _ (by decide +kernel) fun t hf y => ?_
  obtain ⟨e, r, rfl⟩ : ∃ (e : Fin 16) (r : Fin 1024), y = ix2 e r := ⟨y 0, y 1, by funext a; fin_cases a <;> rfl⟩
  have ht := point_lt t
  have he : ((cfg0.win 9).blk t).view.emb (ix2 e r) = ix2 e (⟨t.val * 1024 + r.val, by omega⟩ : Fin 32768) := by
    blk_ext [index9]
    all_goals omega
  blk_simp
  rw [after0_9, he, Ref.result3_apply]
  unfold out0_9
  rw [View.canon_cons_unit_zero (by decide) _ _ [], load9, load10, load11]
  exact step_share m c t r ⟨t.val * 1024 + r.val, by omega⟩ rfl hg hr e

end Cert.PO

end
-- ==== Proof.SW.RefSide.lean ====
/- The reference's result at an index: the attention's weighted sum of one query, over real logits. -/
module

public import proofs.«01_k».proof.Proof.SW.Words
public import proofs.«01_k».proof.Proof.SW.Softmax

@[expose] public section

set_option maxRecDepth 65536

noncomputable section

namespace Cert.SW

open Idealize.ShloMosaic Idealize.ShloMosaic.TcCoe Cert.ReferenceIdeal

/-- The queries, the keys and the sinks are real numbers. -/
structure Real (x : FVec Ideal S4x8192x1536 .f32) (s : FVec Ideal S16 .f32) : Prop where
  proj : ∀ (b : Fin 4) (r : Fin 8192) (l : Fin 1536), l.val < 1280 → x (ix3 b r l) = ((x (ix3 b r l)).toReal : EReal)
  sink : ∀ h : Fin 16, s (ix1 h) = ((s (ix1 h)).toReal : EReal)

variable (x : FVec Ideal S4x8192x1536 .f32) (s : FVec Ideal S16 .f32) (b : Fin 4) (n : Fin 64) (h g : Fin 4) (q : Fin 128)

/-- The row of the sequence that the key `j` of block `n`'s window is, where it is inside the sequence. -/
def rowAt (j : Fin 384) : Fin 8192 := ⟨(n.val * 128 + j.val - 128) % 8192, Nat.mod_lt _ (by decide)⟩

/-- Lane `d` of the key. -/
def keyAt (j : Fin 384) (d : Fin 64) : ℝ := (x (ix3 b (rowAt n j) ⟨1024 + (h.val * 64 + d.val), by omega⟩)).toReal

/-- Lane `d` of the query. -/
def queryAt (d : Fin 64) : ℝ := (x (ix3 b ⟨n.val * 128 + q.val, by omega⟩ ⟨h.val * 256 + g.val * 64 + d.val, by omega⟩)).toReal

/-- The linear bias of the query and the key. -/
def biasAt (j : Fin 384) : ℝ := (Ref.alibi (ix4 h g q j) : EReal).toReal

/-- The head's sink. -/
def sinkAt : ℝ := (s (ix1 ⟨h.val * 4 + g.val, by omega⟩)).toReal

/-- The logit of the query and the key. -/
def logitAt (j : Fin 384) : ℝ := (∑ d, keyAt x b n h j d * (queryAt x b n h g q d * (1/8))) + biasAt h g q j

/-- The value's lane `d` of the key `j`. -/
def valueAt (d : Fin 64) (j : Fin 384) : EReal := Ref.vals x (ix5 b n j h d)

theorem alibi_real (j : Fin 384) : Ref.alibi (ix4 h g q j) = (biasAt h g q j : EReal) := by
  unfold biasAt
  rw [Ref.alibi_apply, sitofp_real]
  obtain ⟨z, hz⟩ := slope_real ⟨h.val * 4 + g.val, by omega⟩
  rw [hz, ← EReal.coe_neg, ← EReal.coe_mul, EReal.toReal_coe]

theorem all_eq (hR : Real x s) (k : Fin 385) :
    Ref.all x s (ix6 b n h g q k) = logit (attends n q) (logitAt x b n h g q) (sinkAt s h g) k := by
  rw [Ref.all_apply]
  unfold logit
  split
  · rename_i hk
    rw [Ref.logits_apply, select_word _ _ (ok_iff n q ⟨k, hk⟩), Ref.negInf, alibi_real]
    refine if_ctx_congr Iff.rfl (fun ha => ?_) fun _ => rfl
    have hv := ha.1
    have e1 : ∀ d : Fin 64, Ref.keys x (ix5 b n ⟨k, hk⟩ h d) * Ref.qs x (ix6 b n q h g d)
        = ((keyAt x b n h ⟨k, hk⟩ d * (queryAt x b n h g q d * (1/8)) : ℝ) : EReal) := fun d => by
      rw [Ref.keys_apply x b n _ h d hv, Ref.qs_apply, eighth, EReal.coe_mul, EReal.coe_mul]
      have hr : (⟨n.val * 128 + k.val - 128, hv.2⟩ : Fin 8192) = rowAt n ⟨k, hk⟩ := Fin.ext (Nat.mod_eq_of_lt hv.2).symm
      refine congrArg₂ _ ?_ (congrArg (· * _) ?_)
      · unfold keyAt
        rw [← hR.proj _ _ _ (by simp only; omega)]
        exact congrArg (fun r => x (ix3 b r _)) hr
      · unfold queryAt
        rw [← hR.proj _ _ _ (by simp only; omega)]
    rw [Finset.sum_congr rfl fun d _ => e1 d, sum_coe, ← EReal.coe_add]
    rfl
  · exact hR.sink _

theorem top_eq (hR : Real x s) :
    Ref.top (Ref.all x s) (ix5 b n h g q) = peakLogit (attends n q) (logitAt x b n h g q) (sinkAt s h g) := by
  rw [Ref.top_apply]
  unfold peakLogit
  simp only [all_eq x s b n h g q hR]

/-- The attention of one query and one lane of the values. -/
def attentionAt (d : Fin 64) : EReal :=
  ∑ j : Fin 384, valueAt x b n h d j * Ideal.div (Ideal.exp (logit (attends n q) (logitAt x b n h g q) (sinkAt s h g) j.castSucc - peakLogit (attends n q) (logitAt x b n h g q) (sinkAt s h g)))
    (0 + ∑ k, Ideal.exp (logit (attends n q) (logitAt x b n h g q) (sinkAt s h g) k - peakLogit (attends n q) (logitAt x b n h g q) (sinkAt s h g)))

theorem probs_eq (hR : Real x s) (j : Fin 384) :
    Ref.probs (Ref.expd (Ref.all x s)) (ix6 b n h g q j)
      = Ideal.div (Ideal.exp (logit (attends n q) (logitAt x b n h g q) (sinkAt s h g) j.castSucc - peakLogit (attends n q) (logitAt x b n h g q) (sinkAt s h g)))
        (0 + ∑ k, Ideal.exp (logit (attends n q) (logitAt x b n h g q) (sinkAt s h g) k - peakLogit (attends n q) (logitAt x b n h g q) (sinkAt s h g))) := by
  rw [Ref.probs_apply]
  simp only [Ref.expd_apply, top_eq x s b n h g q hR, all_eq x s b n h g q hR]
  rfl

/-- The reference's result. -/
theorem result_real (hR : Real x s) (p : Fin 8) (t : Fin 32768) (l : Fin 128) :
    Ref.result x s (ix3 p t l)
      = attentionAt x s ⟨t.val / 8192, by omega⟩ ⟨t.val % 8192 / 128, by omega⟩ ⟨p.val / 4 * 2 + l.val / 64, by omega⟩ ⟨p.val % 4, by omega⟩
          ⟨t.val % 8192 % 128, by omega⟩ ⟨l.val % 64, by omega⟩ := by
  unfold Ref.result attentionAt valueAt
  rw [Ref.planes_apply, Ref.result_apply]
  simp only [probs_eq x s _ _ _ _ _ hR]

end Cert.SW

end
-- ==== Proof.SW.Finite.lean ====
/- The precondition: the queries, the keys and the sinks are real numbers. -/
module

public import proofs.«01_k».proof.Pre_finite
public import proofs.«01_k».proof.Proof.SW.RefSide
public import Idealize.ShloMosaic.Lib.ReduceAll
public import Idealize.ShloMosaic.Lib.Pipeline.ValueKit

@[expose] public section

set_option maxRecDepth 65536

noncomputable section

namespace Cert.SW

open Idealize.ShloMosaic Idealize.ShloMosaic.TcCoe Cert.Pre_finite

/-- The shape relations that the precondition's operations state. -/
theorem finite_facts : Cert.Pre_finite.Facts where
  slices_S4x8192x1536_S4x8192x1280_0_0_0 := by decide
  bcast_S_S4x8192x1280 := by decide
  reducesTo_S4x8192x1280_S_d0_1_2 := by decide
  h_S_ := by decide
  bcast_S_S16 := by decide
  reducesTo_S16_S_d0 := by decide

/-- A number whose absolute value is below infinity is real. -/
theorem real_of_abs (v : EReal) (h : Ideal.cmp .olt (max v (-v)) (Ideal.ofBits .f32 0x7F800000#32) = 1#1) : v = (v.toReal : EReal) := by
  have ht : Ideal.ofBits .f32 0x7F800000#32 = ⊤ := by simp [Ideal.ofBits, Ideal.ieee]
  rw [ht] at h
  have h' : max v (-v) < ⊤ := by
    by_contra hn
    simp [Ideal.cmp, hn] at h
  have h1 := lt_of_le_of_lt (le_max_left _ _) h'
  have h2 := lt_of_le_of_lt (le_max_right _ _) h'
  refine (EReal.coe_toReal h1.ne ?_).symm
  rintro rfl
  simp at h2

instance : Subsingleton S_.Idx := ⟨fun a b => funext fun x => x.elim0⟩

theorem real_of_finite (hF : Cert.Pre_finite.Facts) (x : FVec Ideal S4x8192x1536 .f32) (s : FVec Ideal S16 .f32)
    (h : @Cert.Pre_finite.fn hF Ideal _ x s = fun _ => 1#1) : Real x s := by
  have h0 := congrFun h (Shape.Idx.first hF.h_S_)
  unfold fn at h0
  dsimp only at h0
  obtain ⟨ha, hb⟩ := (and_word _ _).mp h0
  constructor
  · intro b r l hl
    have := Host.reduce_andi_all _ _ _ _ _ ha (ix3 b r (⟨l.val, hl⟩ : Fin 1280))
    refine real_of_abs _ ?_
    refine Eq.trans ?_ this
    symm
    pointwise
    rfl
  · intro k
    have := Host.reduce_andi_all _ _ _ _ _ hb (ix1 k)
    exact real_of_abs _ this

end Cert.SW

end
-- ==== Proof.PO.Finite.lean ====
/- The precondition: the norm's and the router's weights are real numbers. -/
module

public import proofs.«01_k».proof.Pre_finite_post
public import proofs.«01_k».proof.Proof.SW.Finite
public import proofs.«01_k».proof.Proof.PO.Real

@[expose] public section

set_option maxRecDepth 65536

noncomputable section

namespace Cert.PO

open Idealize.ShloMosaic Idealize.ShloMosaic.TcCoe Cert.Pre_finite_post

/-- The shape relations that the precondition's operations state. -/
theorem finite_facts : Cert.Pre_finite_post.Facts where
  bcast_S_S1024 := by decide
  reducesTo_S1024_S_d0 := by decide
  h_S_ := by decide
  bcast_S_S1024x16 := by decide
  reducesTo_S1024x16_S_d0_1 := by decide

theorem real_of_finite (hF : Cert.Pre_finite_post.Facts) (o x : FVec Ideal S4x8192x1024 .f32) (w : FVec Ideal S1024x1024 .f32)
    (g : FVec Ideal S1024 .f32) (r : FVec Ideal S1024x16 .f32) (h : @Cert.Pre_finite_post.fn hF Ideal _ o x w g r = fun _ => 1#1) :
    (∀ i, IsReal (g i)) ∧ ∀ i, IsReal (r i) := by
  have h0 := congrFun h (Shape.Idx.first hF.h_S_)
  unfold fn at h0
  dsimp only at h0
  obtain ⟨hg, hr⟩ := (SW.and_word _ _).mp h0
  exact ⟨fun i => ⟨_, SW.real_of_abs _ (Host.reduce_andi_all _ _ _ _ _ hg i)⟩, fun i => ⟨_, SW.real_of_abs _ (Host.reduce_andi_all _ _ _ _ _ hr i)⟩⟩

end Cert.PO

end
-- ==== Proof.PW.Body.lean ====
/- What a grid step of the output projection and router after the sliding-window attention computes, at an index. -/
module

public import proofs.«01_k».proof.Proof.PO.Real
public import proofs.«01_k».proof.Proof.SW.Host
public import proofs.«01_k».proof.Proof.Gen.Kernel6Ideal.Value
public import Idealize.ShloMosaic.Lib.Pointwise
public import Idealize.ShloMosaic.Lib.StableHlo.ReadAt
public import Idealize.ShloMosaic.Lib.Pipeline.ValueKit

@[expose] public section

set_option maxRecDepth 16384

noncomputable section

namespace Cert.PW

open Cert.Kernel6Ideal Cert.Kernel6Ideal.Gen Idealize.ShloMosaic Idealize.ShloMosaic.TcCoe Cert.Norm Cert.PO

/-- A lane of a row whose 1024 lanes lie in eight planes. -/
def lane (o : Vec Ideal S8x1024x128 .bf16) (r k : Fin 1024) : EReal := o (ix3 ⟨k.val / 128, by omega⟩ r ⟨k.val % 128, by omega⟩)

/-- A step's sum. -/
theorem sum_apply (o : Vec Ideal S8x1024x128 .bf16) (x : Vec Ideal S1024x1024 .f32) (w : Vec Ideal S1024x1024 .bf16) (r e : Fin 1024) :
    k0_pay1 (View.ld o r0_0) (View.ld o r0_1) (View.ld o r0_2) (View.ld o r0_3) (View.ld o r0_4) (View.ld o r0_5) (View.ld o r0_6) (View.ld o r0_7) x w (ix2 r e)
      = mixed (fun j => x (ix2 r j)) (lane o r) (fun k j => w (ix2 k j)) e := by
  unfold mixed
  pointwise [k0_pay1]
  refine congrArg _ (Finset.sum_congr rfl fun k _ => congrArg (· * w (ix2 k e)) ?_)
  unfold lane
  split_ifs <;> exact congrArg₂ (fun a b => o (ix3 a r b)) (Fin.ext (by first | omega | (simp; omega))) (Fin.ext (by simp only; omega))

/-- Its normed rows. -/
theorem norm_apply (y : Vec Ideal S1024x1024 .f32) (g : Vec Ideal S1x1024 .f32) (r k : Fin 1024) :
    k0_pay2 y g (ix2 r k) = normed (fun j => y (ix2 r j)) (fun j => g (ix2 0 j)) k := by
  unfold normed
  pointwise [k0_pay2]

theorem cast_apply (y : Vec Ideal S1024x1024 .f32) (g : Vec Ideal S1x1024 .f32) : k0_pay3 y g = k0_pay2 y g := rfl

/-- Its logits: the weights' two parts against the rows, and the first against what the cast leaves of them. -/
def logit (y : Vec Ideal S1024x1024 .f32) (g : Vec Ideal S1x1024 .f32) (hl : Vec Ideal S32x1024 .bf16) (hi : Vec Ideal S16x1024 .bf16) (r : Fin 1024) (e : Fin 16) : EReal :=
  (∑ k, hl (ix2 ⟨e.val, by omega⟩ k) * k0_pay2 y g (ix2 r k))
    + ((∑ k, hl (ix2 ⟨16 + e.val, by omega⟩ k) * k0_pay2 y g (ix2 r k)) + ∑ k, hi (ix2 e k) * (k0_pay2 y g (ix2 r k) - k0_pay2 y g (ix2 r k)))

/-- Its softmax. -/
theorem share_apply (y : Vec Ideal S1024x1024 .f32) (g : Vec Ideal S1x1024 .f32) (hl : Vec Ideal S32x1024 .bf16) (hi : Vec Ideal S16x1024 .bf16) (e : Fin 16) (r : Fin 1024) :
    k0_pay4 y g hl hi (ix2 e r) = share (logit y g hl hi r) e := by
  unfold share logit
  pointwise [k0_pay4, cast_apply]
  have h : Ideal.ofBits FTy.f32 4286578688#32 = ⊥ := by simp [Ideal.ofBits, Ideal.ieee]
  rw [h]

theorem padded_apply (y : Vec Ideal S1024x1024 .f32) (g : Vec Ideal S1x1024 .f32) (hl : Vec Ideal S32x1024 .bf16) (hi : Vec Ideal S16x1024 .bf16) (r : Fin 1024) (l : Fin 128) :
    k0_pay5 y g hl hi (ix2 r l) = if h : l.val < 16 then k0_pay4 y g hl hi (ix2 ⟨l.val, h⟩ r) else 0 := by
  pointwise [k0_pay5]

variable (m : (ℓ : Loc nD τ sig) → Buf (Elt Ideal) ℓ) (c : Dev nD)

/-- The arguments. -/
abbrev oArg : FVec Ideal S4x8192x1024 .f32 := m (c, Proc.tc.devRef main_arg0)
abbrev xArg : FVec Ideal S4x8192x1024 .f32 := m (c, Proc.tc.devRef main_arg1)
abbrev wArg : FVec Ideal S1024x1024 .f32 := m (c, Proc.tc.devRef main_arg2)
abbrev gArg : FVec Ideal S1024 .f32 := m (c, Proc.tc.devRef main_arg3)
abbrev rArg : FVec Ideal S1024x16 .f32 := m (c, Proc.tc.devRef main_arg4)

/-- The lane of the mixer's output that stands at a place `k` when the heads are in the attention's order. -/
def column (k : Nat) : Nat := SW.Ker.head (k / 64) * 64 + k % 64

theorem column_lt {k : Nat} (h : k < 1024) : column k < 1024 := by
  have := SW.Ker.head_lt (r := k / 64) (by omega)
  unfold column
  omega

/-- The order as a map of the lanes, -/
def lanes (k : Fin 1024) : Fin 1024 := ⟨column k.val, column_lt k.isLt⟩

theorem head_injective : ∀ p q : Fin 16, SW.Ker.head p.val = SW.Ker.head q.val → p = q := by decide

theorem lanes_injective : Function.Injective lanes := fun a b h => by
  have h := congrArg Fin.val h
  simp only [lanes, column] at h
  have hh := congrArg Fin.val (head_injective ⟨a.val / 64, by omega⟩ ⟨b.val / 64, by omega⟩ (by simp only; omega))
  simp only at hh
  exact Fin.ext (by omega)

/-- which a sum over all of them doesn't see. -/
theorem sum_lanes (f : Fin 1024 → EReal) : ∑ k, f (lanes k) = ∑ k, f k :=
  Function.Bijective.sum_comp (Finite.injective_iff_bijective.mp lanes_injective) f

theorem planes_apply (p : Fin 8) (t : Fin 32768) (l : Fin 128) :
    V m c main_v4 (ix3 p t l) = oArg m c (ix3 ⟨t.val / 8192, by omega⟩ ⟨t.val % 8192, by omega⟩ (lanes ⟨p.val * 128 + l.val, by omega⟩)) := by
  unfold V hostOps0
  after_reads_at
  have e : (p.val * 128 + l.val) / 64 = 2 * p.val + l.val / 64 := by omega
  refine congrArg (fun k => oArg m c (ix3 ⟨t.val / 8192, by omega⟩ ⟨t.val % 8192, by omega⟩ k)) (Fin.ext ?_)
  simp only [lanes, column, SW.Ker.head, e]
  omega

theorem input_apply (t : Fin 32768) (k : Fin 1024) :
    V m c main_v19 (ix2 t k) = xArg m c (ix3 ⟨t.val / 8192, by omega⟩ ⟨t.val % 8192, by omega⟩ k) := by
  unfold V hostOps0
  after_reads_at

/-- The order of the heads as the program holds it: one word per place. -/
abbrev order : IVec S16x1 32 :=
  broadcastInDim S16x1 ![0] bcast_S16_S16x1_0
    (select (constantI S16 1 0#1)
      (addi (fun i => lit0 (S16.rowMajor i)) (broadcastInDim S16 ![] bcast_S_S16 (constantI S_ 32 16#32)))
      fun i => lit0 (S16.rowMajor i))

theorem order_apply (r : Fin 16) : order (ix2 r (0 : Fin 1)) = BitVec.ofNat 32 (SW.Ker.head r.val) := by
  fin_cases r <;> rfl

/-- Taking sixteen groups of 64 rows in that order. -/
theorem takeGroups_apply (x : Vec Ideal S16x64x1024 .f32) (r : Fin 16) (d : Fin 64) (e : Fin 1024) :
    Host.gather gather_S16x64x1024_S16x1_S16x64x1024_12_0_n_n_0_1_1641024 x order (ix3 r d e) = x (ix3 ⟨SW.Ker.head r.val, SW.Ker.head_lt r.isLt⟩ d e) := by
  unfold Host.gather
  refine congrArg x (funext fun a => Fin.ext ?_)
  match a with
  | ⟨0, _⟩ =>
    have e : ∀ y : S16x1.Idx, (y 0).val = r.val → (order y).toInt.toNat = SW.Ker.head r.val := fun y hy => by
      have : y = ix2 r (0 : Fin 1) := funext fun b => Fin.ext (match b with
        | ⟨0, _⟩ => hy
        | ⟨1, _⟩ => by have : (y 1).val < 1 := (y 1).isLt; show (y 1).val = 0; omega)
      rw [this, order_apply, StableHlo.Predicate.toInt_ofNat_small _ (by have := SW.Ker.head_lt r.isLt; omega)]
      omega
    show min (order _).toInt.toNat (16 - 1) + 0 + 0 = SW.Ker.head r.val
    rw [e _ rfl]
    have := SW.Ker.head_lt r.isLt
    omega
  | ⟨1, _⟩ =>
    show 0 + 0 + d.val = d.val
    omega
  | ⟨2, _⟩ =>
    show 0 + 0 + e.val = e.val
    omega

theorem out_apply (k e : Fin 1024) : V m c main_v12 (ix2 k e) = wArg m c (ix2 (lanes k) e) := by
  unfold V hostOps0
  after_reads_at
  exact takeGroups_apply _ ⟨k.val / 64, by omega⟩ ⟨k.val % 64, by omega⟩ e

theorem gain_apply (k : Fin 1024) : V m c main_v20 (ix2 (0 : Fin 1) k) = gArg m c (ix1 k) := by
  unfold V hostOps0
  after_reads_at

theorem high_apply (e : Fin 16) (k : Fin 1024) : V m c main_v14 (ix2 e k) = rArg m c (ix2 k e) := by
  unfold V hostOps0
  after_reads_at

theorem both_high (e : Fin 32) (k : Fin 1024) (he : e.val < 16) : V m c main_v18 (ix2 e k) = rArg m c (ix2 k ⟨e.val, he⟩) := by
  unfold V hostOps0
  after_reads_at
  rw [dif_pos he]

theorem both_low (e : Fin 32) (k : Fin 1024) (he : 16 ≤ e.val) :
    V m c main_v18 (ix2 e k) = rArg m c (ix2 k ⟨e.val - 16, by omega⟩) - rArg m c (ix2 k ⟨e.val - 16, by omega⟩) := by
  unfold V hostOps0
  after_reads_at
  rw [dif_neg (by omega)]

end Cert.PW

end
-- ==== Proof.PW.Value.lean ====
/- What the call of the output projection and router after the sliding-window attention leaves: the reference's four results. -/
module

public import proofs.«01_k».proof.Proof.PW.Body
public import proofs.«01_k».proof.Proof.PO.Ref
public import Idealize.ShloMosaic.Lib.Pipeline.ValueKit
public import Idealize.ShloMosaic.Lib.Claim

@[expose] public section

set_option maxRecDepth 65536

noncomputable section

namespace Cert.PW

open Cert.Kernel6Ideal Cert.Kernel6Ideal.Gen Idealize.ShloMosaic Idealize.ShloMosaic.TcCoe Cert.Norm Cert.PO

theorem index0 : ∀ t : Fin cfg0.N, win0_0.index t = ![0, t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![0, t.val] := (by decide +kernel : ∀ t : Fin grid0.N, _)
theorem point_lt (t : Fin cfg0.N) : t.val < 32 := lt_of_lt_of_eq t.isLt (by decide)

variable (m : (ℓ : Loc nD τ sig) → Buf (Elt Ideal) ℓ) (c : Dev nD) (t : Fin cfg0.N)

theorem block0 (p : Fin 8) (r : Fin 1024) (l : Fin 128) (R : Fin 32768) (hR : R.val = t.val * 1024 + r) :
    iblk m c 0 t (ix3 p r l) = V m c main_v4 (ix3 p R l) := by
  blk_simp [iblk]
  refine congrArg _ ?_
  blk_ext [index0]
  all_goals omega

theorem block1 (r k : Fin 1024) (R : Fin 32768) (hR : R.val = t.val * 1024 + r) : iblk m c 1 t (ix2 r k) = V m c main_v19 (ix2 R k) := by
  blk_simp [iblk]
  refine congrArg _ ?_
  blk_ext [index1]
  all_goals omega

theorem block2 (k e : Fin 1024) : iblk m c 2 t (ix2 k e) = V m c main_v12 (ix2 k e) := by
  blk_simp [iblk]
  refine congrArg _ ?_
  blk_ext [index2]
  all_goals omega

theorem block3 (k : Fin 1024) : iblk m c 3 t (ix2 (0 : Fin 1) k) = V m c main_v20 (ix2 (0 : Fin 1) k) := by
  blk_simp [iblk]
  refine congrArg _ ?_
  blk_ext [index3]
  all_goals omega

theorem block4 (e : Fin 16) (k : Fin 1024) : iblk m c 4 t (ix2 e k) = V m c main_v14 (ix2 e k) := by
  blk_simp [iblk]
  refine congrArg _ ?_
  blk_ext [index4]
  all_goals omega

theorem block5 (e : Fin 32) (k : Fin 1024) : iblk m c 5 t (ix2 e k) = V m c main_v18 (ix2 e k) := by
  blk_simp [iblk]
  refine congrArg _ ?_
  blk_ext [index5]
  all_goals omega

/-- A load of a whole buffer. -/
theorem load8 {e : EltTy} (x : Vec Ideal S1024x1024 e) : View.ld x r0_8 = x := View.ld_unit_zero (by decide) _ x
theorem load9 (x : Vec Ideal S1x1024 .f32) : View.ld x r0_9 = x := View.ld_unit_zero (by decide) _ x
theorem load10 (x : Vec Ideal S32x1024 .bf16) : View.ld x r0_10 = x := View.ld_unit_zero (by decide) _ x
theorem load11 (x : Vec Ideal S16x1024 .bf16) : View.ld x r0_11 = x := View.ld_unit_zero (by decide) _ x

/-- The sum as a step has it. -/
abbrev stepSum : FVec Ideal S1024x1024 .f32 := k0_pay6 (iblk m c 0 t) (iblk m c 1 t) (iblk m c 2 t) (iblk m c 3 t) (iblk m c 4 t) (iblk m c 5 t)

variable (r : Fin 1024) (R : Fin 32768) (hR : R.val = t.val * 1024 + r)

include hR

theorem step_lane (k : Fin 1024) : lane (iblk m c 0 t) r k = oArg m c (ix3 ⟨R.val / 8192, by omega⟩ ⟨R.val % 8192, by omega⟩ (lanes k)) := by
  unfold lane
  rw [block0 m c t _ r _ R hR, planes_apply]
  exact congrArg (fun k => oArg m c (ix3 ⟨R.val / 8192, by omega⟩ ⟨R.val % 8192, by omega⟩ (lanes k))) (Fin.ext (by simp only; omega))

theorem step_sum (e : Fin 1024) : stepSum m c t (ix2 r e) = Ref.sumRow (oArg m c) (xArg m c) (wArg m c) R e := by
  unfold stepSum k0_pay6
  rw [load8, load8]
  refine (sum_apply _ _ _ r e).trans ?_
  have eo : lane (iblk m c 0 t) r = fun k => oArg m c (ix3 ⟨R.val / 8192, by omega⟩ ⟨R.val % 8192, by omega⟩ (lanes k)) := funext (step_lane m c t r R hR)
  have ex : ∀ k, iblk m c 1 t (ix2 r k) = xArg m c (ix3 ⟨R.val / 8192, by omega⟩ ⟨R.val % 8192, by omega⟩ k) := fun k => by
    rw [block1 m c t r k R hR, input_apply]
  have ew : ∀ k j, iblk m c 2 t (ix2 k j) = wArg m c (ix2 (lanes k) j) := fun k j => (block2 m c t k j).trans (out_apply m c k j)
  simp only [eo, ex, ew]
  exact congrArg (_ + ·) (sum_lanes fun k => oArg m c (ix3 ⟨R.val / 8192, by omega⟩ ⟨R.val % 8192, by omega⟩ k) * wArg m c (ix2 k e))

theorem step_norm (k : Fin 1024) :
    k0_pay2 (stepSum m c t) (iblk m c 3 t) (ix2 r k) = Ref.normRow (oArg m c) (xArg m c) (wArg m c) (gArg m c) R k := by
  rw [norm_apply]
  have eg : ∀ j, iblk m c 3 t (ix2 (0 : Fin 1) j) = gArg m c (ix1 j) := fun j => (block3 m c t j).trans (gain_apply m c j)
  have es : ∀ j, stepSum m c t (ix2 r j) = Ref.sumRow (oArg m c) (xArg m c) (wArg m c) R j := step_sum m c t r R hR
  simp only [eg, es]
  rfl

variable (hg : ∀ i, IsReal (gArg m c i)) (hr : ∀ i, IsReal (rArg m c i))

include hg hr

theorem step_logit (e : Fin 16) : logit (stepSum m c t) (iblk m c 3 t) (iblk m c 5 t) (iblk m c 4 t) r e
    = Ref.logitRow (oArg m c) (xArg m c) (wArg m c) (gArg m c) (rArg m c) R e := by
  have hn : ∀ k, IsReal (Ref.normRow (oArg m c) (xArg m c) (wArg m c) (gArg m c) R k) := fun k => normed_real (fun _ => hg _) k
  have e1 : ∀ k, iblk m c 5 t (ix2 (⟨e.val, by omega⟩ : Fin 32) k) = rArg m c (ix2 k e) := fun k => by
    rw [block5, both_high m c _ k e.isLt]
  have e2 : ∀ k, iblk m c 5 t (ix2 (⟨16 + e.val, by omega⟩ : Fin 32) k) = (0 : EReal) := fun k => by
    rw [block5, both_low m c _ k (by simp only; omega)]
    exact (hr _).sub_self
  have ek : ∀ k, k0_pay2 (stepSum m c t) (iblk m c 3 t) (ix2 r k) = Ref.normRow (oArg m c) (xArg m c) (wArg m c) (gArg m c) R k := step_norm m c t r R hR
  unfold logit Ref.logitRow
  simp only [e1, e2, ek, (hn _).sub_self, zero_mul, mul_zero, Finset.sum_const_zero, add_zero]
  exact Finset.sum_congr rfl fun k _ => mul_comm _ _

theorem step_share (e : Fin 16) : k0_pay4 (stepSum m c t) (iblk m c 3 t) (iblk m c 5 t) (iblk m c 4 t) (ix2 e r)
    = share (Ref.logitRow (oArg m c) (xArg m c) (wArg m c) (gArg m c) (rArg m c) R) e := by
  rw [share_apply]
  exact congrArg (share · e) (funext fun e => step_logit m c t r R hR hg hr e)

omit hR hg hr in
theorem sum_eq : (dats m 0 c).arrAt 6 cfg0.N = Ref.result0 (oArg m c) (xArg m c) (wArg m c) := by
  refine (dats m 0 c).arrAt_eq_of_covers 6 _ (by decide +kernel) fun t hf y => ?_
  obtain ⟨r, e, rfl⟩ : ∃ (r e : Fin 1024), y = ix2 r e := ⟨y 0, y 1, by funext a; fin_cases a <;> rfl⟩
  have ht := point_lt t
  have he : ((cfg0.win 6).blk t).view.emb (ix2 r e) = ix2 (⟨t.val * 1024 + r.val, by omega⟩ : Fin 32768) e := by
    blk_ext [index6]
    all_goals omega
  blk_simp
  rw [after0_6, he, Ref.result0_apply]
  unfold out0_6
  rw [View.canon_cons_unit_zero (by decide) _ _ []]
  exact step_sum m c t r ⟨t.val * 1024 + r.val, by omega⟩ rfl e

omit hR hg hr in
theorem norm_eq : (dats m 0 c).arrAt 7 cfg0.N = Ref.result1 (oArg m c) (xArg m c) (wArg m c) (gArg m c) := by
  refine (dats m 0 c).arrAt_eq_of_covers 7 _ (by decide +kernel) fun t hf y => ?_
  obtain ⟨r, e, rfl⟩ : ∃ (r e : Fin 1024), y = ix2 r e := ⟨y 0, y 1, by funext a; fin_cases a <;> rfl⟩
  have ht := point_lt t
  have he : ((cfg0.win 7).blk t).view.emb (ix2 r e) = ix2 (⟨t.val * 1024 + r.val, by omega⟩ : Fin 32768) e := by
    blk_ext [index7]
    all_goals omega
  blk_simp
  rw [after0_7, he, Ref.result1_apply]
  unfold out0_7
  rw [View.canon_cons_unit_zero (by decide) _ _ [], load9, cast_apply]
  exact step_norm m c t r ⟨t.val * 1024 + r.val, by omega⟩ rfl e

omit hR in
theorem padded_eq : (dats m 0 c).arrAt 8 cfg0.N = Ref.result2 (oArg m c) (xArg m c) (wArg m c) (gArg m c) (rArg m c) := by
  refine (dats m 0 c).arrAt_eq_of_covers 8 _ (by decide +kernel) fun t hf y => ?_
  obtain ⟨r, l, rfl⟩ : ∃ (r : Fin 1024) (l : Fin 128), y = ix2 r l := ⟨y 0, y 1, by funext a; fin_cases a <;> rfl⟩
  have ht := point_lt t
  have he : ((cfg0.win 8).blk t).view.emb (ix2 r l) = ix2 (⟨t.val * 1024 + r.val, by omega⟩ : Fin 32768) l := by
    blk_ext [index8]
    all_goals omega
  blk_simp
  rw [after0_8, he, Ref.result2_apply]
  unfold out0_8
  rw [View.canon_cons_unit_zero (by decide) _ _ [], load9, load10, load11]
  refine (padded_apply _ _ _ _ r l).trans ?_
  by_cases hl : l.val < 16
  · rw [dif_pos hl, dif_pos hl]
    exact step_share m c t r ⟨t.val * 1024 + r.val, by omega⟩ rfl hg hr _
  · rw [dif_neg hl, dif_neg hl]

omit hR in
theorem share_eq : (dats m 0 c).arrAt 9 cfg0.N = Ref.result3 (oArg m c) (xArg m c) (wArg m c) (gArg m c) (rArg m c) := by
  refine (dats m 0 c).arrAt_eq_of_covers 9 _ (by decide +kernel) fun t hf y => ?_
  obtain ⟨e, r, rfl⟩ : ∃ (e : Fin 16) (r : Fin 1024), y = ix2 e r := ⟨y 0, y 1, by funext a; fin_cases a <;> rfl⟩
  have ht := point_lt t
  have he : ((cfg0.win 9).blk t).view.emb (ix2 e r) = ix2 e (⟨t.val * 1024 + r.val, by omega⟩ : Fin 32768) := by
    blk_ext [index9]
    all_goals omega
  blk_simp
  rw [after0_9, he, Ref.result3_apply]
  unfold out0_9
  rw [View.canon_cons_unit_zero (by decide) _ _ [], load9, load10, load11]
  exact step_share m c t r ⟨t.val * 1024 + r.val, by omega⟩ rfl hg hr e

end Cert.PW

end
-- ==== Proof.SW.Unit.lean ====
/- One unit of the kernel's body: 128 query rows of a group of eight heads. The sixteen units of a grid step, and the
   four stores of each, are the same functions of the unit's keys, values, queries, bias and sink row. Each function is
   read at an index. -/
module

public import proofs.«01_k».proof.Proof.Gen.KernelIdeal.Value
public import Idealize.ShloMosaic.Lib.Pointwise

@[expose] public section

set_option maxRecDepth 16384

noncomputable section

namespace Cert.SW.Ker

open Cert.KernelIdeal Cert.KernelIdeal.Gen Idealize.ShloMosaic Idealize.ShloMosaic.TcCoe

/-- A query plane with its upper lanes cleared. -/
def lower (q : Vec Ideal S1x128x128 .bf16) : FVec Ideal S128x128 .bf16 :=
  select k0_pay5 (shapeCast S128x128 q shapeCasts_S1x128x128_S128x128) k0_pay6

/-- A query plane with its lower lanes cleared. -/
def upper (q : Vec Ideal S1x128x128 .bf16) : FVec Ideal S128x128 .bf16 :=
  select (xori k0_pay5 (constantI S128x128 1 1#1)) (shapeCast S128x128 q shapeCasts_S1x128x128_S128x128) k0_pay6

/-- The eight heads' queries, one under the other. -/
def stack (q : Fin 4 → Vec Ideal S1x128x128 .bf16) : FVec Ideal S1024x128 .bf16 :=
  concatenate S1024x128 0 [⟨S128x128, lower (q 0)⟩, ⟨S128x128, upper (q 0)⟩, ⟨S128x128, lower (q 1)⟩, ⟨S128x128, upper (q 1)⟩,
    ⟨S128x128, lower (q 2)⟩, ⟨S128x128, upper (q 2)⟩, ⟨S128x128, lower (q 3)⟩, ⟨S128x128, upper (q 3)⟩]
    concatenates_S128x128_S128x128_S128x128_S128x128_S128x128_S128x128_S128x128_S128x128_S1024x128_d0

/-- The biased scores of a unit: a row per key, a column per head and query. -/
def scores (kw : FVec Ideal S384x128 .bf16) (q : Fin 4 → Vec Ideal S1x128x128 .bf16) (bias : Vec Ideal S1x1x384x1024 .f32) : FVec Ideal S384x1024 .f32 :=
  addf (matmul dot_S384x128_S1024x128_S384x1024_1_1_0_0_n_n none kw (stack q) (constant S384x1024 .f32 0x00000000#32))
    (shapeCast S384x1024 bias shapeCasts_S1x1x384x1024_S384x1024)

/-- Each column's largest score or sink. -/
def peak (st : FVec Ideal S384x1024 .f32) (sink : Vec Ideal S1x1x1024 .f32) : FVec Ideal S1x1024 .f32 :=
  maximumf (shapeCast S1x1024 (multiReduction .maximumf [0] S1024 st 0xFF800000#32 reduces_S384x1024_S1024 (.inl rfl) rfl) shapeCasts_S1024_S1x1024)
    (shapeCast S1x1024 sink shapeCasts_S1x1x1024_S1x1024)

/-- The powers of two of the scores below the peak. -/
def powers (st : FVec Ideal S384x1024 .f32) (sink : Vec Ideal S1x1x1024 .f32) : FVec Ideal S384x1024 .bf16 :=
  truncf .bf16 (exp2 (subf st (broadcastTo S384x1024 (peak st sink) broadcasts_S1x1024_S384x1024))) bitsLt_bf16_f32

/-- The values weighted by the powers, and below them the powers' sums. -/
def weighted (vw : FVec Ideal S136x384 .bf16) (st : FVec Ideal S384x1024 .f32) (sink : Vec Ideal S1x1x1024 .f32) : FVec Ideal S136x1024 .f32 :=
  matmul dot_S136x384_S384x1024_S136x1024_1_0_0_1_n_n none vw (powers st sink) (constant S136x1024 .f32 0x00000000#32)

/-- The unit's output, a row per lane, a column per head and query. -/
def outs (vw : FVec Ideal S136x384 .bf16) (st : FVec Ideal S384x1024 .f32) (sink : Vec Ideal S1x1x1024 .f32) : FVec Ideal S128x1024 .f32 :=
  divf (extractStridedSlice S128x1024 ![0, 0] (weighted vw st sink) slices_S136x1024_o0_0_S128x1024)
    (broadcastTo S128x1024 (addf (extractStridedSlice S1x1024 ![128, 0] (weighted vw st sink) slices_S136x1024_o128_0_S1x1024)
      (exp2 (subf (shapeCast S1x1024 sink shapeCasts_S1x1x1024_S1x1024) (peak st sink)))) broadcasts_S1x1024_S128x1024)

/-- A plane of the result: one head's lower 64 rows and the next head's upper 64, transposed. -/
def plane (a b : ℕ) (ha : Shape.Slices S128x1024 ![0, a] S64x128) (hb : Shape.Slices S128x1024 ![64, b] S64x128) (o : FVec Ideal S128x1024 .f32) : FVec Ideal S1x128x128 .bf16 :=
  shapeCast S1x128x128 (truncf .bf16 (transpose S128x128 [1, 0] (concatenate S128x128 0 [⟨S64x128, extractStridedSlice S64x128 ![0, a] o ha⟩,
    ⟨S64x128, extractStridedSlice S64x128 ![64, b] o hb⟩] concatenates_S64x128_S64x128_S128x128_d0) transposes_S128x128_p1_0_S128x128) bitsLt_bf16_f32)
    shapeCasts_S128x128_S1x128x128

/-! ## At an index -/

theorem lower_apply (q : Vec Ideal S1x128x128 .bf16) (r d : Fin 128) :
    lower q (ix2 r d) = if (d:ℕ) < 64 then q (ix3 0 r d) else 0 := by
  have h : ∀ d : Fin 128, IntOp.cmpi .slt (BitVec.ofNat 32 d) 64#32 = if (d:ℕ) < 64 then 1#1 else 0#1 := by decide
  pointwise [lower, k0_pay5, k0_pay6]
  rw [h]
  split <;> rfl

theorem upper_apply (q : Vec Ideal S1x128x128 .bf16) (r d : Fin 128) :
    upper q (ix2 r d) = if (d:ℕ) < 64 then 0 else q (ix3 0 r d) := by
  have h : ∀ d : Fin 128, IntOp.xori (IntOp.cmpi .slt (BitVec.ofNat 32 d) 64#32) 1#1 = if (d:ℕ) < 64 then 0#1 else 1#1 := by decide
  pointwise [upper, k0_pay5, k0_pay6]
  rw [h]
  split <;> rfl

/-- Row `c` of the stack is query `c % 128` of plane `c / 256`, the half of head `c / 128`. -/
theorem stack_apply (q : Fin 4 → Vec Ideal S1x128x128 .bf16) (c : Fin 1024) (d : Fin 128) :
    stack q (ix2 c d) = if (d:ℕ)/64 = (c:ℕ)/128%2 then q ⟨(c:ℕ)/256, by omega⟩ (ix3 0 ⟨(c:ℕ)%128, by omega⟩ d) else 0 := by
  have hd := d.isLt
  have hc := c.isLt
  have lo : ∀ (p : Fin 4) (r : Fin 128), (c:ℕ)/256 = p → (c:ℕ)/128%2 = 0 → (c:ℕ)%128 = r →
      lower (q p) (ix2 r d) = if (d:ℕ)/64 = (c:ℕ)/128%2 then q ⟨(c:ℕ)/256, by omega⟩ (ix3 0 ⟨(c:ℕ)%128, by omega⟩ d) else 0 := by
    intro p r h1 h2 h3
    rw [lower_apply, show (⟨(c:ℕ)/256, by omega⟩ : Fin 4) = p from Fin.ext h1, show (⟨(c:ℕ)%128, by omega⟩ : Fin 128) = r from Fin.ext h3]
    refine if_congr ?_ rfl rfl
    omega
  have up : ∀ (p : Fin 4) (r : Fin 128), (c:ℕ)/256 = p → (c:ℕ)/128%2 = 1 → (c:ℕ)%128 = r →
      upper (q p) (ix2 r d) = if (d:ℕ)/64 = (c:ℕ)/128%2 then q ⟨(c:ℕ)/256, by omega⟩ (ix3 0 ⟨(c:ℕ)%128, by omega⟩ d) else 0 := by
    intro p r h1 h2 h3
    rw [upper_apply, show (⟨(c:ℕ)/256, by omega⟩ : Fin 4) = p from Fin.ext h1, show (⟨(c:ℕ)%128, by omega⟩ : Fin 128) = r from Fin.ext h3, ← ite_not]
    refine if_congr ?_ rfl rfl
    omega
  pointwise [stack]
  split
  · exact lo 0 _ (by simp only [Fin.val_zero]; omega) (by omega) (by simp only []; omega)
  split
  · exact up 0 _ (by simp only [Fin.val_zero]; omega) (by omega) (by simp only []; omega)
  split
  · exact lo 1 _ (by simp only [Fin.val_one]; omega) (by omega) (by simp only []; omega)
  split
  · exact up 1 _ (by simp only [Fin.val_one]; omega) (by omega) (by simp only []; omega)
  split
  · exact lo 2 _ (by show _ = 2; omega) (by omega) (by simp only []; omega)
  split
  · exact up 2 _ (by show _ = 2; omega) (by omega) (by simp only []; omega)
  split
  · exact lo 3 _ (by show _ = 3; omega) (by omega) (by simp only []; omega)
  · exact up 3 _ (by show _ = 3; omega) (by omega) (by simp only []; omega)

theorem scores_apply (kw : FVec Ideal S384x128 .bf16) (q : Fin 4 → Vec Ideal S1x128x128 .bf16) (bias : Vec Ideal S1x1x384x1024 .f32) (j : Fin 384) (c : Fin 1024) :
    scores kw q bias (ix2 j c) = (∑ d, kw (ix2 j d) * stack q (ix2 c d)) + bias (ix4 0 0 j c) := by
  pointwise [scores]

theorem peak_apply (st : FVec Ideal S384x1024 .f32) (sink : Vec Ideal S1x1x1024 .f32) (c : Fin 1024) :
    peak st sink (ix2 0 c) = max (Finset.univ.fold max (⊥ : EReal) (fun j => st (ix2 j c))) (sink (ix3 0 0 c)) := by
  have h : Ideal.ofBits .f32 0xFF800000#32 = ⊥ := by simp [Ideal.ofBits, Ideal.ieee]
  pointwise [peak]
  rw [h]

theorem powers_apply (st : FVec Ideal S384x1024 .f32) (sink : Vec Ideal S1x1x1024 .f32) (j : Fin 384) (c : Fin 1024) :
    powers st sink (ix2 j c) = Ideal.exp2 (st (ix2 j c) - peak st sink (ix2 0 c)) := by
  pointwise [powers]
  rfl

theorem weighted_apply (vw : FVec Ideal S136x384 .bf16) (st : FVec Ideal S384x1024 .f32) (sink : Vec Ideal S1x1x1024 .f32) (r : Fin 136) (c : Fin 1024) :
    weighted vw st sink (ix2 r c) = ∑ j, vw (ix2 r j) * powers st sink (ix2 j c) := by
  pointwise [weighted]

theorem outs_apply (vw : FVec Ideal S136x384 .bf16) (st : FVec Ideal S384x1024 .f32) (sink : Vec Ideal S1x1x1024 .f32) (r : Fin 128) (c : Fin 1024) :
    outs vw st sink (ix2 r c) = Ideal.div (∑ j, vw (ix2 ⟨r, by omega⟩ j) * powers st sink (ix2 j c))
      ((∑ j, vw (ix2 128 j) * powers st sink (ix2 j c)) + Ideal.exp2 (sink (ix3 0 0 c) - peak st sink (ix2 0 c))) := by
  rw [← weighted_apply, ← weighted_apply]
  pointwise [outs]
  rfl

theorem plane_apply (p : Fin 4) (a b : ℕ) (ha : Shape.Slices S128x1024 ![0, a] S64x128) (hb : Shape.Slices S128x1024 ![64, b] S64x128)
    (ea : a = 256 * p) (eb : b = 256 * p + 128) (o : FVec Ideal S128x1024 .f32) (z : Fin 1) (q l : Fin 128) :
    plane a b ha hb o (ix3 z q l) = o (ix2 l ⟨256 * p + 128 * ((l:ℕ)/64) + q, by omega⟩) := by
  have hl := l.isLt
  have key : ∀ (r r' : Fin 128) (k k' : Fin 1024), (r:ℕ) = r' → (k:ℕ) = k' → o (ix2 r k) = o (ix2 r' k') := by
    intro r r' k k' h1 h2; rw [Fin.ext h1, Fin.ext h2]
  pointwise [plane]
  split
  · exact key _ _ _ _ rfl (by simp only []; omega)
  · exact key _ _ _ _ (by simp only []; omega) (by simp only []; omega)

theorem kslice_apply (off : ℕ) (h : Shape.Slices S2304x128 ![off, 0] S384x128) (k : FVec Ideal S2304x128 .bf16) (j : Fin 384) (d : Fin 128)
    (hj : off + (j:ℕ) < 2304) : extractStridedSlice S384x128 ![off, 0] k h (ix2 j d) = k (ix2 ⟨off + j, hj⟩ d) := by
  pointwise

theorem vslice_apply (off : ℕ) (h : Shape.Slices S136x2304 ![0, off] S136x384) (k : FVec Ideal S136x2304 .bf16) (j : Fin 384) (d : Fin 136)
    (hj : off + (j:ℕ) < 2304) : extractStridedSlice S136x384 ![0, off] k h (ix2 d j) = k (ix2 d ⟨off + j, hj⟩) := by
  pointwise

/-- The step's keys: the block before, the sixteen blocks, the block after. -/
theorem kcat_apply (v0 v2 v4) (r : Fin 2304) (d : Fin 128) : k0_pay3 (F := Ideal) v0 v2 v4 (ix2 r d)
    = if h : (r:ℕ) < 128 then v0 (ix3 0 ⟨r, h⟩ d) else if h' : (r:ℕ) - 128 < 2048 then v2 (ix3 0 ⟨(r:ℕ) - 128, h'⟩ d) else v4 (ix3 0 ⟨(r:ℕ) - 128 - 2048, by omega⟩ d) := by
  pointwise [k0_pay3]

/-- The step's values, a row per lane. -/
theorem vcat_apply (v0 v2 v4) (r : Fin 2304) (d : Fin 128) : k0_pay4 (F := Ideal) v0 v2 v4 (ix2 ⟨d, by omega⟩ r)
    = if h : (r:ℕ) < 128 then v0 (ix3 0 d ⟨r, h⟩) else if h' : (r:ℕ) - 128 < 2048 then v2 (ix3 0 d ⟨(r:ℕ) - 128, h'⟩) else v4 (ix3 0 d ⟨(r:ℕ) - 128 - 2048, by omega⟩) := by
  pointwise [k0_pay4]

/-- Below the values stands a row of ones. -/
theorem vcat_ones (v0 v2 v4) (r : Fin 2304) : k0_pay4 (F := Ideal) v0 v2 v4 (ix2 128 r) = 1 := by
  pointwise [k0_pay4]

end Cert.SW.Ker

end
-- ==== Proof.SW.Step.lean ====
/- One grid step of the kernel's body: the block that it leaves is, unit by unit, the units' outputs. -/
module

public import proofs.«01_k».proof.Proof.SW.Unit
public import proofs.«01_k».proof.Proof.Gen.KernelIdeal.Frame
public import Idealize.ShloMosaic.Lib.Pipeline.ValueKit

@[expose] public section

set_option maxRecDepth 65536

noncomputable section

namespace Cert.SW.Ker

open Cert.KernelIdeal Cert.KernelIdeal.Gen Idealize.ShloMosaic Idealize.ShloMosaic.TcCoe

variable (i : grid0.Coords) (x0 : Vec Ideal S4x2048x128 .bf16) (x1 : Vec Ideal S1x128x128 .bf16) (x2 : Vec Ideal S1x2048x128 .bf16)
  (x3 : Vec Ideal S1x128x128 .bf16) (x4 : Vec Ideal S1x128x128 .bf16) (x5 : Vec Ideal S1x128x2048 .bf16) (x6 : Vec Ideal S1x128x128 .bf16)
  (x7 : Vec Ideal S1x3x384x1024 .f32) (x8 : Vec Ideal S1x8x1024 .f32)

/-- The bias table's case for unit `u`: the first unit of a sequence and the last have their own. -/
def caseOff (u : ℕ) : Fin 4 → ℕ := if u = 0 then k0_off1 i 0#32 1#32 else if u = 15 then k0_off1 i 3#32 2#32 else ![0, 0, 0, 0]

theorem caseOff_inb (u : ℕ) : ∀ a, (caseOff i u) a + S1x1x384x1024.size a ≤ S1x3x384x1024.size a := by
  unfold caseOff
  split
  · exact k0_off1_inb i 0
  split
  · exact k0_off1_inb i 1
  · decide

/-- The bias of unit `u`. -/
def biasOf (u : ℕ) : Vec Ideal S1x1x384x1024 .f32 := View.ld x7 (Rect.unit (caseOff i u) S1x1x384x1024.size (caseOff_inb i u))

theorem kslice {u : ℕ} (hu : u < 16) : Shape.Slices S2304x128 ![128 * u, 0] S384x128 := by
  interval_cases u <;> decide

theorem vslice {u : ℕ} (hu : u < 16) : Shape.Slices S136x2304 ![0, 128 * u] S136x384 := by
  interval_cases u <;> decide

theorem qslice {u : ℕ} (hu : u < 16) (p : Fin 4) : ∀ a, (![p.val, 128 * u, 0] : Fin 3 → ℕ) a + S1x128x128.size a ≤ S4x2048x128.size a := by
  interval_cases u <;> revert p <;> decide

/-- The keys of unit `u`'s window. -/
def keysOf {u : ℕ} (hu : u < 16) : FVec Ideal S384x128 .bf16 := extractStridedSlice S384x128 ![128 * u, 0] (k0_pay3 x1 x2 x3) (kslice hu)

/-- The values of unit `u`'s window, and below them the ones. -/
def valuesOf {u : ℕ} (hu : u < 16) : FVec Ideal S136x384 .bf16 := extractStridedSlice S136x384 ![0, 128 * u] (k0_pay4 x4 x5 x6) (vslice hu)

/-- The queries of unit `u`, plane by plane. -/
def queriesOf {u : ℕ} (hu : u < 16) (p : Fin 4) : Vec Ideal S1x128x128 .bf16 := View.ld x0 (Rect.unit ![p.val, 128 * u, 0] S1x128x128.size (qslice hu p))

/-- The sinks' row. -/
def sinkRow : Vec Ideal S1x1x1024 .f32 := View.ld x8 (Rect.unit ![0, 0, 0] S1x1x1024.size inb_S1x8x1024_S1x1x1024_0_0_0)

/-- The output of unit `u`. -/
def unitOut {u : ℕ} (hu : u < 16) : FVec Ideal S128x1024 .f32 :=
  outs (valuesOf x4 x5 x6 hu) (scores (keysOf x1 x2 x3 hu) (queriesOf x0 hu) (biasOf i x7 u)) (sinkRow x8)

/-- The block that a grid step leaves. -/
def stepOut (y : S4x2048x128.Idx) : EReal :=
  unitOut i x0 x1 x2 x3 x4 x5 x6 x7 x8 (u := (y 1).val / 128) (by have : (y 1).val < 2048 := (y 1).isLt; omega)
    (ix2 ⟨(y 2).val, (y 2).isLt⟩ ⟨256 * (y 0).val + 128 * ((y 2).val / 64) + (y 1).val % 128, by
      have h0 : (y 0).val < 4 := (y 0).isLt
      have h2 : (y 2).val < 128 := (y 2).isLt
      omega⟩)

theorem piece (p : Fin 4) (u : ℕ) (hu : u < 16) (ha : Shape.Slices S128x1024 ![0, 256 * p.val] S64x128)
    (hb : Shape.Slices S128x1024 ![64, 256 * p.val + 128] S64x128) (x : S1x128x128.Idx) (y : S4x2048x128.Idx) {v : EReal}
    (hv : v = plane (256 * p.val) (256 * p.val + 128) ha hb (unitOut i x0 x1 x2 x3 x4 x5 x6 x7 x8 hu) x)
    (h0 : (y 0).val = p.val + (x 0).val) (h1 : (y 1).val = 128 * u + (x 1).val) (h2 : (y 2).val = (x 2).val) :
    v = stepOut i x0 x1 x2 x3 x4 x5 x6 x7 x8 y := by
  have l0 : (x 0).val < 1 := (x 0).isLt
  have l1 : (x 1).val < 128 := (x 1).isLt
  have hx : x = ix3 (⟨(x 0).val, l0⟩ : Fin 1) (⟨(x 1).val, l1⟩ : Fin 128) (⟨(x 2).val, (x 2).isLt⟩ : Fin 128) := by
    funext a; fin_cases a <;> rfl
  obtain rfl : u = (y 1).val / 128 := by omega
  rw [hv, hx, plane_apply p _ _ ha hb rfl rfl]
  unfold stepOut
  refine congrArg _ (congrArg₂ ix2 (Fin.ext h2.symm) (Fin.ext ?_))
  show 256 * p.val + 128 * ((x 2).val / 64) + (x 1).val = _
  simp only
  omega

set_option maxHeartbeats 4000000 in
theorem out_apply (c : Dev nD) (arg3 : Memref sig .tc .vmem S4x2048x128 .bf16) (harg3 : arg3.IsWhole) (arg4 : Memref sig .tc .vmem S1x128x128 .bf16) (harg4 : arg4.IsWhole) (arg5 : Memref sig .tc .vmem S1x2048x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x128x2048 .bf16) (harg8 : arg8.IsWhole) (arg9 : Memref sig .tc .vmem S1x128x128 .bf16) (harg9 : arg9.IsWhole) (arg10 : Memref sig .tc .vmem S1x3x384x1024 .f32) (harg10 : arg10.IsWhole) (arg11 : Memref sig .tc .vmem S1x8x1024 .f32) (harg11 : arg11.IsWhole) (arg12 : Memref sig .tc .vmem S4x2048x128 .bf16) (harg12 : arg12.IsWhole) (y : S4x2048x128.Idx) :
    out0_A_9 c i arg3 harg3 arg4 harg4 arg5 harg5 arg6 harg6 arg7 harg7 arg8 harg8 arg9 harg9 arg10 harg10 arg11 harg11 arg12 harg12 x0 x1 x2 x3 x4 x5 x6 x7 x8 y
      = stepOut i x0 x1 x2 x3 x4 x5 x6 x7 x8 y := by
  frame_out
  canon_tiles x h
  case piece0 => exact piece i x0 x1 x2 x3 x4 x5 x6 x7 x8 3 15 (by decide) (by decide) (by decide) x y rfl h0 h1 h2
  case piece1 => exact piece i x0 x1 x2 x3 x4 x5 x6 x7 x8 2 15 (by decide) (by decide) (by decide) x y rfl h0 h1 h2
  case piece2 => exact piece i x0 x1 x2 x3 x4 x5 x6 x7 x8 1 15 (by decide) (by decide) (by decide) x y rfl h0 h1 h2
  case piece3 => exact piece i x0 x1 x2 x3 x4 x5 x6 x7 x8 0 15 (by decide) (by decide) (by decide) x y rfl (h0.trans (Nat.zero_add _).symm) h1 h2
  case piece4 => exact piece i x0 x1 x2 x3 x4 x5 x6 x7 x8 3 14 (by decide) (by decide) (by decide) x y rfl h0 h1 h2
  case piece5 => exact piece i x0 x1 x2 x3 x4 x5 x6 x7 x8 2 14 (by decide) (by decide) (by decide) x y rfl h0 h1 h2
  case piece6 => exact piece i x0 x1 x2 x3 x4 x5 x6 x7 x8 1 14 (by decide) (by decide) (by decide) x y rfl h0 h1 h2
  case piece7 => exact piece i x0 x1 x2 x3 x4 x5 x6 x7 x8 0 14 (by decide) (by decide) (by decide) x y rfl (h0.trans (Nat.zero_add _).symm) h1 h2
  case piece8 => exact piece i x0 x1 x2 x3 x4 x5 x6 x7 x8 3 13 (by decide) (by decide) (by decide) x y rfl h0 h1 h2
  case piece9 => exact piece i x0 x1 x2 x3 x4 x5 x6 x7 x8 2 13 (by decide) (by decide) (by decide) x y rfl h0 h1 h2
  case piece10 => exact piece i x0 x1 x2 x3 x4 x5 x6 x7 x8 1 13 (by decide) (by decide) (by decide) x y rfl h0 h1 h2
  case piece11 => exact piece i x0 x1 x2 x3 x4 x5 x6 x7 x8 0 13 (by decide) (by decide) (by decide) x y rfl (h0.trans (Nat.zero_add _).symm) h1 h2
  case piece12 => exact piece i x0 x1 x2 x3 x4 x5 x6 x7 x8 3 12 (by decide) (by decide) (by decide) x y rfl h0 h1 h2
  case piece13 => exact piece i x0 x1 x2 x3 x4 x5 x6 x7 x8 2 12 (by decide) (by decide) (by decide) x y rfl h0 h1 h2
  case piece14 => exact piece i x0 x1 x2 x3 x4 x5 x6 x7 x8 1 12 (by decide) (by decide) (by decide) x y rfl h0 h1 h2
  case piece15 => exact piece i x0 x1 x2 x3 x4 x5 x6 x7 x8 0 12 (by decide) (by decide) (by decide) x y rfl (h0.trans (Nat.zero_add _).symm) h1 h2
  case piece16 => exact piece i x0 x1 x2 x3 x4 x5 x6 x7 x8 3 11 (by decide) (by decide) (by decide) x y rfl h0 h1 h2
  case piece17 => exact piece i x0 x1 x2 x3 x4 x5 x6 x7 x8 2 11 (by decide) (by decide) (by decide) x y rfl h0 h1 h2
  case piece18 => exact piece i x0 x1 x2 x3 x4 x5 x6 x7 x8 1 11 (by decide) (by decide) (by decide) x y rfl h0 h1 h2
  case piece19 => exact piece i x0 x1 x2 x3 x4 x5 x6 x7 x8 0 11 (by decide) (by decide) (by decide) x y rfl (h0.trans (Nat.zero_add _).symm) h1 h2
  case piece20 => exact piece i x0 x1 x2 x3 x4 x5 x6 x7 x8 3 10 (by decide) (by decide) (by decide) x y rfl h0 h1 h2
  case piece21 => exact piece i x0 x1 x2 x3 x4 x5 x6 x7 x8 2 10 (by decide) (by decide) (by decide) x y rfl h0 h1 h2
  case piece22 => exact piece i x0 x1 x2 x3 x4 x5 x6 x7 x8 1 10 (by decide) (by decide) (by decide) x y rfl h0 h1 h2
  case piece23 => exact piece i x0 x1 x2 x3 x4 x5 x6 x7 x8 0 10 (by decide) (by decide) (by decide) x y rfl (h0.trans (Nat.zero_add _).symm) h1 h2
  case piece24 => exact piece i x0 x1 x2 x3 x4 x5 x6 x7 x8 3 9 (by decide) (by decide) (by decide) x y rfl h0 h1 h2
  case piece25 => exact piece i x0 x1 x2 x3 x4 x5 x6 x7 x8 2 9 (by decide) (by decide) (by decide) x y rfl h0 h1 h2
  case piece26 => exact piece i x0 x1 x2 x3 x4 x5 x6 x7 x8 1 9 (by decide) (by decide) (by decide) x y rfl h0 h1 h2
  case piece27 => exact piece i x0 x1 x2 x3 x4 x5 x6 x7 x8 0 9 (by decide) (by decide) (by decide) x y rfl (h0.trans (Nat.zero_add _).symm) h1 h2
  case piece28 => exact piece i x0 x1 x2 x3 x4 x5 x6 x7 x8 3 8 (by decide) (by decide) (by decide) x y rfl h0 h1 h2
  case piece29 => exact piece i x0 x1 x2 x3 x4 x5 x6 x7 x8 2 8 (by decide) (by decide) (by decide) x y rfl h0 h1 h2
  case piece30 => exact piece i x0 x1 x2 x3 x4 x5 x6 x7 x8 1 8 (by decide) (by decide) (by decide) x y rfl h0 h1 h2
  case piece31 => exact piece i x0 x1 x2 x3 x4 x5 x6 x7 x8 0 8 (by decide) (by decide) (by decide) x y rfl (h0.trans (Nat.zero_add _).symm) h1 h2
  case piece32 => exact piece i x0 x1 x2 x3 x4 x5 x6 x7 x8 3 7 (by decide) (by decide) (by decide) x y rfl h0 h1 h2
  case piece33 => exact piece i x0 x1 x2 x3 x4 x5 x6 x7 x8 2 7 (by decide) (by decide) (by decide) x y rfl h0 h1 h2
  case piece34 => exact piece i x0 x1 x2 x3 x4 x5 x6 x7 x8 1 7 (by decide) (by decide) (by decide) x y rfl h0 h1 h2
  case piece35 => exact piece i x0 x1 x2 x3 x4 x5 x6 x7 x8 0 7 (by decide) (by decide) (by decide) x y rfl (h0.trans (Nat.zero_add _).symm) h1 h2
  case piece36 => exact piece i x0 x1 x2 x3 x4 x5 x6 x7 x8 3 6 (by decide) (by decide) (by decide) x y rfl h0 h1 h2
  case piece37 => exact piece i x0 x1 x2 x3 x4 x5 x6 x7 x8 2 6 (by decide) (by decide) (by decide) x y rfl h0 h1 h2
  case piece38 => exact piece i x0 x1 x2 x3 x4 x5 x6 x7 x8 1 6 (by decide) (by decide) (by decide) x y rfl h0 h1 h2
  case piece39 => exact piece i x0 x1 x2 x3 x4 x5 x6 x7 x8 0 6 (by decide) (by decide) (by decide) x y rfl (h0.trans (Nat.zero_add _).symm) h1 h2
  case piece40 => exact piece i x0 x1 x2 x3 x4 x5 x6 x7 x8 3 5 (by decide) (by decide) (by decide) x y rfl h0 h1 h2
  case piece41 => exact piece i x0 x1 x2 x3 x4 x5 x6 x7 x8 2 5 (by decide) (by decide) (by decide) x y rfl h0 h1 h2
  case piece42 => exact piece i x0 x1 x2 x3 x4 x5 x6 x7 x8 1 5 (by decide) (by decide) (by decide) x y rfl h0 h1 h2
  case piece43 => exact piece i x0 x1 x2 x3 x4 x5 x6 x7 x8 0 5 (by decide) (by decide) (by decide) x y rfl (h0.trans (Nat.zero_add _).symm) h1 h2
  case piece44 => exact piece i x0 x1 x2 x3 x4 x5 x6 x7 x8 3 4 (by decide) (by decide) (by decide) x y rfl h0 h1 h2
  case piece45 => exact piece i x0 x1 x2 x3 x4 x5 x6 x7 x8 2 4 (by decide) (by decide) (by decide) x y rfl h0 h1 h2
  case piece46 => exact piece i x0 x1 x2 x3 x4 x5 x6 x7 x8 1 4 (by decide) (by decide) (by decide) x y rfl h0 h1 h2
  case piece47 => exact piece i x0 x1 x2 x3 x4 x5 x6 x7 x8 0 4 (by decide) (by decide) (by decide) x y rfl (h0.trans (Nat.zero_add _).symm) h1 h2
  case piece48 => exact piece i x0 x1 x2 x3 x4 x5 x6 x7 x8 3 3 (by decide) (by decide) (by decide) x y rfl h0 h1 h2
  case piece49 => exact piece i x0 x1 x2 x3 x4 x5 x6 x7 x8 2 3 (by decide) (by decide) (by decide) x y rfl h0 h1 h2
  case piece50 => exact piece i x0 x1 x2 x3 x4 x5 x6 x7 x8 1 3 (by decide) (by decide) (by decide) x y rfl h0 h1 h2
  case piece51 => exact piece i x0 x1 x2 x3 x4 x5 x6 x7 x8 0 3 (by decide) (by decide) (by decide) x y rfl (h0.trans (Nat.zero_add _).symm) h1 h2
  case piece52 => exact piece i x0 x1 x2 x3 x4 x5 x6 x7 x8 3 2 (by decide) (by decide) (by decide) x y rfl h0 h1 h2
  case piece53 => exact piece i x0 x1 x2 x3 x4 x5 x6 x7 x8 2 2 (by decide) (by decide) (by decide) x y rfl h0 h1 h2
  case piece54 => exact piece i x0 x1 x2 x3 x4 x5 x6 x7 x8 1 2 (by decide) (by decide) (by decide) x y rfl h0 h1 h2
  case piece55 => exact piece i x0 x1 x2 x3 x4 x5 x6 x7 x8 0 2 (by decide) (by decide) (by decide) x y rfl (h0.trans (Nat.zero_add _).symm) h1 h2
  case piece56 => exact piece i x0 x1 x2 x3 x4 x5 x6 x7 x8 3 1 (by decide) (by decide) (by decide) x y rfl h0 h1 h2
  case piece57 => exact piece i x0 x1 x2 x3 x4 x5 x6 x7 x8 2 1 (by decide) (by decide) (by decide) x y rfl h0 h1 h2
  case piece58 => exact piece i x0 x1 x2 x3 x4 x5 x6 x7 x8 1 1 (by decide) (by decide) (by decide) x y rfl h0 h1 h2
  case piece59 => exact piece i x0 x1 x2 x3 x4 x5 x6 x7 x8 0 1 (by decide) (by decide) (by decide) x y rfl (h0.trans (Nat.zero_add _).symm) h1 h2
  case piece60 => exact piece i x0 x1 x2 x3 x4 x5 x6 x7 x8 3 0 (by decide) (by decide) (by decide) x y rfl h0 (h1.trans (Nat.zero_add _).symm) h2
  case piece61 => exact piece i x0 x1 x2 x3 x4 x5 x6 x7 x8 2 0 (by decide) (by decide) (by decide) x y rfl h0 (h1.trans (Nat.zero_add _).symm) h2
  case piece62 => exact piece i x0 x1 x2 x3 x4 x5 x6 x7 x8 1 0 (by decide) (by decide) (by decide) x y rfl h0 (h1.trans (Nat.zero_add _).symm) h2
  case piece63 => exact piece i x0 x1 x2 x3 x4 x5 x6 x7 x8 0 0 (by decide) (by decide) (by decide) x y rfl (h0.trans (Nat.zero_add _).symm) (h1.trans (Nat.zero_add _).symm) h2

end Cert.SW.Ker

end
-- ==== Proof.SW.Blocks.lean ====
/- The blocks that a grid step reads, at an index of the host's arrays. -/
module

public import proofs.«01_k».proof.Proof.SW.Step
public import proofs.«01_k».proof.Proof.SW.Host

@[expose] public section

set_option maxRecDepth 65536

noncomputable section

namespace Cert.SW.Ker

open Cert.KernelIdeal Cert.KernelIdeal.Gen Idealize.ShloMosaic Idealize.ShloMosaic.TcCoe

/-- The group of heads, the sequence and the stretch of sixteen blocks of a grid step. -/
abbrev gOf (t : Fin cfg0.N) : ℕ := (grid0.coords t 0).val
abbrev bOf (t : Fin cfg0.N) : ℕ := (grid0.coords t 1).val
abbrev sOf (t : Fin cfg0.N) : ℕ := (grid0.coords t 2).val

theorem gOf_lt (t : Fin cfg0.N) : gOf t < 2 := (grid0.coords t 0).isLt
theorem bOf_lt (t : Fin cfg0.N) : bOf t < 4 := (grid0.coords t 1).isLt
theorem sOf_lt (t : Fin cfg0.N) : sOf t < 4 := (grid0.coords t 2).isLt

theorem index0 : ∀ t : Fin cfg0.N, win0_0.index t = ![gOf t, bOf t * 4 + sOf t, 0] := (by decide +kernel : ∀ t : Fin grid0.N, _)
theorem index1 : ∀ t : Fin cfg0.N, win0_1.index t = ![8 + gOf t, bOf t * 64 + (16 * sOf t - 1), 0] := (by decide +kernel : ∀ t : Fin grid0.N, _)
theorem index2 : ∀ t : Fin cfg0.N, win0_2.index t = ![8 + gOf t, bOf t * 4 + sOf t, 0] := (by decide +kernel : ∀ t : Fin grid0.N, _)
theorem index3 : ∀ t : Fin cfg0.N, win0_3.index t = ![8 + gOf t, bOf t * 64 + min (16 * sOf t + 16) 63, 0] := (by decide +kernel : ∀ t : Fin grid0.N, _)
theorem index4 : ∀ t : Fin cfg0.N, win0_4.index t = ![gOf t, 0, bOf t * 64 + (16 * sOf t - 1)] := (by decide +kernel : ∀ t : Fin grid0.N, _)
theorem index5 : ∀ t : Fin cfg0.N, win0_5.index t = ![gOf t, 0, bOf t * 4 + sOf t] := (by decide +kernel : ∀ t : Fin grid0.N, _)
theorem index6 : ∀ t : Fin cfg0.N, win0_6.index t = ![gOf t, 0, bOf t * 64 + min (16 * sOf t + 16) 63] := (by decide +kernel : ∀ t : Fin grid0.N, _)
theorem index7 : ∀ t : Fin cfg0.N, win0_7.index t = ![gOf t, 0, 0, 0] := (by decide +kernel : ∀ t : Fin grid0.N, _)
theorem index8 : ∀ t : Fin cfg0.N, win0_8.index t = ![gOf t, 0, 0] := (by decide +kernel : ∀ t : Fin grid0.N, _)
theorem index9 : ∀ t : Fin cfg0.N, win0_9.index t = ![gOf t, bOf t * 4 + sOf t, 0] := (by decide +kernel : ∀ t : Fin grid0.N, _)

variable (m : (ℓ : Loc nD τ sig) → Buf (Elt Ideal) ℓ) (c : Dev nD) (t : Fin cfg0.N)

theorem block0 (p : Fin 4) (r : Fin 2048) (l : Fin 128) (P : Fin 10) (R : Fin 32768) (hP : P.val = 4 * gOf t + p) (hR : R.val = (bOf t * 4 + sOf t) * 2048 + r) :
    X0_0 m c t (ix3 p r l) = V m c main_v19 (ix3 P R l) := by
  unfold X0_0 Pipeline.Window.fill
  rw [dif_pos (moved0_0 t _)]
  blk_simp [iblk]
  refine congrArg _ ?_
  blk_ext [index0]
  all_goals omega

theorem block1 (r l : Fin 128) (P : Fin 10) (R : Fin 32768) (hP : P.val = 8 + gOf t) (hR : R.val = (bOf t * 64 + (16 * sOf t - 1)) * 128 + r) :
    iblk m c 1 t (ix3 (0 : Fin 1) r l) = V m c main_v19 (ix3 P R l) := by
  blk_simp [iblk]
  refine congrArg _ ?_
  blk_ext [index1]
  all_goals omega

theorem block2 (r : Fin 2048) (l : Fin 128) (P : Fin 10) (R : Fin 32768) (hP : P.val = 8 + gOf t) (hR : R.val = (bOf t * 4 + sOf t) * 2048 + r) :
    iblk m c 2 t (ix3 (0 : Fin 1) r l) = V m c main_v19 (ix3 P R l) := by
  blk_simp [iblk]
  refine congrArg _ ?_
  blk_ext [index2]
  all_goals omega

theorem block3 (r l : Fin 128) (P : Fin 10) (R : Fin 32768) (hP : P.val = 8 + gOf t) (hR : R.val = (bOf t * 64 + min (16 * sOf t + 16) 63) * 128 + r) :
    iblk m c 3 t (ix3 (0 : Fin 1) r l) = V m c main_v19 (ix3 P R l) := by
  blk_simp [iblk]
  refine congrArg _ ?_
  blk_ext [index3]
  all_goals omega

theorem block4 (l r : Fin 128) (P : Fin 2) (R : Fin 32768) (hP : P.val = gOf t) (hR : R.val = (bOf t * 64 + (16 * sOf t - 1)) * 128 + r) :
    iblk m c 4 t (ix3 (0 : Fin 1) l r) = V m c main_v21 (ix3 P l R) := by
  blk_simp [iblk]
  refine congrArg _ ?_
  blk_ext [index4]
  all_goals omega

theorem block5 (l : Fin 128) (r : Fin 2048) (P : Fin 2) (R : Fin 32768) (hP : P.val = gOf t) (hR : R.val = (bOf t * 4 + sOf t) * 2048 + r) :
    iblk m c 5 t (ix3 (0 : Fin 1) l r) = V m c main_v21 (ix3 P l R) := by
  blk_simp [iblk]
  refine congrArg _ ?_
  blk_ext [index5]
  all_goals omega

theorem block6 (l r : Fin 128) (P : Fin 2) (R : Fin 32768) (hP : P.val = gOf t) (hR : R.val = (bOf t * 64 + min (16 * sOf t + 16) 63) * 128 + r) :
    iblk m c 6 t (ix3 (0 : Fin 1) l r) = V m c main_v21 (ix3 P l R) := by
  blk_simp [iblk]
  refine congrArg _ ?_
  blk_ext [index6]
  all_goals omega

theorem block7 (k : Fin 3) (j : Fin 384) (l : Fin 1024) :
    iblk m c 7 t (ix4 (0 : Fin 1) k j l) = V m c main_v77 (ix4 ⟨gOf t, gOf_lt t⟩ k j l) := by
  blk_simp [iblk]
  refine congrArg _ ?_
  blk_ext [index7]
  all_goals omega

theorem block8 (r : Fin 8) (l : Fin 1024) :
    iblk m c 8 t (ix3 (0 : Fin 1) r l) = V m c main_v33 (ix3 ⟨gOf t, gOf_lt t⟩ r l) := by
  blk_simp [iblk]
  refine congrArg _ ?_
  blk_ext [index8]
  all_goals omega

end Cert.SW.Ker

end
-- ==== Proof.SW.Window.lean ====
/- The arrays of one unit of a grid step, at an index of the kernel's arguments. -/
module

public import proofs.«01_k».proof.Proof.SW.Blocks

@[expose] public section

set_option maxRecDepth 65536

noncomputable section

namespace Cert.SW.Ker

open Cert.KernelIdeal Cert.KernelIdeal.Gen Idealize.ShloMosaic Idealize.ShloMosaic.TcCoe

variable (m : (ℓ : Loc nD τ sig) → Buf (Elt Ideal) ℓ) (c : Dev nD) (t : Fin cfg0.N)

/-- The input's row at which the key `j` of block `n`'s window stands, where it stands in the sequence. -/
theorem window_row {s u n : ℕ} (b j : ℕ) (hn : n = 16 * s + u) (hu : u < 16) (hs : s < 4) (hj : j < 384) (hv : 128 ≤ n * 128 + j ∧ n * 128 + j - 128 < 8192) :
    ∀ r, r = 128 * u + j →
      (r < 128 → (b * 64 + (16 * s - 1)) * 128 + r = b * 8192 + (n * 128 + j - 128)) ∧
      (128 ≤ r → r - 128 < 2048 → (b * 4 + s) * 2048 + (r - 128) = b * 8192 + (n * 128 + j - 128)) ∧
      (128 ≤ r → 2048 ≤ r - 128 → (b * 64 + min (16 * s + 16) 63) * 128 + (r - 128 - 2048) = b * 8192 + (n * 128 + j - 128)) := by
  intro r hr
  refine ⟨fun _ => ?_, fun _ _ => ?_, fun _ _ => ?_⟩ <;> omega

/-- The sinks' row, in units of log 2. -/
theorem sinkRow_apply (l : Fin 1024) :
    sinkRow (iblk m c 8 t) (ix3 0 0 l) = sinkArg m c (ix1 ⟨head (gOf t * 8 + l / 128), head_lt (by have := gOf_lt t; omega)⟩) * perLog2 := by
  unfold sinkRow
  rw [View.ld_unit_apply_of _ _ _ _ _ (ix3 (0 : Fin 1) (0 : Fin 8) l) (by intro a; fin_cases a <;> simp), block8 m c t, sinks_apply]

variable {u : ℕ} (hu : u < 16) (n : ℕ) (hn : n = 16 * sOf t + u)

include hn in
/-- A key of the unit's window is the input's at the row it stands for. -/
theorem keysOf_apply (j : Fin 384) (d : Fin 128) (hv : 128 ≤ n * 128 + j ∧ n * 128 + j - 128 < 8192) :
    keysOf (iblk m c 1 t) (iblk m c 2 t) (iblk m c 3 t) hu (ix2 j d)
      = proj m c (ix3 ⟨bOf t, bOf_lt t⟩ ⟨n * 128 + j - 128, hv.2⟩ ⟨(8 + gOf t) * 128 + d, by have := gOf_lt t; omega⟩) := by
  have hg := gOf_lt t
  have hb := bOf_lt t
  have hs := sOf_lt t
  have key : ∀ R : Fin 32768, R.val = bOf t * 8192 + (n * 128 + j - 128) →
      V m c main_v19 (ix3 ⟨8 + gOf t, by omega⟩ R d) = proj m c (ix3 ⟨bOf t, hb⟩ ⟨n * 128 + j - 128, hv.2⟩ ⟨(8 + gOf t) * 128 + d, by omega⟩) := fun R hR => by
    rw [keys_apply m c _ _ _ (show 8 ≤ 8 + gOf t by omega)]
    refine congrArg _ (congrArg₂ (fun x y => ix3 x y _) (Fin.ext ?_) (Fin.ext ?_)) <;> simp only <;> omega
  obtain ⟨w1, w2, w3⟩ := window_row (bOf t) j hn hu hs j.isLt hv _ rfl
  unfold keysOf
  rw [kslice_apply _ _ _ _ _ (by omega), kcat_apply]
  split
  · rename_i h
    rw [block1 m c t _ _ ⟨8 + gOf t, by omega⟩ ⟨bOf t * 8192 + (n * 128 + j - 128), by omega⟩ rfl (w1 h).symm, key _ rfl]
  · rename_i h
    split
    · rename_i h'
      rw [block2 m c t _ _ ⟨8 + gOf t, by omega⟩ ⟨bOf t * 8192 + (n * 128 + j - 128), by omega⟩ rfl (w2 (not_lt.mp h) h').symm, key _ rfl]
    · rename_i h'
      rw [block3 m c t _ _ ⟨8 + gOf t, by omega⟩ ⟨bOf t * 8192 + (n * 128 + j - 128), by omega⟩ rfl (w3 (not_lt.mp h) (not_lt.mp h')).symm, key _ rfl]

include hn in
/-- A value of the unit's window is the input's at the row it stands for. -/
theorem valuesOf_apply (j : Fin 384) (l : Fin 128) (hv : 128 ≤ n * 128 + j ∧ n * 128 + j - 128 < 8192) :
    valuesOf (iblk m c 4 t) (iblk m c 5 t) (iblk m c 6 t) hu (ix2 ⟨l, by omega⟩ j)
      = proj m c (ix3 ⟨bOf t, bOf_lt t⟩ ⟨n * 128 + j - 128, hv.2⟩ ⟨1280 + (gOf t * 128 + l), by have := gOf_lt t; omega⟩) := by
  have hg := gOf_lt t
  have hb := bOf_lt t
  have hs := sOf_lt t
  have key : ∀ R : Fin 32768, R.val = bOf t * 8192 + (n * 128 + j - 128) →
      V m c main_v21 (ix3 ⟨gOf t, hg⟩ l R) = proj m c (ix3 ⟨bOf t, hb⟩ ⟨n * 128 + j - 128, hv.2⟩ ⟨1280 + (gOf t * 128 + l), by omega⟩) := fun R hR => by
    rw [values_apply m c]
    refine congrArg _ (congrArg₂ (fun x y => ix3 x y _) (Fin.ext ?_) (Fin.ext ?_)) <;> simp only <;> omega
  obtain ⟨w1, w2, w3⟩ := window_row (bOf t) j hn hu hs j.isLt hv _ rfl
  unfold valuesOf
  rw [vslice_apply _ _ _ _ _ (by omega), vcat_apply]
  split
  · rename_i h
    rw [block4 m c t _ _ ⟨gOf t, hg⟩ ⟨bOf t * 8192 + (n * 128 + j - 128), by omega⟩ rfl (w1 h).symm, key _ rfl]
  · rename_i h
    split
    · rename_i h'
      rw [block5 m c t _ _ ⟨gOf t, hg⟩ ⟨bOf t * 8192 + (n * 128 + j - 128), by omega⟩ rfl (w2 (not_lt.mp h) h').symm, key _ rfl]
    · rename_i h'
      rw [block6 m c t _ _ ⟨gOf t, hg⟩ ⟨bOf t * 8192 + (n * 128 + j - 128), by omega⟩ rfl (w3 (not_lt.mp h) (not_lt.mp h')).symm, key _ rfl]

theorem valuesOf_one (j : Fin 384) : valuesOf (iblk m c 4 t) (iblk m c 5 t) (iblk m c 6 t) hu (ix2 128 j) = 1 := by
  unfold valuesOf
  rw [vslice_apply _ _ _ _ _ (by omega), vcat_ones]

include hn in
/-- A query of the unit is the input's, in units of log 2. -/
theorem queriesOf_apply (hn' : n < 64) (p : Fin 4) (q d : Fin 128) :
    queriesOf (X0_0 m c t) hu p (ix3 0 q d)
      = proj m c (ix3 ⟨bOf t, bOf_lt t⟩ ⟨n * 128 + q, by omega⟩ ⟨head ((4 * gOf t + (p:ℕ)) * 2 + (d:ℕ) / 64) * 64 + (d:ℕ) % 64, by
          have := gOf_lt t; have := head_lt (r := (4 * gOf t + (p:ℕ)) * 2 + (d:ℕ) / 64) (by omega); omega⟩)
        * (Ideal.ofBits FTy.f32 1040187392#32 * perLog2) := by
  have hg := gOf_lt t
  have hb := bOf_lt t
  have hs := sOf_lt t
  unfold queriesOf
  rw [View.ld_unit_apply_of _ _ _ _ _ (ix3 p (⟨128 * u + q, by omega⟩ : Fin 2048) d) (by
    intro a; fin_cases a <;> simp)]
  rw [block0 m c t p _ _ ⟨4 * gOf t + p, by omega⟩ ⟨bOf t * 8192 + (n * 128 + q), by omega⟩ rfl (by simp only; omega)]
  rw [queries_apply m c _ _ _ (show 4 * gOf t + p < 8 by omega)]
  refine congrArg (· * (Ideal.ofBits FTy.f32 1040187392#32 * perLog2)) (congrArg (proj m c) (congrArg₂ (fun x y => ix3 x y (⟨head ((4 * gOf t + (p:ℕ)) * 2 + (d:ℕ) / 64) * 64 + (d:ℕ) % 64, _⟩ : Fin 1536)) (Fin.ext ?_) (Fin.ext ?_))) <;> simp only <;> omega

/-- The bias table's case for a unit: the sequence's first block has case 1, its last case 2. -/
def caseOfUnit (n : ℕ) : Fin 3 := if n = 0 then 1 else if n = 63 then 2 else 0

include hu hn in
theorem caseOff_eq : caseOff (grid0.coords t) u = ![0, (caseOfUnit n).val, 0, 0] := by
  have hs := sOf_lt t
  have e1 : ∀ t : Fin cfg0.N, k0_off1 (grid0.coords t) 0#32 1#32 = ![0, (if sOf t = 0 then 1 else 0), 0, 0] := (by decide +kernel : ∀ t : Fin grid0.N, _)
  have e2 : ∀ t : Fin cfg0.N, k0_off1 (grid0.coords t) 3#32 2#32 = ![0, (if sOf t = 3 then 2 else 0), 0, 0] := (by decide +kernel : ∀ t : Fin grid0.N, _)
  unfold caseOff caseOfUnit
  rw [e1, e2]
  split
  · split
    · rw [if_pos (by omega)]; rfl
    · rw [if_neg (by omega), if_neg (by omega)]; rfl
  · split
    · split
      · rw [if_neg (by omega), if_pos (by omega)]; rfl
      · rw [if_neg (by omega), if_neg (by omega)]; rfl
    · rw [if_neg (by omega), if_neg (by omega)]; rfl

include hu hn in
theorem biasOf_apply (j : Fin 384) (l : Fin 1024) :
    biasOf (grid0.coords t) (iblk m c 7 t) u (ix4 0 0 j l) = V m c main_v77 (ix4 ⟨gOf t, gOf_lt t⟩ (caseOfUnit n) j l) := by
  unfold biasOf
  rw [View.ld_unit_apply_of _ _ _ _ _ (ix4 (0 : Fin 1) (caseOfUnit n) j l) (by
    intro a
    show _ = caseOff (grid0.coords t) u a + _
    rw [congrFun (caseOff_eq t hu n hn) a]; fin_cases a <;> simp), block7 m c t]

end Cert.SW.Ker

end
-- ==== Proof.SW.Column.lean ====
/- One column of a unit: where the scores are real numbers at the keys that the row attends to, and minus infinity at the
   others, the column of the unit's output is the attention's weighted sum. -/
module

public import proofs.«01_k».proof.Proof.SW.Unit
public import proofs.«01_k».proof.Proof.SW.Softmax

@[expose] public section

set_option maxRecDepth 16384

noncomputable section

namespace Cert.SW.Ker

open Cert.KernelIdeal Cert.KernelIdeal.Gen Idealize.ShloMosaic Idealize.ShloMosaic.TcCoe

/-- The product over 128 lanes of keys and one head's queries is that over the head's 64 lanes. -/
theorem sum_lanes (hh : ℕ) (hb : hh < 2) (f g : Fin 128 → EReal) :
    (∑ d : Fin 128, f d * (if (d:ℕ)/64 = hh then g d else 0)) = ∑ d : Fin 64, f ⟨hh*64+d, by omega⟩ * g ⟨hh*64+d, by omega⟩ := by
  have e : ∀ d : Fin 128, f d * (if (d:ℕ)/64 = hh then g d else 0) = if (d:ℕ)/64 = hh then f d * g d else 0 := fun d => by
    split <;> simp
  rw [Finset.sum_congr rfl fun d _ => e d, ← Finset.sum_filter]
  symm
  refine Finset.sum_bij (fun d _ => ⟨hh*64+d, by omega⟩) (fun d _ => ?_) (fun a _ b _ h => ?_) (fun b h => ?_) fun _ _ => rfl
  · rw [Finset.mem_filter]; exact ⟨Finset.mem_univ _, by show (hh*64+d.val)/64 = hh; omega⟩
  · have := congrArg Fin.val h; simp only at this; exact Fin.ext (by omega)
  · rw [Finset.mem_filter] at h
    exact ⟨⟨(b:ℕ)%64, by omega⟩, Finset.mem_univ _, Fin.ext (by simp only; omega)⟩

variable (vw : FVec Ideal S136x384 .bf16) (kw : FVec Ideal S384x128 .bf16) (q : Fin 4 → Vec Ideal S1x128x128 .bf16)
  (bias : Vec Ideal S1x1x384x1024 .f32) (sink : Vec Ideal S1x1x1024 .f32) (l : Fin 128) (c : Fin 1024)
  (ok : Fin 384 → Prop) [DecidablePred ok] (K : Fin 384 → Fin 64 → ℝ) (Q : Fin 64 → ℝ) (β : Fin 384 → ℝ) (σ a e : ℝ)

/-- The scores of the column. -/
theorem scores_column
    (hK : ∀ j d, ok j → kw (ix2 j ⟨(c:ℕ)/128%2*64+(d : Fin 64).val, by omega⟩) = (K j d : EReal))
    (hQ : ∀ d : Fin 64, q ⟨(c:ℕ)/256, by omega⟩ (ix3 0 ⟨(c:ℕ)%128, by omega⟩ ⟨(c:ℕ)/128%2*64+d, by omega⟩) = (Q d : EReal) * ((e : EReal) * (a : EReal)))
    (hβ : ∀ j, bias (ix4 0 0 j c) = if ok j then ((β j * a : ℝ) : EReal) else ⊥) (j : Fin 384) :
    scores kw q bias (ix2 j c) = score ok (fun j => (∑ d, K j d * (Q d * e)) + β j) a j := by
  rw [scores_apply, hβ, score]
  split
  · rename_i h
    simp only [stack_apply]
    rw [sum_lanes ((c:ℕ)/128%2) (by omega) (fun d => kw (ix2 j d)) (fun d => q ⟨(c:ℕ)/256, by omega⟩ (ix3 0 ⟨(c:ℕ)%128, by omega⟩ d))]
    have e1 : ∀ d : Fin 64, kw (ix2 j ⟨(c:ℕ)/128%2*64+d, by omega⟩) * q ⟨(c:ℕ)/256, by omega⟩ (ix3 0 ⟨(c:ℕ)%128, by omega⟩ ⟨(c:ℕ)/128%2*64+d, by omega⟩)
        = ((K j d * (Q d * e) * a : ℝ) : EReal) := fun d => by
      rw [hK j d h, hQ d, ← EReal.coe_mul, ← EReal.coe_mul, ← EReal.coe_mul]
      congr 1; ring
    rw [Finset.sum_congr rfl fun d _ => e1 d, sum_coe, ← EReal.coe_add]
    congr 1
    rw [add_mul, Finset.sum_mul]
  · exact EReal.add_bot _

/-- The column of the unit's output. -/
theorem outs_column (w : Fin 384 → EReal) (ha : 0 < a) (hlog : a * Real.log 2 = 1)
    (hK : ∀ j d, ok j → kw (ix2 j ⟨(c:ℕ)/128%2*64+(d : Fin 64).val, by omega⟩) = (K j d : EReal))
    (hQ : ∀ d : Fin 64, q ⟨(c:ℕ)/256, by omega⟩ (ix3 0 ⟨(c:ℕ)%128, by omega⟩ ⟨(c:ℕ)/128%2*64+d, by omega⟩) = (Q d : EReal) * ((e : EReal) * (a : EReal)))
    (hβ : ∀ j, bias (ix4 0 0 j c) = if ok j then ((β j * a : ℝ) : EReal) else ⊥)
    (hσ : sink (ix3 0 0 c) = ((σ * a : ℝ) : EReal)) (hone : ∀ j, vw (ix2 128 j) = 1)
    (hv : ∀ j, ok j → vw (ix2 ⟨l, by omega⟩ j) = w j) :
    outs vw (scores kw q bias) sink (ix2 l c)
      = ∑ j : Fin 384, w j * Ideal.div (Ideal.exp (logit ok (fun j => (∑ d, K j d * (Q d * e)) + β j) σ j.castSucc - peakLogit ok (fun j => (∑ d, K j d * (Q d * e)) + β j) σ))
          (0 + ∑ k, Ideal.exp (logit ok (fun j => (∑ d, K j d * (Q d * e)) + β j) σ k - peakLogit ok (fun j => (∑ d, K j d * (Q d * e)) + β j) σ)) := by
  rw [← attention_eq ok _ σ ha hlog (fun j => vw (ix2 ⟨l, by omega⟩ j)) w hv, outs_apply]
  have hp : peak (scores kw q bias) sink (ix2 0 c) = peakScore ok (fun j => (∑ d, K j d * (Q d * e)) + β j) σ a := by
    rw [peak_apply, peakScore, hσ]
    simp only [scores_column kw q bias c ok K Q β a e hK hQ hβ]
  simp only [powers_apply, hp, hσ, hone, scores_column kw q bias c ok K Q β a e hK hQ hβ]

end Cert.SW.Ker

end
-- ==== Proof.SW.Join.lean ====
/- The kernel's array is the reference's: a grid step's block at an index is the attention of the query that stands there. -/
module

public import proofs.«01_k».proof.Proof.SW.Window
public import proofs.«01_k».proof.Proof.SW.Column
public import proofs.«01_k».proof.Proof.SW.RefSide

@[expose] public section

set_option maxRecDepth 65536

noncomputable section

namespace Cert.SW.Ker

open Cert.KernelIdeal Cert.KernelIdeal.Gen Idealize.ShloMosaic Idealize.ShloMosaic.TcCoe

variable (m : (ℓ : Loc nD τ sig) → Buf (Elt Ideal) ℓ) (c : Dev nD) (t : Fin cfg0.N)

/-- Reads of the projections at equal rows and lanes. -/
theorem proj_congr (b : Fin 4) {r r' : Fin 8192} {l l' : Fin 1536} (hr : r.val = r'.val) (hl : l.val = l'.val) :
    proj m c (ix3 b r l) = proj m c (ix3 b r' l') := by
  rw [Fin.ext hr, Fin.ext hl]

/-- The order of the heads in the kernel's planes. -/
theorem head_eq (g p h : ℕ) (hp : p < 4) (hh : h < 2) : head ((4 * g + p) * 2 + h) = (2 * g + h) * 4 + p := by
  unfold head; omega

theorem step_apply (hR : Real (proj m c) (sinkArg m c)) (p : Fin 4) (r : Fin 2048) (l : Fin 128) (n : Fin 64) (h : Fin 4) (q : Fin 128) (d : Fin 64)
    (hn : n.val = 16 * sOf t + r.val / 128) (hh : h.val = 2 * gOf t + l.val / 64) (hq : q.val = r.val % 128) (hd : d.val = l.val % 64) :
    stepOut (grid0.coords t) (X0_0 m c t) (iblk m c 1 t) (iblk m c 2 t) (iblk m c 3 t) (iblk m c 4 t) (iblk m c 5 t) (iblk m c 6 t) (iblk m c 7 t)
        (iblk m c 8 t) (ix3 p r l)
      = attentionAt (proj m c) (sinkArg m c) ⟨bOf t, bOf_lt t⟩ n h p q d := by
  have hg := gOf_lt t
  have hs := sOf_lt t
  have hlog := Real.log_pos one_lt_two
  have hu : r.val / 128 < 16 := by omega
  obtain ⟨col, hcol⟩ : ∃ col : Fin 1024, col.val = 256 * p.val + 128 * (l.val / 64) + r.val % 128 := ⟨⟨_, by omega⟩, rfl⟩
  have e0 : stepOut (grid0.coords t) (X0_0 m c t) (iblk m c 1 t) (iblk m c 2 t) (iblk m c 3 t) (iblk m c 4 t) (iblk m c 5 t) (iblk m c 6 t) (iblk m c 7 t)
        (iblk m c 8 t) (ix3 p r l)
      = outs (valuesOf (iblk m c 4 t) (iblk m c 5 t) (iblk m c 6 t) hu) (scores (keysOf (iblk m c 1 t) (iblk m c 2 t) (iblk m c 3 t) hu)
          (queriesOf (X0_0 m c t) hu) (biasOf (grid0.coords t) (iblk m c 7 t) (r.val / 128))) (sinkRow (iblk m c 8 t)) (ix2 l col) := by
    rw [show col = ⟨256 * p.val + 128 * (l.val / 64) + r.val % 128, by omega⟩ from Fin.ext hcol]
    rfl
  rw [e0]
  unfold attentionAt
  refine outs_column _ _ _ _ _ l col (attends n q) (keyAt (proj m c) ⟨bOf t, bOf_lt t⟩ n h) (queryAt (proj m c) ⟨bOf t, bOf_lt t⟩ n h p q)
    (biasAt h p q) (sinkAt (sinkArg m c) h p) (1 / Real.log 2) (1/8) (valueAt (proj m c) ⟨bOf t, bOf_lt t⟩ n h d) (by positivity) (by field_simp)
    ?_ ?_ ?_ ?_ ?_ ?_
  · intro j e hj
    rw [keysOf_apply m c t hu n.val hn _ _ hj.1]
    unfold keyAt
    rw [← hR.proj _ _ _ (by simp only; omega)]
    exact proj_congr m c _ (by simp only [rowAt]; exact (Nat.mod_eq_of_lt hj.1.2).symm) (by simp only; omega)
  · intro e
    rw [queriesOf_apply m c t hu n.val hn n.isLt, perLog2_eq, eighth]
    unfold queryAt
    rw [← hR.proj _ _ _ (by simp only; omega)]
    refine congrArg (· * _) (proj_congr m c _ (by simp only; omega) ?_)
    simp only
    rw [show (4 * gOf t + col.val / 256) * 2 + (col.val / 128 % 2 * 64 + e.val) / 64 = (4 * gOf t + p.val) * 2 + l.val / 64 from by omega,
      head_eq _ _ _ p.isLt (by omega)]
    omega
  · intro j
    rw [biasOf_apply m c t hu n.val hn, bias_apply]
    rw [show col.val % 128 = q.val from by omega, select_word _ _ (okWord_iff n (caseOfUnit n.val).val (by unfold caseOfUnit; split <;> [rfl; (split <;> rfl)]) q j), Ref.negInf]
    refine if_congr Iff.rfl ?_ rfl
    rw [EReal.coe_mul, ← alibi_real, Ref.alibi_apply, perLog2_eq, slope_word]
    refine congrArg (· * _) (congrArg (fun w => -Ideal.ofBits FTy.f32 (ReferenceIdeal.lit0 (ReferenceIdeal.S16.rowMajor (ix1 w))) * FloatOps.sitofp FTy.f32 (distWord j q)) (Fin.ext ?_))
    simp only
    rw [show gOf t * 8 + col.val / 128 = (4 * gOf t + p.val) * 2 + l.val / 64 from by omega, head_eq _ _ _ p.isLt (by omega)]
    omega
  · rw [sinkRow_apply, perLog2_eq, EReal.coe_mul]
    unfold sinkAt
    rw [← hR.sink]
    refine congrArg (· * _) (congrArg (fun w => sinkArg m c (ix1 w)) (Fin.ext ?_))
    simp only
    rw [show gOf t * 8 + col.val / 128 = (4 * gOf t + p.val) * 2 + l.val / 64 from by omega, head_eq _ _ _ p.isLt (by omega)]
    omega
  · exact fun j => valuesOf_one m c t hu j
  · intro j hj
    rw [valuesOf_apply m c t hu n.val hn _ _ hj.1]
    unfold valueAt
    rw [Ref.vals_apply _ _ _ _ _ _ hj.1]
    exact proj_congr m c _ rfl (by simp only; omega)

/-- The array that the kernel leaves is the reference's result. -/
theorem array_eq (hR : Real (proj m c) (sinkArg m c)) :
    (dats m 0 c).arrAt 9 cfg0.N = Ref.result (proj m c) (sinkArg m c) := by
  refine (dats m 0 c).arrAt_eq_of_covers 9 _ (by decide +kernel) fun t hf y => ?_
  obtain ⟨p, r, l, rfl⟩ : ∃ (p : Fin 4) (r : Fin 2048) (l : Fin 128), y = ix3 p r l := ⟨y 0, y 1, y 2, by funext a; fin_cases a <;> rfl⟩
  have hg := gOf_lt t
  have hb := bOf_lt t
  have hs := sOf_lt t
  have he : ((cfg0.win 9).blk t).view.emb (ix3 p r l)
      = ix3 (⟨4 * gOf t + p.val, by omega⟩ : Fin 8) (⟨(bOf t * 4 + sOf t) * 2048 + r.val, by omega⟩ : Fin 32768) l := by
    blk_ext [index9]
    all_goals omega
  blk_simp
  rw [after0_9, he, result_real _ _ hR]
  unfold outsAt0
  rw [out_apply, step_apply m c t hR p r l ⟨16 * sOf t + r.val / 128, by omega⟩ ⟨2 * gOf t + l.val / 64, by omega⟩
    ⟨r.val % 128, by omega⟩ ⟨l.val % 64, by omega⟩ rfl rfl rfl rfl]
  congr 1 <;> refine Fin.ext ?_ <;> simp only <;> omega

end Cert.SW.Ker

end
-- ==== Proof.EX.Names.lean ====
/- The expert kernel's slots, source blocks and semaphores under one name each, and the printed offsets of a grid point in closed form.

   Point `t` of the 128 works on expert `t / 8`. The weights come in 128 blocks per array, block `n` being chunk `n % 8` of expert `n / 8`; point
   `t` waits for block `t + 8` in slot `t % 2` and, before that, starts block `t + 9` into the other slot (blocks counted around the 128). -/
module

public import proofs.«01_k».proof.Defs
public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import Idealize.ShloMosaic.Lib.Ring
public import Idealize.ShloMosaic.Lib.Tactic

@[expose] public section

set_option maxRecDepth 65536

noncomputable section

namespace Cert.EX

open Cert.Kernel2Ideal Cert.Kernel2Ideal.Gen
open Idealize.ShloMosaic Idealize.ShloMosaic.TcCoe Idealize.ShloMosaic.Tactic
open Idealize.ShloMosaic.Pipeline (Dat Cfg Window BodyObligation cellOf)

variable {F : FTy → Type} [FloatOps F]

/-! ## Names -/

abbrev xgM : Memref sig .tc .hbm S4x16x1024x2048 .f32 := Memref.whole main_arg1
abbrev xuM : Memref sig .tc .hbm S4x16x1024x2048 .f32 := Memref.whole main_arg2
abbrev xdM : Memref sig .tc .hbm S4x16x2048x1024 .f32 := Memref.whole main_arg3
/-- The weights of two experts, as the products read them. -/
abbrev wgM : Memref sig .tc .vmem S2x1024x2048 .bf16 := Memref.whole cc0_scratch0
abbrev wuM : Memref sig .tc .vmem S2x1024x2048 .bf16 := Memref.whole cc0_scratch1
abbrev wdM : Memref sig .tc .vmem S2x2048x1024 .bf16 := Memref.whole cc0_scratch2
/-- The blocks as they arrive, two slots for each array. -/
abbrev sgM : Memref sig .tc .vmem S2x128x2048 .f32 := Memref.whole cc0_scratch3
abbrev suM : Memref sig .tc .vmem S2x128x2048 .f32 := Memref.whole cc0_scratch4
abbrev sdM : Memref sig .tc .vmem S2x256x1024 .f32 := Memref.whole cc0_scratch5

abbrev slotOff (s : Fin 2) : Fin 3 → Nat := ![s.val, 0, 0]
theorem slotOff_rows (s : Fin 2) : ∀ a, slotOff s a + S1x128x2048.size a ≤ S2x128x2048.size a := by revert s; decide
theorem slotOff_cols (s : Fin 2) : ∀ a, slotOff s a + S1x256x1024.size a ≤ S2x256x1024.size a := by revert s; decide
abbrev rowOff (n : Fin 128) : Fin 4 → Nat := ![0, n.val / 8, 128 * (n.val % 8), 0]
theorem rowOff_inb (n : Fin 128) : ∀ a, rowOff n a + S1x1x128x2048.size a ≤ S4x16x1024x2048.size a := by revert n; decide +kernel
abbrev colOff (n : Fin 128) : Fin 4 → Nat := ![0, n.val / 8, 256 * (n.val % 8), 0]
theorem colOff_inb (n : Fin 128) : ∀ a, colOff n a + S1x1x256x1024.size a ≤ S4x16x2048x1024.size a := by revert n; decide +kernel
abbrev semOff (k : Fin 3) (s : Fin 2) : Fin 2 → Nat := ![k.val, s.val]
theorem semOff_inb (k : Fin 3) (s : Fin 2) : ∀ a, semOff k s a + S1x1.size a ≤ S3x2.size a := by revert k s; decide

def gSlot (s : Fin 2) : Memref sig .tc .vmem S128x2048 .f32 :=
  (sgM.slice (Rect.unit (s := S2x128x2048) (slotOff s) S1x128x2048.size (slotOff_rows s)) (fun _ => rfl)).squeeze S128x2048 squeezes_S1x128x2048_S128x2048
def uSlot (s : Fin 2) : Memref sig .tc .vmem S128x2048 .f32 :=
  (suM.slice (Rect.unit (s := S2x128x2048) (slotOff s) S1x128x2048.size (slotOff_rows s)) (fun _ => rfl)).squeeze S128x2048 squeezes_S1x128x2048_S128x2048
def dSlot (s : Fin 2) : Memref sig .tc .vmem S256x1024 .f32 :=
  (sdM.slice (Rect.unit (s := S2x256x1024) (slotOff s) S1x256x1024.size (slotOff_cols s)) (fun _ => rfl)).squeeze S256x1024 squeezes_S1x256x1024_S256x1024
def gSrc (n : Fin 128) : Memref sig .tc .hbm S128x2048 .f32 :=
  (xgM.slice (Rect.unit (s := S4x16x1024x2048) (rowOff n) S1x1x128x2048.size (rowOff_inb n)) (fun _ => rfl)).squeeze S128x2048 squeezes_S1x1x128x2048_S128x2048
def uSrc (n : Fin 128) : Memref sig .tc .hbm S128x2048 .f32 :=
  (xuM.slice (Rect.unit (s := S4x16x1024x2048) (rowOff n) S1x1x128x2048.size (rowOff_inb n)) (fun _ => rfl)).squeeze S128x2048 squeezes_S1x1x128x2048_S128x2048
def dSrc (n : Fin 128) : Memref sig .tc .hbm S256x1024 .f32 :=
  (xdM.slice (Rect.unit (s := S4x16x2048x1024) (colOff n) S1x1x256x1024.size (colOff_inb n)) (fun _ => rfl)).squeeze S256x1024 squeezes_S1x1x256x1024_S256x1024
/-- The semaphore of array `k`'s slot `s`. -/
def cellN (k : Fin 3) (s : Fin 2) : DmaSems sig S_ :=
  (cc0_scratch6.slice (Rect.unit (s := S3x2) (semOff k s) S1x1.size (semOff_inb k s))).squeeze S_ squeezes_S1x1_S_

/-! ## The offsets of a point -/

abbrev here (t : Fin cfg0.N) : Fin 2 := Ring.sl 2 t.val
abbrev next (t : Fin cfg0.N) : Fin 2 := Ring.sl 2 (t.val + 1)
abbrev blkHere (t : Fin cfg0.N) : Fin 128 := Ring.bk 128 (t.val + 8)
abbrev blkNext (t : Fin cfg0.N) : Fin 128 := Ring.bk 128 (t.val + 9)

theorem off1_eq : ∀ t : Fin cfg0.N, k0_cond2 (grid0.coords t) = 1#1 → k0_off1 (grid0.coords t) = semOff 0 (next t) := by decide +kernel
theorem off2_eq : ∀ t : Fin cfg0.N, k0_cond2 (grid0.coords t) = 1#1 → k0_off2 (grid0.coords t) = slotOff (next t) := by decide +kernel
theorem off3_eq : ∀ t : Fin cfg0.N, k0_cond2 (grid0.coords t) = 1#1 → k0_off3 (grid0.coords t) = rowOff (blkNext t) := by decide +kernel
theorem off4_eq : ∀ t : Fin cfg0.N, k0_cond2 (grid0.coords t) = 1#1 → k0_off4 (grid0.coords t) = semOff 1 (next t) := by decide +kernel
theorem off5_eq : ∀ t : Fin cfg0.N, k0_cond2 (grid0.coords t) = 1#1 → k0_off5 (grid0.coords t) = semOff 2 (next t) := by decide +kernel
theorem off6_eq : ∀ t : Fin cfg0.N, k0_cond2 (grid0.coords t) = 1#1 → k0_off6 (grid0.coords t) = slotOff (next t) := by decide +kernel
theorem off7_eq : ∀ t : Fin cfg0.N, k0_cond2 (grid0.coords t) = 1#1 → k0_off7 (grid0.coords t) = colOff (blkNext t) := by decide +kernel
theorem off8_eq : ∀ t : Fin cfg0.N, k0_cond3 (grid0.coords t) = 1#1 → k0_off8 (grid0.coords t) = semOff 0 (next t) := by decide +kernel
theorem off9_eq : ∀ t : Fin cfg0.N, k0_cond3 (grid0.coords t) = 1#1 → k0_off9 (grid0.coords t) = slotOff (next t) := by decide +kernel
theorem off10_eq : ∀ t : Fin cfg0.N, k0_cond3 (grid0.coords t) = 1#1 → k0_off10 (grid0.coords t) = rowOff (blkNext t) := by decide +kernel
theorem off11_eq : ∀ t : Fin cfg0.N, k0_cond3 (grid0.coords t) = 1#1 → k0_off11 (grid0.coords t) = semOff 1 (next t) := by decide +kernel
theorem off12_eq : ∀ t : Fin cfg0.N, k0_cond3 (grid0.coords t) = 1#1 → k0_off12 (grid0.coords t) = semOff 2 (next t) := by decide +kernel
theorem off13_eq : ∀ t : Fin cfg0.N, k0_cond3 (grid0.coords t) = 1#1 → k0_off13 (grid0.coords t) = slotOff (next t) := by decide +kernel
theorem off14_eq : ∀ t : Fin cfg0.N, k0_cond3 (grid0.coords t) = 1#1 → k0_off14 (grid0.coords t) = colOff (blkNext t) := by decide +kernel
theorem off15_eq : ∀ t : Fin cfg0.N, k0_off15 (grid0.coords t) = semOff 0 (here t) := by decide +kernel
theorem off16_eq : ∀ t : Fin cfg0.N, k0_off16 (grid0.coords t) = slotOff (here t) := by decide +kernel
theorem off17_eq : ∀ t : Fin cfg0.N, k0_off17 (grid0.coords t) = rowOff (blkHere t) := by decide +kernel
theorem off18_eq : ∀ t : Fin cfg0.N, k0_off18 (grid0.coords t) = semOff 1 (here t) := by decide +kernel
theorem off19_eq : ∀ t : Fin cfg0.N, k0_off19 (grid0.coords t) = semOff 2 (here t) := by decide +kernel
theorem off20_eq : ∀ t : Fin cfg0.N, k0_off20 (grid0.coords t) = slotOff (here t) := by decide +kernel
theorem off21_eq : ∀ t : Fin cfg0.N, k0_off21 (grid0.coords t) = colOff (blkHere t) := by decide +kernel
theorem off22_eq : ∀ t : Fin cfg0.N, k0_off22 (grid0.coords t) = slotOff (here t) := by decide +kernel
theorem off24_eq : ∀ t : Fin cfg0.N, k0_off24 (grid0.coords t) = slotOff (here t) := by decide +kernel

/-- The half of the weights in use at point `t`, and the half being filled. -/
abbrev cur (t : Fin cfg0.N) : ℕ := t.val / 8 % 2
abbrev oth (t : Fin cfg0.N) : ℕ := (t.val / 8 + 1) % 2
theorem off23_eq : ∀ t : Fin cfg0.N, k0_off23 (grid0.coords t) = ![oth t, 128 * (t.val % 8), 0] := by decide +kernel
theorem off25_eq : ∀ t : Fin cfg0.N, k0_off25 (grid0.coords t) = ![oth t, 256 * (t.val % 8), 0] := by decide +kernel
theorem off26_eq : ∀ t : Fin cfg0.N, k0_off26 (grid0.coords t) = ![cur t, 0, 0] := by decide +kernel
theorem off27_eq : ∀ t : Fin cfg0.N, k0_off27 (grid0.coords t) = ![cur t, 0, 0] := by decide +kernel
theorem off28_eq : ∀ t : Fin cfg0.N, k0_off28 (grid0.coords t) = ![cur t, 0, 512] := by decide +kernel
theorem off29_eq : ∀ t : Fin cfg0.N, k0_off29 (grid0.coords t) = ![cur t, 512, 0] := by decide +kernel
theorem off30_eq : ∀ t : Fin cfg0.N, k0_off30 (grid0.coords t) = ![cur t, 0, 1024] := by decide +kernel
theorem off31_eq : ∀ t : Fin cfg0.N, k0_off31 (grid0.coords t) = ![cur t, 1024, 0] := by decide +kernel
theorem off32_eq : ∀ t : Fin cfg0.N, k0_off32 (grid0.coords t) = ![cur t, 0, 1536] := by decide +kernel
theorem off33_eq : ∀ t : Fin cfg0.N, k0_off33 (grid0.coords t) = ![cur t, 1536, 0] := by decide +kernel

/-- Before the last point exactly one of the two starts happens, at the last neither. -/
theorem starts : ∀ t : Fin cfg0.N,
    (k0_cond2 (grid0.coords t) = 1#1 ∧ ¬ k0_cond3 (grid0.coords t) = 1#1 ∧ t.val < 127)
    ∨ (¬ k0_cond2 (grid0.coords t) = 1#1 ∧ k0_cond3 (grid0.coords t) = 1#1 ∧ t.val < 127)
    ∨ (¬ k0_cond2 (grid0.coords t) = 1#1 ∧ ¬ k0_cond3 (grid0.coords t) = 1#1 ∧ t.val = 127) := by decide +kernel

/-- The word of the first test: the grid's first point. -/
abbrev firstWord (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32))) 0#32
theorem first_iff : ∀ t : Fin cfg0.N, firstWord (grid0.coords t) = 1#1 ↔ t.val = 0 := by decide +kernel

instance (t : Fin cfg0.N) : ClosedOff (k0_off22 (grid0.coords t)) := ⟨slotOff (here t), off22_eq t⟩
instance (t : Fin cfg0.N) : ClosedOff (k0_off24 (grid0.coords t)) := ⟨slotOff (here t), off24_eq t⟩
instance (t : Fin cfg0.N) : ClosedOff (k0_off23 (grid0.coords t)) := ⟨_, off23_eq t⟩
instance (t : Fin cfg0.N) : ClosedOff (k0_off25 (grid0.coords t)) := ⟨_, off25_eq t⟩
instance (t : Fin cfg0.N) : ClosedOff (k0_off26 (grid0.coords t)) := ⟨_, off26_eq t⟩
instance (t : Fin cfg0.N) : ClosedOff (k0_off27 (grid0.coords t)) := ⟨_, off27_eq t⟩
instance (t : Fin cfg0.N) : ClosedOff (k0_off28 (grid0.coords t)) := ⟨_, off28_eq t⟩
instance (t : Fin cfg0.N) : ClosedOff (k0_off29 (grid0.coords t)) := ⟨_, off29_eq t⟩
instance (t : Fin cfg0.N) : ClosedOff (k0_off30 (grid0.coords t)) := ⟨_, off30_eq t⟩
instance (t : Fin cfg0.N) : ClosedOff (k0_off31 (grid0.coords t)) := ⟨_, off31_eq t⟩
instance (t : Fin cfg0.N) : ClosedOff (k0_off32 (grid0.coords t)) := ⟨_, off32_eq t⟩
instance (t : Fin cfg0.N) : ClosedOff (k0_off33 (grid0.coords t)) := ⟨_, off33_eq t⟩
instance (s : Fin 2) : ClosedOff (slotOff s) := ⟨slotOff s, rfl⟩

/-! ## The printed slices are the names -/

theorem cell_congr {off : Fin 2 → Nat} {k : Fin 3} {s : Fin 2} (e : off = semOff k s) (hh) :
    (cc0_scratch6.slice (Rect.unit (s := S3x2) off S1x1.size hh)).squeeze S_ squeezes_S1x1_S_ = cellN k s :=
  congrArg (fun A : DmaSems sig S1x1 => A.squeeze S_ squeezes_S1x1_S_) (SemArray.slice_unit_congr _ e _ _)
theorem gSlot_congr {off : Fin 3 → Nat} {s : Fin 2} (e : off = slotOff s) (hh hs) :
    (sgM.slice (Rect.unit (s := S2x128x2048) off S1x128x2048.size hh) hs).squeeze S128x2048 squeezes_S1x128x2048_S128x2048 = gSlot s :=
  congrArg (fun M : Memref sig .tc .vmem S1x128x2048 .f32 => M.squeeze S128x2048 squeezes_S1x128x2048_S128x2048) (Memref.slice_unit_congr _ e _ _ _ _)
theorem uSlot_congr {off : Fin 3 → Nat} {s : Fin 2} (e : off = slotOff s) (hh hs) :
    (suM.slice (Rect.unit (s := S2x128x2048) off S1x128x2048.size hh) hs).squeeze S128x2048 squeezes_S1x128x2048_S128x2048 = uSlot s :=
  congrArg (fun M : Memref sig .tc .vmem S1x128x2048 .f32 => M.squeeze S128x2048 squeezes_S1x128x2048_S128x2048) (Memref.slice_unit_congr _ e _ _ _ _)
theorem dSlot_congr {off : Fin 3 → Nat} {s : Fin 2} (e : off = slotOff s) (hh hs) :
    (sdM.slice (Rect.unit (s := S2x256x1024) off S1x256x1024.size hh) hs).squeeze S256x1024 squeezes_S1x256x1024_S256x1024 = dSlot s :=
  congrArg (fun M : Memref sig .tc .vmem S1x256x1024 .f32 => M.squeeze S256x1024 squeezes_S1x256x1024_S256x1024) (Memref.slice_unit_congr _ e _ _ _ _)
theorem gSrc_congr {off : Fin 4 → Nat} {n : Fin 128} (e : off = rowOff n) (hh hs) :
    (xgM.slice (Rect.unit (s := S4x16x1024x2048) off S1x1x128x2048.size hh) hs).squeeze S128x2048 squeezes_S1x1x128x2048_S128x2048 = gSrc n :=
  congrArg (fun M : Memref sig .tc .hbm S1x1x128x2048 .f32 => M.squeeze S128x2048 squeezes_S1x1x128x2048_S128x2048) (Memref.slice_unit_congr _ e _ _ _ _)
theorem uSrc_congr {off : Fin 4 → Nat} {n : Fin 128} (e : off = rowOff n) (hh hs) :
    (xuM.slice (Rect.unit (s := S4x16x1024x2048) off S1x1x128x2048.size hh) hs).squeeze S128x2048 squeezes_S1x1x128x2048_S128x2048 = uSrc n :=
  congrArg (fun M : Memref sig .tc .hbm S1x1x128x2048 .f32 => M.squeeze S128x2048 squeezes_S1x1x128x2048_S128x2048) (Memref.slice_unit_congr _ e _ _ _ _)
theorem dSrc_congr {off : Fin 4 → Nat} {n : Fin 128} (e : off = colOff n) (hh hs) :
    (xdM.slice (Rect.unit (s := S4x16x2048x1024) off S1x1x256x1024.size hh) hs).squeeze S256x1024 squeezes_S1x1x256x1024_S256x1024 = dSrc n :=
  congrArg (fun M : Memref sig .tc .hbm S1x1x256x1024 .f32 => M.squeeze S256x1024 squeezes_S1x1x256x1024_S256x1024) (Memref.slice_unit_congr _ e _ _ _ _)

section Canon
variable (t : Fin cfg0.N)

@[sl_canon] theorem cell1 (h : k0_cond2 (grid0.coords t) = 1#1) (hh) :
    (cc0_scratch6.slice (Rect.unit (s := S3x2) (k0_off1 (grid0.coords t)) S1x1.size hh)).squeeze S_ squeezes_S1x1_S_ = cellN 0 (next t) := cell_congr (off1_eq t h) _
@[sl_canon] theorem cell4 (h : k0_cond2 (grid0.coords t) = 1#1) (hh) :
    (cc0_scratch6.slice (Rect.unit (s := S3x2) (k0_off4 (grid0.coords t)) S1x1.size hh)).squeeze S_ squeezes_S1x1_S_ = cellN 1 (next t) := cell_congr (off4_eq t h) _
@[sl_canon] theorem cell5 (h : k0_cond2 (grid0.coords t) = 1#1) (hh) :
    (cc0_scratch6.slice (Rect.unit (s := S3x2) (k0_off5 (grid0.coords t)) S1x1.size hh)).squeeze S_ squeezes_S1x1_S_ = cellN 2 (next t) := cell_congr (off5_eq t h) _
@[sl_canon] theorem cell8 (h : k0_cond3 (grid0.coords t) = 1#1) (hh) :
    (cc0_scratch6.slice (Rect.unit (s := S3x2) (k0_off8 (grid0.coords t)) S1x1.size hh)).squeeze S_ squeezes_S1x1_S_ = cellN 0 (next t) := cell_congr (off8_eq t h) _
@[sl_canon] theorem cell11 (h : k0_cond3 (grid0.coords t) = 1#1) (hh) :
    (cc0_scratch6.slice (Rect.unit (s := S3x2) (k0_off11 (grid0.coords t)) S1x1.size hh)).squeeze S_ squeezes_S1x1_S_ = cellN 1 (next t) := cell_congr (off11_eq t h) _
@[sl_canon] theorem cell12 (h : k0_cond3 (grid0.coords t) = 1#1) (hh) :
    (cc0_scratch6.slice (Rect.unit (s := S3x2) (k0_off12 (grid0.coords t)) S1x1.size hh)).squeeze S_ squeezes_S1x1_S_ = cellN 2 (next t) := cell_congr (off12_eq t h) _
@[sl_canon] theorem cell15 (hh) :
    (cc0_scratch6.slice (Rect.unit (s := S3x2) (k0_off15 (grid0.coords t)) S1x1.size hh)).squeeze S_ squeezes_S1x1_S_ = cellN 0 (here t) := cell_congr (off15_eq t) _
@[sl_canon] theorem cell18 (hh) :
    (cc0_scratch6.slice (Rect.unit (s := S3x2) (k0_off18 (grid0.coords t)) S1x1.size hh)).squeeze S_ squeezes_S1x1_S_ = cellN 1 (here t) := cell_congr (off18_eq t) _
@[sl_canon] theorem cell19 (hh) :
    (cc0_scratch6.slice (Rect.unit (s := S3x2) (k0_off19 (grid0.coords t)) S1x1.size hh)).squeeze S_ squeezes_S1x1_S_ = cellN 2 (here t) := cell_congr (off19_eq t) _

@[sl_canon] theorem gSlot2 (h : k0_cond2 (grid0.coords t) = 1#1) (hh hs) :
    (sgM.slice (Rect.unit (s := S2x128x2048) (k0_off2 (grid0.coords t)) S1x128x2048.size hh) hs).squeeze S128x2048 squeezes_S1x128x2048_S128x2048 = gSlot (next t) := gSlot_congr (off2_eq t h) _ _
@[sl_canon] theorem uSlot2 (h : k0_cond2 (grid0.coords t) = 1#1) (hh hs) :
    (suM.slice (Rect.unit (s := S2x128x2048) (k0_off2 (grid0.coords t)) S1x128x2048.size hh) hs).squeeze S128x2048 squeezes_S1x128x2048_S128x2048 = uSlot (next t) := uSlot_congr (off2_eq t h) _ _
@[sl_canon] theorem dSlot6 (h : k0_cond2 (grid0.coords t) = 1#1) (hh hs) :
    (sdM.slice (Rect.unit (s := S2x256x1024) (k0_off6 (grid0.coords t)) S1x256x1024.size hh) hs).squeeze S256x1024 squeezes_S1x256x1024_S256x1024 = dSlot (next t) := dSlot_congr (off6_eq t h) _ _
@[sl_canon] theorem gSlot9 (h : k0_cond3 (grid0.coords t) = 1#1) (hh hs) :
    (sgM.slice (Rect.unit (s := S2x128x2048) (k0_off9 (grid0.coords t)) S1x128x2048.size hh) hs).squeeze S128x2048 squeezes_S1x128x2048_S128x2048 = gSlot (next t) := gSlot_congr (off9_eq t h) _ _
@[sl_canon] theorem uSlot9 (h : k0_cond3 (grid0.coords t) = 1#1) (hh hs) :
    (suM.slice (Rect.unit (s := S2x128x2048) (k0_off9 (grid0.coords t)) S1x128x2048.size hh) hs).squeeze S128x2048 squeezes_S1x128x2048_S128x2048 = uSlot (next t) := uSlot_congr (off9_eq t h) _ _
@[sl_canon] theorem dSlot13 (h : k0_cond3 (grid0.coords t) = 1#1) (hh hs) :
    (sdM.slice (Rect.unit (s := S2x256x1024) (k0_off13 (grid0.coords t)) S1x256x1024.size hh) hs).squeeze S256x1024 squeezes_S1x256x1024_S256x1024 = dSlot (next t) := dSlot_congr (off13_eq t h) _ _
@[sl_canon] theorem gSlot16 (hh hs) :
    (sgM.slice (Rect.unit (s := S2x128x2048) (k0_off16 (grid0.coords t)) S1x128x2048.size hh) hs).squeeze S128x2048 squeezes_S1x128x2048_S128x2048 = gSlot (here t) := gSlot_congr (off16_eq t) _ _
@[sl_canon] theorem uSlot16 (hh hs) :
    (suM.slice (Rect.unit (s := S2x128x2048) (k0_off16 (grid0.coords t)) S1x128x2048.size hh) hs).squeeze S128x2048 squeezes_S1x128x2048_S128x2048 = uSlot (here t) := uSlot_congr (off16_eq t) _ _
@[sl_canon] theorem dSlot20 (hh hs) :
    (sdM.slice (Rect.unit (s := S2x256x1024) (k0_off20 (grid0.coords t)) S1x256x1024.size hh) hs).squeeze S256x1024 squeezes_S1x256x1024_S256x1024 = dSlot (here t) := dSlot_congr (off20_eq t) _ _

@[sl_canon] theorem gSrc3 (h : k0_cond2 (grid0.coords t) = 1#1) (hh hs) :
    (xgM.slice (Rect.unit (s := S4x16x1024x2048) (k0_off3 (grid0.coords t)) S1x1x128x2048.size hh) hs).squeeze S128x2048 squeezes_S1x1x128x2048_S128x2048 = gSrc (blkNext t) := gSrc_congr (off3_eq t h) _ _
@[sl_canon] theorem uSrc3 (h : k0_cond2 (grid0.coords t) = 1#1) (hh hs) :
    (xuM.slice (Rect.unit (s := S4x16x1024x2048) (k0_off3 (grid0.coords t)) S1x1x128x2048.size hh) hs).squeeze S128x2048 squeezes_S1x1x128x2048_S128x2048 = uSrc (blkNext t) := uSrc_congr (off3_eq t h) _ _
@[sl_canon] theorem dSrc7 (h : k0_cond2 (grid0.coords t) = 1#1) (hh hs) :
    (xdM.slice (Rect.unit (s := S4x16x2048x1024) (k0_off7 (grid0.coords t)) S1x1x256x1024.size hh) hs).squeeze S256x1024 squeezes_S1x1x256x1024_S256x1024 = dSrc (blkNext t) := dSrc_congr (off7_eq t h) _ _
@[sl_canon] theorem gSrc10 (h : k0_cond3 (grid0.coords t) = 1#1) (hh hs) :
    (xgM.slice (Rect.unit (s := S4x16x1024x2048) (k0_off10 (grid0.coords t)) S1x1x128x2048.size hh) hs).squeeze S128x2048 squeezes_S1x1x128x2048_S128x2048 = gSrc (blkNext t) := gSrc_congr (off10_eq t h) _ _
@[sl_canon] theorem uSrc10 (h : k0_cond3 (grid0.coords t) = 1#1) (hh hs) :
    (xuM.slice (Rect.unit (s := S4x16x1024x2048) (k0_off10 (grid0.coords t)) S1x1x128x2048.size hh) hs).squeeze S128x2048 squeezes_S1x1x128x2048_S128x2048 = uSrc (blkNext t) := uSrc_congr (off10_eq t h) _ _
@[sl_canon] theorem dSrc14 (h : k0_cond3 (grid0.coords t) = 1#1) (hh hs) :
    (xdM.slice (Rect.unit (s := S4x16x2048x1024) (k0_off14 (grid0.coords t)) S1x1x256x1024.size hh) hs).squeeze S256x1024 squeezes_S1x1x256x1024_S256x1024 = dSrc (blkNext t) := dSrc_congr (off14_eq t h) _ _
@[sl_canon] theorem gSrc17 (hh hs) :
    (xgM.slice (Rect.unit (s := S4x16x1024x2048) (k0_off17 (grid0.coords t)) S1x1x128x2048.size hh) hs).squeeze S128x2048 squeezes_S1x1x128x2048_S128x2048 = gSrc (blkHere t) := gSrc_congr (off17_eq t) _ _
@[sl_canon] theorem uSrc17 (hh hs) :
    (xuM.slice (Rect.unit (s := S4x16x1024x2048) (k0_off17 (grid0.coords t)) S1x1x128x2048.size hh) hs).squeeze S128x2048 squeezes_S1x1x128x2048_S128x2048 = uSrc (blkHere t) := uSrc_congr (off17_eq t) _ _
@[sl_canon] theorem dSrc21 (hh hs) :
    (xdM.slice (Rect.unit (s := S4x16x2048x1024) (k0_off21 (grid0.coords t)) S1x1x256x1024.size hh) hs).squeeze S256x1024 squeezes_S1x1x256x1024_S256x1024 = dSrc (blkHere t) := dSrc_congr (off21_eq t) _ _

end Canon

end Cert.EX

end
-- ==== Proof.EX.Point.lean ====
/- The body of a grid point of the expert kernel: the part every point runs after its starts.

   It waits for the three blocks in the point's slots, rounds them into the half of the weights that is being filled, and forms the point's rows of
   the result from the other half. -/
module

public import proofs.«01_k».proof.Proof.EX.Names
public import Idealize.ShloMosaic.Lib.Ring.Tabled

@[expose] public section

set_option maxRecDepth 65536

noncomputable section

namespace Cert.EX

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What is held between the points -/

section Pieces
variable (c : Dev nD)

abbrev BufOf {sp : Space} {S : Shape} {e : EltTy} (M : Memref sig .tc sp S e) : Type := Buf (Elt F) (M.view.loc (c : Thread nD τ))
/-- The part of an array's ownership that slot `s` lends from. -/
abbrev part (s : Fin 2) : PosShare TreeShare := Ring.sharesN 2 fullShare s

abbrev cellP (k : Fin 3) (s : Fin 2) : sProp 𝕄 := semVal ((c : Thread nD τ), SemLoc.dma (cellN k s).sem) 0
/-- All of a buffer, or of a view of one. -/
abbrev heldP {sp : Space} {S : Shape} {e : EltTy} (M : Memref sig .tc sp S e) (q : PosShare TreeShare) (f : BufOf (F := F) c M) : sProp 𝕄 :=
  M.view.loc (c : Thread nD τ) ↦[M.view.set]{q} f
/-- What a copy of `src` leaves in `dst`. -/
abbrev landed {sp sp' : Space} {S : Shape} {e : EltTy} (src : Memref sig .tc sp S e) (dst : Memref sig .tc sp' S e) (X : BufOf (F := F) c src)
    (f : BufOf (F := F) c dst) : BufOf (F := F) c dst :=
  dst.view.writes (Elt F) f [⟨Rect.whole S, ReadAs.same.apply (src.view.read (Elt F) X)⟩]
/-- A copy of `src` into `dst` under way on the semaphore of array `k`'s slot `s`. -/
abbrev flightP {sp sp' : Space} {S : Shape} {e : EltTy} (k : Fin 3) (s : Fin 2) (src : Memref sig .tc sp S e) (dst : Memref sig .tc sp' S e)
    (X : BufOf (F := F) c src) (f : BufOf (F := F) c dst) : sProp 𝕄 :=
  Transfers.Flight countersEmb (c : Thread nD τ) (SemLoc.dma (cellN k s).sem) () 32768 iprop(heldP c dst fullShare (landed c src dst X f) ∗ heldP c src (part s) X)

end Pieces

/-! ## The program after the starts -/

def afterStarts (i : grid0.Coords) (arg2 : Memref sig .tc .vmem S1x4096x128 .f32) (harg2 : arg2.IsWhole) (arg6 : Memref sig .tc .vmem S1x8x512x128 .f32) (harg6 : arg6.IsWhole) :
    (Σ' (arg0 : BitVec 32) (arg1 : BitVec 32) (v15 : BitVec 32) (v30 : BitVec 32) (v31 : BitVec 32), BitVec 32) →
      Prog (TpuEff nD τ sig (Elt F) Λ₀ .tc) PUnit := fun ⟨arg0, arg1, v15, v30, v31, c0_i32_17⟩ => do
  let ⟨v63, v64⟩ : Σ' (v63 : BitVec 32), BitVec 32 ← k0_part23 i arg2 harg2 xgM (Memref.isWhole_whole _) xuM (Memref.isWhole_whole _) xdM (Memref.isWhole_whole _) arg6 harg6 wgM (Memref.isWhole_whole _) wuM (Memref.isWhole_whole _) wdM (Memref.isWhole_whole _) sgM (Memref.isWhole_whole _) suM (Memref.isWhole_whole _) sdM (Memref.isWhole_whole _) cc0_scratch6 arg1 v15 v30 v31 c0_i32_17
  let ⟨v81, v103⟩ : Σ' (v81 : BitVec 32), Vec F S1x256x1024 .f32 ← k0_part24 i arg2 harg2 xgM (Memref.isWhole_whole _) xuM (Memref.isWhole_whole _) xdM (Memref.isWhole_whole _) arg6 harg6 wgM (Memref.isWhole_whole _) wuM (Memref.isWhole_whole _) wdM (Memref.isWhole_whole _) sgM (Memref.isWhole_whole _) suM (Memref.isWhole_whole _) sdM (Memref.isWhole_whole _) cc0_scratch6 arg1 v15 v63 v64
  let ⟨v121, v123, v125, v127, v129, v131, v133⟩ : Σ' (v121 : BitVec 32) (v123 : FVec F S512x128 .f32) (v125 : FVec F S512x128 .f32) (v127 : FVec F S512x128 .f32) (v129 : FVec F S512x128 .f32) (v131 : FVec F S512x128 .f32), FVec F S512x128 .f32 ← k0_part25 i arg2 harg2 xgM (Memref.isWhole_whole _) xuM (Memref.isWhole_whole _) xdM (Memref.isWhole_whole _) arg6 harg6 wgM (Memref.isWhole_whole _) wuM (Memref.isWhole_whole _) wdM (Memref.isWhole_whole _) sgM (Memref.isWhole_whole _) suM (Memref.isWhole_whole _) sdM (Memref.isWhole_whole _) cc0_scratch6 arg0 arg1 v81 v103
  let ⟨v139, v163, v167, v171⟩ : Σ' (v139 : FVec F S512x1024 .bf16) (v163 : FVec F S512x1024 .f32) (v167 : FVec F S512x512 .f32), FVec F S512x512 .f32 ← k0_part26 i arg2 harg2 xgM (Memref.isWhole_whole _) xuM (Memref.isWhole_whole _) xdM (Memref.isWhole_whole _) arg6 harg6 wgM (Memref.isWhole_whole _) wuM (Memref.isWhole_whole _) wdM (Memref.isWhole_whole _) sgM (Memref.isWhole_whole _) suM (Memref.isWhole_whole _) sdM (Memref.isWhole_whole _) cc0_scratch6 v121 v123 v125 v127 v129 v131 v133
  let ⟨v209, v211⟩ : Σ' (v209 : FVec F S512x1024 .f32), Vec F S1x1024x512 .bf16 ← k0_part27 i arg2 harg2 xgM (Memref.isWhole_whole _) xuM (Memref.isWhole_whole _) xdM (Memref.isWhole_whole _) arg6 harg6 wgM (Memref.isWhole_whole _) wuM (Memref.isWhole_whole _) wdM (Memref.isWhole_whole _) sgM (Memref.isWhole_whole _) suM (Memref.isWhole_whole _) sdM (Memref.isWhole_whole _) cc0_scratch6 v121 v139 v163 v167 v171
  let ⟨v232, v245⟩ : Σ' (v232 : FVec F S512x1024 .f32), FVec F S512x128 .f32 ← k0_part28 i arg2 harg2 xgM (Memref.isWhole_whole _) xuM (Memref.isWhole_whole _) xdM (Memref.isWhole_whole _) arg6 harg6 wgM (Memref.isWhole_whole _) wuM (Memref.isWhole_whole _) wdM (Memref.isWhole_whole _) sgM (Memref.isWhole_whole _) suM (Memref.isWhole_whole _) sdM (Memref.isWhole_whole _) cc0_scratch6 v121 v139 v209 v211
  let v246 : Vec F S1x1x512x128 .f32 ← Prog.lift (.load arg6 (Rect.unit (s := S1x8x512x128) ![0, 3, 0, 0] S1x1x512x128.size inb_S1x8x512x128_S1x1x512x128_0_3_0_0).toLoadRect (View.loadsAt_vmem h_S1x1x512x128))
  Prog.lift (.store arg6 (Rect.unit (s := S1x8x512x128) ![0, 3, 0, 0] S1x1x512x128.size inb_S1x8x512x128_S1x1x512x128_0_3_0_0) (k0_pay1 v245) Finset.univ (View.stores_vmem_bits_univ h_S1x1x512x128 rfl) (.inl rfl))
  let v250 : Vec F S1x1x512x128 .f32 ← Prog.lift (.load arg6 (Rect.unit (s := S1x8x512x128) ![0, 4, 0, 0] S1x1x512x128.size inb_S1x8x512x128_S1x1x512x128_0_4_0_0).toLoadRect (View.loadsAt_vmem h_S1x1x512x128))
  Prog.lift (.store arg6 (Rect.unit (s := S1x8x512x128) ![0, 4, 0, 0] S1x1x512x128.size inb_S1x8x512x128_S1x1x512x128_0_4_0_0) (k0_pay2 v232) Finset.univ (View.stores_vmem_bits_univ h_S1x1x512x128 rfl) (.inl rfl))
  let v254 : Vec F S1x1x512x128 .f32 ← Prog.lift (.load arg6 (Rect.unit (s := S1x8x512x128) ![0, 5, 0, 0] S1x1x512x128.size inb_S1x8x512x128_S1x1x512x128_0_5_0_0).toLoadRect (View.loadsAt_vmem h_S1x1x512x128))
  Prog.lift (.store arg6 (Rect.unit (s := S1x8x512x128) ![0, 5, 0, 0] S1x1x512x128.size inb_S1x8x512x128_S1x1x512x128_0_5_0_0) (k0_pay3 v232) Finset.univ (View.stores_vmem_bits_univ h_S1x1x512x128 rfl) (.inl rfl))
  let v258 : Vec F S1x1x512x128 .f32 ← Prog.lift (.load arg6 (Rect.unit (s := S1x8x512x128) ![0, 6, 0, 0] S1x1x512x128.size inb_S1x8x512x128_S1x1x512x128_0_6_0_0).toLoadRect (View.loadsAt_vmem h_S1x1x512x128))
  Prog.lift (.store arg6 (Rect.unit (s := S1x8x512x128) ![0, 6, 0, 0] S1x1x512x128.size inb_S1x8x512x128_S1x1x512x128_0_6_0_0) (k0_pay4 v232) Finset.univ (View.stores_vmem_bits_univ h_S1x1x512x128 rfl) (.inl rfl))
  let v262 : Vec F S1x1x512x128 .f32 ← Prog.lift (.load arg6 (Rect.unit (s := S1x8x512x128) ![0, 7, 0, 0] S1x1x512x128.size inb_S1x8x512x128_S1x1x512x128_0_7_0_0).toLoadRect (View.loadsAt_vmem h_S1x1x512x128))
  Prog.lift (.store arg6 (Rect.unit (s := S1x8x512x128) ![0, 7, 0, 0] S1x1x512x128.size inb_S1x8x512x128_S1x1x512x128_0_7_0_0) (k0_pay5 v232) Finset.univ (View.stores_vmem_bits_univ h_S1x1x512x128 rfl) (.inl rfl))
  pure ⟨⟩

theorem expert_split (i : grid0.Coords) (arg2 : Memref sig .tc .vmem S1x4096x128 .f32) (harg2 : arg2.IsWhole) (arg6 : Memref sig .tc .vmem S1x8x512x128 .f32) (harg6 : arg6.IsWhole) :
    cc0_expert (F := F) i arg2 harg2 xgM (Memref.isWhole_whole _) xuM (Memref.isWhole_whole _) xdM (Memref.isWhole_whole _) arg6 harg6 wgM (Memref.isWhole_whole _) wuM (Memref.isWhole_whole _) wdM (Memref.isWhole_whole _) sgM (Memref.isWhole_whole _) suM (Memref.isWhole_whole _) sdM (Memref.isWhole_whole _) cc0_scratch6 = (k0_part22 i arg2 harg2 xgM (Memref.isWhole_whole _) xuM (Memref.isWhole_whole _) xdM (Memref.isWhole_whole _) arg6 harg6 wgM (Memref.isWhole_whole _) wuM (Memref.isWhole_whole _) wdM (Memref.isWhole_whole _) sgM (Memref.isWhole_whole _) suM (Memref.isWhole_whole _) sdM (Memref.isWhole_whole _) cc0_scratch6 >>= afterStarts i arg2 harg2 arg6 harg6) := rfl

/-! ## Its run -/

set_option maxHeartbeats 4000000 in
/-- The pieces of the result block that the point writes, with the run that writes them. -/
noncomputable def pointRun (c : Dev nD) (t : Fin cfg0.N) (arg2 : Memref sig .tc .vmem S1x4096x128 .f32) (harg2 : arg2.IsWhole)
    (arg6 : Memref sig .tc .vmem S1x8x512x128 .f32) (harg6 : arg6.IsWhole) (x0 : Vec F S1x4096x128 .f32)
    (Xg : BufOf (F := F) c xgM) (Xu : BufOf (F := F) c xuM) (Xd : BufOf (F := F) c xdM)
    (Wg : BufOf (F := F) c wgM) (Wu : BufOf (F := F) c wuM) (Wd : BufOf (F := F) c wdM) :
    { L : List (View.Piece (Elt F) S1x8x512x128 .f32) × List (View.Piece (Elt F) S2x1024x2048 .bf16) × List (View.Piece (Elt F) S2x1024x2048 .bf16)
        × List (View.Piece (Elt F) S2x2048x1024 .bf16) //
      ∀ (r : Σ' (arg0 : BitVec 32) (arg1 : BitVec 32) (v15 : BitVec 32) (v30 : BitVec 32) (v31 : BitVec 32), BitVec 32)
        (fg : BufOf (F := F) c (gSlot (here t))) (fu : BufOf (F := F) c (uSlot (here t))) (fd : BufOf (F := F) c (dSlot (here t))) (W : Waits sig Unit) (K : PUnit → sProp 𝕄),
        iprop(owns (c : Thread nD τ) arg2 fullShare x0 ∗ (∃ d, owns (c : Thread nD τ) arg6 fullShare d)
            ∗ flightP c 0 (here t) (gSrc (blkHere t)) (gSlot (here t)) Xg fg
            ∗ flightP c 1 (here t) (uSrc (blkHere t)) (uSlot (here t)) Xu fu
            ∗ flightP c 2 (here t) (dSrc (blkHere t)) (dSlot (here t)) Xd fd
            ∗ heldP c wgM fullShare Wg ∗ heldP c wuM fullShare Wu ∗ heldP c wdM fullShare Wd
            ∗ owes (c : Thread nD τ) 0 W
            ∗ (iprop(owns (c : Thread nD τ) arg2 fullShare x0
                ∗ (∃ f, arg6.view.loc (c : Thread nD τ) ↦[arg6.view.set]{fullShare} arg6.view.writes (Elt F) f L.1)
                ∗ cellP c 0 (here t) ∗ cellP c 1 (here t) ∗ cellP c 2 (here t)
                ∗ (∃ f, heldP c (gSlot (here t)) fullShare f) ∗ (∃ f, heldP c (uSlot (here t)) fullShare f) ∗ (∃ f, heldP c (dSlot (here t)) fullShare f)
                ∗ heldP c (gSrc (blkHere t)) (part (here t)) Xg ∗ heldP c (uSrc (blkHere t)) (part (here t)) Xu ∗ heldP c (dSrc (blkHere t)) (part (here t)) Xd
                ∗ heldP c wgM fullShare (wgM.view.writes (Elt F) Wg L.2.1) ∗ heldP c wuM fullShare (wuM.view.writes (Elt F) Wu L.2.2.1)
                ∗ heldP c wdM fullShare (wdM.view.writes (Elt F) Wd L.2.2.2)
                ∗ (∃ W', owes (c : Thread nD τ) 0 W')) -∗ K ⟨⟩))
          ⊢ wp frame (wpE (defs₀ (F := F)) Variants.none c none) Set.univ (afterStarts (grid0.coords t) arg2 harg2 arg6 harg6 r) K } := by
  refine ⟨⟨?_, ?_, ?_, ?_⟩, fun r fg fu fd W K => ?run⟩
  case run =>
    obtain ⟨r0, r1, r2, r3, r4, r5⟩ := r
    unfold afterStarts
    simp only [k0_part23_eq_skeleton, k0_part24_eq_skeleton, k0_part25_eq_skeleton, k0_part26_eq_skeleton, k0_part27_eq_skeleton, k0_part28_eq_skeleton]
    unfold owns
    iintro ⟨⟨%f0, %hf0, H0⟩, ⟨%d6, %f6, -, H6⟩, Hg, Hu, Hd, HWg, HWu, HWd, HO, Hk⟩
    obtain rfl := harg2.eq_unread hf0
    sl_exec
    sl_step
    iapply Hk
    isplitl [H0]
    · iexists _; isplitr; · ipureintro; exact harg2.read_unread _
      iexact H0
    isplitl [H6]; · iexists _; iexact H6
    isplitl [Hg]; · iexact Hg
    isplitl [Hu]; · iexact Hu
    isplitl [Hd]; · iexact Hd
    isplitl [Hg_dst]; · iexists _; iexact Hg_dst
    isplitl [Hu_dst]; · iexists _; iexact Hu_dst
    isplitl [Hd_dst]; · iexists _; iexact Hd_dst
    isplitl [Hg_src]; · iexact Hg_src
    isplitl [Hu_src]; · iexact Hu_src
    isplitl [Hd_src]; · iexact Hd_src
    isplitl [HWg]; · iexact HWg
    isplitl [HWu]; · iexact HWu
    isplitl [HWd]; · iexact HWd
    iexists _; iexact HO

end Cert.EX

end
-- ==== Proof.EX.Start.lean ====
/- The starts of a grid point: the next blocks of the three arrays set off into the other slots, and what is under way between the points. -/
module

public import proofs.«01_k».proof.Proof.EX.Point

@[expose] public section

set_option maxRecDepth 65536

noncomputable section

namespace Cert.EX

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Pieces
variable (c : Dev nD) (Xg : BufOf (F := F) c xgM) (Xu : BufOf (F := F) c xuM) (Xd : BufOf (F := F) c xdM)

/-- Slot `s` of the three arrays free, its semaphores at zero. -/
def freeP (s : Fin 2) : sProp 𝕄 :=
  iprop(cellP c 0 s ∗ cellP c 1 s ∗ cellP c 2 s
    ∗ (∃ f, heldP c (gSlot s) fullShare f) ∗ (∃ f, heldP c (uSlot s) fullShare f) ∗ (∃ f, heldP c (dSlot s) fullShare f))
/-- Block `n` of the three arrays, as slot `s` lends from it. -/
def srcP (s : Fin 2) (n : Fin 128) : sProp 𝕄 :=
  iprop(heldP c (gSrc n) (part s) Xg ∗ heldP c (uSrc n) (part s) Xu ∗ heldP c (dSrc n) (part s) Xd)
/-- Block `n` of the three arrays on its way into slot `s`. -/
def busyP (s : Fin 2) (n : Fin 128) : sProp 𝕄 :=
  iprop((∃ f, flightP c 0 s (gSrc n) (gSlot s) Xg f) ∗ (∃ f, flightP c 1 s (uSrc n) (uSlot s) Xu f) ∗ (∃ f, flightP c 2 s (dSrc n) (dSlot s) Xd f))

end Pieces

section Start
variable (c : Dev nD) (t : Fin cfg0.N) (arg2 : Memref sig .tc .vmem S1x4096x128 .f32) (harg2 : arg2.IsWhole)
    (arg6 : Memref sig .tc .vmem S1x8x512x128 .f32) (harg6 : arg6.IsWhole)
    (Xg : BufOf (F := F) c xgM) (Xu : BufOf (F := F) c xuM) (Xd : BufOf (F := F) c xdM)

/-- The part of the body with the starts, after the first point's own. -/
theorem start (h0 : ¬ firstWord (grid0.coords t) = 1#1) (hlt : t.val < 127) (K : _ → sProp 𝕄) :
    iprop(freeP c (next t) ∗ srcP c Xg Xu Xd (next t) (blkNext t) ∗ (∀ r, busyP c Xg Xu Xd (next t) (blkNext t) -∗ K r))
      ⊢ wp frame (wpE (defs₀ (F := F)) Variants.none c none) Set.univ (k0_part22 (grid0.coords t) arg2 harg2 xgM (Memref.isWhole_whole _) xuM (Memref.isWhole_whole _) xdM (Memref.isWhole_whole _) arg6 harg6 wgM (Memref.isWhole_whole _) wuM (Memref.isWhole_whole _) wdM (Memref.isWhole_whole _) sgM (Memref.isWhole_whole _) suM (Memref.isWhole_whole _) sdM (Memref.isWhole_whole _) cc0_scratch6) K := by
  unfold freeP srcP busyP
  rw [k0_part22_eq_skeleton]; unfold k0_part22_skel
  simp -proj only [k0_part20_eq_skeleton, k0_part21_eq_skeleton]
  rcases starts t with ⟨h2, h3, -⟩ | ⟨h2, h3, -⟩ | ⟨-, -, h⟩
  · iintro ⟨⟨Hg, Hu, Hd, ⟨%fg, Hgs⟩, ⟨%fu, Hus⟩, ⟨%fd, Hds⟩⟩, ⟨Hgx, Hux, Hdx⟩, Hk⟩
    sl_exec
    sl_step
    iapply Hk
    isplitl [Hg]; · iexists _; iexact Hg
    isplitl [Hu]; · iexists _; iexact Hu
    iexists _; iexact Hd
  · iintro ⟨⟨Hg, Hu, Hd, ⟨%fg, Hgs⟩, ⟨%fu, Hus⟩, ⟨%fd, Hds⟩⟩, ⟨Hgx, Hux, Hdx⟩, Hk⟩
    sl_exec
    sl_step
    iapply Hk
    isplitl [Hg]; · iexists _; iexact Hg
    isplitl [Hu]; · iexists _; iexact Hu
    iexists _; iexact Hd
  · omega

/-- At the last point nothing is set off. -/
theorem start_last (h0 : ¬ firstWord (grid0.coords t) = 1#1) (hlt : ¬ t.val < 127) (K : _ → sProp 𝕄) :
    iprop(∀ r, K r) ⊢ wp frame (wpE (defs₀ (F := F)) Variants.none c none) Set.univ (k0_part22 (grid0.coords t) arg2 harg2 xgM (Memref.isWhole_whole _) xuM (Memref.isWhole_whole _) xdM (Memref.isWhole_whole _) arg6 harg6 wgM (Memref.isWhole_whole _) wuM (Memref.isWhole_whole _) wdM (Memref.isWhole_whole _) sgM (Memref.isWhole_whole _) suM (Memref.isWhole_whole _) sdM (Memref.isWhole_whole _) cc0_scratch6) K := by
  rw [k0_part22_eq_skeleton]; unfold k0_part22_skel
  rcases starts t with ⟨-, -, h⟩ | ⟨-, -, h⟩ | ⟨h2, h3, -⟩
  · omega
  · omega
  · iintro Hk
    sl_exec
    sl_step
    iapply Hk

end Start

end Cert.EX

end
-- ==== Proof.EX.First.lean ====
/- The first point's own part: all eight blocks of the first expert fetched and stored, then the first blocks of the second expert set off. -/
module

public import proofs.«01_k».proof.Proof.EX.Start

@[expose] public section

set_option maxRecDepth 65536

noncomputable section

namespace Cert.EX

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The printed slices with literal offsets are the names -/

@[sl_canon] theorem cellLit_0_0 (hh) : (cc0_scratch6.slice (Rect.unit (s := S3x2) ![0, 0] S1x1.size hh)).squeeze S_ squeezes_S1x1_S_ = cellN 0 0 := cell_congr (by decide) _
@[sl_canon] theorem cellLit_0_1 (hh) : (cc0_scratch6.slice (Rect.unit (s := S3x2) ![0, 1] S1x1.size hh)).squeeze S_ squeezes_S1x1_S_ = cellN 0 1 := cell_congr (by decide) _
@[sl_canon] theorem cellLit_1_0 (hh) : (cc0_scratch6.slice (Rect.unit (s := S3x2) ![1, 0] S1x1.size hh)).squeeze S_ squeezes_S1x1_S_ = cellN 1 0 := cell_congr (by decide) _
@[sl_canon] theorem cellLit_1_1 (hh) : (cc0_scratch6.slice (Rect.unit (s := S3x2) ![1, 1] S1x1.size hh)).squeeze S_ squeezes_S1x1_S_ = cellN 1 1 := cell_congr (by decide) _
@[sl_canon] theorem cellLit_2_0 (hh) : (cc0_scratch6.slice (Rect.unit (s := S3x2) ![2, 0] S1x1.size hh)).squeeze S_ squeezes_S1x1_S_ = cellN 2 0 := cell_congr (by decide) _
@[sl_canon] theorem cellLit_2_1 (hh) : (cc0_scratch6.slice (Rect.unit (s := S3x2) ![2, 1] S1x1.size hh)).squeeze S_ squeezes_S1x1_S_ = cellN 2 1 := cell_congr (by decide) _
@[sl_canon] theorem gSlotLit_0 (hh hs) : (sgM.slice (Rect.unit (s := S2x128x2048) ![0, 0, 0] S1x128x2048.size hh) hs).squeeze S128x2048 squeezes_S1x128x2048_S128x2048 = gSlot 0 := gSlot_congr (by decide) _ _
@[sl_canon] theorem gSlotLit_1 (hh hs) : (sgM.slice (Rect.unit (s := S2x128x2048) ![1, 0, 0] S1x128x2048.size hh) hs).squeeze S128x2048 squeezes_S1x128x2048_S128x2048 = gSlot 1 := gSlot_congr (by decide) _ _
@[sl_canon] theorem gSrcLit_0 (hh hs) : (xgM.slice (Rect.unit (s := S4x16x1024x2048) ![0, 0, 0, 0] S1x1x128x2048.size hh) hs).squeeze S128x2048 squeezes_S1x1x128x2048_S128x2048 = gSrc 0 := gSrc_congr (by decide) _ _
@[sl_canon] theorem gSrcLit_1 (hh hs) : (xgM.slice (Rect.unit (s := S4x16x1024x2048) ![0, 0, 128, 0] S1x1x128x2048.size hh) hs).squeeze S128x2048 squeezes_S1x1x128x2048_S128x2048 = gSrc 1 := gSrc_congr (by decide) _ _
@[sl_canon] theorem gSrcLit_2 (hh hs) : (xgM.slice (Rect.unit (s := S4x16x1024x2048) ![0, 0, 256, 0] S1x1x128x2048.size hh) hs).squeeze S128x2048 squeezes_S1x1x128x2048_S128x2048 = gSrc 2 := gSrc_congr (by decide) _ _
@[sl_canon] theorem gSrcLit_3 (hh hs) : (xgM.slice (Rect.unit (s := S4x16x1024x2048) ![0, 0, 384, 0] S1x1x128x2048.size hh) hs).squeeze S128x2048 squeezes_S1x1x128x2048_S128x2048 = gSrc 3 := gSrc_congr (by decide) _ _
@[sl_canon] theorem gSrcLit_4 (hh hs) : (xgM.slice (Rect.unit (s := S4x16x1024x2048) ![0, 0, 512, 0] S1x1x128x2048.size hh) hs).squeeze S128x2048 squeezes_S1x1x128x2048_S128x2048 = gSrc 4 := gSrc_congr (by decide) _ _
@[sl_canon] theorem gSrcLit_5 (hh hs) : (xgM.slice (Rect.unit (s := S4x16x1024x2048) ![0, 0, 640, 0] S1x1x128x2048.size hh) hs).squeeze S128x2048 squeezes_S1x1x128x2048_S128x2048 = gSrc 5 := gSrc_congr (by decide) _ _
@[sl_canon] theorem gSrcLit_6 (hh hs) : (xgM.slice (Rect.unit (s := S4x16x1024x2048) ![0, 0, 768, 0] S1x1x128x2048.size hh) hs).squeeze S128x2048 squeezes_S1x1x128x2048_S128x2048 = gSrc 6 := gSrc_congr (by decide) _ _
@[sl_canon] theorem gSrcLit_7 (hh hs) : (xgM.slice (Rect.unit (s := S4x16x1024x2048) ![0, 0, 896, 0] S1x1x128x2048.size hh) hs).squeeze S128x2048 squeezes_S1x1x128x2048_S128x2048 = gSrc 7 := gSrc_congr (by decide) _ _
@[sl_canon] theorem gSrcLit_8 (hh hs) : (xgM.slice (Rect.unit (s := S4x16x1024x2048) ![0, 1, 0, 0] S1x1x128x2048.size hh) hs).squeeze S128x2048 squeezes_S1x1x128x2048_S128x2048 = gSrc 8 := gSrc_congr (by decide) _ _
@[sl_canon] theorem uSlotLit_0 (hh hs) : (suM.slice (Rect.unit (s := S2x128x2048) ![0, 0, 0] S1x128x2048.size hh) hs).squeeze S128x2048 squeezes_S1x128x2048_S128x2048 = uSlot 0 := uSlot_congr (by decide) _ _
@[sl_canon] theorem uSlotLit_1 (hh hs) : (suM.slice (Rect.unit (s := S2x128x2048) ![1, 0, 0] S1x128x2048.size hh) hs).squeeze S128x2048 squeezes_S1x128x2048_S128x2048 = uSlot 1 := uSlot_congr (by decide) _ _
@[sl_canon] theorem uSrcLit_0 (hh hs) : (xuM.slice (Rect.unit (s := S4x16x1024x2048) ![0, 0, 0, 0] S1x1x128x2048.size hh) hs).squeeze S128x2048 squeezes_S1x1x128x2048_S128x2048 = uSrc 0 := uSrc_congr (by decide) _ _
@[sl_canon] theorem uSrcLit_1 (hh hs) : (xuM.slice (Rect.unit (s := S4x16x1024x2048) ![0, 0, 128, 0] S1x1x128x2048.size hh) hs).squeeze S128x2048 squeezes_S1x1x128x2048_S128x2048 = uSrc 1 := uSrc_congr (by decide) _ _
@[sl_canon] theorem uSrcLit_2 (hh hs) : (xuM.slice (Rect.unit (s := S4x16x1024x2048) ![0, 0, 256, 0] S1x1x128x2048.size hh) hs).squeeze S128x2048 squeezes_S1x1x128x2048_S128x2048 = uSrc 2 := uSrc_congr (by decide) _ _
@[sl_canon] theorem uSrcLit_3 (hh hs) : (xuM.slice (Rect.unit (s := S4x16x1024x2048) ![0, 0, 384, 0] S1x1x128x2048.size hh) hs).squeeze S128x2048 squeezes_S1x1x128x2048_S128x2048 = uSrc 3 := uSrc_congr (by decide) _ _
@[sl_canon] theorem uSrcLit_4 (hh hs) : (xuM.slice (Rect.unit (s := S4x16x1024x2048) ![0, 0, 512, 0] S1x1x128x2048.size hh) hs).squeeze S128x2048 squeezes_S1x1x128x2048_S128x2048 = uSrc 4 := uSrc_congr (by decide) _ _
@[sl_canon] theorem uSrcLit_5 (hh hs) : (xuM.slice (Rect.unit (s := S4x16x1024x2048) ![0, 0, 640, 0] S1x1x128x2048.size hh) hs).squeeze S128x2048 squeezes_S1x1x128x2048_S128x2048 = uSrc 5 := uSrc_congr (by decide) _ _
@[sl_canon] theorem uSrcLit_6 (hh hs) : (xuM.slice (Rect.unit (s := S4x16x1024x2048) ![0, 0, 768, 0] S1x1x128x2048.size hh) hs).squeeze S128x2048 squeezes_S1x1x128x2048_S128x2048 = uSrc 6 := uSrc_congr (by decide) _ _
@[sl_canon] theorem uSrcLit_7 (hh hs) : (xuM.slice (Rect.unit (s := S4x16x1024x2048) ![0, 0, 896, 0] S1x1x128x2048.size hh) hs).squeeze S128x2048 squeezes_S1x1x128x2048_S128x2048 = uSrc 7 := uSrc_congr (by decide) _ _
@[sl_canon] theorem uSrcLit_8 (hh hs) : (xuM.slice (Rect.unit (s := S4x16x1024x2048) ![0, 1, 0, 0] S1x1x128x2048.size hh) hs).squeeze S128x2048 squeezes_S1x1x128x2048_S128x2048 = uSrc 8 := uSrc_congr (by decide) _ _
@[sl_canon] theorem dSlotLit_0 (hh hs) : (sdM.slice (Rect.unit (s := S2x256x1024) ![0, 0, 0] S1x256x1024.size hh) hs).squeeze S256x1024 squeezes_S1x256x1024_S256x1024 = dSlot 0 := dSlot_congr (by decide) _ _
@[sl_canon] theorem dSlotLit_1 (hh hs) : (sdM.slice (Rect.unit (s := S2x256x1024) ![1, 0, 0] S1x256x1024.size hh) hs).squeeze S256x1024 squeezes_S1x256x1024_S256x1024 = dSlot 1 := dSlot_congr (by decide) _ _
@[sl_canon] theorem dSrcLit_0 (hh hs) : (xdM.slice (Rect.unit (s := S4x16x2048x1024) ![0, 0, 0, 0] S1x1x256x1024.size hh) hs).squeeze S256x1024 squeezes_S1x1x256x1024_S256x1024 = dSrc 0 := dSrc_congr (by decide) _ _
@[sl_canon] theorem dSrcLit_1 (hh hs) : (xdM.slice (Rect.unit (s := S4x16x2048x1024) ![0, 0, 256, 0] S1x1x256x1024.size hh) hs).squeeze S256x1024 squeezes_S1x1x256x1024_S256x1024 = dSrc 1 := dSrc_congr (by decide) _ _
@[sl_canon] theorem dSrcLit_2 (hh hs) : (xdM.slice (Rect.unit (s := S4x16x2048x1024) ![0, 0, 512, 0] S1x1x256x1024.size hh) hs).squeeze S256x1024 squeezes_S1x1x256x1024_S256x1024 = dSrc 2 := dSrc_congr (by decide) _ _
@[sl_canon] theorem dSrcLit_3 (hh hs) : (xdM.slice (Rect.unit (s := S4x16x2048x1024) ![0, 0, 768, 0] S1x1x256x1024.size hh) hs).squeeze S256x1024 squeezes_S1x1x256x1024_S256x1024 = dSrc 3 := dSrc_congr (by decide) _ _
@[sl_canon] theorem dSrcLit_4 (hh hs) : (xdM.slice (Rect.unit (s := S4x16x2048x1024) ![0, 0, 1024, 0] S1x1x256x1024.size hh) hs).squeeze S256x1024 squeezes_S1x1x256x1024_S256x1024 = dSrc 4 := dSrc_congr (by decide) _ _
@[sl_canon] theorem dSrcLit_5 (hh hs) : (xdM.slice (Rect.unit (s := S4x16x2048x1024) ![0, 0, 1280, 0] S1x1x256x1024.size hh) hs).squeeze S256x1024 squeezes_S1x1x256x1024_S256x1024 = dSrc 5 := dSrc_congr (by decide) _ _
@[sl_canon] theorem dSrcLit_6 (hh hs) : (xdM.slice (Rect.unit (s := S4x16x2048x1024) ![0, 0, 1536, 0] S1x1x256x1024.size hh) hs).squeeze S256x1024 squeezes_S1x1x256x1024_S256x1024 = dSrc 6 := dSrc_congr (by decide) _ _
@[sl_canon] theorem dSrcLit_7 (hh hs) : (xdM.slice (Rect.unit (s := S4x16x2048x1024) ![0, 0, 1792, 0] S1x1x256x1024.size hh) hs).squeeze S256x1024 squeezes_S1x1x256x1024_S256x1024 = dSrc 7 := dSrc_congr (by decide) _ _
@[sl_canon] theorem dSrcLit_8 (hh hs) : (xdM.slice (Rect.unit (s := S4x16x2048x1024) ![0, 1, 0, 0] S1x1x256x1024.size hh) hs).squeeze S256x1024 squeezes_S1x1x256x1024_S256x1024 = dSrc 8 := dSrc_congr (by decide) _ _

/-- The first expert's blocks, each held at its own share. -/
def firstP (c : Dev nD) (q : Fin 8 → PosShare TreeShare) (Xg : BufOf (F := F) c xgM) (Xu : BufOf (F := F) c xuM) (Xd : BufOf (F := F) c xdM) : sProp 𝕄 :=
  iprop(heldP c (gSrc 0) (q 0) Xg ∗ heldP c (gSrc 1) (q 1) Xg ∗ heldP c (gSrc 2) (q 2) Xg ∗ heldP c (gSrc 3) (q 3) Xg ∗ heldP c (gSrc 4) (q 4) Xg ∗ heldP c (gSrc 5) (q 5) Xg ∗ heldP c (gSrc 6) (q 6) Xg ∗ heldP c (gSrc 7) (q 7) Xg ∗ heldP c (uSrc 0) (q 0) Xu ∗ heldP c (uSrc 1) (q 1) Xu ∗ heldP c (uSrc 2) (q 2) Xu ∗ heldP c (uSrc 3) (q 3) Xu ∗ heldP c (uSrc 4) (q 4) Xu ∗ heldP c (uSrc 5) (q 5) Xu ∗ heldP c (uSrc 6) (q 6) Xu ∗ heldP c (uSrc 7) (q 7) Xu ∗ heldP c (dSrc 0) (q 0) Xd ∗ heldP c (dSrc 1) (q 1) Xd ∗ heldP c (dSrc 2) (q 2) Xd ∗ heldP c (dSrc 3) (q 3) Xd ∗ heldP c (dSrc 4) (q 4) Xd ∗ heldP c (dSrc 5) (q 5) Xd ∗ heldP c (dSrc 6) (q 6) Xd ∗ heldP c (dSrc 7) (q 7) Xd)

theorem first_cond2 : ∀ t : Fin cfg0.N, t.val = 0 → k0_cond2 (grid0.coords t) = 1#1 := by decide +kernel

/-- A copy on its way over whatever was written to its slot before. -/
theorem flight_over {sp sp' : Space} {S : Shape} {e : EltTy} (c : Dev nD) (k : Fin 3) (s : Fin 2) (src : Memref sig .tc sp S e) (dst : Memref sig .tc sp' S e)
    (X : BufOf (F := F) c src) (f : BufOf (F := F) c dst) (L : List (View.Piece (Elt F) S e)) :
    Transfers.Flight countersEmb (c : Thread nD τ) (SemLoc.dma (cellN k s).sem) () 32768
        iprop(heldP c dst fullShare (dst.view.writes (Elt F) f (⟨Rect.whole S, ReadAs.same.apply (src.view.read (Elt F) X)⟩ :: L)) ∗ heldP c src (part s) X)
      ⊢ (iprop(∃ f, flightP c k s src dst X f) : sProp 𝕄) := by
  iintro H
  iexists (dst.view.writes (Elt F) f L)
  iexact H

set_option maxHeartbeats 4000000 in
/-- The pieces of the weights' buffers that the first point's own part writes, with the run of the starts there. -/
noncomputable def firstRun (c : Dev nD) (t : Fin cfg0.N) (arg2 : Memref sig .tc .vmem S1x4096x128 .f32) (harg2 : arg2.IsWhole)
    (arg6 : Memref sig .tc .vmem S1x8x512x128 .f32) (harg6 : arg6.IsWhole)
    (Xg : BufOf (F := F) c xgM) (Xu : BufOf (F := F) c xuM) (Xd : BufOf (F := F) c xdM) :
    { L : List (View.Piece (Elt F) S2x1024x2048 .bf16) × List (View.Piece (Elt F) S2x1024x2048 .bf16) × List (View.Piece (Elt F) S2x2048x1024 .bf16) //
      ∀ (h0 : firstWord (grid0.coords t) = 1#1) (q : Fin 8 → PosShare TreeShare)
        (Wg : BufOf (F := F) c wgM) (Wu : BufOf (F := F) c wuM) (Wd : BufOf (F := F) c wdM) (W : Waits sig Unit) (K : _ → sProp 𝕄),
        iprop(freeP c 0 ∗ freeP c 1 ∗ srcP c Xg Xu Xd 0 8 ∗ srcP c Xg Xu Xd (next t) (blkNext t) ∗ firstP c q Xg Xu Xd
            ∗ heldP c wgM fullShare Wg ∗ heldP c wuM fullShare Wu ∗ heldP c wdM fullShare Wd
            ∗ owes (c : Thread nD τ) 0 W
            ∗ (∀ r, iprop(busyP c Xg Xu Xd 0 8 ∗ busyP c Xg Xu Xd (next t) (blkNext t) ∗ firstP c q Xg Xu Xd
                ∗ heldP c wgM fullShare (wgM.view.writes (Elt F) Wg L.1) ∗ heldP c wuM fullShare (wuM.view.writes (Elt F) Wu L.2.1)
                ∗ heldP c wdM fullShare (wdM.view.writes (Elt F) Wd L.2.2)
                ∗ (∃ W', owes (c : Thread nD τ) 0 W')) -∗ K r))
          ⊢ wp frame (wpE (defs₀ (F := F)) Variants.none c none) Set.univ (k0_part22 (grid0.coords t) arg2 harg2 xgM (Memref.isWhole_whole _) xuM (Memref.isWhole_whole _) xdM (Memref.isWhole_whole _) arg6 harg6 wgM (Memref.isWhole_whole _) wuM (Memref.isWhole_whole _) wdM (Memref.isWhole_whole _) sgM (Memref.isWhole_whole _) suM (Memref.isWhole_whole _) sdM (Memref.isWhole_whole _) cc0_scratch6) K } := by
  refine ⟨⟨?_, ?_, ?_⟩, fun h0 q Wg Wu Wd W K => ?run⟩
  case run =>
    have ht : t.val = 0 := (first_iff t).1 h0
    have e1 : (1 : Fin 2) = next t := by unfold next; rw [ht]; decide
    have hfree : freeP (F := F) c 1 ⊢ freeP c (next t) := by rw [e1]
    unfold firstP
    rw [k0_part22_eq_skeleton]; unfold k0_part22_skel
    simp -proj only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    have hsrc (s : Fin 2) (n : Fin 128) : srcP c Xg Xu Xd s n ⊢ iprop(heldP c (gSrc n) (part s) Xg ∗ heldP c (uSrc n) (part s) Xu ∗ heldP c (dSrc n) (part s) Xd) := by unfold srcP; exact .rfl
    have hfr (s : Fin 2) : freeP (F := F) c s ⊢ iprop(cellP c 0 s ∗ cellP c 1 s ∗ cellP c 2 s
      ∗ (∃ f, heldP c (gSlot s) fullShare f) ∗ (∃ f, heldP c (uSlot s) fullShare f) ∗ (∃ f, heldP c (dSlot s) fullShare f)) := by unfold freeP; exact .rfl
    have hrf (s : Fin 2) : iprop(cellP c 0 s ∗ cellP c 1 s ∗ cellP c 2 s
      ∗ (∃ f, heldP c (gSlot s) fullShare f) ∗ (∃ f, heldP c (uSlot s) fullShare f) ∗ (∃ f, heldP c (dSlot s) fullShare f)) ⊢ freeP (F := F) c s := by unfold freeP; exact .rfl
    iintro ⟨F0, F1, X0, X1, ⟨Sg0, Sg1, Sg2, Sg3, Sg4, Sg5, Sg6, Sg7, Su0, Su1, Su2, Su3, Su4, Su5, Su6, Su7, Sd0, Sd1, Sd2, Sd3, Sd4, Sd5, Sd6, Sd7⟩, HWg, HWu, HWd, HO, Hk⟩
    ihave F0' := hfr 0 $$ F0
    ihave F1' := hfr 1 $$ F1
    ihave X0' := hsrc 0 8 $$ X0
    icases F0' with ⟨Cg0, Cu0, Cd0, ⟨%fg0, Bg0⟩, ⟨%fu0, Bu0⟩, ⟨%fd0, Bd0⟩⟩
    icases F1' with ⟨Cg1, Cu1, Cd1, ⟨%fg1, Bg1⟩, ⟨%fu1, Bu1⟩, ⟨%fd1, Bd1⟩⟩
    icases X0' with ⟨Xg8, Xu8, Xd8⟩
    sl_exec
    have hcond : k0_cond2 (grid0.coords t) = 1#1 := by
      rcases starts t with ⟨h, -, -⟩ | ⟨h2, -, -⟩ | ⟨-, -, h⟩
      · exact h
      · exact absurd (first_cond2 t ht) h2
      · omega
    have hcond3 : ¬ k0_cond3 (grid0.coords t) = 1#1 := by
      rcases starts t with ⟨-, h, -⟩ | ⟨h2, -, -⟩ | ⟨-, -, h⟩
      · exact h
      · exact absurd (first_cond2 t ht) h2
      · omega
    ihave G := hrf 1 $$ [Cg1 Cu1 Cd1 Bg1 Bu1 Bd1]
    · isplitl [Cg1]; · iexact Cg1
      isplitl [Cu1]; · iexact Cu1
      isplitl [Cd1]; · iexact Cd1
      isplitl [Bg1]; · iexists _; iexact Bg1
      isplitl [Bu1]; · iexists _; iexact Bu1
      iexists _; iexact Bd1
    ihave G' := hfree $$ G
    ihave G'' := hfr (next t) $$ G'
    ihave X1' := hsrc (next t) (blkNext t) $$ X1
    icases G'' with ⟨Cg2, Cu2, Cd2, ⟨%fg2, Bg2⟩, ⟨%fu2, Bu2⟩, ⟨%fd2, Bd2⟩⟩
    icases X1' with ⟨Xg2, Xu2, Xd2⟩
    sl_exec
    sl_step
    iapply Hk
    isplitl [Cg0 Cu0 Cd0]
    · unfold busyP
      isplitl [Cg0]; · iapply (flight_over c 0 0 (gSrc 8) (gSlot 0) Xg _ _); iexact Cg0
      isplitl [Cu0]; · iapply (flight_over c 1 0 (uSrc 8) (uSlot 0) Xu _ _); iexact Cu0
      iapply (flight_over c 2 0 (dSrc 8) (dSlot 0) Xd _ _); iexact Cd0
    isplitl [Cg2 Cu2 Cd2]
    · unfold busyP
      isplitl [Cg2]; · iexists _; iexact Cg2
      isplitl [Cu2]; · iexists _; iexact Cu2
      iexists _; iexact Cd2
    isplitl [Sg0 Sg1 Sg2 Sg3 Sg4 Sg5 Sg6 Sg7 Su0 Su1 Su2 Su3 Su4 Su5 Su6 Su7 Sd0 Sd1 Sd2 Sd3 Sd4 Sd5 Sd6 Sd7]
    · isplitl [Sg0]; · iexact Sg0
      isplitl [Sg1]; · iexact Sg1
      isplitl [Sg2]; · iexact Sg2
      isplitl [Sg3]; · iexact Sg3
      isplitl [Sg4]; · iexact Sg4
      isplitl [Sg5]; · iexact Sg5
      isplitl [Sg6]; · iexact Sg6
      isplitl [Sg7]; · iexact Sg7
      isplitl [Su0]; · iexact Su0
      isplitl [Su1]; · iexact Su1
      isplitl [Su2]; · iexact Su2
      isplitl [Su3]; · iexact Su3
      isplitl [Su4]; · iexact Su4
      isplitl [Su5]; · iexact Su5
      isplitl [Su6]; · iexact Su6
      isplitl [Su7]; · iexact Su7
      isplitl [Sd0]; · iexact Sd0
      isplitl [Sd1]; · iexact Sd1
      isplitl [Sd2]; · iexact Sd2
      isplitl [Sd3]; · iexact Sd3
      isplitl [Sd4]; · iexact Sd4
      isplitl [Sd5]; · iexact Sd5
      isplitl [Sd6]; · iexact Sd6
      iexact Sd7
    isplitl [HWg]; · iexact HWg
    isplitl [HWu]; · iexact HWu
    isplitl [HWd]; · iexact HWd
    iexists _; iexact HO

end Cert.EX

end
-- ==== Proof.EX.Weights.lean ====
/- What the weights' buffers hold from point to point: one half the whole expert in use, the other the rows of the next one fetched so far. -/
module

public import proofs.«01_k».proof.Proof.EX.First
public import Idealize.ShloMosaic.Lib.Pointwise
public import Idealize.ShloMosaic.Lib.Pipeline.ValueKit
public import Idealize.ShloMosaic.Lib.ValueLayout
public import Idealize.ShloMosaic.Lib.WritesUnit
public import Idealize.ShloMosaic.Lib.VecWindow

@[expose] public section

set_option maxRecDepth 65536

noncomputable section

namespace Cert.EX

open Cert.Kernel2Ideal Cert.Kernel2Ideal.Gen
open Idealize.ShloMosaic hiding ix1 ix2 ix3 ix4
open Idealize.ShloMosaic.TcCoe Idealize.ShloMosaic.ValueIdx

variable {F : FTy → Type} [FloatOps F]

/-- A weight at the precision of the products. -/
abbrev tr (x : Elt F .f32) : Elt F .bf16 := FloatOps.truncf .bf16 bitsLt_bf16_f32 x

/-- Expert `e` of an array of rows, as a half of its buffer holds it. -/
def rowsOf (X : S4x16x1024x2048.Idx → Elt F .f32) (e : ℕ) (i : S2x1024x2048.Idx) : Elt F .bf16 :=
  tr (X (ix4 (0 : Fin 4) (⟨e % 16, Nat.mod_lt _ (by decide)⟩ : Fin 16) (⟨(i 1).val, (i 1).isLt⟩ : Fin 1024) (⟨(i 2).val, (i 2).isLt⟩ : Fin 2048)))
/-- The same of the array of columns. -/
def colsOf (X : S4x16x2048x1024.Idx → Elt F .f32) (e : ℕ) (i : S2x2048x1024.Idx) : Elt F .bf16 :=
  tr (X (ix4 (0 : Fin 4) (⟨e % 16, Nat.mod_lt _ (by decide)⟩ : Fin 16) (⟨(i 1).val, (i 1).isLt⟩ : Fin 2048) (⟨(i 2).val, (i 2).isLt⟩ : Fin 1024)))

/-- Point `p`'s state of a buffer of rows: half `p / 8 % 2` is expert `p / 8`, the other half has the first rows of the next. -/
def GoodRows (p : ℕ) (W : S2x1024x2048.Idx → Elt F .bf16) (X : S4x16x1024x2048.Idx → Elt F .f32) : Prop :=
  ∀ i : S2x1024x2048.Idx, ((i 0).val = p / 8 % 2 → W i = rowsOf X (p / 8) i)
    ∧ ((i 0).val = (p / 8 + 1) % 2 → (i 1).val < 128 * (p % 8) → W i = rowsOf X (p / 8 + 1) i)
def GoodCols (p : ℕ) (W : S2x2048x1024.Idx → Elt F .bf16) (X : S4x16x2048x1024.Idx → Elt F .f32) : Prop :=
  ∀ i : S2x2048x1024.Idx, ((i 0).val = p / 8 % 2 → W i = colsOf X (p / 8) i)
    ∧ ((i 0).val = (p / 8 + 1) % 2 → (i 1).val < 256 * (p % 8) → W i = colsOf X (p / 8 + 1) i)

theorem whole_emb {S : Shape} (x : (Rect.whole S).shape.Idx) : (Rect.whole S).emb x = x := by
  funext a; apply Fin.ext
  show 0 + 1 * (x a).val = (x a).val
  omega

/-- A slot that block `n` has landed in, read whole and rounded, is that block's part of its expert. -/
theorem gPiece (c : Dev nD) (s : Fin 2) (n : Fin 128) {off : Fin 3 → ℕ} (e : off = slotOff s) (hh) (X : BufOf (F := F) c xgM) (f : BufOf (F := F) c (gSlot s))
    (L : List (View.Piece (Elt F) S128x2048 .f32)) {off' : Fin 3 → ℕ} {h : ℕ} (e' : off' = ![h, 128 * (n.val % 8), 0]) (hh')
    (x : (Rect.unit (s := S2x1024x2048) off' S1x128x2048.size hh').shape.Idx) :
    k0_pay34 (View.readAt (Elt F) sgM.view (Rect.unit (s := S2x128x2048) off S1x128x2048.size hh).toLoadRect
      ((gSlot s).view.writes (Elt F) f (⟨Rect.whole S128x2048, ReadAs.same.apply ((gSrc n).view.read (Elt F) X)⟩ :: L))) x
      = rowsOf X (n.val / 8) ((Rect.unit (s := S2x1024x2048) off' S1x128x2048.size hh').emb x) := by
  subst e e'
  have l0 : (x 0).val < 1 := (x 0).isLt
  obtain ⟨r, q, rfl⟩ : ∃ (r : Fin 128) (q : Fin 2048), x = ix3 (0 : Fin 1) r q :=
    ⟨⟨(x 1).val, (x 1).isLt⟩, ⟨(x 2).val, (x 2).isLt⟩, by funext a; apply Fin.ext; fin_cases a <;> first | rfl | (show (x 0).val = 0; omega)⟩
  have key : shapeCast S128x2048 (View.readAt (Elt F) sgM.view (Rect.unit (s := S2x128x2048) (slotOff s) S1x128x2048.size hh).toLoadRect
      ((gSlot s).view.writes (Elt F) f (⟨Rect.whole S128x2048, ReadAs.same.apply ((gSrc n).view.read (Elt F) X)⟩ :: L))) shapeCasts_S1x128x2048_S128x2048
      = (gSrc n).view.read (Elt F) X := by
    funext y
    show (gSlot s).view.read (Elt F) ((gSlot s).view.writes (Elt F) f (⟨Rect.whole S128x2048, ReadAs.same.apply ((gSrc n).view.read (Elt F) X)⟩ :: L)) y = _
    have := View.read_writes_cons_emb (gSlot s).view f (Rect.whole S128x2048) (ReadAs.same.apply ((gSrc n).view.read (Elt F) X)) L y
    rw [whole_emb] at this
    exact this
  unfold k0_pay34
  dsimp only
  rw [key, shapeCast_ab_1ab_apply]
  show tr (X ((Rect.unit (s := S4x16x1024x2048) _ _ _).emb (Shape.reshapeEquiv _ (ix2 r q)))) = _
  rw [reshapeEquiv_ix2_11ab]
  unfold rowsOf
  refine congrArg (fun z => tr (X z)) ?_
  have hn : n.val < 128 := n.isLt
  funext a; apply Fin.ext
  fin_cases a
  · rfl
  · show n.val / 8 + 1 * 0 = n.val / 8 % 16
    omega
  · rfl
  · rfl

/-- A slot that block `n` has landed in, read whole and rounded, is that block's part of its expert. -/
theorem uPiece (c : Dev nD) (s : Fin 2) (n : Fin 128) {off : Fin 3 → ℕ} (e : off = slotOff s) (hh) (X : BufOf (F := F) c xuM) (f : BufOf (F := F) c (uSlot s))
    (L : List (View.Piece (Elt F) S128x2048 .f32)) {off' : Fin 3 → ℕ} {h : ℕ} (e' : off' = ![h, 128 * (n.val % 8), 0]) (hh')
    (x : (Rect.unit (s := S2x1024x2048) off' S1x128x2048.size hh').shape.Idx) :
    k0_pay35 (View.readAt (Elt F) suM.view (Rect.unit (s := S2x128x2048) off S1x128x2048.size hh).toLoadRect
      ((uSlot s).view.writes (Elt F) f (⟨Rect.whole S128x2048, ReadAs.same.apply ((uSrc n).view.read (Elt F) X)⟩ :: L))) x
      = rowsOf X (n.val / 8) ((Rect.unit (s := S2x1024x2048) off' S1x128x2048.size hh').emb x) := by
  subst e e'
  have l0 : (x 0).val < 1 := (x 0).isLt
  obtain ⟨r, q, rfl⟩ : ∃ (r : Fin 128) (q : Fin 2048), x = ix3 (0 : Fin 1) r q :=
    ⟨⟨(x 1).val, (x 1).isLt⟩, ⟨(x 2).val, (x 2).isLt⟩, by funext a; apply Fin.ext; fin_cases a <;> first | rfl | (show (x 0).val = 0; omega)⟩
  have key : shapeCast S128x2048 (View.readAt (Elt F) suM.view (Rect.unit (s := S2x128x2048) (slotOff s) S1x128x2048.size hh).toLoadRect
      ((uSlot s).view.writes (Elt F) f (⟨Rect.whole S128x2048, ReadAs.same.apply ((uSrc n).view.read (Elt F) X)⟩ :: L))) shapeCasts_S1x128x2048_S128x2048
      = (uSrc n).view.read (Elt F) X := by
    funext y
    show (uSlot s).view.read (Elt F) ((uSlot s).view.writes (Elt F) f (⟨Rect.whole S128x2048, ReadAs.same.apply ((uSrc n).view.read (Elt F) X)⟩ :: L)) y = _
    have := View.read_writes_cons_emb (uSlot s).view f (Rect.whole S128x2048) (ReadAs.same.apply ((uSrc n).view.read (Elt F) X)) L y
    rw [whole_emb] at this
    exact this
  unfold k0_pay35
  dsimp only
  rw [key, shapeCast_ab_1ab_apply]
  show tr (X ((Rect.unit (s := S4x16x1024x2048) _ _ _).emb (Shape.reshapeEquiv _ (ix2 r q)))) = _
  rw [reshapeEquiv_ix2_11ab]
  unfold rowsOf
  refine congrArg (fun z => tr (X z)) ?_
  have hn : n.val < 128 := n.isLt
  funext a; apply Fin.ext
  fin_cases a
  · rfl
  · show n.val / 8 + 1 * 0 = n.val / 8 % 16
    omega
  · rfl
  · rfl

/-- A slot that block `n` has landed in, read whole and rounded, is that block's part of its expert. -/
theorem dPiece (c : Dev nD) (s : Fin 2) (n : Fin 128) {off : Fin 3 → ℕ} (e : off = slotOff s) (hh) (X : BufOf (F := F) c xdM) (f : BufOf (F := F) c (dSlot s))
    (L : List (View.Piece (Elt F) S256x1024 .f32)) {off' : Fin 3 → ℕ} {h : ℕ} (e' : off' = ![h, 256 * (n.val % 8), 0]) (hh')
    (x : (Rect.unit (s := S2x2048x1024) off' S1x256x1024.size hh').shape.Idx) :
    k0_pay36 (View.readAt (Elt F) sdM.view (Rect.unit (s := S2x256x1024) off S1x256x1024.size hh).toLoadRect
      ((dSlot s).view.writes (Elt F) f (⟨Rect.whole S256x1024, ReadAs.same.apply ((dSrc n).view.read (Elt F) X)⟩ :: L))) x
      = colsOf X (n.val / 8) ((Rect.unit (s := S2x2048x1024) off' S1x256x1024.size hh').emb x) := by
  subst e e'
  have l0 : (x 0).val < 1 := (x 0).isLt
  obtain ⟨r, q, rfl⟩ : ∃ (r : Fin 256) (q : Fin 1024), x = ix3 (0 : Fin 1) r q :=
    ⟨⟨(x 1).val, (x 1).isLt⟩, ⟨(x 2).val, (x 2).isLt⟩, by funext a; apply Fin.ext; fin_cases a <;> first | rfl | (show (x 0).val = 0; omega)⟩
  have key : shapeCast S256x1024 (View.readAt (Elt F) sdM.view (Rect.unit (s := S2x256x1024) (slotOff s) S1x256x1024.size hh).toLoadRect
      ((dSlot s).view.writes (Elt F) f (⟨Rect.whole S256x1024, ReadAs.same.apply ((dSrc n).view.read (Elt F) X)⟩ :: L))) shapeCasts_S1x256x1024_S256x1024
      = (dSrc n).view.read (Elt F) X := by
    funext y
    show (dSlot s).view.read (Elt F) ((dSlot s).view.writes (Elt F) f (⟨Rect.whole S256x1024, ReadAs.same.apply ((dSrc n).view.read (Elt F) X)⟩ :: L)) y = _
    have := View.read_writes_cons_emb (dSlot s).view f (Rect.whole S256x1024) (ReadAs.same.apply ((dSrc n).view.read (Elt F) X)) L y
    rw [whole_emb] at this
    exact this
  unfold k0_pay36
  dsimp only
  rw [key, shapeCast_ab_1ab_apply]
  show tr (X ((Rect.unit (s := S4x16x2048x1024) _ _ _).emb (Shape.reshapeEquiv _ (ix2 r q)))) = _
  rw [reshapeEquiv_ix2_11ab]
  unfold colsOf
  refine congrArg (fun z => tr (X z)) ?_
  have hn : n.val < 128 := n.isLt
  funext a; apply Fin.ext
  fin_cases a
  · rfl
  · show n.val / 8 + 1 * 0 = n.val / 8 % 16
    omega
  · rfl
  · rfl

/-- A point's own block stored: the state of the point after. -/
theorem GoodRows.next {p : ℕ} {W W' : S2x1024x2048.Idx → Elt F .bf16} {X : S4x16x1024x2048.Idx → Elt F .f32} (hp : GoodRows p W X)
    (hold : ∀ i, ¬ ((i 0).val = (p / 8 + 1) % 2 ∧ 128 * (p % 8) ≤ (i 1).val ∧ (i 1).val < 128 * (p % 8) + 128) → W' i = W i)
    (hnew : ∀ i, (i 0).val = (p / 8 + 1) % 2 → 128 * (p % 8) ≤ (i 1).val → (i 1).val < 128 * (p % 8) + 128 → W' i = rowsOf X (p / 8 + 1) i) :
    GoodRows (p + 1) W' X := by
  intro i
  have l1 : (i 1).val < 1024 := (i 1).isLt
  refine ⟨fun h0 => ?_, fun h0 h1 => ?_⟩
  · by_cases hc : p % 8 = 7
    · have e : (p + 1) / 8 = p / 8 + 1 := by omega
      rw [e] at h0 ⊢
      by_cases hr : (i 1).val < 128 * (p % 8)
      · rw [hold i (by omega)]; exact (hp i).2 h0 hr
      · exact hnew i h0 (by omega) (by omega)
    · have e : (p + 1) / 8 = p / 8 := by omega
      rw [e] at h0 ⊢
      rw [hold i (by omega)]; exact (hp i).1 h0
  · have e : (p + 1) / 8 = p / 8 := by omega
    rw [e] at h0 ⊢
    by_cases hr : (i 1).val < 128 * (p % 8)
    · rw [hold i (by omega)]; exact (hp i).2 h0 hr
    · exact hnew i h0 (by omega) (by omega)
/-- The half in use stays as it is while a block is stored into the other. -/
theorem GoodRows.keep {p : ℕ} {W W' : S2x1024x2048.Idx → Elt F .bf16} {X : S4x16x1024x2048.Idx → Elt F .f32} (hp : GoodRows p W X)
    (hold : ∀ i, ¬ ((i 0).val = (p / 8 + 1) % 2 ∧ 128 * (p % 8) ≤ (i 1).val ∧ (i 1).val < 128 * (p % 8) + 128) → W' i = W i)
    (i : S2x1024x2048.Idx) (h : (i 0).val = p / 8 % 2) : W' i = rowsOf X (p / 8) i := by
  rw [hold i (by omega)]; exact (hp i).1 h

/-- A point's own block stored: the state of the point after. -/
theorem GoodCols.next {p : ℕ} {W W' : S2x2048x1024.Idx → Elt F .bf16} {X : S4x16x2048x1024.Idx → Elt F .f32} (hp : GoodCols p W X)
    (hold : ∀ i, ¬ ((i 0).val = (p / 8 + 1) % 2 ∧ 256 * (p % 8) ≤ (i 1).val ∧ (i 1).val < 256 * (p % 8) + 256) → W' i = W i)
    (hnew : ∀ i, (i 0).val = (p / 8 + 1) % 2 → 256 * (p % 8) ≤ (i 1).val → (i 1).val < 256 * (p % 8) + 256 → W' i = colsOf X (p / 8 + 1) i) :
    GoodCols (p + 1) W' X := by
  intro i
  have l1 : (i 1).val < 2048 := (i 1).isLt
  refine ⟨fun h0 => ?_, fun h0 h1 => ?_⟩
  · by_cases hc : p % 8 = 7
    · have e : (p + 1) / 8 = p / 8 + 1 := by omega
      rw [e] at h0 ⊢
      by_cases hr : (i 1).val < 256 * (p % 8)
      · rw [hold i (by omega)]; exact (hp i).2 h0 hr
      · exact hnew i h0 (by omega) (by omega)
    · have e : (p + 1) / 8 = p / 8 := by omega
      rw [e] at h0 ⊢
      rw [hold i (by omega)]; exact (hp i).1 h0
  · have e : (p + 1) / 8 = p / 8 := by omega
    rw [e] at h0 ⊢
    by_cases hr : (i 1).val < 256 * (p % 8)
    · rw [hold i (by omega)]; exact (hp i).2 h0 hr
    · exact hnew i h0 (by omega) (by omega)
/-- The half in use stays as it is while a block is stored into the other. -/
theorem GoodCols.keep {p : ℕ} {W W' : S2x2048x1024.Idx → Elt F .bf16} {X : S4x16x2048x1024.Idx → Elt F .f32} (hp : GoodCols p W X)
    (hold : ∀ i, ¬ ((i 0).val = (p / 8 + 1) % 2 ∧ 256 * (p % 8) ≤ (i 1).val ∧ (i 1).val < 256 * (p % 8) + 256) → W' i = W i)
    (i : S2x2048x1024.Idx) (h : (i 0).val = p / 8 % 2) : W' i = colsOf X (p / 8) i := by
  rw [hold i (by omega)]; exact (hp i).1 h

/-! ## One point's stores -/

theorem rd_g (c : Dev nD) (W : BufOf (F := F) c wgM) (i : S2x1024x2048.Idx) : wgM.view.read (Elt F) W i = W i := rfl
theorem rd_u (c : Dev nD) (W : BufOf (F := F) c wuM) (i : S2x1024x2048.Idx) : wuM.view.read (Elt F) W i = W i := rfl
theorem rd_d (c : Dev nD) (W : BufOf (F := F) c wdM) (i : S2x2048x1024.Idx) : wdM.view.read (Elt F) W i = W i := rfl

theorem blkHere_div (t : Fin cfg0.N) : (blkHere t).val / 8 % 16 = (t.val / 8 + 1) % 16 := by
  show (t.val + 8) % 128 / 8 % 16 = _
  omega
theorem blkHere_mod (t : Fin cfg0.N) : (blkHere t).val % 8 = t.val % 8 := by
  show (t.val + 8) % 128 % 8 = _
  omega
theorem rowsOf_mod (X : S4x16x1024x2048.Idx → Elt F .f32) {e e' : ℕ} (h : e % 16 = e' % 16) (i : S2x1024x2048.Idx) : rowsOf X e i = rowsOf X e' i := by
  unfold rowsOf; simp only [h]
theorem colsOf_mod (X : S4x16x2048x1024.Idx → Elt F .f32) {e e' : ℕ} (h : e % 16 = e' % 16) (i : S2x2048x1024.Idx) : colsOf X e i = colsOf X e' i := by
  unfold colsOf; simp only [h]

theorem gOld (c : Dev nD) (t : Fin cfg0.N) (X : BufOf (F := F) c xgM) (W : BufOf (F := F) c wgM) (i : S2x1024x2048.Idx)
    (h : ¬ ((i 0).val = oth t ∧ 128 * (t.val % 8) ≤ (i 1).val ∧ (i 1).val < 128 * (t.val % 8) + 128)) :
    wgM.view.writes (Elt F) W (pointRun.sl.HWg_1 c t X) i = W i := by
  refine (rd_g c _ i).symm.trans (Eq.trans ?_ (rd_g c W i))
  unfold pointRun.sl.HWg_1
  have l0 : (i 0).val < 2 := (i 0).isLt
  have l2 : (i 2).val < 2048 := (i 2).isLt
  rw [View.read_writes_cons_unit _ _ _ _ _ _ (off23_eq t), dif_neg, View.writes_nil]
  intro hall
  have h0 := hall 0
  have h1 := hall 1
  change oth t ≤ (i 0).val ∧ (i 0).val < oth t + 1 at h0
  change 128 * (t.val % 8) ≤ (i 1).val ∧ (i 1).val < 128 * (t.val % 8) + 128 at h1
  omega
theorem gNew (c : Dev nD) (t : Fin cfg0.N) (X : BufOf (F := F) c xgM) (W : BufOf (F := F) c wgM) (i : S2x1024x2048.Idx)
    (h0 : (i 0).val = oth t) (h1 : 128 * (t.val % 8) ≤ (i 1).val) (h1' : (i 1).val < 128 * (t.val % 8) + 128) :
    wgM.view.writes (Elt F) W (pointRun.sl.HWg_1 c t X) i = rowsOf X (t.val / 8 + 1) i := by
  refine (rd_g c _ i).symm.trans ?_
  rw [← rowsOf_mod X (blkHere_div t)]
  refine View.read_writes_apply_of_pieces wgM.view W (rowsOf X ((blkHere t).val / 8)) _ ?_ i ?_
  · intro p hp x
    obtain rfl := List.mem_singleton.1 hp
    exact gPiece c (here t) (blkHere t) (off22_eq t) _ X _ [] (h := oth t) (by rw [blkHere_mod]; exact off23_eq t) (k0_off23_inb (grid0.coords t)) x
  · refine ⟨_, List.mem_singleton.2 rfl, ?_⟩
    rw [Rect.mem_set_unit, off23_eq]
    have l2 : (i 2).val < 2048 := (i 2).isLt
    intro a
    fin_cases a
    · show oth t ≤ (i 0).val ∧ (i 0).val < oth t + 1; omega
    · exact ⟨h1, h1'⟩
    · exact ⟨Nat.zero_le _, by show (i 2).val < 0 + 2048; omega⟩
theorem gNext (c : Dev nD) (t : Fin cfg0.N) (X : BufOf (F := F) c xgM) (W : BufOf (F := F) c wgM) (hW : GoodRows t.val W X) :
    GoodRows (t.val + 1) (wgM.view.writes (Elt F) W (pointRun.sl.HWg_1 c t X)) X :=
  hW.next (gOld c t X W) (gNew c t X W)

theorem uOld (c : Dev nD) (t : Fin cfg0.N) (X : BufOf (F := F) c xuM) (W : BufOf (F := F) c wuM) (i : S2x1024x2048.Idx)
    (h : ¬ ((i 0).val = oth t ∧ 128 * (t.val % 8) ≤ (i 1).val ∧ (i 1).val < 128 * (t.val % 8) + 128)) :
    wuM.view.writes (Elt F) W (pointRun.sl.HWu_1 c t X) i = W i := by
  refine (rd_u c _ i).symm.trans (Eq.trans ?_ (rd_u c W i))
  unfold pointRun.sl.HWu_1
  have l0 : (i 0).val < 2 := (i 0).isLt
  have l2 : (i 2).val < 2048 := (i 2).isLt
  rw [View.read_writes_cons_unit _ _ _ _ _ _ (off23_eq t), dif_neg, View.writes_nil]
  intro hall
  have h0 := hall 0
  have h1 := hall 1
  change oth t ≤ (i 0).val ∧ (i 0).val < oth t + 1 at h0
  change 128 * (t.val % 8) ≤ (i 1).val ∧ (i 1).val < 128 * (t.val % 8) + 128 at h1
  omega
theorem uNew (c : Dev nD) (t : Fin cfg0.N) (X : BufOf (F := F) c xuM) (W : BufOf (F := F) c wuM) (i : S2x1024x2048.Idx)
    (h0 : (i 0).val = oth t) (h1 : 128 * (t.val % 8) ≤ (i 1).val) (h1' : (i 1).val < 128 * (t.val % 8) + 128) :
    wuM.view.writes (Elt F) W (pointRun.sl.HWu_1 c t X) i = rowsOf X (t.val / 8 + 1) i := by
  refine (rd_u c _ i).symm.trans ?_
  rw [← rowsOf_mod X (blkHere_div t)]
  refine View.read_writes_apply_of_pieces wuM.view W (rowsOf X ((blkHere t).val / 8)) _ ?_ i ?_
  · intro p hp x
    obtain rfl := List.mem_singleton.1 hp
    exact uPiece c (here t) (blkHere t) (off22_eq t) _ X _ [] (h := oth t) (by rw [blkHere_mod]; exact off23_eq t) (k0_off23_inb (grid0.coords t)) x
  · refine ⟨_, List.mem_singleton.2 rfl, ?_⟩
    rw [Rect.mem_set_unit, off23_eq]
    have l2 : (i 2).val < 2048 := (i 2).isLt
    intro a
    fin_cases a
    · show oth t ≤ (i 0).val ∧ (i 0).val < oth t + 1; omega
    · exact ⟨h1, h1'⟩
    · exact ⟨Nat.zero_le _, by show (i 2).val < 0 + 2048; omega⟩
theorem uNext (c : Dev nD) (t : Fin cfg0.N) (X : BufOf (F := F) c xuM) (W : BufOf (F := F) c wuM) (hW : GoodRows t.val W X) :
    GoodRows (t.val + 1) (wuM.view.writes (Elt F) W (pointRun.sl.HWu_1 c t X)) X :=
  hW.next (uOld c t X W) (uNew c t X W)

theorem dOld (c : Dev nD) (t : Fin cfg0.N) (X : BufOf (F := F) c xdM) (W : BufOf (F := F) c wdM) (i : S2x2048x1024.Idx)
    (h : ¬ ((i 0).val = oth t ∧ 256 * (t.val % 8) ≤ (i 1).val ∧ (i 1).val < 256 * (t.val % 8) + 256)) :
    wdM.view.writes (Elt F) W (pointRun.sl.HWd_1 c t X) i = W i := by
  refine (rd_d c _ i).symm.trans (Eq.trans ?_ (rd_d c W i))
  unfold pointRun.sl.HWd_1
  have l0 : (i 0).val < 2 := (i 0).isLt
  have l2 : (i 2).val < 1024 := (i 2).isLt
  rw [View.read_writes_cons_unit _ _ _ _ _ _ (off25_eq t), dif_neg, View.writes_nil]
  intro hall
  have h0 := hall 0
  have h1 := hall 1
  change oth t ≤ (i 0).val ∧ (i 0).val < oth t + 1 at h0
  change 256 * (t.val % 8) ≤ (i 1).val ∧ (i 1).val < 256 * (t.val % 8) + 256 at h1
  omega
theorem dNew (c : Dev nD) (t : Fin cfg0.N) (X : BufOf (F := F) c xdM) (W : BufOf (F := F) c wdM) (i : S2x2048x1024.Idx)
    (h0 : (i 0).val = oth t) (h1 : 256 * (t.val % 8) ≤ (i 1).val) (h1' : (i 1).val < 256 * (t.val % 8) + 256) :
    wdM.view.writes (Elt F) W (pointRun.sl.HWd_1 c t X) i = colsOf X (t.val / 8 + 1) i := by
  refine (rd_d c _ i).symm.trans ?_
  rw [← colsOf_mod X (blkHere_div t)]
  refine View.read_writes_apply_of_pieces wdM.view W (colsOf X ((blkHere t).val / 8)) _ ?_ i ?_
  · intro p hp x
    obtain rfl := List.mem_singleton.1 hp
    exact dPiece c (here t) (blkHere t) (off24_eq t) _ X _ [] (h := oth t) (by rw [blkHere_mod]; exact off25_eq t) (k0_off25_inb (grid0.coords t)) x
  · refine ⟨_, List.mem_singleton.2 rfl, ?_⟩
    rw [Rect.mem_set_unit, off25_eq]
    have l2 : (i 2).val < 1024 := (i 2).isLt
    intro a
    fin_cases a
    · show oth t ≤ (i 0).val ∧ (i 0).val < oth t + 1; omega
    · exact ⟨h1, h1'⟩
    · exact ⟨Nat.zero_le _, by show (i 2).val < 0 + 1024; omega⟩
theorem dNext (c : Dev nD) (t : Fin cfg0.N) (X : BufOf (F := F) c xdM) (W : BufOf (F := F) c wdM) (hW : GoodCols t.val W X) :
    GoodCols (t.val + 1) (wdM.view.writes (Elt F) W (pointRun.sl.HWd_1 c t X)) X :=
  hW.next (dOld c t X W) (dNew c t X W)

end Cert.EX

end
-- ==== Proof.EX.Out.lean ====
/- The numbers of a grid point: what the loads read, the first point's weights, and the block of the result that a point writes. -/
module

public import proofs.«01_k».proof.Proof.EX.Weights

@[expose] public section

set_option maxRecDepth 65536

noncomputable section

namespace Cert.EX

open Cert.Kernel2Ideal Cert.Kernel2Ideal.Gen
open Idealize.ShloMosaic hiding ix1 ix2 ix3 ix4
open Idealize.ShloMosaic.TcCoe Idealize.ShloMosaic.ValueIdx

variable {F : FTy → Type} [FloatOps F]

/-! ## The first point's own stores -/

theorem mem_rows (i : S2x1024x2048.Idx) (h o : ℕ) (hh) :
    i ∈ (Rect.unit (s := S2x1024x2048) ![h, o, 0] ![1, 128, 2048] hh).set ↔ (i 0).val = h ∧ o ≤ (i 1).val ∧ (i 1).val < o + 128 := by
  rw [Rect.mem_set_unit]
  have l2 : (i 2).val < 2048 := (i 2).isLt
  constructor
  · intro H
    have h0 := H 0
    have h1 := H 1
    change h ≤ (i 0).val ∧ (i 0).val < h + 1 at h0
    change o ≤ (i 1).val ∧ (i 1).val < o + 128 at h1
    omega
  · rintro ⟨h0, h1, h2⟩ a
    fin_cases a
    · show h ≤ (i 0).val ∧ (i 0).val < h + 1; omega
    · exact ⟨h1, h2⟩
    · exact ⟨Nat.zero_le _, by show (i 2).val < 0 + 2048; omega⟩
theorem mem_cols (i : S2x2048x1024.Idx) (h o : ℕ) (hh) :
    i ∈ (Rect.unit (s := S2x2048x1024) ![h, o, 0] ![1, 256, 1024] hh).set ↔ (i 0).val = h ∧ o ≤ (i 1).val ∧ (i 1).val < o + 256 := by
  rw [Rect.mem_set_unit]
  have l2 : (i 2).val < 1024 := (i 2).isLt
  constructor
  · intro H
    have h0 := H 0
    have h1 := H 1
    change h ≤ (i 0).val ∧ (i 0).val < h + 1 at h0
    change o ≤ (i 1).val ∧ (i 1).val < o + 256 at h1
    omega
  · rintro ⟨h0, h1, h2⟩ a
    fin_cases a
    · show h ≤ (i 0).val ∧ (i 0).val < h + 1; omega
    · exact ⟨h1, h2⟩
    · exact ⟨Nat.zero_le _, by show (i 2).val < 0 + 1024; omega⟩

section First
variable (c : Dev nD) (t : Fin cfg0.N) (arg2 : Memref sig .tc .vmem S1x4096x128 .f32) (harg2 : arg2.IsWhole)
    (arg6 : Memref sig .tc .vmem S1x8x512x128 .f32) (harg6 : arg6.IsWhole)
    (Xg : BufOf (F := F) c xgM) (Xu : BufOf (F := F) c xuM) (Xd : BufOf (F := F) c xdM)

theorem gFirst (W : BufOf (F := F) c wgM) : GoodRows 0 (wgM.view.writes (Elt F) W (firstRun c t arg2 harg2 arg6 harg6 Xg Xu Xd).1.1) Xg := by
  intro i
  refine ⟨fun h0 => ?_, fun _ h => absurd h (by omega)⟩
  have l1 : (i 1).val < 1024 := (i 1).isLt
  have h0' : (i 0).val = 0 := h0
  refine (rd_g c _ i).symm.trans ?_
  refine View.read_writes_apply_of_pieces wgM.view W (rowsOf Xg 0) _ ?_ i ?_
  · unfold firstRun; dsimp only
    intro p hp x
    simp only [List.mem_cons, List.not_mem_nil, or_false] at hp
    rcases hp with rfl | rfl | rfl | rfl | rfl | rfl | rfl | rfl
    · exact gPiece c 1 7 (off' := ![0, 896, 0]) rfl _ Xg _ _ (h := 0) rfl inb_S2x1024x2048_S1x128x2048_0_896_0 x
    · exact gPiece c 0 6 (off' := ![0, 768, 0]) rfl _ Xg _ _ (h := 0) rfl inb_S2x1024x2048_S1x128x2048_0_768_0 x
    · exact gPiece c 1 5 (off' := ![0, 640, 0]) rfl _ Xg _ _ (h := 0) rfl inb_S2x1024x2048_S1x128x2048_0_640_0 x
    · exact gPiece c 0 4 (off' := ![0, 512, 0]) rfl _ Xg _ _ (h := 0) rfl inb_S2x1024x2048_S1x128x2048_0_512_0 x
    · exact gPiece c 1 3 (off' := ![0, 384, 0]) rfl _ Xg _ _ (h := 0) rfl inb_S2x1024x2048_S1x128x2048_0_384_0 x
    · exact gPiece c 0 2 (off' := ![0, 256, 0]) rfl _ Xg _ _ (h := 0) rfl inb_S2x1024x2048_S1x128x2048_0_256_0 x
    · exact gPiece c 1 1 (off' := ![0, 128, 0]) rfl _ Xg _ _ (h := 0) rfl inb_S2x1024x2048_S1x128x2048_0_128_0 x
    · exact gPiece c 0 0 (off' := ![0, 0, 0]) rfl _ Xg _ _ (h := 0) rfl inb_S2x1024x2048_S1x128x2048_0_0_0 x
  · unfold firstRun; dsimp only
    simp only [List.exists_mem_cons_iff, List.not_mem_nil, false_and, exists_false, or_false, mem_rows]
    omega

theorem uFirst (W : BufOf (F := F) c wuM) : GoodRows 0 (wuM.view.writes (Elt F) W (firstRun c t arg2 harg2 arg6 harg6 Xg Xu Xd).1.2.1) Xu := by
  intro i
  refine ⟨fun h0 => ?_, fun _ h => absurd h (by omega)⟩
  have l1 : (i 1).val < 1024 := (i 1).isLt
  have h0' : (i 0).val = 0 := h0
  refine (rd_u c _ i).symm.trans ?_
  refine View.read_writes_apply_of_pieces wuM.view W (rowsOf Xu 0) _ ?_ i ?_
  · unfold firstRun; dsimp only
    intro p hp x
    simp only [List.mem_cons, List.not_mem_nil, or_false] at hp
    rcases hp with rfl | rfl | rfl | rfl | rfl | rfl | rfl | rfl
    · exact uPiece c 1 7 (off' := ![0, 896, 0]) rfl _ Xu _ _ (h := 0) rfl inb_S2x1024x2048_S1x128x2048_0_896_0 x
    · exact uPiece c 0 6 (off' := ![0, 768, 0]) rfl _ Xu _ _ (h := 0) rfl inb_S2x1024x2048_S1x128x2048_0_768_0 x
    · exact uPiece c 1 5 (off' := ![0, 640, 0]) rfl _ Xu _ _ (h := 0) rfl inb_S2x1024x2048_S1x128x2048_0_640_0 x
    · exact uPiece c 0 4 (off' := ![0, 512, 0]) rfl _ Xu _ _ (h := 0) rfl inb_S2x1024x2048_S1x128x2048_0_512_0 x
    · exact uPiece c 1 3 (off' := ![0, 384, 0]) rfl _ Xu _ _ (h := 0) rfl inb_S2x1024x2048_S1x128x2048_0_384_0 x
    · exact uPiece c 0 2 (off' := ![0, 256, 0]) rfl _ Xu _ _ (h := 0) rfl inb_S2x1024x2048_S1x128x2048_0_256_0 x
    · exact uPiece c 1 1 (off' := ![0, 128, 0]) rfl _ Xu _ _ (h := 0) rfl inb_S2x1024x2048_S1x128x2048_0_128_0 x
    · exact uPiece c 0 0 (off' := ![0, 0, 0]) rfl _ Xu _ _ (h := 0) rfl inb_S2x1024x2048_S1x128x2048_0_0_0 x
  · unfold firstRun; dsimp only
    simp only [List.exists_mem_cons_iff, List.not_mem_nil, false_and, exists_false, or_false, mem_rows]
    omega

theorem dFirst (W : BufOf (F := F) c wdM) : GoodCols 0 (wdM.view.writes (Elt F) W (firstRun c t arg2 harg2 arg6 harg6 Xg Xu Xd).1.2.2) Xd := by
  intro i
  refine ⟨fun h0 => ?_, fun _ h => absurd h (by omega)⟩
  have l1 : (i 1).val < 2048 := (i 1).isLt
  have h0' : (i 0).val = 0 := h0
  refine (rd_d c _ i).symm.trans ?_
  refine View.read_writes_apply_of_pieces wdM.view W (colsOf Xd 0) _ ?_ i ?_
  · unfold firstRun; dsimp only
    intro p hp x
    simp only [List.mem_cons, List.not_mem_nil, or_false] at hp
    rcases hp with rfl | rfl | rfl | rfl | rfl | rfl | rfl | rfl
    · exact dPiece c 1 7 (off' := ![0, 1792, 0]) rfl _ Xd _ _ (h := 0) rfl inb_S2x2048x1024_S1x256x1024_0_1792_0 x
    · exact dPiece c 0 6 (off' := ![0, 1536, 0]) rfl _ Xd _ _ (h := 0) rfl inb_S2x2048x1024_S1x256x1024_0_1536_0 x
    · exact dPiece c 1 5 (off' := ![0, 1280, 0]) rfl _ Xd _ _ (h := 0) rfl inb_S2x2048x1024_S1x256x1024_0_1280_0 x
    · exact dPiece c 0 4 (off' := ![0, 1024, 0]) rfl _ Xd _ _ (h := 0) rfl inb_S2x2048x1024_S1x256x1024_0_1024_0 x
    · exact dPiece c 1 3 (off' := ![0, 768, 0]) rfl _ Xd _ _ (h := 0) rfl inb_S2x2048x1024_S1x256x1024_0_768_0 x
    · exact dPiece c 0 2 (off' := ![0, 512, 0]) rfl _ Xd _ _ (h := 0) rfl inb_S2x2048x1024_S1x256x1024_0_512_0 x
    · exact dPiece c 1 1 (off' := ![0, 256, 0]) rfl _ Xd _ _ (h := 0) rfl inb_S2x2048x1024_S1x256x1024_0_256_0 x
    · exact dPiece c 0 0 (off' := ![0, 0, 0]) rfl _ Xd _ _ (h := 0) rfl inb_S2x2048x1024_S1x256x1024_0_0_0 x
  · unfold firstRun; dsimp only
    simp only [List.exists_mem_cons_iff, List.not_mem_nil, false_and, exists_false, or_false, mem_cols]
    omega

end First

/-! ## The loads -/

/-- The rows of the token block at sublane `k`. -/
def xs (x0 : Vec F S1x4096x128 .f32) (k : Fin 8) : Vec F S1x512x128 .f32 := fun j =>
  x0 (ix3 (0 : Fin 1) (⟨8 * (j 1).val + k.val, by have : (j 1).val < 512 := (j 1).isLt; omega⟩ : Fin 4096) (⟨(j 2).val, (j 2).isLt⟩ : Fin 128))
theorem xs_load (arg2 : Memref sig .tc .vmem S1x4096x128 .f32) (harg2 : arg2.IsWhole) (x0 : Vec F S1x4096x128 .f32) (k : Fin 8) {off : Fin 3 → ℕ}
    (e : off = ![0, k.val, 0]) (hh) :
    View.readAt (Elt F) arg2.view { off := off, size := S1x512x128.size, stride := ![1, 8, 1], inb := hh } (harg2.unread x0) = xs x0 k := by
  subst e
  funext j
  rw [View.readAt_apply, harg2.read_unread]
  have l0 : (j 0).val < 1 := (j 0).isLt
  refine congrArg x0 ?_
  funext a; apply Fin.ext
  fin_cases a
  · show 0 + 1 * (j 0).val = 0; omega
  · show k.val + 8 * (j 1).val = 8 * (j 1).val + k.val; omega
  · show 0 + 1 * (j 2).val = (j 2).val; omega

/-- Quarter `q` of expert `e`'s columns, of an array of rows, -/
def wA (X : S4x16x1024x2048.Idx → Elt F .f32) (e : ℕ) (q : Fin 4) : Vec F S1x1024x512 .bf16 := fun j =>
  tr (X (ix4 (0 : Fin 4) (⟨e % 16, Nat.mod_lt _ (by decide)⟩ : Fin 16) (⟨(j 1).val, (j 1).isLt⟩ : Fin 1024)
    (⟨512 * q.val + (j 2).val, by have : (j 2).val < 512 := (j 2).isLt; omega⟩ : Fin 2048)))
/-- and of its rows, of the array of columns. -/
def wC (X : S4x16x2048x1024.Idx → Elt F .f32) (e : ℕ) (q : Fin 4) : Vec F S1x512x1024 .bf16 := fun j =>
  tr (X (ix4 (0 : Fin 4) (⟨e % 16, Nat.mod_lt _ (by decide)⟩ : Fin 16)
    (⟨512 * q.val + (j 1).val, by have : (j 1).val < 512 := (j 1).isLt; omega⟩ : Fin 2048) (⟨(j 2).val, (j 2).isLt⟩ : Fin 1024)))
theorem gLoad (c : Dev nD) (t : Fin cfg0.N) (X : BufOf (F := F) c xgM) (W : BufOf (F := F) c wgM) (hW : GoodRows t.val W X) (q : Fin 4)
    {off : Fin 3 → ℕ} (e : off = ![cur t, 0, 512 * q.val]) (hh) :
    View.readAt (Elt F) wgM.view (Rect.unit (s := S2x1024x2048) off S1x1024x512.size hh).toLoadRect (wgM.view.writes (Elt F) W (pointRun.sl.HWg_1 c t X))
      = wA X (t.val / 8) q := by
  subst e
  funext j
  rw [View.readAt_apply]
  have l0 : (j 0).val < 1 := (j 0).isLt
  refine (rd_g c _ _).trans ((hW.keep (gOld c t X W) _ ?_).trans ?_)
  · show cur t + 1 * (j 0).val = cur t; omega
  · unfold rowsOf wA
    refine congrArg (fun z => tr (X z)) ?_
    funext a; apply Fin.ext
    fin_cases a
    · rfl
    · rfl
    · show 0 + 1 * (j 1).val = (j 1).val; omega
    · show 512 * q.val + 1 * (j 2).val = 512 * q.val + (j 2).val; omega
theorem uLoad (c : Dev nD) (t : Fin cfg0.N) (X : BufOf (F := F) c xuM) (W : BufOf (F := F) c wuM) (hW : GoodRows t.val W X) (q : Fin 4)
    {off : Fin 3 → ℕ} (e : off = ![cur t, 0, 512 * q.val]) (hh) :
    View.readAt (Elt F) wuM.view (Rect.unit (s := S2x1024x2048) off S1x1024x512.size hh).toLoadRect (wuM.view.writes (Elt F) W (pointRun.sl.HWu_1 c t X))
      = wA X (t.val / 8) q := by
  subst e
  funext j
  rw [View.readAt_apply]
  have l0 : (j 0).val < 1 := (j 0).isLt
  refine (rd_u c _ _).trans ((hW.keep (uOld c t X W) _ ?_).trans ?_)
  · show cur t + 1 * (j 0).val = cur t; omega
  · unfold rowsOf wA
    refine congrArg (fun z => tr (X z)) ?_
    funext a; apply Fin.ext
    fin_cases a
    · rfl
    · rfl
    · show 0 + 1 * (j 1).val = (j 1).val; omega
    · show 512 * q.val + 1 * (j 2).val = 512 * q.val + (j 2).val; omega
theorem dLoad (c : Dev nD) (t : Fin cfg0.N) (X : BufOf (F := F) c xdM) (W : BufOf (F := F) c wdM) (hW : GoodCols t.val W X) (q : Fin 4)
    {off : Fin 3 → ℕ} (e : off = ![cur t, 512 * q.val, 0]) (hh) :
    View.readAt (Elt F) wdM.view (Rect.unit (s := S2x2048x1024) off S1x512x1024.size hh).toLoadRect (wdM.view.writes (Elt F) W (pointRun.sl.HWd_1 c t X))
      = wC X (t.val / 8) q := by
  subst e
  funext j
  rw [View.readAt_apply]
  have l0 : (j 0).val < 1 := (j 0).isLt
  refine (rd_d c _ _).trans ((hW.keep (dOld c t X W) _ ?_).trans ?_)
  · show cur t + 1 * (j 0).val = cur t; omega
  · unfold colsOf wC
    refine congrArg (fun z => tr (X z)) ?_
    funext a; apply Fin.ext
    fin_cases a
    · rfl
    · rfl
    · show 512 * q.val + 1 * (j 1).val = 512 * q.val + (j 1).val; omega
    · show 0 + 1 * (j 2).val = (j 2).val; omega

/-! ## The block of the result -/

/-- The point's 512 tokens. -/
def xb (x0 : Vec F S1x4096x128 .f32) : FVec F S512x1024 .bf16 :=
  k0_pay43 (k0_pay37 (xs x0 0)) (k0_pay38 (xs x0 1)) (k0_pay39 (xs x0 2)) (k0_pay40 (xs x0 3)) (k0_pay41 (xs x0 4)) (k0_pay42 (xs x0 5)) (xs x0 6) (xs x0 7)

section Out
variable (x0 : Vec F S1x4096x128 .f32) (Xg Xu : S4x16x1024x2048.Idx → Elt F .f32) (Xd : S4x16x2048x1024.Idx → Elt F .f32) (e : ℕ)

/-- What three quarters of the expert make of them. -/
def threeOf : FVec F S512x1024 .f32 :=
  k0_pay47 (xb x0)
    (k0_pay44 (k0_pay37 (xs x0 0)) (k0_pay38 (xs x0 1)) (k0_pay39 (xs x0 2)) (k0_pay40 (xs x0 3)) (k0_pay41 (xs x0 4)) (k0_pay42 (xs x0 5)) (xs x0 6) (xs x0 7) (wA Xg e 0) (wA Xu e 0) (wC Xd e 0))
    (k0_pay45 (k0_pay37 (xs x0 0)) (k0_pay38 (xs x0 1)) (k0_pay39 (xs x0 2)) (k0_pay40 (xs x0 3)) (k0_pay41 (xs x0 4)) (k0_pay42 (xs x0 5)) (xs x0 6) (xs x0 7) (wA Xg e 1))
    (k0_pay46 (k0_pay37 (xs x0 0)) (k0_pay38 (xs x0 1)) (k0_pay39 (xs x0 2)) (k0_pay40 (xs x0 3)) (k0_pay41 (xs x0 4)) (k0_pay42 (xs x0 5)) (xs x0 6) (xs x0 7) (wA Xu e 1))
    (wC Xd e 1) (wA Xg e 2) (wA Xu e 2) (wC Xd e 2)
/-- What the whole expert makes of them, -/
def allOf : FVec F S512x1024 .f32 := k0_pay48 (xb x0) (threeOf x0 Xg Xu Xd e) (wA Xg e 3) (wA Xu e 3) (wC Xd e 3)

end Out

/-- laid out as the point stores it: eight blocks of 128 columns. -/
def blockOf (V : FVec F S512x1024 .f32) : Vec F S1x8x512x128 .f32 := fun y =>
  V (ix2 (⟨(y 2).val, (y 2).isLt⟩ : Fin 512)
    (⟨128 * (y 1).val + (y 3).val, by have : (y 1).val < 8 := (y 1).isLt; have : (y 3).val < 128 := (y 3).isLt; omega⟩ : Fin 1024))

theorem mem_block (y : S1x8x512x128.Idx) (o : ℕ) (hh) :
    y ∈ (Rect.unit (s := S1x8x512x128) ![0, o, 0, 0] ![1, 1, 512, 128] hh).set ↔ (y 1).val = o := by
  rw [Rect.mem_set_unit]
  have l0 : (y 0).val < 1 := (y 0).isLt
  have l2 : (y 2).val < 512 := (y 2).isLt
  have l3 : (y 3).val < 128 := (y 3).isLt
  constructor
  · intro H
    have h1 := H 1
    change o ≤ (y 1).val ∧ (y 1).val < o + 1 at h1
    omega
  · intro h a
    fin_cases a
    · exact ⟨Nat.zero_le _, by show (y 0).val < 0 + 1; omega⟩
    · show o ≤ (y 1).val ∧ (y 1).val < o + 1; omega
    · exact ⟨Nat.zero_le _, by show (y 2).val < 0 + 512; omega⟩
    · exact ⟨Nat.zero_le _, by show (y 3).val < 0 + 128; omega⟩

/-- Columns `128 * k` on of the result, as they are stored. -/
theorem piece_apply (V : FVec F S512x1024 .f32) (k : Fin 8) {o : Fin 2 → ℕ} (e : o = ![0, 128 * k.val]) (h)
    {off : Fin 4 → ℕ} (e' : off = ![0, k.val, 0, 0]) (hh)
    (x : (Rect.unit (s := S1x8x512x128) off S1x1x512x128.size hh).shape.Idx) :
    shapeCast S1x1x512x128 (extractStridedSlice S512x128 o V h) shapeCasts_S512x128_S1x1x512x128 x
      = blockOf V ((Rect.unit (s := S1x8x512x128) off S1x1x512x128.size hh).emb x) := by
  subst e e'
  have l0 : (x 0).val < 1 := (x 0).isLt
  have l1 : (x 1).val < 1 := (x 1).isLt
  obtain ⟨r, q, rfl⟩ : ∃ (r : Fin 512) (q : Fin 128), x = ix4 (0 : Fin 1) (0 : Fin 1) r q :=
    ⟨⟨(x 2).val, (x 2).isLt⟩, ⟨(x 3).val, (x 3).isLt⟩, by
      funext a; apply Fin.ext; fin_cases a <;> first | rfl | (show (x 0).val = 0; omega) | (show (x 1).val = 0; omega)⟩
  rw [shapeCast_apply (extractStridedSlice S512x128 ![0, 128 * k.val] V h) shapeCasts_S512x128_S1x1x512x128 (ix4 (0 : Fin 1) (0 : Fin 1) r q) (ix2 r q) (by
    rw [Shape.rowMajor_val_four, Shape.rowMajor_val_two]
    show r.val * 128 + q.val = ((0 * 1 + 0) * 512 + r.val) * 128 + q.val
    omega)]
  unfold blockOf
  refine congrArg V ?_
  funext a; apply Fin.ext
  fin_cases a
  · show 0 + r.val = 0 + 1 * r.val; omega
  · show 128 * k.val + q.val = 128 * (k.val + 1 * 0) + (0 + 1 * q.val); omega

section Block
variable (c : Dev nD) (t : Fin cfg0.N) (arg2 : Memref sig .tc .vmem S1x4096x128 .f32) (harg2 : arg2.IsWhole)
    (arg6 : Memref sig .tc .vmem S1x8x512x128 .f32) (harg6 : arg6.IsWhole) (x0 : Vec F S1x4096x128 .f32)
    (Xg : BufOf (F := F) c xgM) (Xu : BufOf (F := F) c xuM) (Xd : BufOf (F := F) c xdM)
    (Wg : BufOf (F := F) c wgM) (Wu : BufOf (F := F) c wuM) (Wd : BufOf (F := F) c wdM)

theorem point_value (hg : GoodRows t.val Wg Xg) (hu : GoodRows t.val Wu Xu) (hd : GoodCols t.val Wd Xd) :
    pointRun.sl.r_12 c t arg2 harg2 x0 Xg Xu Xd Wg Wu Wd = allOf x0 Xg Xu Xd (t.val / 8) := by
  unfold pointRun.sl.r_12 pointRun.sl.r_11 pointRun.sl.r_10 pointRun.sl.r_9 pointRun.sl.r_8 pointRun.sl.r_7 pointRun.sl.r_6
    pointRun.sl.r_5 pointRun.sl.r_4 pointRun.sl.r_3 pointRun.sl.r_2 pointRun.sl.r_1 pointRun.sl.r allOf threeOf xb
  rw [gLoad c t Xg Wg hg 0 (off26_eq t), uLoad c t Xu Wu hu 0 (off26_eq t), dLoad c t Xd Wd hd 0 (off27_eq t),
    gLoad c t Xg Wg hg 1 (off28_eq t), uLoad c t Xu Wu hu 1 (off28_eq t), dLoad c t Xd Wd hd 1 (off29_eq t),
    gLoad c t Xg Wg hg 2 (off30_eq t), uLoad c t Xu Wu hu 2 (off30_eq t), dLoad c t Xd Wd hd 2 (off31_eq t),
    gLoad c t Xg Wg hg 3 (off32_eq t), uLoad c t Xu Wu hu 3 (off32_eq t), dLoad c t Xd Wd hd 3 (off33_eq t),
    xs_load arg2 harg2 x0 0 (off := ![0, 0, 0]) rfl, xs_load arg2 harg2 x0 1 (off := ![0, 1, 0]) rfl, xs_load arg2 harg2 x0 2 (off := ![0, 2, 0]) rfl, xs_load arg2 harg2 x0 3 (off := ![0, 3, 0]) rfl,
    xs_load arg2 harg2 x0 4 (off := ![0, 4, 0]) rfl, xs_load arg2 harg2 x0 5 (off := ![0, 5, 0]) rfl, xs_load arg2 harg2 x0 6 (off := ![0, 6, 0]) rfl, xs_load arg2 harg2 x0 7 (off := ![0, 7, 0]) rfl]

/-- The block after the point's stores, whatever it held before. -/
theorem point_block (hg : GoodRows t.val Wg Xg) (hu : GoodRows t.val Wu Xu) (hd : GoodCols t.val Wd Xd) (f : BufOf (F := F) c arg6) :
    arg6.view.read (Elt F) (arg6.view.writes (Elt F) f (pointRun c t arg2 harg2 arg6 harg6 x0 Xg Xu Xd Wg Wu Wd).1.1)
      = blockOf (allOf x0 Xg Xu Xd (t.val / 8)) := by
  rw [← point_value c t arg2 harg2 x0 Xg Xu Xd Wg Wu Wd hg hu hd]
  funext y
  have l1 : (y 1).val < 8 := (y 1).isLt
  refine View.read_writes_apply_of_pieces arg6.view f (blockOf (pointRun.sl.r_12 c t arg2 harg2 x0 Xg Xu Xd Wg Wu Wd)) _ ?_ y ?_
  · unfold pointRun; dsimp only
    intro p hp x
    simp only [List.mem_cons, List.not_mem_nil, or_false] at hp
    rcases hp with rfl | rfl | rfl | rfl | rfl | rfl | rfl | rfl
    · exact piece_apply (pointRun.sl.r_12 c t arg2 harg2 x0 Xg Xu Xd Wg Wu Wd) 7 (o := ![0, 896]) rfl slices_S512x1024_o0_896_S512x128 (off := ![0, 7, 0, 0]) rfl inb_S1x8x512x128_S1x1x512x128_0_7_0_0 x
    · exact piece_apply (pointRun.sl.r_12 c t arg2 harg2 x0 Xg Xu Xd Wg Wu Wd) 6 (o := ![0, 768]) rfl slices_S512x1024_o0_768_S512x128 (off := ![0, 6, 0, 0]) rfl inb_S1x8x512x128_S1x1x512x128_0_6_0_0 x
    · exact piece_apply (pointRun.sl.r_12 c t arg2 harg2 x0 Xg Xu Xd Wg Wu Wd) 5 (o := ![0, 640]) rfl slices_S512x1024_o0_640_S512x128 (off := ![0, 5, 0, 0]) rfl inb_S1x8x512x128_S1x1x512x128_0_5_0_0 x
    · exact piece_apply (pointRun.sl.r_12 c t arg2 harg2 x0 Xg Xu Xd Wg Wu Wd) 4 (o := ![0, 512]) rfl slices_S512x1024_o0_512_S512x128 (off := ![0, 4, 0, 0]) rfl inb_S1x8x512x128_S1x1x512x128_0_4_0_0 x
    · exact piece_apply (pointRun.sl.r_12 c t arg2 harg2 x0 Xg Xu Xd Wg Wu Wd) 3 (o := ![0, 384]) rfl slices_S512x1024_o0_384_S512x128 (off := ![0, 3, 0, 0]) rfl inb_S1x8x512x128_S1x1x512x128_0_3_0_0 x
    · exact piece_apply (pointRun.sl.r_12 c t arg2 harg2 x0 Xg Xu Xd Wg Wu Wd) 2 (o := ![0, 256]) rfl slices_S512x1024_o0_256_S512x128 (off := ![0, 2, 0, 0]) rfl inb_S1x8x512x128_S1x1x512x128_0_2_0_0 x
    · exact piece_apply (pointRun.sl.r_12 c t arg2 harg2 x0 Xg Xu Xd Wg Wu Wd) 1 (o := ![0, 128]) rfl slices_S512x1024_o0_128_S512x128 (off := ![0, 1, 0, 0]) rfl inb_S1x8x512x128_S1x1x512x128_0_1_0_0 x
    · exact piece_apply (pointRun.sl.r_12 c t arg2 harg2 x0 Xg Xu Xd Wg Wu Wd) 0 (o := ![0, 0]) rfl slices_S512x1024_o0_0_S512x128 (off := ![0, 0, 0, 0]) rfl inb_S1x8x512x128_S1x1x512x128_0_0_0_0 x
  · unfold pointRun; dsimp only
    simp only [List.exists_mem_cons_iff, List.not_mem_nil, false_and, exists_false, or_false, mem_block]
    omega

end Block

end Cert.EX

end
-- ==== Proof.EX.Own.lean ====
/- The weights' arrays as the slots lend from them, and what is held between the grid points. -/
module

public import proofs.«01_k».proof.Proof.EX.Out

@[expose] public section

set_option maxRecDepth 65536

noncomputable section

namespace Cert.EX

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Taking a part out of what is held, to be put back -/

section Take
variable {ℓ : Loc nD τ sig} (f : Buf (Elt F) ℓ) (q : PosShare TreeShare)

theorem take_one {S I : Finset (Idx ℓ)} (h : I ⊆ S) :
    (ℓ ↦[S]{q} f : sProp 𝕄) ⊢ iprop((ℓ ↦[I]{q} f) ∗ ((ℓ ↦[I]{q} f) -∗ ℓ ↦[S]{q} f)) := by
  iintro H
  ihave H' := (pointsTo_split_subset (q := q) (f := f) h).1 $$ H
  icases H' with ⟨A, B⟩
  isplitl [A]; · iexact A
  iintro A
  iapply (pointsTo_split_subset (q := q) (f := f) h).2
  isplitl [A]; · iexact A
  iexact B

theorem take_part (I : Finset (Idx ℓ)) : (ℓ ↦{q} f : sProp 𝕄) ⊢ iprop((ℓ ↦[I]{q} f) ∗ ((ℓ ↦[I]{q} f) -∗ ℓ ↦{q} f)) :=
  take_one f q (Finset.subset_univ I)

theorem take_list {ι : Type} (l : List ι) (C A : ι → sProp 𝕄) (h : ∀ i, C i ⊢ iprop(A i ∗ (A i -∗ C i))) :
    bigSepL l C ⊢ iprop(bigSepL l A ∗ (bigSepL l A -∗ bigSepL l C)) := by
  induction l with
  | nil =>
    iintro H
    isplitl []; · iempintro
    iintro -; iexact H
  | cons i l ih =>
    rw [bigSepL_cons', bigSepL_cons']
    iintro ⟨H, Hl⟩
    ihave H' := h i $$ H
    ihave Hl' := ih $$ Hl
    icases H' with ⟨A1, W1⟩
    icases Hl' with ⟨A2, W2⟩
    isplitl [A1 A2]
    · isplitl [A1]; · iexact A1
      iexact A2
    iintro ⟨A1, A2⟩
    isplitl [W1 A1]
    · iapply W1; iexact A1
    iapply W2; iexact A2

/-- A part at the whole share and eight others, apart from it, each at a share of its own. -/
theorem take_nine (I : Finset (Idx ℓ)) (B : Fin 8 → Finset (Idx ℓ)) (hd : ∀ k, Disjoint (B k) I) :
    (ℓ ↦{q} f : sProp 𝕄) ⊢ iprop((ℓ ↦[I]{q} f)
      ∗ bigSepL (List.finRange 8) (fun k => ℓ ↦[B k]{Ring.sharesN 8 q k} f)
      ∗ ((bigSepL (List.finRange 8) (fun k => ℓ ↦[B k]{Ring.sharesN 8 q k} f) ∗ (ℓ ↦[I]{q} f)) -∗ ℓ ↦{q} f)) := by
  iintro H
  ihave H' := (pointsTo_split_subset (q := q) (f := f) (Finset.subset_univ I)).1 $$ H
  icases H' with ⟨A, R⟩
  ihave R1 := (Ring.pointsTo_nths f 7 q).1 $$ R
  ihave R2 := (take_list (List.finRange 8) (fun k => (ℓ ↦[Finset.univ \ I]{Ring.sharesN 8 q k} f : sProp 𝕄)) (fun k => ℓ ↦[B k]{Ring.sharesN 8 q k} f)
    (fun k => take_one f _ (Finset.subset_sdiff.mpr ⟨Finset.subset_univ _, hd k⟩))) $$ R1
  icases R2 with ⟨B8, W8⟩
  isplitl [A]; · iexact A
  isplitl [B8]; · iexact B8
  iintro ⟨B8, A⟩
  iapply (pointsTo_split_subset (q := q) (f := f) (Finset.subset_univ I)).2
  isplitl [A]; · iexact A
  iapply (Ring.pointsTo_nths f 7 q).2
  iapply W8
  iexact B8

end Take

/-! ## The sets of the blocks and of the slots -/

theorem gSrc_set (n : Fin 128) : (gSrc n).view.set = (Rect.unit (s := S4x16x1024x2048) (rowOff n) S1x1x128x2048.size (rowOff_inb n)).set :=
  (View.set_reshape _ _).trans (View.set_slice_whole _ _)
theorem gSrc_disjoint (n n' : Fin 128) (h : n ≠ n') : Disjoint (gSrc n).view.set (gSrc n').view.set := by
  rw [gSrc_set, gSrc_set]
  refine Finset.disjoint_left.mpr fun y hy hy' => ?_
  rw [Rect.mem_set_unit] at hy hy'
  have a1 := hy 1
  have a2 := hy 2
  have b1 := hy' 1
  have b2 := hy' 2
  change n.val / 8 ≤ (y 1).val ∧ (y 1).val < n.val / 8 + 1 at a1
  change 128 * (n.val % 8) ≤ (y 2).val ∧ (y 2).val < 128 * (n.val % 8) + 128 at a2
  change n'.val / 8 ≤ (y 1).val ∧ (y 1).val < n'.val / 8 + 1 at b1
  change 128 * (n'.val % 8) ≤ (y 2).val ∧ (y 2).val < 128 * (n'.val % 8) + 128 at b2
  exact h (Fin.ext (by omega))
theorem uSrc_set (n : Fin 128) : (uSrc n).view.set = (Rect.unit (s := S4x16x1024x2048) (rowOff n) S1x1x128x2048.size (rowOff_inb n)).set :=
  (View.set_reshape _ _).trans (View.set_slice_whole _ _)
theorem uSrc_disjoint (n n' : Fin 128) (h : n ≠ n') : Disjoint (uSrc n).view.set (uSrc n').view.set := by
  rw [uSrc_set, uSrc_set]
  refine Finset.disjoint_left.mpr fun y hy hy' => ?_
  rw [Rect.mem_set_unit] at hy hy'
  have a1 := hy 1
  have a2 := hy 2
  have b1 := hy' 1
  have b2 := hy' 2
  change n.val / 8 ≤ (y 1).val ∧ (y 1).val < n.val / 8 + 1 at a1
  change 128 * (n.val % 8) ≤ (y 2).val ∧ (y 2).val < 128 * (n.val % 8) + 128 at a2
  change n'.val / 8 ≤ (y 1).val ∧ (y 1).val < n'.val / 8 + 1 at b1
  change 128 * (n'.val % 8) ≤ (y 2).val ∧ (y 2).val < 128 * (n'.val % 8) + 128 at b2
  exact h (Fin.ext (by omega))
theorem dSrc_set (n : Fin 128) : (dSrc n).view.set = (Rect.unit (s := S4x16x2048x1024) (colOff n) S1x1x256x1024.size (colOff_inb n)).set :=
  (View.set_reshape _ _).trans (View.set_slice_whole _ _)
theorem dSrc_disjoint (n n' : Fin 128) (h : n ≠ n') : Disjoint (dSrc n).view.set (dSrc n').view.set := by
  rw [dSrc_set, dSrc_set]
  refine Finset.disjoint_left.mpr fun y hy hy' => ?_
  rw [Rect.mem_set_unit] at hy hy'
  have a1 := hy 1
  have a2 := hy 2
  have b1 := hy' 1
  have b2 := hy' 2
  change n.val / 8 ≤ (y 1).val ∧ (y 1).val < n.val / 8 + 1 at a1
  change 256 * (n.val % 8) ≤ (y 2).val ∧ (y 2).val < 256 * (n.val % 8) + 256 at a2
  change n'.val / 8 ≤ (y 1).val ∧ (y 1).val < n'.val / 8 + 1 at b1
  change 256 * (n'.val % 8) ≤ (y 2).val ∧ (y 2).val < 256 * (n'.val % 8) + 256 at b2
  exact h (Fin.ext (by omega))

/-- Slot `s` of a buffer of blocks of rows. -/
abbrev rowsSlot (s : Fin 2) : Finset S2x128x2048.Idx := (Rect.unit (s := S2x128x2048) (slotOff s) S1x128x2048.size (slotOff_rows s)).set
theorem mem_rowsSlot (s : Fin 2) (y : S2x128x2048.Idx) : y ∈ rowsSlot s ↔ (y 0).val = s.val := by
  rw [Rect.mem_set_unit]
  have h1 : (y 1).val < 128 := (y 1).isLt
  have h2 : (y 2).val < 2048 := (y 2).isLt
  constructor
  · intro H
    have a0 : s.val ≤ (y 0).val ∧ (y 0).val < s.val + 1 := H 0
    omega
  · intro H i
    fin_cases i
    · show s.val ≤ (y 0).val ∧ (y 0).val < s.val + 1; omega
    · show 0 ≤ (y 1).val ∧ (y 1).val < 0 + 128; omega
    · show 0 ≤ (y 2).val ∧ (y 2).val < 0 + 2048; omega
theorem rowsSlot_disjoint : ∀ s s' : Fin 2, s ≠ s' → Disjoint (rowsSlot s) (rowsSlot s') := by
  intro s s' hne
  rw [Finset.disjoint_left]
  intro y hy hy'
  rw [mem_rowsSlot] at hy hy'
  exact hne (Fin.ext (hy.symm.trans hy'))
theorem rowsSlot_cover : (Finset.univ : Finset (Fin 2)).biUnion rowsSlot = Finset.univ := by
  ext y
  simp only [Finset.mem_biUnion, Finset.mem_univ, true_and, iff_true]
  exact ⟨(y 0).cast (by decide), by rw [mem_rowsSlot]; rfl⟩

/-- Slot `s` of a buffer of blocks of cols. -/
abbrev colsSlot (s : Fin 2) : Finset S2x256x1024.Idx := (Rect.unit (s := S2x256x1024) (slotOff s) S1x256x1024.size (slotOff_cols s)).set
theorem mem_colsSlot (s : Fin 2) (y : S2x256x1024.Idx) : y ∈ colsSlot s ↔ (y 0).val = s.val := by
  rw [Rect.mem_set_unit]
  have h1 : (y 1).val < 256 := (y 1).isLt
  have h2 : (y 2).val < 1024 := (y 2).isLt
  constructor
  · intro H
    have a0 : s.val ≤ (y 0).val ∧ (y 0).val < s.val + 1 := H 0
    omega
  · intro H i
    fin_cases i
    · show s.val ≤ (y 0).val ∧ (y 0).val < s.val + 1; omega
    · show 0 ≤ (y 1).val ∧ (y 1).val < 0 + 256; omega
    · show 0 ≤ (y 2).val ∧ (y 2).val < 0 + 1024; omega
theorem colsSlot_disjoint : ∀ s s' : Fin 2, s ≠ s' → Disjoint (colsSlot s) (colsSlot s') := by
  intro s s' hne
  rw [Finset.disjoint_left]
  intro y hy hy'
  rw [mem_colsSlot] at hy hy'
  exact hne (Fin.ext (hy.symm.trans hy'))
theorem colsSlot_cover : (Finset.univ : Finset (Fin 2)).biUnion colsSlot = Finset.univ := by
  ext y
  simp only [Finset.mem_biUnion, Finset.mem_univ, true_and, iff_true]
  exact ⟨(y 0).cast (by decide), by rw [mem_colsSlot]; rfl⟩

theorem gSlot_eq (c : Dev nD) (s : Fin 2) (f : BufOf (F := F) c (gSlot s)) :
    heldP c (gSlot s) fullShare f = (((c : Thread nD τ).loc cc0_scratch3) ↦[rowsSlot s]{fullShare} f : sProp 𝕄) :=
  congrArg (fun S => (_ ↦[S]{fullShare} f : sProp 𝕄)) ((View.set_reshape _ _).trans (View.set_slice_whole _ _))
theorem gSlots_split (c : Dev nD) : iprop(∃ f : Buf (Elt F) ((c : Thread nD τ).loc cc0_scratch3), ((c : Thread nD τ).loc cc0_scratch3) ↦{fullShare} f)
    ⊢ (iprop((∃ f, heldP c (gSlot 0) fullShare f) ∗ ∃ f, heldP c (gSlot 1) fullShare f) : sProp 𝕄) :=
  Ring.slots2_split (U := Pipeline.UD sig nD τ) (ℓ := (c : Thread nD τ).loc cc0_scratch3) (q := fullShare) rowsSlot rowsSlot_disjoint rowsSlot_cover
    (fun f => heldP c (gSlot 0) fullShare f) (fun f => heldP c (gSlot 1) fullShare f) (gSlot_eq c 0) (gSlot_eq c 1)
theorem gSlots_join (c : Dev nD) : iprop((∃ f, heldP c (gSlot 0) fullShare f) ∗ ∃ f, heldP c (gSlot 1) fullShare f)
    ⊢ (iprop(∃ f : Buf (Elt F) ((c : Thread nD τ).loc cc0_scratch3), ((c : Thread nD τ).loc cc0_scratch3) ↦{fullShare} f) : sProp 𝕄) :=
  Ring.slots2_join (U := Pipeline.UD sig nD τ) (ℓ := (c : Thread nD τ).loc cc0_scratch3) (q := fullShare) rowsSlot rowsSlot_disjoint rowsSlot_cover
    (fun f => heldP c (gSlot 0) fullShare f) (fun f => heldP c (gSlot 1) fullShare f) (gSlot_eq c 0) (gSlot_eq c 1)

theorem uSlot_eq (c : Dev nD) (s : Fin 2) (f : BufOf (F := F) c (uSlot s)) :
    heldP c (uSlot s) fullShare f = (((c : Thread nD τ).loc cc0_scratch4) ↦[rowsSlot s]{fullShare} f : sProp 𝕄) :=
  congrArg (fun S => (_ ↦[S]{fullShare} f : sProp 𝕄)) ((View.set_reshape _ _).trans (View.set_slice_whole _ _))
theorem uSlots_split (c : Dev nD) : iprop(∃ f : Buf (Elt F) ((c : Thread nD τ).loc cc0_scratch4), ((c : Thread nD τ).loc cc0_scratch4) ↦{fullShare} f)
    ⊢ (iprop((∃ f, heldP c (uSlot 0) fullShare f) ∗ ∃ f, heldP c (uSlot 1) fullShare f) : sProp 𝕄) :=
  Ring.slots2_split (U := Pipeline.UD sig nD τ) (ℓ := (c : Thread nD τ).loc cc0_scratch4) (q := fullShare) rowsSlot rowsSlot_disjoint rowsSlot_cover
    (fun f => heldP c (uSlot 0) fullShare f) (fun f => heldP c (uSlot 1) fullShare f) (uSlot_eq c 0) (uSlot_eq c 1)
theorem uSlots_join (c : Dev nD) : iprop((∃ f, heldP c (uSlot 0) fullShare f) ∗ ∃ f, heldP c (uSlot 1) fullShare f)
    ⊢ (iprop(∃ f : Buf (Elt F) ((c : Thread nD τ).loc cc0_scratch4), ((c : Thread nD τ).loc cc0_scratch4) ↦{fullShare} f) : sProp 𝕄) :=
  Ring.slots2_join (U := Pipeline.UD sig nD τ) (ℓ := (c : Thread nD τ).loc cc0_scratch4) (q := fullShare) rowsSlot rowsSlot_disjoint rowsSlot_cover
    (fun f => heldP c (uSlot 0) fullShare f) (fun f => heldP c (uSlot 1) fullShare f) (uSlot_eq c 0) (uSlot_eq c 1)

theorem dSlot_eq (c : Dev nD) (s : Fin 2) (f : BufOf (F := F) c (dSlot s)) :
    heldP c (dSlot s) fullShare f = (((c : Thread nD τ).loc cc0_scratch5) ↦[colsSlot s]{fullShare} f : sProp 𝕄) :=
  congrArg (fun S => (_ ↦[S]{fullShare} f : sProp 𝕄)) ((View.set_reshape _ _).trans (View.set_slice_whole _ _))
theorem dSlots_split (c : Dev nD) : iprop(∃ f : Buf (Elt F) ((c : Thread nD τ).loc cc0_scratch5), ((c : Thread nD τ).loc cc0_scratch5) ↦{fullShare} f)
    ⊢ (iprop((∃ f, heldP c (dSlot 0) fullShare f) ∗ ∃ f, heldP c (dSlot 1) fullShare f) : sProp 𝕄) :=
  Ring.slots2_split (U := Pipeline.UD sig nD τ) (ℓ := (c : Thread nD τ).loc cc0_scratch5) (q := fullShare) colsSlot colsSlot_disjoint colsSlot_cover
    (fun f => heldP c (dSlot 0) fullShare f) (fun f => heldP c (dSlot 1) fullShare f) (dSlot_eq c 0) (dSlot_eq c 1)
theorem dSlots_join (c : Dev nD) : iprop((∃ f, heldP c (dSlot 0) fullShare f) ∗ ∃ f, heldP c (dSlot 1) fullShare f)
    ⊢ (iprop(∃ f : Buf (Elt F) ((c : Thread nD τ).loc cc0_scratch5), ((c : Thread nD τ).loc cc0_scratch5) ↦{fullShare} f) : sProp 𝕄) :=
  Ring.slots2_join (U := Pipeline.UD sig nD τ) (ℓ := (c : Thread nD τ).loc cc0_scratch5) (q := fullShare) colsSlot colsSlot_disjoint colsSlot_cover
    (fun f => heldP c (dSlot 0) fullShare f) (fun f => heldP c (dSlot 1) fullShare f) (dSlot_eq c 0) (dSlot_eq c 1)

/-! ## The arrays, and a block lent from them -/

section Arrays
variable (c : Dev nD) (Xg : BufOf (F := F) c xgM) (Xu : BufOf (F := F) c xuM) (Xd : BufOf (F := F) c xdM)

/-- The arrays at slot `s`'s share, -/
def arrP (s : Fin 2) : sProp 𝕄 :=
  iprop((xgM.view.loc (c : Thread nD τ) ↦{part s} Xg) ∗ (xuM.view.loc (c : Thread nD τ) ↦{part s} Xu) ∗ (xdM.view.loc (c : Thread nD τ) ↦{part s} Xd))
/-- and what is left of them when block `n` is lent: what its return completes. -/
def lentP (s : Fin 2) (n : Fin 128) : sProp 𝕄 := iprop(srcP c Xg Xu Xd s n -∗ arrP c Xg Xu Xd s)

theorem gTake (c : Dev nD) (X : BufOf (F := F) c xgM) (s : Fin 2) (n : Fin 128) : (xgM.view.loc (c : Thread nD τ) ↦{part s} X : sProp 𝕄)
    ⊢ iprop(heldP c (gSrc n) (part s) X ∗ (heldP c (gSrc n) (part s) X -∗ (xgM.view.loc (c : Thread nD τ) ↦{part s} X))) :=
  take_part X (part s) (gSrc n).view.set
theorem uTake (c : Dev nD) (X : BufOf (F := F) c xuM) (s : Fin 2) (n : Fin 128) : (xuM.view.loc (c : Thread nD τ) ↦{part s} X : sProp 𝕄)
    ⊢ iprop(heldP c (uSrc n) (part s) X ∗ (heldP c (uSrc n) (part s) X -∗ (xuM.view.loc (c : Thread nD τ) ↦{part s} X))) :=
  take_part X (part s) (uSrc n).view.set
theorem dTake (c : Dev nD) (X : BufOf (F := F) c xdM) (s : Fin 2) (n : Fin 128) : (xdM.view.loc (c : Thread nD τ) ↦{part s} X : sProp 𝕄)
    ⊢ iprop(heldP c (dSrc n) (part s) X ∗ (heldP c (dSrc n) (part s) X -∗ (xdM.view.loc (c : Thread nD τ) ↦{part s} X))) :=
  take_part X (part s) (dSrc n).view.set

theorem lend (s : Fin 2) (n : Fin 128) : arrP c Xg Xu Xd s ⊢ iprop(srcP c Xg Xu Xd s n ∗ lentP c Xg Xu Xd s n) := by
  unfold lentP srcP arrP
  iintro ⟨G, U, D⟩
  ihave G' := gTake c Xg s n $$ G
  ihave U' := uTake c Xu s n $$ U
  ihave D' := dTake c Xd s n $$ D
  icases G' with ⟨G, WG⟩
  icases U' with ⟨U, WU⟩
  icases D' with ⟨D, WD⟩
  isplitl [G U D]
  · isplitl [G]; · iexact G
    isplitl [U]; · iexact U
    iexact D
  iintro ⟨G, U, D⟩
  isplitl [WG G]; · iapply WG; iexact G
  isplitl [WU U]; · iapply WU; iexact U
  iapply WD; iexact D
theorem give_back (s : Fin 2) (n : Fin 128) : iprop(srcP c Xg Xu Xd s n ∗ lentP c Xg Xu Xd s n) ⊢ arrP c Xg Xu Xd s := by
  unfold lentP
  iintro ⟨H, W⟩
  iapply W; iexact H

/-- The first expert's blocks in their numbers. -/
abbrev blk8 (k : Fin 8) : Fin 128 := ⟨k.val, by omega⟩
theorem list8 (Φ : Fin 8 → sProp 𝕄) : bigSepL (List.finRange 8) Φ = iprop(Φ 0 ∗ Φ 1 ∗ Φ 2 ∗ Φ 3 ∗ Φ 4 ∗ Φ 5 ∗ Φ 6 ∗ Φ 7) := by
  rw [show List.finRange 8 = [0, 1, 2, 3, 4, 5, 6, 7] from by decide]; rfl
theorem sep_right (P Q R : sProp 𝕄) : iprop((P ∗ Q) ∗ R) = iprop(P ∗ Q ∗ R) := equiv_iff.mp ⟨BI.sep_assoc, BI.sep_assoc'⟩
theorem firstP_eq (q : Fin 8 → PosShare TreeShare) :
    iprop(bigSepL (List.finRange 8) (fun k => heldP c (gSrc (blk8 k)) (q k) Xg) ∗ bigSepL (List.finRange 8) (fun k => heldP c (uSrc (blk8 k)) (q k) Xu)
      ∗ bigSepL (List.finRange 8) (fun k => heldP c (dSrc (blk8 k)) (q k) Xd)) = firstP c q Xg Xu Xd := by
  unfold firstP
  rw [list8, list8, list8]
  simp only [sep_right]
  rfl

theorem blk8_ne (n : Fin 128) (hn : 8 ≤ n.val) (k : Fin 8) : blk8 k ≠ n := fun h => by
  have h' : k.val = n.val := congrArg Fin.val h
  omega
theorem gNine (c : Dev nD) (X : BufOf (F := F) c xgM) (s : Fin 2) (n : Fin 128) (hn : 8 ≤ n.val) : (xgM.view.loc (c : Thread nD τ) ↦{part s} X : sProp 𝕄)
    ⊢ iprop(heldP c (gSrc n) (part s) X ∗ bigSepL (List.finRange 8) (fun k => heldP c (gSrc (blk8 k)) (Ring.sharesN 8 (part s) k) X)
      ∗ ((bigSepL (List.finRange 8) (fun k => heldP c (gSrc (blk8 k)) (Ring.sharesN 8 (part s) k) X) ∗ heldP c (gSrc n) (part s) X)
        -∗ (xgM.view.loc (c : Thread nD τ) ↦{part s} X))) :=
  take_nine X (part s) (gSrc n).view.set (fun k => (gSrc (blk8 k)).view.set) (fun k => gSrc_disjoint _ _ (blk8_ne n hn k))
theorem uNine (c : Dev nD) (X : BufOf (F := F) c xuM) (s : Fin 2) (n : Fin 128) (hn : 8 ≤ n.val) : (xuM.view.loc (c : Thread nD τ) ↦{part s} X : sProp 𝕄)
    ⊢ iprop(heldP c (uSrc n) (part s) X ∗ bigSepL (List.finRange 8) (fun k => heldP c (uSrc (blk8 k)) (Ring.sharesN 8 (part s) k) X)
      ∗ ((bigSepL (List.finRange 8) (fun k => heldP c (uSrc (blk8 k)) (Ring.sharesN 8 (part s) k) X) ∗ heldP c (uSrc n) (part s) X)
        -∗ (xuM.view.loc (c : Thread nD τ) ↦{part s} X))) :=
  take_nine X (part s) (uSrc n).view.set (fun k => (uSrc (blk8 k)).view.set) (fun k => uSrc_disjoint _ _ (blk8_ne n hn k))
theorem dNine (c : Dev nD) (X : BufOf (F := F) c xdM) (s : Fin 2) (n : Fin 128) (hn : 8 ≤ n.val) : (xdM.view.loc (c : Thread nD τ) ↦{part s} X : sProp 𝕄)
    ⊢ iprop(heldP c (dSrc n) (part s) X ∗ bigSepL (List.finRange 8) (fun k => heldP c (dSrc (blk8 k)) (Ring.sharesN 8 (part s) k) X)
      ∗ ((bigSepL (List.finRange 8) (fun k => heldP c (dSrc (blk8 k)) (Ring.sharesN 8 (part s) k) X) ∗ heldP c (dSrc n) (part s) X)
        -∗ (xdM.view.loc (c : Thread nD τ) ↦{part s} X))) :=
  take_nine X (part s) (dSrc n).view.set (fun k => (dSrc (blk8 k)).view.set) (fun k => dSrc_disjoint _ _ (blk8_ne n hn k))

/-- Block `n`, past the first expert, lent, and the first expert's blocks beside it. -/
theorem lend_first (s : Fin 2) (n : Fin 128) (hn : 8 ≤ n.val) :
    arrP c Xg Xu Xd s ⊢ iprop(srcP c Xg Xu Xd s n ∗ firstP c (Ring.sharesN 8 (part s)) Xg Xu Xd
      ∗ (firstP c (Ring.sharesN 8 (part s)) Xg Xu Xd -∗ lentP c Xg Xu Xd s n)) := by
  rw [← firstP_eq]
  unfold lentP srcP arrP
  iintro ⟨G, U, D⟩
  ihave G' := gNine c Xg s n hn $$ G
  ihave U' := uNine c Xu s n hn $$ U
  ihave D' := dNine c Xd s n hn $$ D
  icases G' with ⟨G, G8, WG⟩
  icases U' with ⟨U, U8, WU⟩
  icases D' with ⟨D, D8, WD⟩
  isplitl [G U D]
  · isplitl [G]; · iexact G
    isplitl [U]; · iexact U
    iexact D
  isplitl [G8 U8 D8]
  · isplitl [G8]; · iexact G8
    isplitl [U8]; · iexact U8
    iexact D8
  iintro ⟨G8, U8, D8⟩ ⟨G, U, D⟩
  isplitl [WG G G8]
  · iapply WG
    isplitl [G8]; · iexact G8
    iexact G
  isplitl [WU U U8]
  · iapply WU
    isplitl [U8]; · iexact U8
    iexact U
  iapply WD
  isplitl [D8]; · iexact D8
  iexact D

end Arrays

end Cert.EX

end
-- ==== Proof.EX.Body.lean ====
/- The body of the expert kernel at a grid point: what it takes up and what it leaves. -/
module

public import proofs.«01_k».proof.Proof.EX.Own

@[expose] public section

set_option maxRecDepth 65536

noncomputable section

namespace Cert.EX

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section States
variable (c : Dev nD) (Xg : BufOf (F := F) c xgM) (Xu : BufOf (F := F) c xuM) (Xd : BufOf (F := F) c xdM)

/-- The rounded weights as they stand before point `n`, -/
def goodP (n : ℕ) : sProp 𝕄 :=
  iprop(∃ (Wg : BufOf (F := F) c wgM) (Wu : BufOf (F := F) c wuM) (Wd : BufOf (F := F) c wdM), ⌜GoodRows n Wg Xg ∧ GoodRows n Wu Xu ∧ GoodCols n Wd Xd⌝
    ∗ heldP c wgM fullShare Wg ∗ heldP c wuM fullShare Wu ∗ heldP c wdM fullShare Wd)
/-- and at anything. -/
def anyP : sProp 𝕄 :=
  iprop((∃ f : BufOf (F := F) c wgM, heldP c wgM fullShare f) ∗ (∃ f : BufOf (F := F) c wuM, heldP c wuM fullShare f) ∗ (∃ f : BufOf (F := F) c wdM, heldP c wdM fullShare f))
/-- Before the first point and after the last: the slots free, the arrays whole. -/
def idleP : sProp 𝕄 := iprop(freeP c 0 ∗ freeP c 1 ∗ arrP c Xg Xu Xd 0 ∗ arrP c Xg Xu Xd 1 ∗ anyP c)
/-- Before point `n`, between: block `n + 8` on its way into slot `n`, the other slot free. -/
def midP (n : ℕ) : sProp 𝕄 :=
  iprop(busyP c Xg Xu Xd (Ring.sl 2 n) (Ring.bk 128 (n + 8)) ∗ lentP c Xg Xu Xd (Ring.sl 2 n) (Ring.bk 128 (n + 8))
    ∗ freeP c (Ring.sl 2 (n + 1)) ∗ arrP c Xg Xu Xd (Ring.sl 2 (n + 1)) ∗ goodP c Xg Xu Xd n)
/-- What is held before point `n`. -/
def heldAt (n : ℕ) : sProp 𝕄 := if n = 0 ∨ n = 128 then idleP c Xg Xu Xd else midP c Xg Xu Xd n

theorem heldAt_zero : heldAt c Xg Xu Xd 0 = idleP c Xg Xu Xd := if_pos (.inl rfl)
theorem heldAt_last : heldAt c Xg Xu Xd 128 = idleP c Xg Xu Xd := if_pos (.inr rfl)
theorem heldAt_mid (n : ℕ) (h0 : n ≠ 0) (h1 : n ≠ 128) : heldAt c Xg Xu Xd n = midP c Xg Xu Xd n := if_neg (by omega)
theorem slot_two (n : ℕ) : Ring.sl 2 (n + 1 + 1) = Ring.sl 2 n := Fin.ext (by show (n + 1 + 1) % 2 = n % 2; omega)
theorem midP_succ (n : ℕ) : midP c Xg Xu Xd (n + 1)
    = iprop(busyP c Xg Xu Xd (Ring.sl 2 (n + 1)) (Ring.bk 128 (n + 9)) ∗ lentP c Xg Xu Xd (Ring.sl 2 (n + 1)) (Ring.bk 128 (n + 9))
      ∗ freeP c (Ring.sl 2 n) ∗ arrP c Xg Xu Xd (Ring.sl 2 n) ∗ goodP c Xg Xu Xd (n + 1)) := by
  unfold midP
  rw [slot_two, show n + 1 + 8 = n + 9 from by omega]
theorem goodP_any (n : ℕ) : goodP c Xg Xu Xd n ⊢ anyP c := by
  unfold goodP anyP
  iintro ⟨%Wg, %Wu, %Wd, -, A, B, C⟩
  isplitl [A]; · iexists Wg; iexact A
  isplitl [B]; · iexists Wu; iexact B
  iexists Wd; iexact C

end States

section Point
variable (c : Dev nD) (t : Fin cfg0.N) (arg2 : Memref sig .tc .vmem S1x4096x128 .f32) (harg2 : arg2.IsWhole)
    (arg6 : Memref sig .tc .vmem S1x8x512x128 .f32) (harg6 : arg6.IsWhole) (x0 : Vec F S1x4096x128 .f32)
    (Xg : BufOf (F := F) c xgM) (Xu : BufOf (F := F) c xuM) (Xd : BufOf (F := F) c xdM)

/-- What a point leaves in its staging buffers. -/
def leftP : sProp 𝕄 :=
  iprop(owns (c : Thread nD τ) arg2 fullShare x0 ∗ owns (c : Thread nD τ) arg6 fullShare (blockOf (allOf x0 Xg Xu Xd (t.val / 8)))
    ∗ (∃ W', owes (c : Thread nD τ) 0 W'))

/-- The part after the starts. -/
theorem finish (Wg : BufOf (F := F) c wgM) (Wu : BufOf (F := F) c wuM) (Wd : BufOf (F := F) c wdM)
    (hg : GoodRows t.val Wg Xg) (hu : GoodRows t.val Wu Xu) (hd : GoodCols t.val Wd Xd)
    (r : Σ' (arg0 : BitVec 32) (arg1 : BitVec 32) (v15 : BitVec 32) (v30 : BitVec 32) (v31 : BitVec 32), BitVec 32) (W : Waits sig Unit) (K : PUnit → sProp 𝕄) :
    iprop(busyP c Xg Xu Xd (here t) (blkHere t) ∗ lentP c Xg Xu Xd (here t) (blkHere t)
        ∗ owns (c : Thread nD τ) arg2 fullShare x0 ∗ (∃ d, owns (c : Thread nD τ) arg6 fullShare d)
        ∗ heldP c wgM fullShare Wg ∗ heldP c wuM fullShare Wu ∗ heldP c wdM fullShare Wd ∗ owes (c : Thread nD τ) 0 W
        ∗ (iprop(leftP c t arg2 arg6 x0 Xg Xu Xd ∗ freeP c (here t) ∗ arrP c Xg Xu Xd (here t) ∗ goodP c Xg Xu Xd (t.val + 1)) -∗ K ⟨⟩))
      ⊢ wp frame (wpE (defs₀ (F := F)) Variants.none c none) Set.univ (afterStarts (grid0.coords t) arg2 harg2 arg6 harg6 r) K := by
  unfold busyP
  iintro ⟨⟨⟨%fg, Bg⟩, ⟨%fu, Bu⟩, ⟨%fd, Bd⟩⟩, L, H0, H6, HWg, HWu, HWd, HO, Hk⟩
  iapply ((pointRun c t arg2 harg2 arg6 harg6 x0 Xg Xu Xd Wg Wu Wd).2 r fg fu fd W K)
  isplitl [H0]; · iexact H0
  isplitl [H6]; · iexact H6
  isplitl [Bg]; · iexact Bg
  isplitl [Bu]; · iexact Bu
  isplitl [Bd]; · iexact Bd
  isplitl [HWg]; · iexact HWg
  isplitl [HWu]; · iexact HWu
  isplitl [HWd]; · iexact HWd
  isplitl [HO]; · iexact HO
  iintro ⟨H0, ⟨%f6, H6⟩, Cg, Cu, Cd, Sg, Su, Sd, Xg', Xu', Xd', HWg, HWu, HWd, HO⟩
  iapply Hk
  unfold leftP
  isplitl [H0 H6 HO]
  · isplitl [H0]; · iexact H0
    isplitl [H6]
    · unfold owns
      iexists _; isplitr; · ipureintro; exact point_block c t arg2 harg2 arg6 harg6 x0 Xg Xu Xd Wg Wu Wd hg hu hd f6
      iexact H6
    iexact HO
  isplitl [Cg Cu Cd Sg Su Sd]
  · unfold freeP
    isplitl [Cg]; · iexact Cg
    isplitl [Cu]; · iexact Cu
    isplitl [Cd]; · iexact Cd
    isplitl [Sg]; · iexact Sg
    isplitl [Su]; · iexact Su
    iexact Sd
  isplitl [L Xg' Xu' Xd']
  · iapply (give_back c Xg Xu Xd (here t) (blkHere t))
    isplitl [Xg' Xu' Xd']
    · unfold srcP
      isplitl [Xg']; · iexact Xg'
      isplitl [Xu']; · iexact Xu'
      iexact Xd'
    iexact L
  unfold goodP
  iexists _, _, _
  isplitr
  · ipureintro; exact ⟨gNext c t Xg Wg hg, uNext c t Xu Wu hu, dNext c t Xd Wd hd⟩
  isplitl [HWg]; · iexact HWg
  isplitl [HWu]; · iexact HWu
  iexact HWd

/-- The kernel's body at a point. -/
abbrev bodyAt : Prog (TpuEff nD τ sig (Elt F) Λ₀ .tc) PUnit :=
  cc0_expert (F := F) (grid0.coords t) arg2 harg2 xgM (Memref.isWhole_whole _) xuM (Memref.isWhole_whole _) xdM (Memref.isWhole_whole _) arg6 harg6 wgM (Memref.isWhole_whole _) wuM (Memref.isWhole_whole _) wdM (Memref.isWhole_whole _) sgM (Memref.isWhole_whole _) suM (Memref.isWhole_whole _) sdM (Memref.isWhole_whole _) cc0_scratch6

/-- A point between the first and the last. -/
theorem point_mid (h0 : t.val ≠ 0) (hlt : t.val < 127) (W : Waits sig Unit) (K : PUnit → sProp 𝕄) :
    iprop(midP c Xg Xu Xd t.val ∗ owns (c : Thread nD τ) arg2 fullShare x0 ∗ (∃ d, owns (c : Thread nD τ) arg6 fullShare d) ∗ owes (c : Thread nD τ) 0 W
        ∗ (iprop(leftP c t arg2 arg6 x0 Xg Xu Xd ∗ midP c Xg Xu Xd (t.val + 1)) -∗ K ⟨⟩))
      ⊢ wp frame (wpE (defs₀ (F := F)) Variants.none c none) Set.univ (bodyAt t arg2 harg2 arg6 harg6) K := by
  unfold bodyAt
  rw [expert_split, wp_bind, midP_succ]
  unfold midP goodP
  iintro ⟨⟨B, L, Fr, A, ⟨%Wg, %Wu, %Wd, %hW, HWg, HWu, HWd⟩⟩, H0, H6, HO, Hk⟩
  ihave A' := lend c Xg Xu Xd (next t) (blkNext t) $$ A
  icases A' with ⟨S, L'⟩
  iapply (start c t arg2 harg2 arg6 harg6 Xg Xu Xd (fun h => h0 ((first_iff t).1 h)) hlt)
  isplitl [Fr]; · iexact Fr
  isplitl [S]; · iexact S
  iintro %r B'
  iapply (finish c t arg2 harg2 arg6 harg6 x0 Xg Xu Xd Wg Wu Wd hW.1 hW.2.1 hW.2.2 r W K)
  isplitl [B]; · iexact B
  isplitl [L]; · iexact L
  isplitl [H0]; · iexact H0
  isplitl [H6]; · iexact H6
  isplitl [HWg]; · iexact HWg
  isplitl [HWu]; · iexact HWu
  isplitl [HWd]; · iexact HWd
  isplitl [HO]; · iexact HO
  iintro ⟨Hl, Fr, A, G⟩
  iapply Hk
  isplitl [Hl]; · iexact Hl
  isplitl [B']; · iexact B'
  isplitl [L']; · iexact L'
  isplitl [Fr]; · iexact Fr
  isplitl [A]; · iexact A
  unfold goodP; iexact G

/-- The last point. -/
theorem point_last (ht : t.val = 127) (W : Waits sig Unit) (K : PUnit → sProp 𝕄) :
    iprop(midP c Xg Xu Xd t.val ∗ owns (c : Thread nD τ) arg2 fullShare x0 ∗ (∃ d, owns (c : Thread nD τ) arg6 fullShare d) ∗ owes (c : Thread nD τ) 0 W
        ∗ (iprop(leftP c t arg2 arg6 x0 Xg Xu Xd ∗ idleP c Xg Xu Xd) -∗ K ⟨⟩))
      ⊢ wp frame (wpE (defs₀ (F := F)) Variants.none c none) Set.univ (bodyAt t arg2 harg2 arg6 harg6) K := by
  have e1 : here t = 1 := by unfold here; rw [ht]; decide
  have e0 : next t = 0 := by unfold next; rw [ht]; decide
  have hidle : idleP c Xg Xu Xd = iprop(freeP c (next t) ∗ freeP c (here t) ∗ arrP c Xg Xu Xd (next t) ∗ arrP c Xg Xu Xd (here t) ∗ anyP c) := by
    rw [e0, e1]; rfl
  unfold bodyAt
  rw [expert_split, wp_bind, hidle]
  unfold midP goodP
  iintro ⟨⟨B, L, Fr, A, ⟨%Wg, %Wu, %Wd, %hW, HWg, HWu, HWd⟩⟩, H0, H6, HO, Hk⟩
  iapply (start_last c t arg2 harg2 arg6 harg6 (fun h => by have := (first_iff t).1 h; omega) (by omega))
  iintro %r
  iapply (finish c t arg2 harg2 arg6 harg6 x0 Xg Xu Xd Wg Wu Wd hW.1 hW.2.1 hW.2.2 r W K)
  isplitl [B]; · iexact B
  isplitl [L]; · iexact L
  isplitl [H0]; · iexact H0
  isplitl [H6]; · iexact H6
  isplitl [HWg]; · iexact HWg
  isplitl [HWu]; · iexact HWu
  isplitl [HWd]; · iexact HWd
  isplitl [HO]; · iexact HO
  iintro ⟨Hl, Fr', A', G⟩
  iapply Hk
  isplitl [Hl]; · iexact Hl
  isplitl [Fr]; · iexact Fr
  isplitl [Fr']; · iexact Fr'
  isplitl [A]; · iexact A
  isplitl [A']; · iexact A'
  iapply (goodP_any c Xg Xu Xd (t.val + 1)); iexact G

/-- The first point. -/
theorem point_first (ht : t.val = 0) (W : Waits sig Unit) (K : PUnit → sProp 𝕄) :
    iprop(idleP c Xg Xu Xd ∗ owns (c : Thread nD τ) arg2 fullShare x0 ∗ (∃ d, owns (c : Thread nD τ) arg6 fullShare d) ∗ owes (c : Thread nD τ) 0 W
        ∗ (iprop(leftP c t arg2 arg6 x0 Xg Xu Xd ∗ midP c Xg Xu Xd (t.val + 1)) -∗ K ⟨⟩))
      ⊢ wp frame (wpE (defs₀ (F := F)) Variants.none c none) Set.univ (bodyAt t arg2 harg2 arg6 harg6) K := by
  have e0 : (0 : Fin 2) = here t := by unfold here; rw [ht]; decide
  have e1 : (1 : Fin 2) = next t := by unfold next; rw [ht]; decide
  have e8 : (8 : Fin 128) = blkHere t := by unfold blkHere; rw [ht]; decide
  have hA : arrP c Xg Xu Xd 1 = arrP c Xg Xu Xd (next t) := by rw [e1]
  have hB : iprop(busyP c Xg Xu Xd 0 8 ∗ lentP c Xg Xu Xd 0 8)
      ⊢ iprop(busyP c Xg Xu Xd (here t) (blkHere t) ∗ lentP c Xg Xu Xd (here t) (blkHere t)) := by rw [e0, e8]
  have hz : ∀ n, n = 0 → n = t.val := fun n h => by omega
  unfold bodyAt
  rw [expert_split, wp_bind, midP_succ]
  unfold idleP
  rw [hA]
  unfold anyP
  iintro ⟨⟨F0, F1, A0, A1, ⟨%Wg, HWg⟩, ⟨%Wu, HWu⟩, ⟨%Wd, HWd⟩⟩, H0, H6, HO, Hk⟩
  ihave A0' := lend_first c Xg Xu Xd 0 8 (by decide) $$ A0
  icases A0' with ⟨S0, P8, W8⟩
  ihave A1' := lend c Xg Xu Xd (next t) (blkNext t) $$ A1
  icases A1' with ⟨S1, L'⟩
  iapply ((firstRun c t arg2 harg2 arg6 harg6 Xg Xu Xd).2 ((first_iff t).2 ht) (Ring.sharesN 8 (part 0)) Wg Wu Wd W)
  isplitl [F0]; · iexact F0
  isplitl [F1]; · iexact F1
  isplitl [S0]; · iexact S0
  isplitl [S1]; · iexact S1
  isplitl [P8]; · iexact P8
  isplitl [HWg]; · iexact HWg
  isplitl [HWu]; · iexact HWu
  isplitl [HWd]; · iexact HWd
  isplitl [HO]; · iexact HO
  iintro %r ⟨B, B', P8, HWg, HWu, HWd, ⟨%W', HO⟩⟩
  ihave L := W8 $$ P8
  ihave BL := hB $$ [B L]
  · isplitl [B]; · iexact B
    iexact L
  icases BL with ⟨B, L⟩
  iapply (finish c t arg2 harg2 arg6 harg6 x0 Xg Xu Xd _ _ _ (ht.symm ▸ gFirst c t arg2 harg2 arg6 harg6 Xg Xu Xd Wg) (ht.symm ▸ uFirst c t arg2 harg2 arg6 harg6 Xg Xu Xd Wu)
    (ht.symm ▸ dFirst c t arg2 harg2 arg6 harg6 Xg Xu Xd Wd) r W' K)
  isplitl [B]; · iexact B
  isplitl [L]; · iexact L
  isplitl [H0]; · iexact H0
  isplitl [H6]; · iexact H6
  isplitl [HWg]; · iexact HWg
  isplitl [HWu]; · iexact HWu
  isplitl [HWd]; · iexact HWd
  isplitl [HO]; · iexact HO
  iintro ⟨Hl, Fr, A, G⟩
  iapply Hk
  isplitl [Hl]; · iexact Hl
  isplitl [B']; · iexact B'
  isplitl [L']; · iexact L'
  isplitl [Fr]; · iexact Fr
  isplitl [A]; · iexact A
  iexact G

/-- A point, whichever it is. -/
theorem point_run (W : Waits sig Unit) (K : PUnit → sProp 𝕄) :
    iprop(heldAt c Xg Xu Xd t.val ∗ owns (c : Thread nD τ) arg2 fullShare x0 ∗ (∃ d, owns (c : Thread nD τ) arg6 fullShare d) ∗ owes (c : Thread nD τ) 0 W
        ∗ (iprop(leftP c t arg2 arg6 x0 Xg Xu Xd ∗ heldAt c Xg Xu Xd (t.val + 1)) -∗ K ⟨⟩))
      ⊢ wp frame (wpE (defs₀ (F := F)) Variants.none c none) Set.univ (bodyAt t arg2 harg2 arg6 harg6) K := by
  have hN : t.val < 128 := N_0 ▸ t.isLt
  rcases Nat.eq_zero_or_pos t.val with ht | ht
  · rw [heldAt_mid c Xg Xu Xd (t.val + 1) (by omega) (by omega), show heldAt c Xg Xu Xd t.val = idleP c Xg Xu Xd from if_pos (.inl ht)]
    exact point_first c t arg2 harg2 arg6 harg6 x0 Xg Xu Xd ht W K
  · rw [heldAt_mid c Xg Xu Xd t.val (by omega) (by omega)]
    by_cases hl : t.val < 127
    · rw [heldAt_mid c Xg Xu Xd (t.val + 1) (by omega) (by omega)]
      exact point_mid c t arg2 harg2 arg6 harg6 x0 Xg Xu Xd (by omega) hl W K
    · rw [show heldAt c Xg Xu Xd (t.val + 1) = idleP c Xg Xu Xd from if_pos (.inr (by omega))]
      exact point_last c t arg2 harg2 arg6 harg6 x0 Xg Xu Xd (by omega) W K

end Point

end Cert.EX

end
-- ==== Proof.EX.Launch.lean ====
/- The expert kernel's launch: the body at every point, the run, and what it leaves. -/
module

public import proofs.«01_k».proof.Proof.EX.Body

@[expose] public section

set_option maxRecDepth 65536

noncomputable section

namespace Cert.EX

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
theorem reach (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-! ## What the region is handed -/

/-- The semaphores of the kernel's own transfers, the three arrays' two slots each. -/
abbrev osem : Fin 6 → SemLoc sig := fun j => (![SemLoc.dma 4, SemLoc.dma 5, SemLoc.dma 6, SemLoc.dma 7, SemLoc.dma 8, SemLoc.dma 9] : Fin 6 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(cellP c 0 0 ∗ cellP c 0 1 ∗ cellP c 1 0 ∗ cellP c 1 1 ∗ cellP c 2 0 ∗ cellP c 2 1) := by
  rw [Pipeline.ownSems0_eq_of_list c osem [0, 1, 2, 3, 4, 5] (by decide) (by decide)]; rfl
/-- The arrays the kernel reads itself. -/
def H0 : Finset (Ref sig .tc) := {main_arg1, main_arg2, main_arg3}
theorem H0_sub : H0 ⊆ Pipeline.restRefs sig spec0 := by decide

/-- Each array as the region finds it. -/
abbrev gArr (c : Dev nD) : BufOf (F := F) c xgM := V m c main_arg1
abbrev uArr (c : Dev nD) : BufOf (F := F) c xuM := V m c main_arg2
abbrev dArr (c : Dev nD) : BufOf (F := F) c xdM := V m c main_arg3

theorem arrays_eq (c : Dev nD) :
    (bigSep H0 (fun b => ((c : Thread nD τ).loc b) ↦{fullShare} V m c b) : sProp 𝕄)
      = iprop((xgM.view.loc (c : Thread nD τ) ↦{fullShare} gArr m c) ∗ (xuM.view.loc (c : Thread nD τ) ↦{fullShare} uArr m c) ∗ (xdM.view.loc (c : Thread nD τ) ↦{fullShare} dArr m c)) := by
  rw [BI.bigSep_eq_bigSepL_of_eq [main_arg1, main_arg2, main_arg3] (by decide) (by decide)]; rfl

section Halves
variable {ℓ : Loc nD τ sig} (f : Buf (Elt F) ℓ)
theorem halves : (ℓ ↦{fullShare} f : sProp 𝕄) ⊣⊢ iprop((ℓ ↦{part 0} f) ∗ (ℓ ↦{part 1} f)) := by
  rw [show part 0 = fullShare.left from rfl, show part 1 = fullShare.right from rfl]
  exact pointsTo_share (PosShare.mem_left_op_right fullShare)
end Halves

theorem arrays_split (c : Dev nD) (Xg : BufOf (F := F) c xgM) (Xu : BufOf (F := F) c xuM) (Xd : BufOf (F := F) c xdM) :
    iprop((xgM.view.loc (c : Thread nD τ) ↦{fullShare} Xg) ∗ (xuM.view.loc (c : Thread nD τ) ↦{fullShare} Xu) ∗ (xdM.view.loc (c : Thread nD τ) ↦{fullShare} Xd))
      ⊢ (iprop(arrP c Xg Xu Xd 0 ∗ arrP c Xg Xu Xd 1) : sProp 𝕄) := by
  unfold arrP
  iintro ⟨G, U, D⟩
  ihave G' := (halves Xg).1 $$ G
  ihave U' := (halves Xu).1 $$ U
  ihave D' := (halves Xd).1 $$ D
  icases G' with ⟨G0, G1⟩
  icases U' with ⟨U0, U1⟩
  icases D' with ⟨D0, D1⟩
  isplitl [G0 U0 D0]
  · isplitl [G0]; · iexact G0
    isplitl [U0]; · iexact U0
    iexact D0
  isplitl [G1]; · iexact G1
  isplitl [U1]; · iexact U1
  iexact D1
theorem arrays_join (c : Dev nD) (Xg : BufOf (F := F) c xgM) (Xu : BufOf (F := F) c xuM) (Xd : BufOf (F := F) c xdM) :
    (iprop(arrP c Xg Xu Xd 0 ∗ arrP c Xg Xu Xd 1) : sProp 𝕄) ⊢ iprop((xgM.view.loc (c : Thread nD τ) ↦{fullShare} Xg)
      ∗ (xuM.view.loc (c : Thread nD τ) ↦{fullShare} Xu) ∗ (xdM.view.loc (c : Thread nD τ) ↦{fullShare} Xd)) := by
  unfold arrP
  iintro ⟨⟨G0, U0, D0⟩, ⟨G1, U1, D1⟩⟩
  isplitl [G0 G1]
  · iapply (halves Xg).2
    isplitl [G0]; · iexact G0
    iexact G1
  isplitl [U0 U1]
  · iapply (halves Xu).2
    isplitl [U0]; · iexact U0
    iexact U1
  iapply (halves Xd).2
  isplitl [D0]; · iexact D0
  iexact D1

theorem heldP_whole (c : Dev nD) (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) := by
  rw [View.set_whole]

theorem any_eq (c : Dev nD) : (anyP c : sProp 𝕄)
    = iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)) := by
  unfold anyP heldP
  rw [show wgM.view.set = Finset.univ from View.set_whole _, show wuM.view.set = Finset.univ from View.set_whole _, show wdM.view.set = Finset.univ from View.set_whole _]

theorem into (c : Dev nD) : Pipeline.ΦD osem spec0 H0 (V m) c ⊢ (iprop(idleP c (gArr m c) (uArr m c) (dArr m c) ∗ ∃ r, prngReg c r) : sProp 𝕄) := by
  rw [Pipeline.ΦD_eq, scopedRest0_eq, ownSems_eq, arrays_eq]
  unfold idleP
  rw [any_eq]
  unfold freeP
  iintro ⟨⟨W0, W1, W2, S0, S1, S2⟩, R, ⟨C00, C01, C10, C11, C20, C21⟩, A⟩
  ihave G := gSlots_split c $$ S0
  ihave U := uSlots_split c $$ S1
  ihave D := dSlots_split c $$ S2
  ihave A' := arrays_split c (gArr m c) (uArr m c) (dArr m c) $$ A
  icases G with ⟨G0, G1⟩
  icases U with ⟨U0, U1⟩
  icases D with ⟨D0, D1⟩
  icases A' with ⟨A0, A1⟩
  isplitr [R]
  · isplitl [C00 C10 C20 G0 U0 D0]
    · isplitl [C00]; · iexact C00
      isplitl [C10]; · iexact C10
      isplitl [C20]; · iexact C20
      isplitl [G0]; · iexact G0
      isplitl [U0]; · iexact U0
      iexact D0
    isplitl [C01 C11 C21 G1 U1 D1]
    · isplitl [C01]; · iexact C01
      isplitl [C11]; · iexact C11
      isplitl [C21]; · iexact C21
      isplitl [G1]; · iexact G1
      isplitl [U1]; · iexact U1
      iexact D1
    isplitl [A0]; · iexact A0
    isplitl [A1]; · iexact A1
    isplitl [W0]; · iexact W0
    isplitl [W1]; · iexact W1
    iexact W2
  iexact R

theorem outOf (c : Dev nD) : (iprop(idleP c (gArr m c) (uArr m c) (dArr m c) ∗ ∃ r, prngReg c r) : sProp 𝕄) ⊢ Pipeline.ΦD osem spec0 H0 (V m) c := by
  rw [Pipeline.ΦD_eq, scopedRest0_eq, ownSems_eq, arrays_eq]
  unfold idleP
  rw [any_eq]
  unfold freeP
  iintro ⟨⟨⟨C00, C10, C20, G0, U0, D0⟩, ⟨C01, C11, C21, G1, U1, D1⟩, A0, A1, W0, W1, W2⟩, R⟩
  isplitl [W0 W1 W2 G0 G1 U0 U1 D0 D1]
  · isplitl [W0]; · iexact W0
    isplitl [W1]; · iexact W1
    isplitl [W2]; · iexact W2
    isplitl [G0 G1]
    · iapply (gSlots_join c)
      isplitl [G0]; · iexact G0
      iexact G1
    isplitl [U0 U1]
    · iapply (uSlots_join c)
      isplitl [U0]; · iexact U0
      iexact U1
    iapply (dSlots_join c)
    isplitl [D0]; · iexact D0
    iexact D1
  isplitl [R]; · iexact R
  isplitl [C00 C01 C10 C11 C20 C21]
  · isplitl [C00]; · iexact C00
    isplitl [C01]; · iexact C01
    isplitl [C10]; · iexact C10
    isplitl [C11]; · iexact C11
    isplitl [C20]; · iexact C20
    iexact C21
  iapply (arrays_join c (gArr m c) (uArr m c) (dArr m c))
  isplitl [A0]; · iexact A0
  iexact A1

/-! ## The data of the pipeline, and the body -/

/-- The block a point leaves. -/
def outAt (c : Dev nD) (t : Fin cfg0.N) : (cfg0.win 1).block.Idx → Elt F (cfg0.win 1).elt :=
  blockOf (allOf (X0_0 m c t) (gArr m c) (uArr m c) (dArr m c) (t.val / 8))

def dats (_ : Fin 1) (c : Dev nD) : Dat τ (Elt F) Unit ℕ (Pipeline.UD sig nD τ) ℕ cfg0 c where
  A w := V m c (Pipeline.arrRef spec0 w)
  after w t := match w with
    | ⟨0, _⟩ => X0_0 m c t
    | ⟨1, _⟩ => outAt m c t
  Φ p := iprop(heldAt c (gArr m c) (uArr m c) (dArr m c) p.val ∗ ∃ r, prngReg c r)
  q _ := fullShare
  owed _ := 0

theorem after_in (c : Dev nD) (t : Fin cfg0.N) : (dats m 0 c).after 0 t = X0_0 m c t := by dsimp only [dats]
theorem after_out (c : Dev nD) (t : Fin cfg0.N) : (dats m 0 c).after 1 t = outAt m c t := by dsimp only [dats]
theorem before_in (c : Dev nD) (t : Fin cfg0.N) (d) : (dats m 0 c).before 0 t d = X0_0 m c t :=
  ((dats m 0 c).before_in_eq_fetched 0 rfl (fun _ => rfl)
      (fun t t' h => funext fun a => congrArg (fun n => Pipeline.Clip.of n ((cfg0.win 0).size a) (S16x33216x128.size a)) (congrFun h a))
      (fun t => by rw [after_in]; unfold X0_0; rw [Pipeline.Window.cut_fill]; unfold Dat.blockOf iblk; rfl) t d).trans
    (by unfold Dat.fetched X0_0; rw [fill0_0 t d dflt0_0]; unfold Dat.blockOf iblk; rfl)

abbrev stIn (t : Fin cfg0.N) : Memref sig .tc .vmem S1x4096x128 .f32 := win0_0.stage (cfg0.slots t 0)
abbrev stOut (t : Fin cfg0.N) : Memref sig .tc .vmem S1x8x512x128 .f32 := win0_1.stage (cfg0.slots t 1)
abbrev hstIn (t : Fin cfg0.N) : (stIn t).IsWhole := hstage0_0 ((cfg0.slots t 0).cast nbuf0_0)
abbrev hstOut (t : Fin cfg0.N) : (stOut t).IsWhole := hstage0_1 ((cfg0.slots t 1).cast nbuf0_1)

theorem body_eq (t : Fin cfg0.N) : (defs₀ (F := F)) .tc cfg0.body (cfg0.bodyArgs t (cfg0.slots t)) = bodyAt t (stIn t) (hstIn t) (stOut t) (hstOut t) :=
  rfl

set_option backward.isDefEq.respectTransparency.types false in
theorem body_obligation (c : Dev nD) : BodyObligation (dats (F := F) m 0 c) (defs₀ (F := F)) Variants.none () Set.univ := fun t => by
  rw [bigSep_W0, bigSep_W0]
  dsimp only
  simp only [before_in, after_in, after_out]
  rw [show (dats m 0 c).Φ t.castSucc = iprop(heldAt c (gArr m c) (uArr m c) (dArr m c) t.val ∗ ∃ r, prngReg c r) from rfl,
    show (dats m 0 c).Φ t.succ = iprop(heldAt c (gArr m c) (uArr m c) (dArr m c) (t.val + 1) ∗ ∃ r, prngReg c r) from rfl]
  unfold Dat.owesAt Pipeline.owesWithin
  rw [show (dats m 0 c).owed t.castSucc = 0 from rfl, show (dats m 0 c).owed t.succ = 0 from rfl]
  iintro ⟨⟨Hh, R⟩, ⟨%W, -, HW⟩, ⟨%d0, H0⟩, ⟨%d1, H1⟩⟩
  sl_rw [body_eq t]
  iapply (point_run c t (stIn t) (hstIn t) (stOut t) (hstOut t) (X0_0 m c t) (gArr m c) (uArr m c) (dArr m c) W)
  isplitl [Hh]; · iexact Hh
  isplitl [H0]; · iexact H0
  isplitl [H1]; · iexists _; iexact H1
  isplitl [HW]; · iexact HW
  unfold leftP
  iintro ⟨⟨H0, H1, ⟨%W', HW⟩⟩, Hh⟩
  isplitl [Hh R]
  · isplitl [Hh]; · iexact Hh
    iexact R
  isplitl [HW]
  · iexists W'; isplitr; · ipureintro; exact fun _ _ => Or.inl trivial
    iexact HW
  isplitl [H0]; · iexact H0
  iexact H1

/-! ## The run -/

set_option backward.isDefEq.respectTransparency.types false in
/-- Every execution ends with the arrays at the library's account of them, every buffer the kernel does not write as it was, and the counters at zero. -/
theorem run_main : θ_run defs (onTc (τ := τ) (main (F := F))) (s₀ m ρ) (fun r => Pipeline.FramePost cfgs (dats m) 0 (V m) r ∧ r.2.sem = fun _ => 0) :=
  Pipeline.θ_run_frame_dma cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := reach m _) (hA := fun _ _ => rfl)
    (hin := fun c => by
      rw [show (dats m 0 c).Φ 0 = iprop(heldAt c (gArr m c) (uArr m c) (dArr m c) 0 ∗ ∃ r, prngReg c r) from rfl, heldAt_zero]
      exact into m c)
    (hout := fun c => by
      rw [show (dats m 0 c).Φ (Fin.last cfg0.N) = iprop(heldAt c (gArr m c) (uArr m c) (dArr m c) 128 ∗ ∃ r, prngReg c r) from rfl, heldAt_last]
      exact outOf m c)
    (Q' := fun r => Pipeline.FramePost cfgs (dats m) 0 (V m) r ∧ r.2.sem = fun _ => 0) (hQ' := fun _ h => h)

/-- The arguments as they were. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- The kernel runs, keeps its arguments, and ends with its semaphores at zero. -/
theorem run_frame : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨args_kept m r h.1, h.2⟩) (run_main m ρ)

end Cert.EX

end
-- ==== Proof.EX.Ref.lean ====
/- The experts' reference, read at an index: two projections of an expert's tokens, the gate's SiLU times the other, and
   the projection back, in blocks of 128 columns. -/
module

public import proofs.«01_k».proof.Proof.Gen.Reference2Ideal.Run
public import Idealize.ShloMosaic.Lib.Pointwise

@[expose] public section

set_option maxRecDepth 16384

noncomputable section

namespace Cert.EX

open Idealize.ShloMosaic

/-- `g` times its logistic function. -/
def silu (g : EReal) : EReal := g * Ideal.div 1 (1 + Ideal.exp (-g))

end Cert.EX

namespace Cert.EX.Ref

open Cert.Reference2Ideal Cert.Reference2Ideal.Gen Idealize.ShloMosaic Idealize.ShloMosaic.TcCoe

/-- The tokens times a layer's weights, expert by expert. -/
def into (x : FVec Ideal S16x4096x1024 .f32) (w : FVec Ideal S4x16x1024x2048 .f32) : FVec Ideal S16x4096x2048 .f32 :=
  Host.dotGeneral dot_S16x4096x1024_S16x1024x2048_S16x4096x2048_2_1_1_2_0_0 none x
    (shapeCast _ (extractStridedSlice S1x16x1024x2048 ![0, 0, 0, 0] w slices_S4x16x1024x2048_S1x16x1024x2048_0_0_0_0) shapeCasts_S1x16x1024x2048_S16x1024x2048)

/-- One everywhere. -/
abbrev ones : FVec Ideal S16x4096x2048 .f32 := broadcastInDim S16x4096x2048 ![] bcast_S_S16x4096x2048 (constant S_ .f32 0x3F800000#32)

/-- The gated activations. -/
def gated (g u : FVec Ideal S16x4096x2048 .f32) : FVec Ideal S16x4096x2048 .f32 :=
  mulf (mulf g (Host.divf ones (addf ones (Host.exp (Host.negf g))))) u

/-- The activations times the weights back. -/
def back (h : FVec Ideal S16x4096x2048 .f32) (w : FVec Ideal S4x16x2048x1024 .f32) : FVec Ideal S16x4096x1024 .f32 :=
  Host.dotGeneral dot_S16x4096x2048_S16x2048x1024_S16x4096x1024_2_1_1_2_0_0 none h
    (shapeCast _ (extractStridedSlice S1x16x2048x1024 ![0, 0, 0, 0] w slices_S4x16x2048x1024_S1x16x2048x1024_0_0_0_0) shapeCasts_S1x16x2048x1024_S16x2048x1024)

/-- Columns in blocks of 128, a block after the other. -/
def blocks (y : FVec Ideal S16x4096x1024 .f32) : FVec Ideal S16x8x4096x128 .f32 :=
  transpose S16x8x4096x128 [0, 2, 1, 3] (shapeCast _ y shapeCasts_S16x4096x1024_S16x4096x8x128) transposes_S16x4096x8x128_S16x8x4096x128_0_2_1_3

/-- The result. -/
def result (x : FVec Ideal S16x4096x1024 .f32) (wg wu : FVec Ideal S4x16x1024x2048 .f32) (wd : FVec Ideal S4x16x2048x1024 .f32) :
    FVec Ideal S16x8x4096x128 .f32 :=
  blocks (back (gated (into x wg) (into x wu)) wd)

theorem into_apply (x : FVec Ideal S16x4096x1024 .f32) (w : FVec Ideal S4x16x1024x2048 .f32) (e : Fin 16) (r : Fin 4096) (f : Fin 2048) :
    into x w (ix3 e r f) = ∑ k : Fin 1024, x (ix3 e r k) * w (ix4 0 e k f) := by
  pointwise [into]

theorem gated_apply (g u : FVec Ideal S16x4096x2048 .f32) (e : Fin 16) (r : Fin 4096) (f : Fin 2048) :
    gated g u (ix3 e r f) = silu (g (ix3 e r f)) * u (ix3 e r f) := by
  pointwise [gated, silu]

theorem back_apply (h : FVec Ideal S16x4096x2048 .f32) (w : FVec Ideal S4x16x2048x1024 .f32) (e : Fin 16) (r : Fin 4096) (d : Fin 1024) :
    back h w (ix3 e r d) = ∑ f : Fin 2048, h (ix3 e r f) * w (ix4 0 e f d) := by
  pointwise [back]

theorem blocks_apply (y : FVec Ideal S16x4096x1024 .f32) (e : Fin 16) (b : Fin 8) (r : Fin 4096) (l : Fin 128) :
    blocks y (ix4 e b r l) = y (ix3 e r ⟨(b:ℕ) * 128 + l, by omega⟩) := by
  pointwise [blocks]

/-- The result at an index. -/
theorem result_apply (x : FVec Ideal S16x4096x1024 .f32) (wg wu : FVec Ideal S4x16x1024x2048 .f32) (wd : FVec Ideal S4x16x2048x1024 .f32)
    (e : Fin 16) (b : Fin 8) (r : Fin 4096) (l : Fin 128) :
    result x wg wu wd (ix4 e b r l) = ∑ f : Fin 2048, silu (∑ k : Fin 1024, x (ix3 e r k) * wg (ix4 0 e k f))
      * (∑ k : Fin 1024, x (ix3 e r k) * wu (ix4 0 e k f)) * wd (ix4 0 e f ⟨(b:ℕ) * 128 + l, by omega⟩) := by
  unfold result
  simp only [blocks_apply, back_apply, gated_apply, into_apply]

end Cert.EX.Ref

end
-- ==== Proof.EX.Chunk.lean ====
/- A quarter of an expert's work on a grid point's tokens, read at an index, and the four quarters' sum. -/
module

public import proofs.«01_k».proof.Proof.EX.Out
public import proofs.«01_k».proof.Proof.EX.Ref
public import Idealize.ShloMosaic.Lib.Pointwise

@[expose] public section

set_option maxRecDepth 16384

noncomputable section

namespace Cert.EX

open Cert.Kernel2Ideal Cert.Kernel2Ideal.Gen Idealize.ShloMosaic Idealize.ShloMosaic.TcCoe

/-- The tokens times 512 columns of weights. -/
def proj (x : FVec Ideal S512x1024 .bf16) (w : Vec Ideal S1x1024x512 .bf16) : FVec Ideal S512x512 .f32 :=
  matmul dot_S512x1024_S1024x512_S512x512_1_0_0_1_n_n none x (shapeCast S1024x512 w shapeCasts_S1x1024x512_S1024x512 : FVec Ideal S1024x512 .bf16)
    (constant S512x512 .f32 0x00000000#32)

/-- The gated activations. -/
def act (g u : FVec Ideal S512x512 .f32) : FVec Ideal S512x512 .bf16 :=
  truncf .bf16 (mulf (mulf g (divf (broadcast S512x512 (Scalar.ofBits .f32 0x3F800000#32))
    (addf (broadcast S512x512 (Scalar.ofBits .f32 0x3F800000#32)) (exp (subf (broadcast S512x512 (Scalar.ofBits .f32 0x00000000#32)) g))))) u) bitsLt_bf16_f32

/-- A quarter's part of the output. -/
def chunk (x : FVec Ideal S512x1024 .bf16) (wg wu : Vec Ideal S1x1024x512 .bf16) (wd : Vec Ideal S1x512x1024 .bf16) : FVec Ideal S512x1024 .f32 :=
  matmul dot_S512x512_S512x1024_S512x1024_1_0_0_1_n_n none (act (proj x wg) (proj x wu)) (shapeCast S512x1024 wd shapeCasts_S1x512x1024_S512x1024 : FVec Ideal S512x1024 .bf16)
    (constant S512x1024 .f32 0x00000000#32)

theorem proj_apply (x : FVec Ideal S512x1024 .bf16) (w : Vec Ideal S1x1024x512 .bf16) (r f : Fin 512) :
    proj x w (ix2 r f) = ∑ k : Fin 1024, x (ix2 r k) * w (ix3 0 k f) := by
  pointwise [proj]

theorem act_apply (g u : FVec Ideal S512x512 .f32) (r f : Fin 512) :
    act g u (ix2 r f) = silu (g (ix2 r f)) * u (ix2 r f) := by
  pointwise [act, silu]
  rw [zero_sub]

theorem chunk_apply (x : FVec Ideal S512x1024 .bf16) (wg wu : Vec Ideal S1x1024x512 .bf16) (wd : Vec Ideal S1x512x1024 .bf16) (r : Fin 512) (d : Fin 1024) :
    chunk x wg wu wd (ix2 r d) = ∑ f : Fin 512, silu (∑ k : Fin 1024, x (ix2 r k) * wg (ix3 0 k f))
      * (∑ k : Fin 1024, x (ix2 r k) * wu (ix3 0 k f)) * wd (ix3 0 f d) := by
  simp only [← proj_apply, ← act_apply]
  pointwise [chunk]

/-- A sum over `m * n` places is the sum over `m` stretches of `n`. -/
theorem sum_stretches (m n : ℕ) (g : Fin (m * n) → EReal) :
    ∑ f, g f = ∑ q : Fin m, ∑ j : Fin n, g (finProdFinEquiv (q, j)) := by
  rw [← Fintype.sum_prod_type' (f := fun (q : Fin m) (j : Fin n) => g (finProdFinEquiv (q, j)))]
  exact (Fintype.sum_equiv finProdFinEquiv _ _ fun _ => rfl).symm

/-- A sum over 2048 is the sum of four sums over 512. -/
theorem sum_quarters (g : Fin 2048 → EReal) :
    ∑ f, g f = ∑ q : Fin 4, ∑ j : Fin 512, g ⟨512 * q.val + j.val, by omega⟩ :=
  (sum_stretches 4 512 g).trans (Finset.sum_congr rfl fun q _ => Finset.sum_congr rfl fun j _ => congrArg g (Fin.ext (Nat.add_comm _ _)))

section
variable (x0 : Vec Ideal S1x4096x128 .f32) (Xg Xu : S4x16x1024x2048.Idx → Elt Ideal .f32) (Xd : S4x16x2048x1024.Idx → Elt Ideal .f32) (e : ℕ)

/-- The kernel adds the four quarters' parts up from zero. -/
theorem allOf_eq : allOf x0 Xg Xu Xd e
    = addf (addf (addf (addf (broadcast S512x1024 (Scalar.ofBits .f32 0x00000000#32))
        (chunk (xb x0) (wA Xg e 0) (wA Xu e 0) (wC Xd e 0))) (chunk (xb x0) (wA Xg e 1) (wA Xu e 1) (wC Xd e 1)))
        (chunk (xb x0) (wA Xg e 2) (wA Xu e 2) (wC Xd e 2))) (chunk (xb x0) (wA Xg e 3) (wA Xu e 3) (wC Xd e 3)) := rfl

/-- The tokens of a block, whose rows are cut into eight lines of 128. -/
theorem xb_apply (r : Fin 512) (d : Fin 1024) :
    xb x0 (ix2 r d) = x0 (ix3 0 ⟨8 * (r:ℕ) + (d:ℕ)/128, by omega⟩ ⟨(d:ℕ)%128, by omega⟩) := by
  have hd := d.isLt
  have key : ∀ (j j' : Fin 4096) (l l' : Fin 128), (j:ℕ) = j' → (l:ℕ) = l' → x0 (ix3 0 j l) = x0 (ix3 0 j' l') := by
    intro j j' l l' h1 h2; rw [Fin.ext h1, Fin.ext h2]
  pointwise [xb, k0_pay43, k0_pay37, k0_pay38, k0_pay39, k0_pay40, k0_pay41, k0_pay42, xs]
  split_ifs <;> exact key _ _ _ _ (by simp only; omega) (by simp only; omega)

/-- The output of an expert on a point's tokens, at an index. -/
theorem allOf_apply (he : e < 16) (r : Fin 512) (d : Fin 1024) : allOf x0 Xg Xu Xd e (ix2 r d)
    = ∑ f : Fin 2048, silu (∑ k : Fin 1024, xb x0 (ix2 r k) * Xg (ix4 0 ⟨e, he⟩ k f))
      * (∑ k : Fin 1024, xb x0 (ix2 r k) * Xu (ix4 0 ⟨e, he⟩ k f)) * Xd (ix4 0 ⟨e, he⟩ f d) := by
  have hA : ∀ (X : S4x16x1024x2048.Idx → Elt Ideal .f32) (q : Fin 4) (k : Fin 1024) (f : Fin 512),
      wA X e q (ix3 0 k f) = X (ix4 0 ⟨e, he⟩ k ⟨512 * q.val + f.val, by omega⟩) := by
    intro X q k f
    exact congrArg (fun a => X (ix4 0 a k ⟨512 * q.val + f.val, by omega⟩)) (Fin.ext (Nat.mod_eq_of_lt he))
  have hC : ∀ (q : Fin 4) (f : Fin 512), wC Xd e q (ix3 0 f d) = Xd (ix4 0 ⟨e, he⟩ ⟨512 * q.val + f.val, by omega⟩ d) := by
    intro q f
    exact congrArg (fun a => Xd (ix4 0 a ⟨512 * q.val + f.val, by omega⟩ d)) (Fin.ext (Nat.mod_eq_of_lt he))
  rw [allOf_eq, sum_quarters, Fin.sum_univ_four]
  simp only [← hA, ← hC, ← chunk_apply]
  pointwise

end

end Cert.EX

end
-- ==== Proof.EX.Value.lean ====
/- What the expert kernel leaves: the reference's result. -/
module

public import proofs.«01_k».proof.Proof.EX.Launch
public import proofs.«01_k».proof.Proof.EX.Chunk
public import Idealize.ShloMosaic.Lib.Pipeline.ValueKit
public import Idealize.ShloMosaic.Lib.Claim
public import Idealize.ShloMosaic.Lib.StableHlo.ReadAt

@[expose] public section

set_option maxRecDepth 65536

noncomputable section

namespace Cert.EX

open Cert.Kernel2Ideal Cert.Kernel2Ideal.Gen Idealize.ShloMosaic Idealize.ShloMosaic.TcCoe

/-- A grid point's expert and tile are the quotient and remainder by eight. -/
theorem index_in : ∀ t : Fin cfg0.N, win0_0.index t = ![t.val / 8, t.val % 8, 0] := (by decide +kernel : ∀ t : Fin grid0.N, _)
theorem index_out : ∀ t : Fin cfg0.N, win0_1.index t = ![t.val / 8, 0, t.val % 8, 0] := (by decide +kernel : ∀ t : Fin grid0.N, _)
theorem point_lt (t : Fin cfg0.N) : t.val < 128 := lt_of_lt_of_eq t.isLt (by decide)

/-- A block that a transfer fills whole, at an index: the array where the block stands. -/
theorem fill_at {α : Type} {G : Pipeline.Grid} (w : Pipeline.Window sig G) (t : Fin G.N) (d : w.block.Idx → α) (A : w.shape.Idx → α) (j : w.block.Idx)
    (h : w.moved (G.coords t) j = true) (R : w.shape.Idx) (hR : ∀ a, (R a).val = w.kind.off (w.index t a) (w.size a) + (j a).val) :
    w.fill (G.coords t) d (fun y => A ((w.rect t).emb y)) j = A R := by
  unfold Pipeline.Window.fill
  rw [dif_pos h]
  refine congrArg A (funext fun a => Fin.ext ?_)
  rw [ValueKit.rect_emb_unit_val, hR]

/-- A rectangle of a whole array, read. -/
theorem read_slice_whole {κ : Kind} (b : Ref sig κ) (r : Rect b.ty.shape) (f : b.ty.Contents (Elt Ideal)) :
    ((View.whole b).slice r).read (Elt Ideal) f = fun y => f (r.emb y) := rfl

variable (m : (ℓ : Loc nD τ sig) → Buf (Elt Ideal) ℓ) (c : Dev nD)

/-- The arguments. -/
abbrev xArg : FVec Ideal S16x4096x1024 .f32 := m (c, Proc.tc.devRef main_arg0)
abbrev gArg : FVec Ideal S4x16x1024x2048 .f32 := m (c, Proc.tc.devRef main_arg1)
abbrev uArg : FVec Ideal S4x16x1024x2048 .f32 := m (c, Proc.tc.devRef main_arg2)
abbrev dArg : FVec Ideal S4x16x2048x1024 .f32 := m (c, Proc.tc.devRef main_arg3)

/-- The tokens in lines of 128, with slack after each expert's. -/
theorem lines_apply (e : Fin 16) (R : Fin 33216) (l : Fin 128) (hR : R.val < 32768) :
    V m c main_v1 (ix3 e R l) = xArg m c (ix3 e ⟨R.val / 8, by omega⟩ ⟨128 * (R.val % 8) + l.val, by omega⟩) := by
  unfold V hostOps0 hostOps0_1 hostOps0_2
  simp only [List.flatten_cons, List.flatten_nil, List.cons_append, List.nil_append, List.append_nil]
  after_reads_at
  rw [dif_pos (by omega)]
  exact congrArg (fun k => xArg m c (ix3 e ⟨R.val / 8, by omega⟩ k)) (Fin.ext (by simp only; omega))

theorem input_block (t : Fin cfg0.N) : iblk m c 0 t = fun y => V m c main_v1 (((cfg0.win 0).rect t).emb y) := by
  unfold iblk
  exact read_slice_whole main_v1 ((cfg0.win 0).rect t) (V m c main_v1)

theorem input_offset (t : Fin cfg0.N) (a : Fin 3) :
    (cfg0.win 0).kind.off ((cfg0.win 0).index t a) ((cfg0.win 0).size a) = ![t.val / 8, t.val % 8 * 4096, 0] a := by
  refine (congrArg (fun n => (cfg0.win 0).kind.off n ((cfg0.win 0).size a)) (congrFun (index_in t) a)).trans ?_
  fin_cases a
  · exact Nat.mul_one _
  · rfl
  · rfl

/-- The lines of a point's block. -/
theorem block_in (t : Fin cfg0.N) (r : Fin 4096) (l : Fin 128) (e : Fin 16) (R : Fin 33216) (he : e.val = t.val / 8) (hR : R.val = t.val % 8 * 4096 + r) :
    X0_0 m c t (ix3 (0 : Fin 1) r l) = V m c main_v1 (ix3 e R l) := by
  unfold X0_0
  rw [input_block]
  refine fill_at (cfg0.win 0) t _ (V m c main_v1) _ (moved0_0 t _) _ fun a => ?_
  rw [input_offset t a]
  fin_cases a
  · exact he
  · exact hR
  · exact (Nat.zero_add _).symm

/-- The tokens a point works on. -/
theorem tokens (t : Fin cfg0.N) (r : Fin 512) (d : Fin 1024) (e : Fin 16) (R : Fin 4096) (he : e.val = t.val / 8) (hR : R.val = t.val % 8 * 512 + r) :
    xb (X0_0 m c t) (ix2 r d) = xArg m c (ix3 e R d) := by
  rw [xb_apply, block_in m c t _ _ e ⟨t.val % 8 * 4096 + (8 * r.val + d.val / 128), by omega⟩ he rfl, lines_apply m c _ _ _ (by simp only; omega)]
  congr 2 <;> exact Fin.ext (by simp only; omega)

/-- The array that the kernel leaves is the reference's result. -/
theorem array_eq : (dats m 0 c).arrAt 1 cfg0.N = Ref.result (xArg m c) (gArg m c) (uArg m c) (dArg m c) := by
  refine (dats m 0 c).arrAt_eq_of_covers 1 _ (by decide +kernel) fun t hf y => ?_
  obtain ⟨z, b, r, l, rfl⟩ : ∃ (z : Fin 1) (b : Fin 8) (r : Fin 512) (l : Fin 128), y = ix4 z b r l :=
    ⟨y 0, y 1, y 2, y 3, by funext a; fin_cases a <;> rfl⟩
  have ht := point_lt t
  have he : ((cfg0.win 1).blk t).view.emb (ix4 z b r l)
      = ix4 (⟨t.val / 8, by omega⟩ : Fin 16) b (⟨t.val % 8 * 512 + r.val, by omega⟩ : Fin 4096) l := by
    blk_ext [index_out]
    all_goals omega
  blk_simp
  rw [after_out, he, Ref.result_apply]
  have ho : outAt m c t (ix4 z b r l) = allOf (X0_0 m c t) (gArr m c) (uArr m c) (dArr m c) (t.val / 8) (ix2 r ⟨b.val * 128 + l.val, by omega⟩) := by
    refine congrArg (fun d => allOf (X0_0 m c t) (gArr m c) (uArr m c) (dArr m c) (t.val / 8) (ix2 r d)) (Fin.ext ?_)
    show 128 * b.val + l.val = b.val * 128 + l.val
    omega
  have hg : gArr m c = gArg m c := V_main_arg1 m c
  have hu : uArr m c = uArg m c := V_main_arg2 m c
  have hd : dArr m c = dArg m c := V_main_arg3 m c
  rw [ho, allOf_apply _ _ _ _ _ (by omega), hg, hu, hd]
  simp only [tokens m c t r _ ⟨t.val / 8, by omega⟩ ⟨t.val % 8 * 512 + r.val, by omega⟩ rfl rfl]

end Cert.EX

end
-- ==== Proof.lean ====
module

public import proofs.«01_k».proof.Proof.QA.Value
public import proofs.«01_k».proof.Proof.QB.Value
public import proofs.«01_k».proof.Proof.PO.Value
public import proofs.«01_k».proof.Proof.PO.Finite
public import proofs.«01_k».proof.Proof.PW.Value
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.SW.Join
public import proofs.«01_k».proof.Proof.SW.Finite
public import proofs.«01_k».proof.Proof.EX.Value
public import Idealize.ShloMosaic.Adequacy
public import Idealize.ShloMosaic.Lib.Quiescent
public import Idealize.ShloMosaic.Init

@[expose] public section

set_option maxRecDepth 65536

noncomputable section

namespace Cert.Proof

open Idealize.ShloMosaic Idealize.SL.Sem

theorem frame_kernel : Cert.quiescent_Kernel (hKernel := Cert.Kernel.Gen.facts) := fun m ρ _ => Cert.Kernel.Gen.frame m ρ

theorem frame_ideal : Cert.quiescent_KernelIdeal (hKernelIdeal := Cert.KernelIdeal.Gen.facts) := fun m ρ _ => Cert.KernelIdeal.Gen.frame m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

theorem attention : Cert.algebraic_KernelIdeal_ReferenceIdeal_pre_finite (hKernelIdeal := Cert.KernelIdeal.Gen.facts)
    (hReferenceIdeal := Cert.ReferenceIdeal.Gen.facts) (hPre_finite := Cert.SW.finite_facts) := by
  intro m ρ m' ρ' hpre hagree
  refine ⟨fun c => (Cert.KernelIdeal.Gen.dats m 0 c).arrAt 9 Cert.KernelIdeal.cfg0.N, Cert.KernelIdeal.Value.run_blocks m ρ, ?_⟩
  refine (θ_run Cert.ReferenceIdeal.defs _ _).mono (fun r h c => ⟨(h c).1.trans ?_, (h c).2⟩) (Cert.ReferenceIdeal.Value.run m' ρ')
  show _ = (Cert.KernelIdeal.Gen.dats m 0 c).arrAt 9 Cert.KernelIdeal.cfg0.N
  rw [Cert.SW.Ker.array_eq m c (Cert.SW.real_of_finite _ _ _ (hpre c))]
  refine (Cert.SW.Ref.result_eq m' c).trans ?_
  rw [(hagree c).1, (hagree c).2]

attribute [local instance] Cert.Kernel2.Gen.facts

/-- The experts' kernel has the text of its ideal reading: the body's table, -/
theorem bodies_eq : Cert.Kernel2.defs₀ (F := Bits) = Cert.Kernel2Ideal.defs₀ (F := Bits) := by
  unfold Cert.Kernel2.defs₀ Cert.Kernel2Ideal.defs₀
  refine congrArg Defs.onTc (funext fun l => ?_)
  match l with
  | ⟨0, _⟩ => rfl

/-- and the program's. -/
theorem defs_eq : Cert.Kernel2.defs (F := Bits) = Cert.Kernel2Ideal.defs (F := Bits) := by
  unfold Cert.Kernel2.defs Cert.Kernel2Ideal.defs
  exact congrArg (fun d => Pipeline.defs Cert.Kernel2Ideal.pcfgs d) bodies_eq

theorem frame_kernel2 : Cert.quiescent_Kernel2 (hKernel2 := Cert.Kernel2.Gen.facts) := fun m ρ _ => by
  rw [defs_eq]
  exact Cert.EX.run_frame (F := Bits) m ρ

theorem frame_ideal2 : Cert.quiescent_Kernel2Ideal (hKernel2Ideal := Cert.Kernel2Ideal.Gen.facts) := fun m ρ _ => Cert.EX.run_frame m ρ

theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

theorem experts : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => Cert.EX.Ref.result (Cert.EX.xArg m c) (Cert.EX.gArg m c) (Cert.EX.uArg m c) (Cert.EX.dArg m c), ?_, ?_⟩
  · exact (θ_run Cert.Kernel2Ideal.defs _ _).mono
      (fun r h c => ⟨((h.1 c).1 1).trans (Cert.EX.array_eq m c), Cert.EX.args_kept m r h.1 c⟩) (Cert.EX.run_main m ρ)
  · refine (θ_run Cert.Reference2Ideal.defs _ _).mono (fun r h c => ⟨(h c).1.trans ?_, (h c).2⟩) (Cert.Reference2Ideal.Value.run m' ρ')
    rw [(hagree c).1, (hagree c).2.1, (hagree c).2.2.1, (hagree c).2.2.2]
    rfl

theorem frame_kernel3 : Cert.quiescent_Kernel3 (hKernel3 := Cert.Kernel3.Gen.facts) := fun m ρ _ => Cert.Kernel3.Gen.frame m ρ

theorem frame_ideal3 : Cert.quiescent_Kernel3Ideal (hKernel3Ideal := Cert.Kernel3Ideal.Gen.facts) := fun m ρ _ => Cert.Kernel3Ideal.Gen.frame m ρ

theorem frame_reference3 : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run m ρ)

theorem projection : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => Cert.QA.Ref.resultQK (Cert.QA.xArg m c) (Cert.QA.gArg m c) (Cert.QA.wArg m c),
    fun c => Cert.QA.Ref.resultV (Cert.QA.xArg m c) (Cert.QA.gArg m c) (Cert.QA.wArg m c), ?_, ?_⟩
  · exact (θ_run Cert.Kernel3Ideal.defs _ _).mono
      (fun r h c => ⟨(h c).1.trans (Cert.QA.qk_eq m c), (h c).2.1.trans (Cert.QA.v_eq m c), (h c).2.2⟩) (Cert.Kernel3Ideal.Value.run_blocks m ρ)
  · refine (θ_run Cert.Reference3Ideal.defs _ _).mono (fun r h c => ⟨(h c).1.trans ?_, (h c).2.1.trans ?_, (h c).2.2⟩)
      (Cert.Reference3Ideal.Value.run m' ρ') <;>
    · rw [(hagree c).1, (hagree c).2.1, (hagree c).2.2]
      rfl

theorem frame_kernel4 : Cert.quiescent_Kernel4 (hKernel4 := Cert.Kernel4.Gen.facts) := fun m ρ _ => Cert.Kernel4.Gen.frame m ρ

theorem frame_ideal4 : Cert.quiescent_Kernel4Ideal (hKernel4Ideal := Cert.Kernel4Ideal.Gen.facts) := fun m ρ _ => Cert.Kernel4Ideal.Gen.frame m ρ

theorem frame_reference4 : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run m ρ)

theorem window_projection : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => Cert.QB.Ref.resultQK (Cert.QB.xArg m c) (Cert.QB.gArg m c) (Cert.QB.wArg m c),
    fun c => Cert.QB.Ref.resultV (Cert.QB.xArg m c) (Cert.QB.gArg m c) (Cert.QB.wArg m c), ?_, ?_⟩
  · exact (θ_run Cert.Kernel4Ideal.defs _ _).mono
      (fun r h c => ⟨(h c).1.trans (Cert.QB.qk_eq m c), (h c).2.1.trans (Cert.QB.v_eq m c), (h c).2.2⟩) (Cert.Kernel4Ideal.Value.run_blocks m ρ)
  · refine (θ_run Cert.Reference4Ideal.defs _ _).mono (fun r h c => ⟨(h c).1.trans ?_, (h c).2.1.trans ?_, (h c).2.2⟩)
      (Cert.Reference4Ideal.Value.run m' ρ') <;>
    · rw [(hagree c).1, (hagree c).2.1, (hagree c).2.2]
      rfl

theorem frame_kernel5 : Cert.quiescent_Kernel5 (hKernel5 := Cert.Kernel5.Gen.facts) := fun m ρ _ => Cert.Kernel5.Gen.frame m ρ

theorem frame_ideal5 : Cert.quiescent_Kernel5Ideal (hKernel5Ideal := Cert.Kernel5Ideal.Gen.facts) := fun m ρ _ => Cert.Kernel5Ideal.Gen.frame m ρ

theorem frame_reference5 : Cert.quiescent_Reference5Ideal (hReference5Ideal := Cert.Reference5Ideal.Gen.facts) := fun m ρ _ =>
  (θ_run Cert.Reference5Ideal.defs _ _).mono (fun r h => ⟨fun c => (h c).2.2.2.2, sem_eq_zero_of_no_sems (by decide) r.2⟩)
    (Cert.Reference5Ideal.Value.run m ρ)

theorem output : Cert.algebraic_Kernel5Ideal_Reference5Ideal_pre_finite_post (hKernel5Ideal := Cert.Kernel5Ideal.Gen.facts)
    (hReference5Ideal := Cert.Reference5Ideal.Gen.facts) (hPre_finite_post := Cert.PO.finite_facts) := by
  intro m ρ m' ρ' hpre hagree
  have hreal := fun c => Cert.PO.real_of_finite Cert.PO.finite_facts (Cert.PO.oArg m c) (Cert.PO.xArg m c) (Cert.PO.wArg m c) (Cert.PO.gArg m c) (Cert.PO.rArg m c) (hpre c)
  refine ⟨fun c => Cert.PO.Ref.result0 (Cert.PO.oArg m c) (Cert.PO.xArg m c) (Cert.PO.wArg m c),
    fun c => Cert.PO.Ref.result1 (Cert.PO.oArg m c) (Cert.PO.xArg m c) (Cert.PO.wArg m c) (Cert.PO.gArg m c),
    fun c => Cert.PO.Ref.result2 (Cert.PO.oArg m c) (Cert.PO.xArg m c) (Cert.PO.wArg m c) (Cert.PO.gArg m c) (Cert.PO.rArg m c),
    fun c => Cert.PO.Ref.result3 (Cert.PO.oArg m c) (Cert.PO.xArg m c) (Cert.PO.wArg m c) (Cert.PO.gArg m c) (Cert.PO.rArg m c), ?_, ?_⟩
  · refine (θ_run Cert.Kernel5Ideal.defs _ _).mono (fun r h c => ?_) (Cert.Kernel5Ideal.Value.run_blocks m ρ)
    obtain ⟨hg, hr⟩ := hreal c
    exact ⟨(h c).1.trans (Cert.PO.sum_eq m c), (h c).2.1.trans (Cert.PO.norm_eq m c), (h c).2.2.1.trans (Cert.PO.padded_eq m c hg hr),
      (h c).2.2.2.1.trans (Cert.PO.share_eq m c hg hr), (h c).2.2.2.2⟩
  · refine (θ_run Cert.Reference5Ideal.defs _ _).mono (fun r h c => ⟨(h c).1.trans ?_, (h c).2.1.trans ?_, (h c).2.2.1.trans ?_, (h c).2.2.2.1.trans ?_, (h c).2.2.2.2⟩)
      (Cert.Reference5Ideal.Value.run m' ρ')
    · rw [(hagree c).1, (hagree c).2.1, (hagree c).2.2.1]
      rfl
    · rw [(hagree c).1, (hagree c).2.1, (hagree c).2.2.1, (hagree c).2.2.2.1]
      rfl
    · unfold Cert.Reference5Ideal.Value.res_main_v30
      rw [(hagree c).1, (hagree c).2.1, (hagree c).2.2.1, (hagree c).2.2.2.1, (hagree c).2.2.2.2]
      rfl
    · unfold Cert.Reference5Ideal.Value.res_main_v31
      rw [(hagree c).1, (hagree c).2.1, (hagree c).2.2.1, (hagree c).2.2.2.1, (hagree c).2.2.2.2]
      rfl

theorem frame_kernel6 : Cert.quiescent_Kernel6 (hKernel6 := Cert.Kernel6.Gen.facts) := fun m ρ _ => Cert.Kernel6.Gen.frame m ρ

theorem frame_ideal6 : Cert.quiescent_Kernel6Ideal (hKernel6Ideal := Cert.Kernel6Ideal.Gen.facts) := fun m ρ _ => Cert.Kernel6Ideal.Gen.frame m ρ

theorem frame_reference6 : Cert.quiescent_Reference6Ideal (hReference6Ideal := Cert.Reference6Ideal.Gen.facts) := fun m ρ _ =>
  (θ_run Cert.Reference6Ideal.defs _ _).mono (fun r h => ⟨fun c => (h c).2.2.2.2, sem_eq_zero_of_no_sems (by decide) r.2⟩)
    (Cert.Reference6Ideal.Value.run m ρ)

theorem window_output : Cert.algebraic_Kernel6Ideal_Reference6Ideal_pre_finite_post (hKernel6Ideal := Cert.Kernel6Ideal.Gen.facts)
    (hReference6Ideal := Cert.Reference6Ideal.Gen.facts) (hPre_finite_post := Cert.PO.finite_facts) := by
  intro m ρ m' ρ' hpre hagree
  have hreal := fun c => Cert.PO.real_of_finite Cert.PO.finite_facts (Cert.PW.oArg m c) (Cert.PW.xArg m c) (Cert.PW.wArg m c) (Cert.PW.gArg m c) (Cert.PW.rArg m c) (hpre c)
  refine ⟨fun c => Cert.PO.Ref.result0 (Cert.PW.oArg m c) (Cert.PW.xArg m c) (Cert.PW.wArg m c),
    fun c => Cert.PO.Ref.result1 (Cert.PW.oArg m c) (Cert.PW.xArg m c) (Cert.PW.wArg m c) (Cert.PW.gArg m c),
    fun c => Cert.PO.Ref.result2 (Cert.PW.oArg m c) (Cert.PW.xArg m c) (Cert.PW.wArg m c) (Cert.PW.gArg m c) (Cert.PW.rArg m c),
    fun c => Cert.PO.Ref.result3 (Cert.PW.oArg m c) (Cert.PW.xArg m c) (Cert.PW.wArg m c) (Cert.PW.gArg m c) (Cert.PW.rArg m c), ?_, ?_⟩
  · refine (θ_run Cert.Kernel6Ideal.defs _ _).mono (fun r h c => ?_) (Cert.Kernel6Ideal.Value.run_blocks m ρ)
    obtain ⟨hg, hr⟩ := hreal c
    exact ⟨(h c).1.trans (Cert.PW.sum_eq m c), (h c).2.1.trans (Cert.PW.norm_eq m c), (h c).2.2.1.trans (Cert.PW.padded_eq m c hg hr),
      (h c).2.2.2.1.trans (Cert.PW.share_eq m c hg hr), (h c).2.2.2.2⟩
  · refine (θ_run Cert.Reference6Ideal.defs _ _).mono (fun r h c => ⟨(h c).1.trans ?_, (h c).2.1.trans ?_, (h c).2.2.1.trans ?_, (h c).2.2.2.1.trans ?_, (h c).2.2.2.2⟩)
      (Cert.Reference6Ideal.Value.run m' ρ')
    · rw [(hagree c).1, (hagree c).2.1, (hagree c).2.2.1]
      rfl
    · rw [(hagree c).1, (hagree c).2.1, (hagree c).2.2.1, (hagree c).2.2.2.1]
      rfl
    · unfold Cert.Reference6Ideal.Value.res_main_v30
      rw [(hagree c).1, (hagree c).2.1, (hagree c).2.2.1, (hagree c).2.2.2.1, (hagree c).2.2.2.2]
      rfl
    · unfold Cert.Reference6Ideal.Value.res_main_v31
      rw [(hagree c).1, (hagree c).2.1, (hagree c).2.2.1, (hagree c).2.2.2.1, (hagree c).2.2.2.2]
      rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts,
    Cert.Reference5Ideal.Gen.facts, Cert.Kernel6.Gen.facts, Cert.Kernel6Ideal.Gen.facts, Cert.Reference6Ideal.Gen.facts, Cert.SW.finite_facts, Cert.PO.finite_facts,
    frame_kernel, frame_ideal, fun m ρ _ => frame_ideal m ρ trivial, frame_reference, fun m ρ _ => frame_reference m ρ trivial,
    frame_kernel2, frame_ideal2, frame_reference2, frame_kernel3, frame_ideal3, frame_reference3, frame_kernel4, frame_ideal4, frame_reference4,
    frame_kernel5, frame_ideal5, fun m ρ _ => frame_ideal5 m ρ trivial, frame_reference5, fun m ρ _ => frame_reference5 m ρ trivial,
    frame_kernel6, frame_ideal6, fun m ρ _ => frame_ideal6 m ρ trivial, frame_reference6, fun m ρ _ => frame_reference6 m ρ trivial,
    trivial, attention, trivial, experts, trivial, projection, trivial, window_projection, trivial, output, trivial, window_output⟩

end Cert.Proof

end
